-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_KernelProj (m : (ℓ : Loc Cert.KernelProj.nD Cert.KernelProj.τ Cert.KernelProj.sig) → Buf (Elt Bits) ℓ) : Prop :=
  True

def Pre_KernelProjIdeal (m : (ℓ : Loc Cert.KernelProjIdeal.nD Cert.KernelProjIdeal.τ Cert.KernelProjIdeal.sig) → Buf (Elt Ideal) ℓ) : Prop :=
  True

def Pre_ReferenceProjIdeal (m : (ℓ : Loc Cert.ReferenceProjIdeal.nD Cert.ReferenceProjIdeal.τ Cert.ReferenceProjIdeal.sig) → Buf (Elt Ideal) ℓ) : Prop :=
  True

def Pre_KernelMerge (m : (ℓ : Loc Cert.KernelMerge.nD Cert.KernelMerge.τ Cert.KernelMerge.sig) → Buf (Elt Bits) ℓ) : Prop :=
  True

def Pre_KernelMergeIdeal (m : (ℓ : Loc Cert.KernelMergeIdeal.nD Cert.KernelMergeIdeal.τ Cert.KernelMergeIdeal.sig) → Buf (Elt Ideal) ℓ) : Prop :=
  True

def Pre_KernelMergeIdeal_finite_gates [hPre_finite_gates : Cert.Pre_finite_gates.Facts] (m : (ℓ : Loc Cert.KernelMergeIdeal.nD Cert.KernelMergeIdeal.τ Cert.KernelMergeIdeal.sig) → Buf (Elt Ideal) ℓ) : Prop :=
  ∀ c : Dev Cert.KernelMergeIdeal.nD,
    (Cert.Pre_finite_gates.fn (F := Ideal) (m ((c.tc : Thread Cert.KernelMergeIdeal.nD Cert.KernelMergeIdeal.τ).loc Cert.KernelMergeIdeal.main_arg0)) (m ((c.tc : Thread Cert.KernelMergeIdeal.nD Cert.KernelMergeIdeal.τ).loc Cert.KernelMergeIdeal.main_arg1)) (m ((c.tc : Thread Cert.KernelMergeIdeal.nD Cert.KernelMergeIdeal.τ).loc Cert.KernelMergeIdeal.main_arg2)) (m ((c.tc : Thread Cert.KernelMergeIdeal.nD Cert.KernelMergeIdeal.τ).loc Cert.KernelMergeIdeal.main_arg3)) (m ((c.tc : Thread Cert.KernelMergeIdeal.nD Cert.KernelMergeIdeal.τ).loc Cert.KernelMergeIdeal.main_arg4)) (m ((c.tc : Thread Cert.KernelMergeIdeal.nD Cert.KernelMergeIdeal.τ).loc Cert.KernelMergeIdeal.main_arg5)) (m ((c.tc : Thread Cert.KernelMergeIdeal.nD Cert.KernelMergeIdeal.τ).loc Cert.KernelMergeIdeal.main_arg6)) (m ((c.tc : Thread Cert.KernelMergeIdeal.nD Cert.KernelMergeIdeal.τ).loc Cert.KernelMergeIdeal.main_arg7)) (m ((c.tc : Thread Cert.KernelMergeIdeal.nD Cert.KernelMergeIdeal.τ).loc Cert.KernelMergeIdeal.main_arg8)) (m ((c.tc : Thread Cert.KernelMergeIdeal.nD Cert.KernelMergeIdeal.τ).loc Cert.KernelMergeIdeal.main_arg9)) (m ((c.tc : Thread Cert.KernelMergeIdeal.nD Cert.KernelMergeIdeal.τ).loc Cert.KernelMergeIdeal.main_arg10))) = (fun _ => 1#1)

def Pre_ReferenceMergeIdeal (m : (ℓ : Loc Cert.ReferenceMergeIdeal.nD Cert.ReferenceMergeIdeal.τ Cert.ReferenceMergeIdeal.sig) → Buf (Elt Ideal) ℓ) : Prop :=
  True

def Pre_ReferenceMergeIdeal_finite_gates [hPre_finite_gates : Cert.Pre_finite_gates.Facts] (m : (ℓ : Loc Cert.ReferenceMergeIdeal.nD Cert.ReferenceMergeIdeal.τ Cert.ReferenceMergeIdeal.sig) → Buf (Elt Ideal) ℓ) : Prop :=
  ∀ c : Dev Cert.ReferenceMergeIdeal.nD,
    (Cert.Pre_finite_gates.fn (F := Ideal) (m ((c.tc : Thread Cert.ReferenceMergeIdeal.nD Cert.ReferenceMergeIdeal.τ).loc Cert.ReferenceMergeIdeal.main_arg0)) (m ((c.tc : Thread Cert.ReferenceMergeIdeal.nD Cert.ReferenceMergeIdeal.τ).loc Cert.ReferenceMergeIdeal.main_arg1)) (m ((c.tc : Thread Cert.ReferenceMergeIdeal.nD Cert.ReferenceMergeIdeal.τ).loc Cert.ReferenceMergeIdeal.main_arg2)) (m ((c.tc : Thread Cert.ReferenceMergeIdeal.nD Cert.ReferenceMergeIdeal.τ).loc Cert.ReferenceMergeIdeal.main_arg3)) (m ((c.tc : Thread Cert.ReferenceMergeIdeal.nD Cert.ReferenceMergeIdeal.τ).loc Cert.ReferenceMergeIdeal.main_arg4)) (m ((c.tc : Thread Cert.ReferenceMergeIdeal.nD Cert.ReferenceMergeIdeal.τ).loc Cert.ReferenceMergeIdeal.main_arg5)) (m ((c.tc : Thread Cert.ReferenceMergeIdeal.nD Cert.ReferenceMergeIdeal.τ).loc Cert.ReferenceMergeIdeal.main_arg6)) (m ((c.tc : Thread Cert.ReferenceMergeIdeal.nD Cert.ReferenceMergeIdeal.τ).loc Cert.ReferenceMergeIdeal.main_arg7)) (m ((c.tc : Thread Cert.ReferenceMergeIdeal.nD Cert.ReferenceMergeIdeal.τ).loc Cert.ReferenceMergeIdeal.main_arg8)) (m ((c.tc : Thread Cert.ReferenceMergeIdeal.nD Cert.ReferenceMergeIdeal.τ).loc Cert.ReferenceMergeIdeal.main_arg9)) (m ((c.tc : Thread Cert.ReferenceMergeIdeal.nD Cert.ReferenceMergeIdeal.τ).loc Cert.ReferenceMergeIdeal.main_arg10))) = (fun _ => 1#1)

def Pre_KernelMod (m : (ℓ : Loc Cert.KernelMod.nD Cert.KernelMod.τ Cert.KernelMod.sig) → Buf (Elt Bits) ℓ) : Prop :=
  True

def Pre_KernelModIdeal (m : (ℓ : Loc Cert.KernelModIdeal.nD Cert.KernelModIdeal.τ Cert.KernelModIdeal.sig) → Buf (Elt Ideal) ℓ) : Prop :=
  True

def Pre_KernelModIdeal_finite_c [hPre_finite_c : Cert.Pre_finite_c.Facts] (m : (ℓ : Loc Cert.KernelModIdeal.nD Cert.KernelModIdeal.τ Cert.KernelModIdeal.sig) → Buf (Elt Ideal) ℓ) : Prop :=
  ∀ c : Dev Cert.KernelModIdeal.nD,
    (Cert.Pre_finite_c.fn (F := Ideal) (m ((c.tc : Thread Cert.KernelModIdeal.nD Cert.KernelModIdeal.τ).loc Cert.KernelModIdeal.main_arg0)) (m ((c.tc : Thread Cert.KernelModIdeal.nD Cert.KernelModIdeal.τ).loc Cert.KernelModIdeal.main_arg1)) (m ((c.tc : Thread Cert.KernelModIdeal.nD Cert.KernelModIdeal.τ).loc Cert.KernelModIdeal.main_arg2)) (m ((c.tc : Thread Cert.KernelModIdeal.nD Cert.KernelModIdeal.τ).loc Cert.KernelModIdeal.main_arg3))) = (fun _ => 1#1)

def Pre_ReferenceModIdeal (m : (ℓ : Loc Cert.ReferenceModIdeal.nD Cert.ReferenceModIdeal.τ Cert.ReferenceModIdeal.sig) → Buf (Elt Ideal) ℓ) : Prop :=
  True

def Pre_ReferenceModIdeal_finite_c [hPre_finite_c : Cert.Pre_finite_c.Facts] (m : (ℓ : Loc Cert.ReferenceModIdeal.nD Cert.ReferenceModIdeal.τ Cert.ReferenceModIdeal.sig) → Buf (Elt Ideal) ℓ) : Prop :=
  ∀ c : Dev Cert.ReferenceModIdeal.nD,
    (Cert.Pre_finite_c.fn (F := Ideal) (m ((c.tc : Thread Cert.ReferenceModIdeal.nD Cert.ReferenceModIdeal.τ).loc Cert.ReferenceModIdeal.main_arg0)) (m ((c.tc : Thread Cert.ReferenceModIdeal.nD Cert.ReferenceModIdeal.τ).loc Cert.ReferenceModIdeal.main_arg1)) (m ((c.tc : Thread Cert.ReferenceModIdeal.nD Cert.ReferenceModIdeal.τ).loc Cert.ReferenceModIdeal.main_arg2)) (m ((c.tc : Thread Cert.ReferenceModIdeal.nD Cert.ReferenceModIdeal.τ).loc Cert.ReferenceModIdeal.main_arg3))) = (fun _ => 1#1)

def Pre_KernelGates (m : (ℓ : Loc Cert.KernelGates.nD Cert.KernelGates.τ Cert.KernelGates.sig) → Buf (Elt Bits) ℓ) : Prop :=
  True

def Pre_KernelGatesIdeal (m : (ℓ : Loc Cert.KernelGatesIdeal.nD Cert.KernelGatesIdeal.τ Cert.KernelGatesIdeal.sig) → Buf (Elt Ideal) ℓ) : Prop :=
  True

def Pre_ReferenceGatesIdeal (m : (ℓ : Loc Cert.ReferenceGatesIdeal.nD Cert.ReferenceGatesIdeal.τ Cert.ReferenceGatesIdeal.sig) → Buf (Elt Ideal) ℓ) : Prop :=
  True

def Pre_KernelPrep (m : (ℓ : Loc Cert.KernelPrep.nD Cert.KernelPrep.τ Cert.KernelPrep.sig) → Buf (Elt Bits) ℓ) : Prop :=
  True

def Pre_KernelPrepIdeal (m : (ℓ : Loc Cert.KernelPrepIdeal.nD Cert.KernelPrepIdeal.τ Cert.KernelPrepIdeal.sig) → Buf (Elt Ideal) ℓ) : Prop :=
  True

def Pre_KernelPrepIdeal_finite_conv [hPre_finite_conv : Cert.Pre_finite_conv.Facts] (m : (ℓ : Loc Cert.KernelPrepIdeal.nD Cert.KernelPrepIdeal.τ Cert.KernelPrepIdeal.sig) → Buf (Elt Ideal) ℓ) : Prop :=
  ∀ c : Dev Cert.KernelPrepIdeal.nD,
    (Cert.Pre_finite_conv.fn (F := Ideal) (m ((c.tc : Thread Cert.KernelPrepIdeal.nD Cert.KernelPrepIdeal.τ).loc Cert.KernelPrepIdeal.main_arg0)) (m ((c.tc : Thread Cert.KernelPrepIdeal.nD Cert.KernelPrepIdeal.τ).loc Cert.KernelPrepIdeal.main_arg1))) = (fun _ => 1#1)

def Pre_ReferencePrepIdeal (m : (ℓ : Loc Cert.ReferencePrepIdeal.nD Cert.ReferencePrepIdeal.τ Cert.ReferencePrepIdeal.sig) → Buf (Elt Ideal) ℓ) : Prop :=
  True

def Pre_ReferencePrepIdeal_finite_conv [hPre_finite_conv : Cert.Pre_finite_conv.Facts] (m : (ℓ : Loc Cert.ReferencePrepIdeal.nD Cert.ReferencePrepIdeal.τ Cert.ReferencePrepIdeal.sig) → Buf (Elt Ideal) ℓ) : Prop :=
  ∀ c : Dev Cert.ReferencePrepIdeal.nD,
    (Cert.Pre_finite_conv.fn (F := Ideal) (m ((c.tc : Thread Cert.ReferencePrepIdeal.nD Cert.ReferencePrepIdeal.τ).loc Cert.ReferencePrepIdeal.main_arg0)) (m ((c.tc : Thread Cert.ReferencePrepIdeal.nD Cert.ReferencePrepIdeal.τ).loc Cert.ReferencePrepIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_KernelProj [hKernelProj : Cert.KernelProj.Facts] : Prop :=
  ∀ (m : (ℓ : Loc Cert.KernelProj.nD Cert.KernelProj.τ Cert.KernelProj.sig) → Buf (Elt Bits) ℓ) (g : Dev Cert.KernelProj.nD → PrngReg), Pre_KernelProj m →
    θ_run (Cert.KernelProj.defs (F := Bits)) (onTc (τ := Cert.KernelProj.τ) (Cert.KernelProj.main (F := Bits))) ⟨m, fun _ => 0, g⟩ (fun r => (∀ c : Dev Cert.KernelProj.nD,
      r.2.mem ((c.tc : Thread Cert.KernelProj.nD Cert.KernelProj.τ).loc Cert.KernelProj.main_arg0) = m ((c.tc : Thread Cert.KernelProj.nD Cert.KernelProj.τ).loc Cert.KernelProj.main_arg0)
      ∧ r.2.mem ((c.tc : Thread Cert.KernelProj.nD Cert.KernelProj.τ).loc Cert.KernelProj.main_arg1) = m ((c.tc : Thread Cert.KernelProj.nD Cert.KernelProj.τ).loc Cert.KernelProj.main_arg1)
      ∧ r.2.mem ((c.tc : Thread Cert.KernelProj.nD Cert.KernelProj.τ).loc Cert.KernelProj.main_arg2) = m ((c.tc : Thread Cert.KernelProj.nD Cert.KernelProj.τ).loc Cert.KernelProj.main_arg2)
      ∧ r.2.mem ((c.tc : Thread Cert.KernelProj.nD Cert.KernelProj.τ).loc Cert.KernelProj.main_arg3) = m ((c.tc : Thread Cert.KernelProj.nD Cert.KernelProj.τ).loc Cert.KernelProj.main_arg3)
      ∧ r.2.mem ((c.tc : Thread Cert.KernelProj.nD Cert.KernelProj.τ).loc Cert.KernelProj.main_arg4) = m ((c.tc : Thread Cert.KernelProj.nD Cert.KernelProj.τ).loc Cert.KernelProj.main_arg4))
      ∧ r.2.sem = fun _ => 0)

def quiescent_KernelProjIdeal [hKernelProjIdeal : Cert.KernelProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg), Pre_KernelProjIdeal m →
    θ_run (Cert.KernelProjIdeal.defs (F := Ideal)) (onTc (τ := Cert.KernelProjIdeal.τ) (Cert.KernelProjIdeal.main (F := Ideal))) ⟨m, fun _ => 0, g⟩ (fun r => (∀ c : Dev Cert.KernelProjIdeal.nD,
      r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
      ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
      ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2)
      ∧ r.2.mem ((c.tc : Thread Cert.KernelProjIdeal.nD Cert.KernelProjIdeal.τ).loc Cert.KernelProjIdeal.main_arg3) = m ((c.tc : Thread Cert.KernelProjIdeal.nD Cert.KernelProjIdeal.τ).loc Cert.KernelProjIdeal.main_arg3)
      ∧ r.2.mem ((c.tc : Thread Cert.KernelProjIdeal.nD Cert.KernelProjIdeal.τ).loc Cert.KernelProjIdeal.main_arg4) = m ((c.tc : Thread Cert.KernelProjIdeal.nD Cert.KernelProjIdeal.τ).loc Cert.KernelProjIdeal.main_arg4))
      ∧ r.2.sem = fun _ => 0)

def quiescent_ReferenceProjIdeal [hReferenceProjIdeal : Cert.ReferenceProjIdeal.Facts] : Prop :=
  ∀ (m : (ℓ : Loc Cert.ReferenceProjIdeal.nD Cert.ReferenceProjIdeal.τ Cert.ReferenceProjIdeal.sig) → Buf (Elt Ideal) ℓ) (g : Dev Cert.ReferenceProjIdeal.nD → PrngReg), Pre_ReferenceProjIdeal m →
    θ_run (Cert.ReferenceProjIdeal.defs (F := Ideal)) (onTc (τ := Cert.ReferenceProjIdeal.τ) (Cert.ReferenceProjIdeal.main (F := Ideal))) ⟨m, fun _ => 0, g⟩ (fun r => (∀ c : Dev Cert.ReferenceProjIdeal.nD,
      r.2.mem ((c.tc : Thread Cert.ReferenceProjIdeal.nD Cert.ReferenceProjIdeal.τ).loc Cert.ReferenceProjIdeal.main_arg0) = m ((c.tc : Thread Cert.ReferenceProjIdeal.nD Cert.ReferenceProjIdeal.τ).loc Cert.ReferenceProjIdeal.main_arg0)
      ∧ r.2.mem ((c.tc : Thread Cert.ReferenceProjIdeal.nD Cert.ReferenceProjIdeal.τ).loc Cert.ReferenceProjIdeal.main_arg1) = m ((c.tc : Thread Cert.ReferenceProjIdeal.nD Cert.ReferenceProjIdeal.τ).loc Cert.ReferenceProjIdeal.main_arg1)
      ∧ r.2.mem ((c.tc : Thread Cert.ReferenceProjIdeal.nD Cert.ReferenceProjIdeal.τ).loc Cert.ReferenceProjIdeal.main_arg2) = m ((c.tc : Thread Cert.ReferenceProjIdeal.nD Cert.ReferenceProjIdeal.τ).loc Cert.ReferenceProjIdeal.main_arg2)
      ∧ r.2.mem ((c.tc : Thread Cert.ReferenceProjIdeal.nD Cert.ReferenceProjIdeal.τ).loc Cert.ReferenceProjIdeal.main_arg3) = m ((c.tc : Thread Cert.ReferenceProjIdeal.nD Cert.ReferenceProjIdeal.τ).loc Cert.ReferenceProjIdeal.main_arg3)
      ∧ r.2.mem ((c.tc : Thread Cert.ReferenceProjIdeal.nD Cert.ReferenceProjIdeal.τ).loc Cert.ReferenceProjIdeal.main_arg4) = m ((c.tc : Thread Cert.ReferenceProjIdeal.nD Cert.ReferenceProjIdeal.τ).loc Cert.ReferenceProjIdeal.main_arg4))
      ∧ r.2.sem = fun _ => 0)

def quiescent_KernelMerge [hKernelMerge : Cert.KernelMerge.Facts] : Prop :=
  ∀ (m : (ℓ : Loc Cert.KernelMerge.nD Cert.KernelMerge.τ Cert.KernelMerge.sig) → Buf (Elt Bits) ℓ) (g : Dev Cert.KernelMerge.nD → PrngReg), Pre_KernelMerge m →
    θ_run (Cert.KernelMerge.defs (F := Bits)) (onTc (τ := Cert.KernelMerge.τ) (Cert.KernelMerge.main (F := Bits))) ⟨m, fun _ => 0, g⟩ (fun r => (∀ c : Dev Cert.KernelMerge.nD,
      r.2.mem ((c.tc : Thread Cert.KernelMerge.nD Cert.KernelMerge.τ).loc Cert.KernelMerge.main_arg0) = m ((c.tc : Thread Cert.KernelMerge.nD Cert.KernelMerge.τ).loc Cert.KernelMerge.main_arg0)
      ∧ r.2.mem ((c.tc : Thread Cert.KernelMerge.nD Cert.KernelMerge.τ).loc Cert.KernelMerge.main_arg1) = m ((c.tc : Thread Cert.KernelMerge.nD Cert.KernelMerge.τ).loc Cert.KernelMerge.main_arg1)
      ∧ r.2.mem ((c.tc : Thread Cert.KernelMerge.nD Cert.KernelMerge.τ).loc Cert.KernelMerge.main_arg2) = m ((c.tc : Thread Cert.KernelMerge.nD Cert.KernelMerge.τ).loc Cert.KernelMerge.main_arg2)
      ∧ r.2.mem ((c.tc : Thread Cert.KernelMerge.nD Cert.KernelMerge.τ).loc Cert.KernelMerge.main_arg3) = m ((c.tc : Thread Cert.KernelMerge.nD Cert.KernelMerge.τ).loc Cert.KernelMerge.main_arg3)
      ∧ r.2.mem ((c.tc : Thread Cert.KernelMerge.nD Cert.KernelMerge.τ).loc Cert.KernelMerge.main_arg4) = m ((c.tc : Thread Cert.KernelMerge.nD Cert.KernelMerge.τ).loc Cert.KernelMerge.main_arg4)
      ∧ r.2.mem ((c.tc : Thread Cert.KernelMerge.nD Cert.KernelMerge.τ).loc Cert.KernelMerge.main_arg5) = m ((c.tc : Thread Cert.KernelMerge.nD Cert.KernelMerge.τ).loc Cert.KernelMerge.main_arg5)
      ∧ r.2.mem ((c.tc : Thread Cert.KernelMerge.nD Cert.KernelMerge.τ).loc Cert.KernelMerge.main_arg6) = m ((c.tc : Thread Cert.KernelMerge.nD Cert.KernelMerge.τ).loc Cert.KernelMerge.main_arg6)
      ∧ r.2.mem ((c.tc : Thread Cert.KernelMerge.nD Cert.KernelMerge.τ).loc Cert.KernelMerge.main_arg7) = m ((c.tc : Thread Cert.KernelMerge.nD Cert.KernelMerge.τ).loc Cert.KernelMerge.main_arg7)
      ∧ r.2.mem ((c.tc : Thread Cert.KernelMerge.nD Cert.KernelMerge.τ).loc Cert.KernelMerge.main_arg8) = m ((c.tc : Thread Cert.KernelMerge.nD Cert.KernelMerge.τ).loc Cert.KernelMerge.main_arg8)
      ∧ r.2.mem ((c.tc : Thread Cert.KernelMerge.nD Cert.KernelMerge.τ).loc Cert.KernelMerge.main_arg9) = m ((c.tc : Thread Cert.KernelMerge.nD Cert.KernelMerge.τ).loc Cert.KernelMerge.main_arg9)
      ∧ r.2.mem ((c.tc : Thread Cert.KernelMerge.nD Cert.KernelMerge.τ).loc Cert.KernelMerge.main_arg10) = m ((c.tc : Thread Cert.KernelMerge.nD Cert.KernelMerge.τ).loc Cert.KernelMerge.main_arg10))
      ∧ r.2.sem = fun _ => 0)

def quiescent_KernelMergeIdeal [hKernelMergeIdeal : Cert.KernelMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg), Pre_KernelMergeIdeal m →
    θ_run (Cert.KernelMergeIdeal.defs (F := Ideal)) (onTc (τ := Cert.KernelMergeIdeal.τ) (Cert.KernelMergeIdeal.main (F := Ideal))) ⟨m, fun _ => 0, g⟩ (fun r => (∀ c : Dev Cert.KernelMergeIdeal.nD,
      r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
      ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
      ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
      ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
      ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
      ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
      ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6)
      ∧ r.2.mem ((c.tc : Thread Cert.KernelMergeIdeal.nD Cert.KernelMergeIdeal.τ).loc Cert.KernelMergeIdeal.main_arg7) = m ((c.tc : Thread Cert.KernelMergeIdeal.nD Cert.KernelMergeIdeal.τ).loc Cert.KernelMergeIdeal.main_arg7)
      ∧ r.2.mem ((c.tc : Thread Cert.KernelMergeIdeal.nD Cert.KernelMergeIdeal.τ).loc Cert.KernelMergeIdeal.main_arg8) = m ((c.tc : Thread Cert.KernelMergeIdeal.nD Cert.KernelMergeIdeal.τ).loc Cert.KernelMergeIdeal.main_arg8)
      ∧ r.2.mem ((c.tc : Thread Cert.KernelMergeIdeal.nD Cert.KernelMergeIdeal.τ).loc Cert.KernelMergeIdeal.main_arg9) = m ((c.tc : Thread Cert.KernelMergeIdeal.nD Cert.KernelMergeIdeal.τ).loc Cert.KernelMergeIdeal.main_arg9)
      ∧ r.2.mem ((c.tc : Thread Cert.KernelMergeIdeal.nD Cert.KernelMergeIdeal.τ).loc Cert.KernelMergeIdeal.main_arg10) = m ((c.tc : Thread Cert.KernelMergeIdeal.nD Cert.KernelMergeIdeal.τ).loc Cert.KernelMergeIdeal.main_arg10))
      ∧ r.2.sem = fun _ => 0)

def quiescent_KernelMergeIdeal_pre_finite_gates [hKernelMergeIdeal : Cert.KernelMergeIdeal.Facts] [hPre_finite_gates : Cert.Pre_finite_gates.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg), Pre_KernelMergeIdeal_finite_gates m →
    θ_run (Cert.KernelMergeIdeal.defs (F := Ideal)) (onTc (τ := Cert.KernelMergeIdeal.τ) (Cert.KernelMergeIdeal.main (F := Ideal))) ⟨m, fun _ => 0, g⟩ (fun r => (∀ c : Dev Cert.KernelMergeIdeal.nD,
      r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
      ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
      ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
      ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
      ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
      ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
      ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6)
      ∧ r.2.mem ((c.tc : Thread Cert.KernelMergeIdeal.nD Cert.KernelMergeIdeal.τ).loc Cert.KernelMergeIdeal.main_arg7) = m ((c.tc : Thread Cert.KernelMergeIdeal.nD Cert.KernelMergeIdeal.τ).loc Cert.KernelMergeIdeal.main_arg7)
      ∧ r.2.mem ((c.tc : Thread Cert.KernelMergeIdeal.nD Cert.KernelMergeIdeal.τ).loc Cert.KernelMergeIdeal.main_arg8) = m ((c.tc : Thread Cert.KernelMergeIdeal.nD Cert.KernelMergeIdeal.τ).loc Cert.KernelMergeIdeal.main_arg8)
      ∧ r.2.mem ((c.tc : Thread Cert.KernelMergeIdeal.nD Cert.KernelMergeIdeal.τ).loc Cert.KernelMergeIdeal.main_arg9) = m ((c.tc : Thread Cert.KernelMergeIdeal.nD Cert.KernelMergeIdeal.τ).loc Cert.KernelMergeIdeal.main_arg9)
      ∧ r.2.mem ((c.tc : Thread Cert.KernelMergeIdeal.nD Cert.KernelMergeIdeal.τ).loc Cert.KernelMergeIdeal.main_arg10) = m ((c.tc : Thread Cert.KernelMergeIdeal.nD Cert.KernelMergeIdeal.τ).loc Cert.KernelMergeIdeal.main_arg10))
      ∧ r.2.sem = fun _ => 0)

def quiescent_ReferenceMergeIdeal [hReferenceMergeIdeal : Cert.ReferenceMergeIdeal.Facts] : Prop :=
  ∀ (m : (ℓ : Loc Cert.ReferenceMergeIdeal.nD Cert.ReferenceMergeIdeal.τ Cert.ReferenceMergeIdeal.sig) → Buf (Elt Ideal) ℓ) (g : Dev Cert.ReferenceMergeIdeal.nD → PrngReg), Pre_ReferenceMergeIdeal m →
    θ_run (Cert.ReferenceMergeIdeal.defs (F := Ideal)) (onTc (τ := Cert.ReferenceMergeIdeal.τ) (Cert.ReferenceMergeIdeal.main (F := Ideal))) ⟨m, fun _ => 0, g⟩ (fun r => (∀ c : Dev Cert.ReferenceMergeIdeal.nD,
      r.2.mem ((c.tc : Thread Cert.ReferenceMergeIdeal.nD Cert.ReferenceMergeIdeal.τ).loc Cert.ReferenceMergeIdeal.main_arg0) = m ((c.tc : Thread Cert.ReferenceMergeIdeal.nD Cert.ReferenceMergeIdeal.τ).loc Cert.ReferenceMergeIdeal.main_arg0)
      ∧ r.2.mem ((c.tc : Thread Cert.ReferenceMergeIdeal.nD Cert.ReferenceMergeIdeal.τ).loc Cert.ReferenceMergeIdeal.main_arg1) = m ((c.tc : Thread Cert.ReferenceMergeIdeal.nD Cert.ReferenceMergeIdeal.τ).loc Cert.ReferenceMergeIdeal.main_arg1)
      ∧ r.2.mem ((c.tc : Thread Cert.ReferenceMergeIdeal.nD Cert.ReferenceMergeIdeal.τ).loc Cert.ReferenceMergeIdeal.main_arg2) = m ((c.tc : Thread Cert.ReferenceMergeIdeal.nD Cert.ReferenceMergeIdeal.τ).loc Cert.ReferenceMergeIdeal.main_arg2)
      ∧ r.2.mem ((c.tc : Thread Cert.ReferenceMergeIdeal.nD Cert.ReferenceMergeIdeal.τ).loc Cert.ReferenceMergeIdeal.main_arg3) = m ((c.tc : Thread Cert.ReferenceMergeIdeal.nD Cert.ReferenceMergeIdeal.τ).loc Cert.ReferenceMergeIdeal.main_arg3)
      ∧ r.2.mem ((c.tc : Thread Cert.ReferenceMergeIdeal.nD Cert.ReferenceMergeIdeal.τ).loc Cert.ReferenceMergeIdeal.main_arg4) = m ((c.tc : Thread Cert.ReferenceMergeIdeal.nD Cert.ReferenceMergeIdeal.τ).loc Cert.ReferenceMergeIdeal.main_arg4)
      ∧ r.2.mem ((c.tc : Thread Cert.ReferenceMergeIdeal.nD Cert.ReferenceMergeIdeal.τ).loc Cert.ReferenceMergeIdeal.main_arg5) = m ((c.tc : Thread Cert.ReferenceMergeIdeal.nD Cert.ReferenceMergeIdeal.τ).loc Cert.ReferenceMergeIdeal.main_arg5)
      ∧ r.2.mem ((c.tc : Thread Cert.ReferenceMergeIdeal.nD Cert.ReferenceMergeIdeal.τ).loc Cert.ReferenceMergeIdeal.main_arg6) = m ((c.tc : Thread Cert.ReferenceMergeIdeal.nD Cert.ReferenceMergeIdeal.τ).loc Cert.ReferenceMergeIdeal.main_arg6)
      ∧ r.2.mem ((c.tc : Thread Cert.ReferenceMergeIdeal.nD Cert.ReferenceMergeIdeal.τ).loc Cert.ReferenceMergeIdeal.main_arg7) = m ((c.tc : Thread Cert.ReferenceMergeIdeal.nD Cert.ReferenceMergeIdeal.τ).loc Cert.ReferenceMergeIdeal.main_arg7)
      ∧ r.2.mem ((c.tc : Thread Cert.ReferenceMergeIdeal.nD Cert.ReferenceMergeIdeal.τ).loc Cert.ReferenceMergeIdeal.main_arg8) = m ((c.tc : Thread Cert.ReferenceMergeIdeal.nD Cert.ReferenceMergeIdeal.τ).loc Cert.ReferenceMergeIdeal.main_arg8)
      ∧ r.2.mem ((c.tc : Thread Cert.ReferenceMergeIdeal.nD Cert.ReferenceMergeIdeal.τ).loc Cert.ReferenceMergeIdeal.main_arg9) = m ((c.tc : Thread Cert.ReferenceMergeIdeal.nD Cert.ReferenceMergeIdeal.τ).loc Cert.ReferenceMergeIdeal.main_arg9)
      ∧ r.2.mem ((c.tc : Thread Cert.ReferenceMergeIdeal.nD Cert.ReferenceMergeIdeal.τ).loc Cert.ReferenceMergeIdeal.main_arg10) = m ((c.tc : Thread Cert.ReferenceMergeIdeal.nD Cert.ReferenceMergeIdeal.τ).loc Cert.ReferenceMergeIdeal.main_arg10))
      ∧ r.2.sem = fun _ => 0)

def quiescent_ReferenceMergeIdeal_pre_finite_gates [hReferenceMergeIdeal : Cert.ReferenceMergeIdeal.Facts] [hPre_finite_gates : Cert.Pre_finite_gates.Facts] : Prop :=
  ∀ (m : (ℓ : Loc Cert.ReferenceMergeIdeal.nD Cert.ReferenceMergeIdeal.τ Cert.ReferenceMergeIdeal.sig) → Buf (Elt Ideal) ℓ) (g : Dev Cert.ReferenceMergeIdeal.nD → PrngReg), Pre_ReferenceMergeIdeal_finite_gates m →
    θ_run (Cert.ReferenceMergeIdeal.defs (F := Ideal)) (onTc (τ := Cert.ReferenceMergeIdeal.τ) (Cert.ReferenceMergeIdeal.main (F := Ideal))) ⟨m, fun _ => 0, g⟩ (fun r => (∀ c : Dev Cert.ReferenceMergeIdeal.nD,
      r.2.mem ((c.tc : Thread Cert.ReferenceMergeIdeal.nD Cert.ReferenceMergeIdeal.τ).loc Cert.ReferenceMergeIdeal.main_arg0) = m ((c.tc : Thread Cert.ReferenceMergeIdeal.nD Cert.ReferenceMergeIdeal.τ).loc Cert.ReferenceMergeIdeal.main_arg0)
      ∧ r.2.mem ((c.tc : Thread Cert.ReferenceMergeIdeal.nD Cert.ReferenceMergeIdeal.τ).loc Cert.ReferenceMergeIdeal.main_arg1) = m ((c.tc : Thread Cert.ReferenceMergeIdeal.nD Cert.ReferenceMergeIdeal.τ).loc Cert.ReferenceMergeIdeal.main_arg1)
      ∧ r.2.mem ((c.tc : Thread Cert.ReferenceMergeIdeal.nD Cert.ReferenceMergeIdeal.τ).loc Cert.ReferenceMergeIdeal.main_arg2) = m ((c.tc : Thread Cert.ReferenceMergeIdeal.nD Cert.ReferenceMergeIdeal.τ).loc Cert.ReferenceMergeIdeal.main_arg2)
      ∧ r.2.mem ((c.tc : Thread Cert.ReferenceMergeIdeal.nD Cert.ReferenceMergeIdeal.τ).loc Cert.ReferenceMergeIdeal.main_arg3) = m ((c.tc : Thread Cert.ReferenceMergeIdeal.nD Cert.ReferenceMergeIdeal.τ).loc Cert.ReferenceMergeIdeal.main_arg3)
      ∧ r.2.mem ((c.tc : Thread Cert.ReferenceMergeIdeal.nD Cert.ReferenceMergeIdeal.τ).loc Cert.ReferenceMergeIdeal.main_arg4) = m ((c.tc : Thread Cert.ReferenceMergeIdeal.nD Cert.ReferenceMergeIdeal.τ).loc Cert.ReferenceMergeIdeal.main_arg4)
      ∧ r.2.mem ((c.tc : Thread Cert.ReferenceMergeIdeal.nD Cert.ReferenceMergeIdeal.τ).loc Cert.ReferenceMergeIdeal.main_arg5) = m ((c.tc : Thread Cert.ReferenceMergeIdeal.nD Cert.ReferenceMergeIdeal.τ).loc Cert.ReferenceMergeIdeal.main_arg5)
      ∧ r.2.mem ((c.tc : Thread Cert.ReferenceMergeIdeal.nD Cert.ReferenceMergeIdeal.τ).loc Cert.ReferenceMergeIdeal.main_arg6) = m ((c.tc : Thread Cert.ReferenceMergeIdeal.nD Cert.ReferenceMergeIdeal.τ).loc Cert.ReferenceMergeIdeal.main_arg6)
      ∧ r.2.mem ((c.tc : Thread Cert.ReferenceMergeIdeal.nD Cert.ReferenceMergeIdeal.τ).loc Cert.ReferenceMergeIdeal.main_arg7) = m ((c.tc : Thread Cert.ReferenceMergeIdeal.nD Cert.ReferenceMergeIdeal.τ).loc Cert.ReferenceMergeIdeal.main_arg7)
      ∧ r.2.mem ((c.tc : Thread Cert.ReferenceMergeIdeal.nD Cert.ReferenceMergeIdeal.τ).loc Cert.ReferenceMergeIdeal.main_arg8) = m ((c.tc : Thread Cert.ReferenceMergeIdeal.nD Cert.ReferenceMergeIdeal.τ).loc Cert.ReferenceMergeIdeal.main_arg8)
      ∧ r.2.mem ((c.tc : Thread Cert.ReferenceMergeIdeal.nD Cert.ReferenceMergeIdeal.τ).loc Cert.ReferenceMergeIdeal.main_arg9) = m ((c.tc : Thread Cert.ReferenceMergeIdeal.nD Cert.ReferenceMergeIdeal.τ).loc Cert.ReferenceMergeIdeal.main_arg9)
      ∧ r.2.mem ((c.tc : Thread Cert.ReferenceMergeIdeal.nD Cert.ReferenceMergeIdeal.τ).loc Cert.ReferenceMergeIdeal.main_arg10) = m ((c.tc : Thread Cert.ReferenceMergeIdeal.nD Cert.ReferenceMergeIdeal.τ).loc Cert.ReferenceMergeIdeal.main_arg10))
      ∧ r.2.sem = fun _ => 0)

def quiescent_KernelMod [hKernelMod : Cert.KernelMod.Facts] : Prop :=
  ∀ (m : (ℓ : Loc Cert.KernelMod.nD Cert.KernelMod.τ Cert.KernelMod.sig) → Buf (Elt Bits) ℓ) (g : Dev Cert.KernelMod.nD → PrngReg), Pre_KernelMod m →
    θ_run (Cert.KernelMod.defs (F := Bits)) (onTc (τ := Cert.KernelMod.τ) (Cert.KernelMod.main (F := Bits))) ⟨m, fun _ => 0, g⟩ (fun r => (∀ c : Dev Cert.KernelMod.nD,
      r.2.mem ((c.tc : Thread Cert.KernelMod.nD Cert.KernelMod.τ).loc Cert.KernelMod.main_arg0) = m ((c.tc : Thread Cert.KernelMod.nD Cert.KernelMod.τ).loc Cert.KernelMod.main_arg0)
      ∧ r.2.mem ((c.tc : Thread Cert.KernelMod.nD Cert.KernelMod.τ).loc Cert.KernelMod.main_arg1) = m ((c.tc : Thread Cert.KernelMod.nD Cert.KernelMod.τ).loc Cert.KernelMod.main_arg1)
      ∧ r.2.mem ((c.tc : Thread Cert.KernelMod.nD Cert.KernelMod.τ).loc Cert.KernelMod.main_arg2) = m ((c.tc : Thread Cert.KernelMod.nD Cert.KernelMod.τ).loc Cert.KernelMod.main_arg2)
      ∧ r.2.mem ((c.tc : Thread Cert.KernelMod.nD Cert.KernelMod.τ).loc Cert.KernelMod.main_arg3) = m ((c.tc : Thread Cert.KernelMod.nD Cert.KernelMod.τ).loc Cert.KernelMod.main_arg3))
      ∧ r.2.sem = fun _ => 0)

def quiescent_KernelModIdeal [hKernelModIdeal : Cert.KernelModIdeal.Facts] : Prop :=
  ∀ (m : (ℓ : Loc Cert.KernelModIdeal.nD Cert.KernelModIdeal.τ Cert.KernelModIdeal.sig) → Buf (Elt Ideal) ℓ) (g : Dev Cert.KernelModIdeal.nD → PrngReg), Pre_KernelModIdeal m →
    θ_run (Cert.KernelModIdeal.defs (F := Ideal)) (onTc (τ := Cert.KernelModIdeal.τ) (Cert.KernelModIdeal.main (F := Ideal))) ⟨m, fun _ => 0, g⟩ (fun r => (∀ c : Dev Cert.KernelModIdeal.nD,
      r.2.mem ((c.tc : Thread Cert.KernelModIdeal.nD Cert.KernelModIdeal.τ).loc Cert.KernelModIdeal.main_arg0) = m ((c.tc : Thread Cert.KernelModIdeal.nD Cert.KernelModIdeal.τ).loc Cert.KernelModIdeal.main_arg0)
      ∧ r.2.mem ((c.tc : Thread Cert.KernelModIdeal.nD Cert.KernelModIdeal.τ).loc Cert.KernelModIdeal.main_arg1) = m ((c.tc : Thread Cert.KernelModIdeal.nD Cert.KernelModIdeal.τ).loc Cert.KernelModIdeal.main_arg1)
      ∧ r.2.mem ((c.tc : Thread Cert.KernelModIdeal.nD Cert.KernelModIdeal.τ).loc Cert.KernelModIdeal.main_arg2) = m ((c.tc : Thread Cert.KernelModIdeal.nD Cert.KernelModIdeal.τ).loc Cert.KernelModIdeal.main_arg2)
      ∧ r.2.mem ((c.tc : Thread Cert.KernelModIdeal.nD Cert.KernelModIdeal.τ).loc Cert.KernelModIdeal.main_arg3) = m ((c.tc : Thread Cert.KernelModIdeal.nD Cert.KernelModIdeal.τ).loc Cert.KernelModIdeal.main_arg3))
      ∧ r.2.sem = fun _ => 0)

def quiescent_KernelModIdeal_pre_finite_c [hKernelModIdeal : Cert.KernelModIdeal.Facts] [hPre_finite_c : Cert.Pre_finite_c.Facts] : Prop :=
  ∀ (m : (ℓ : Loc Cert.KernelModIdeal.nD Cert.KernelModIdeal.τ Cert.KernelModIdeal.sig) → Buf (Elt Ideal) ℓ) (g : Dev Cert.KernelModIdeal.nD → PrngReg), Pre_KernelModIdeal_finite_c m →
    θ_run (Cert.KernelModIdeal.defs (F := Ideal)) (onTc (τ := Cert.KernelModIdeal.τ) (Cert.KernelModIdeal.main (F := Ideal))) ⟨m, fun _ => 0, g⟩ (fun r => (∀ c : Dev Cert.KernelModIdeal.nD,
      r.2.mem ((c.tc : Thread Cert.KernelModIdeal.nD Cert.KernelModIdeal.τ).loc Cert.KernelModIdeal.main_arg0) = m ((c.tc : Thread Cert.KernelModIdeal.nD Cert.KernelModIdeal.τ).loc Cert.KernelModIdeal.main_arg0)
      ∧ r.2.mem ((c.tc : Thread Cert.KernelModIdeal.nD Cert.KernelModIdeal.τ).loc Cert.KernelModIdeal.main_arg1) = m ((c.tc : Thread Cert.KernelModIdeal.nD Cert.KernelModIdeal.τ).loc Cert.KernelModIdeal.main_arg1)
      ∧ r.2.mem ((c.tc : Thread Cert.KernelModIdeal.nD Cert.KernelModIdeal.τ).loc Cert.KernelModIdeal.main_arg2) = m ((c.tc : Thread Cert.KernelModIdeal.nD Cert.KernelModIdeal.τ).loc Cert.KernelModIdeal.main_arg2)
      ∧ r.2.mem ((c.tc : Thread Cert.KernelModIdeal.nD Cert.KernelModIdeal.τ).loc Cert.KernelModIdeal.main_arg3) = m ((c.tc : Thread Cert.KernelModIdeal.nD Cert.KernelModIdeal.τ).loc Cert.KernelModIdeal.main_arg3))
      ∧ r.2.sem = fun _ => 0)

def quiescent_ReferenceModIdeal [hReferenceModIdeal : Cert.ReferenceModIdeal.Facts] : Prop :=
  ∀ (m : (ℓ : Loc Cert.ReferenceModIdeal.nD Cert.ReferenceModIdeal.τ Cert.ReferenceModIdeal.sig) → Buf (Elt Ideal) ℓ) (g : Dev Cert.ReferenceModIdeal.nD → PrngReg), Pre_ReferenceModIdeal m →
    θ_run (Cert.ReferenceModIdeal.defs (F := Ideal)) (onTc (τ := Cert.ReferenceModIdeal.τ) (Cert.ReferenceModIdeal.main (F := Ideal))) ⟨m, fun _ => 0, g⟩ (fun r => (∀ c : Dev Cert.ReferenceModIdeal.nD,
      r.2.mem ((c.tc : Thread Cert.ReferenceModIdeal.nD Cert.ReferenceModIdeal.τ).loc Cert.ReferenceModIdeal.main_arg0) = m ((c.tc : Thread Cert.ReferenceModIdeal.nD Cert.ReferenceModIdeal.τ).loc Cert.ReferenceModIdeal.main_arg0)
      ∧ r.2.mem ((c.tc : Thread Cert.ReferenceModIdeal.nD Cert.ReferenceModIdeal.τ).loc Cert.ReferenceModIdeal.main_arg1) = m ((c.tc : Thread Cert.ReferenceModIdeal.nD Cert.ReferenceModIdeal.τ).loc Cert.ReferenceModIdeal.main_arg1)
      ∧ r.2.mem ((c.tc : Thread Cert.ReferenceModIdeal.nD Cert.ReferenceModIdeal.τ).loc Cert.ReferenceModIdeal.main_arg2) = m ((c.tc : Thread Cert.ReferenceModIdeal.nD Cert.ReferenceModIdeal.τ).loc Cert.ReferenceModIdeal.main_arg2)
      ∧ r.2.mem ((c.tc : Thread Cert.ReferenceModIdeal.nD Cert.ReferenceModIdeal.τ).loc Cert.ReferenceModIdeal.main_arg3) = m ((c.tc : Thread Cert.ReferenceModIdeal.nD Cert.ReferenceModIdeal.τ).loc Cert.ReferenceModIdeal.main_arg3))
      ∧ r.2.sem = fun _ => 0)

def quiescent_ReferenceModIdeal_pre_finite_c [hReferenceModIdeal : Cert.ReferenceModIdeal.Facts] [hPre_finite_c : Cert.Pre_finite_c.Facts] : Prop :=
  ∀ (m : (ℓ : Loc Cert.ReferenceModIdeal.nD Cert.ReferenceModIdeal.τ Cert.ReferenceModIdeal.sig) → Buf (Elt Ideal) ℓ) (g : Dev Cert.ReferenceModIdeal.nD → PrngReg), Pre_ReferenceModIdeal_finite_c m →
    θ_run (Cert.ReferenceModIdeal.defs (F := Ideal)) (onTc (τ := Cert.ReferenceModIdeal.τ) (Cert.ReferenceModIdeal.main (F := Ideal))) ⟨m, fun _ => 0, g⟩ (fun r => (∀ c : Dev Cert.ReferenceModIdeal.nD,
      r.2.mem ((c.tc : Thread Cert.ReferenceModIdeal.nD Cert.ReferenceModIdeal.τ).loc Cert.ReferenceModIdeal.main_arg0) = m ((c.tc : Thread Cert.ReferenceModIdeal.nD Cert.ReferenceModIdeal.τ).loc Cert.ReferenceModIdeal.main_arg0)
      ∧ r.2.mem ((c.tc : Thread Cert.ReferenceModIdeal.nD Cert.ReferenceModIdeal.τ).loc Cert.ReferenceModIdeal.main_arg1) = m ((c.tc : Thread Cert.ReferenceModIdeal.nD Cert.ReferenceModIdeal.τ).loc Cert.ReferenceModIdeal.main_arg1)
      ∧ r.2.mem ((c.tc : Thread Cert.ReferenceModIdeal.nD Cert.ReferenceModIdeal.τ).loc Cert.ReferenceModIdeal.main_arg2) = m ((c.tc : Thread Cert.ReferenceModIdeal.nD Cert.ReferenceModIdeal.τ).loc Cert.ReferenceModIdeal.main_arg2)
      ∧ r.2.mem ((c.tc : Thread Cert.ReferenceModIdeal.nD Cert.ReferenceModIdeal.τ).loc Cert.ReferenceModIdeal.main_arg3) = m ((c.tc : Thread Cert.ReferenceModIdeal.nD Cert.ReferenceModIdeal.τ).loc Cert.ReferenceModIdeal.main_arg3))
      ∧ r.2.sem = fun _ => 0)

def quiescent_KernelGates [hKernelGates : Cert.KernelGates.Facts] : Prop :=
  ∀ (m : (ℓ : Loc Cert.KernelGates.nD Cert.KernelGates.τ Cert.KernelGates.sig) → Buf (Elt Bits) ℓ) (g : Dev Cert.KernelGates.nD → PrngReg), Pre_KernelGates m →
    θ_run (Cert.KernelGates.defs (F := Bits)) (onTc (τ := Cert.KernelGates.τ) (Cert.KernelGates.main (F := Bits))) ⟨m, fun _ => 0, g⟩ (fun r => (∀ c : Dev Cert.KernelGates.nD,
      r.2.mem ((c.tc : Thread Cert.KernelGates.nD Cert.KernelGates.τ).loc Cert.KernelGates.main_arg0) = m ((c.tc : Thread Cert.KernelGates.nD Cert.KernelGates.τ).loc Cert.KernelGates.main_arg0)
      ∧ r.2.mem ((c.tc : Thread Cert.KernelGates.nD Cert.KernelGates.τ).loc Cert.KernelGates.main_arg1) = m ((c.tc : Thread Cert.KernelGates.nD Cert.KernelGates.τ).loc Cert.KernelGates.main_arg1)
      ∧ r.2.mem ((c.tc : Thread Cert.KernelGates.nD Cert.KernelGates.τ).loc Cert.KernelGates.main_arg2) = m ((c.tc : Thread Cert.KernelGates.nD Cert.KernelGates.τ).loc Cert.KernelGates.main_arg2))
      ∧ r.2.sem = fun _ => 0)

def quiescent_KernelGatesIdeal [hKernelGatesIdeal : Cert.KernelGatesIdeal.Facts] : Prop :=
  ∀ (m : (ℓ : Loc Cert.KernelGatesIdeal.nD Cert.KernelGatesIdeal.τ Cert.KernelGatesIdeal.sig) → Buf (Elt Ideal) ℓ) (g : Dev Cert.KernelGatesIdeal.nD → PrngReg), Pre_KernelGatesIdeal m →
    θ_run (Cert.KernelGatesIdeal.defs (F := Ideal)) (onTc (τ := Cert.KernelGatesIdeal.τ) (Cert.KernelGatesIdeal.main (F := Ideal))) ⟨m, fun _ => 0, g⟩ (fun r => (∀ c : Dev Cert.KernelGatesIdeal.nD,
      r.2.mem ((c.tc : Thread Cert.KernelGatesIdeal.nD Cert.KernelGatesIdeal.τ).loc Cert.KernelGatesIdeal.main_arg0) = m ((c.tc : Thread Cert.KernelGatesIdeal.nD Cert.KernelGatesIdeal.τ).loc Cert.KernelGatesIdeal.main_arg0)
      ∧ r.2.mem ((c.tc : Thread Cert.KernelGatesIdeal.nD Cert.KernelGatesIdeal.τ).loc Cert.KernelGatesIdeal.main_arg1) = m ((c.tc : Thread Cert.KernelGatesIdeal.nD Cert.KernelGatesIdeal.τ).loc Cert.KernelGatesIdeal.main_arg1)
      ∧ r.2.mem ((c.tc : Thread Cert.KernelGatesIdeal.nD Cert.KernelGatesIdeal.τ).loc Cert.KernelGatesIdeal.main_arg2) = m ((c.tc : Thread Cert.KernelGatesIdeal.nD Cert.KernelGatesIdeal.τ).loc Cert.KernelGatesIdeal.main_arg2))
      ∧ r.2.sem = fun _ => 0)

def quiescent_ReferenceGatesIdeal [hReferenceGatesIdeal : Cert.ReferenceGatesIdeal.Facts] : Prop :=
  ∀ (m : (ℓ : Loc Cert.ReferenceGatesIdeal.nD Cert.ReferenceGatesIdeal.τ Cert.ReferenceGatesIdeal.sig) → Buf (Elt Ideal) ℓ) (g : Dev Cert.ReferenceGatesIdeal.nD → PrngReg), Pre_ReferenceGatesIdeal m →
    θ_run (Cert.ReferenceGatesIdeal.defs (F := Ideal)) (onTc (τ := Cert.ReferenceGatesIdeal.τ) (Cert.ReferenceGatesIdeal.main (F := Ideal))) ⟨m, fun _ => 0, g⟩ (fun r => (∀ c : Dev Cert.ReferenceGatesIdeal.nD,
      r.2.mem ((c.tc : Thread Cert.ReferenceGatesIdeal.nD Cert.ReferenceGatesIdeal.τ).loc Cert.ReferenceGatesIdeal.main_arg0) = m ((c.tc : Thread Cert.ReferenceGatesIdeal.nD Cert.ReferenceGatesIdeal.τ).loc Cert.ReferenceGatesIdeal.main_arg0)
      ∧ r.2.mem ((c.tc : Thread Cert.ReferenceGatesIdeal.nD Cert.ReferenceGatesIdeal.τ).loc Cert.ReferenceGatesIdeal.main_arg1) = m ((c.tc : Thread Cert.ReferenceGatesIdeal.nD Cert.ReferenceGatesIdeal.τ).loc Cert.ReferenceGatesIdeal.main_arg1)
      ∧ r.2.mem ((c.tc : Thread Cert.ReferenceGatesIdeal.nD Cert.ReferenceGatesIdeal.τ).loc Cert.ReferenceGatesIdeal.main_arg2) = m ((c.tc : Thread Cert.ReferenceGatesIdeal.nD Cert.ReferenceGatesIdeal.τ).loc Cert.ReferenceGatesIdeal.main_arg2))
      ∧ r.2.sem = fun _ => 0)

def quiescent_KernelPrep [hKernelPrep : Cert.KernelPrep.Facts] : Prop :=
  ∀ (m : (ℓ : Loc Cert.KernelPrep.nD Cert.KernelPrep.τ Cert.KernelPrep.sig) → Buf (Elt Bits) ℓ) (g : Dev Cert.KernelPrep.nD → PrngReg), Pre_KernelPrep m →
    θ_run (Cert.KernelPrep.defs (F := Bits)) (onTc (τ := Cert.KernelPrep.τ) (Cert.KernelPrep.main (F := Bits))) ⟨m, fun _ => 0, g⟩ (fun r => (∀ c : Dev Cert.KernelPrep.nD,
      r.2.mem ((c.tc : Thread Cert.KernelPrep.nD Cert.KernelPrep.τ).loc Cert.KernelPrep.main_arg0) = m ((c.tc : Thread Cert.KernelPrep.nD Cert.KernelPrep.τ).loc Cert.KernelPrep.main_arg0)
      ∧ r.2.mem ((c.tc : Thread Cert.KernelPrep.nD Cert.KernelPrep.τ).loc Cert.KernelPrep.main_arg1) = m ((c.tc : Thread Cert.KernelPrep.nD Cert.KernelPrep.τ).loc Cert.KernelPrep.main_arg1))
      ∧ r.2.sem = fun _ => 0)

def quiescent_KernelPrepIdeal [hKernelPrepIdeal : Cert.KernelPrepIdeal.Facts] : Prop :=
  ∀ (m : (ℓ : Loc Cert.KernelPrepIdeal.nD Cert.KernelPrepIdeal.τ Cert.KernelPrepIdeal.sig) → Buf (Elt Ideal) ℓ) (g : Dev Cert.KernelPrepIdeal.nD → PrngReg), Pre_KernelPrepIdeal m →
    θ_run (Cert.KernelPrepIdeal.defs (F := Ideal)) (onTc (τ := Cert.KernelPrepIdeal.τ) (Cert.KernelPrepIdeal.main (F := Ideal))) ⟨m, fun _ => 0, g⟩ (fun r => (∀ c : Dev Cert.KernelPrepIdeal.nD,
      r.2.mem ((c.tc : Thread Cert.KernelPrepIdeal.nD Cert.KernelPrepIdeal.τ).loc Cert.KernelPrepIdeal.main_arg0) = m ((c.tc : Thread Cert.KernelPrepIdeal.nD Cert.KernelPrepIdeal.τ).loc Cert.KernelPrepIdeal.main_arg0)
      ∧ r.2.mem ((c.tc : Thread Cert.KernelPrepIdeal.nD Cert.KernelPrepIdeal.τ).loc Cert.KernelPrepIdeal.main_arg1) = m ((c.tc : Thread Cert.KernelPrepIdeal.nD Cert.KernelPrepIdeal.τ).loc Cert.KernelPrepIdeal.main_arg1))
      ∧ r.2.sem = fun _ => 0)

def quiescent_KernelPrepIdeal_pre_finite_conv [hKernelPrepIdeal : Cert.KernelPrepIdeal.Facts] [hPre_finite_conv : Cert.Pre_finite_conv.Facts] : Prop :=
  ∀ (m : (ℓ : Loc Cert.KernelPrepIdeal.nD Cert.KernelPrepIdeal.τ Cert.KernelPrepIdeal.sig) → Buf (Elt Ideal) ℓ) (g : Dev Cert.KernelPrepIdeal.nD → PrngReg), Pre_KernelPrepIdeal_finite_conv m →
    θ_run (Cert.KernelPrepIdeal.defs (F := Ideal)) (onTc (τ := Cert.KernelPrepIdeal.τ) (Cert.KernelPrepIdeal.main (F := Ideal))) ⟨m, fun _ => 0, g⟩ (fun r => (∀ c : Dev Cert.KernelPrepIdeal.nD,
      r.2.mem ((c.tc : Thread Cert.KernelPrepIdeal.nD Cert.KernelPrepIdeal.τ).loc Cert.KernelPrepIdeal.main_arg0) = m ((c.tc : Thread Cert.KernelPrepIdeal.nD Cert.KernelPrepIdeal.τ).loc Cert.KernelPrepIdeal.main_arg0)
      ∧ r.2.mem ((c.tc : Thread Cert.KernelPrepIdeal.nD Cert.KernelPrepIdeal.τ).loc Cert.KernelPrepIdeal.main_arg1) = m ((c.tc : Thread Cert.KernelPrepIdeal.nD Cert.KernelPrepIdeal.τ).loc Cert.KernelPrepIdeal.main_arg1))
      ∧ r.2.sem = fun _ => 0)

def quiescent_ReferencePrepIdeal [hReferencePrepIdeal : Cert.ReferencePrepIdeal.Facts] : Prop :=
  ∀ (m : (ℓ : Loc Cert.ReferencePrepIdeal.nD Cert.ReferencePrepIdeal.τ Cert.ReferencePrepIdeal.sig) → Buf (Elt Ideal) ℓ) (g : Dev Cert.ReferencePrepIdeal.nD → PrngReg), Pre_ReferencePrepIdeal m →
    θ_run (Cert.ReferencePrepIdeal.defs (F := Ideal)) (onTc (τ := Cert.ReferencePrepIdeal.τ) (Cert.ReferencePrepIdeal.main (F := Ideal))) ⟨m, fun _ => 0, g⟩ (fun r => (∀ c : Dev Cert.ReferencePrepIdeal.nD,
      r.2.mem ((c.tc : Thread Cert.ReferencePrepIdeal.nD Cert.ReferencePrepIdeal.τ).loc Cert.ReferencePrepIdeal.main_arg0) = m ((c.tc : Thread Cert.ReferencePrepIdeal.nD Cert.ReferencePrepIdeal.τ).loc Cert.ReferencePrepIdeal.main_arg0)
      ∧ r.2.mem ((c.tc : Thread Cert.ReferencePrepIdeal.nD Cert.ReferencePrepIdeal.τ).loc Cert.ReferencePrepIdeal.main_arg1) = m ((c.tc : Thread Cert.ReferencePrepIdeal.nD Cert.ReferencePrepIdeal.τ).loc Cert.ReferencePrepIdeal.main_arg1))
      ∧ r.2.sem = fun _ => 0)

def quiescent_ReferencePrepIdeal_pre_finite_conv [hReferencePrepIdeal : Cert.ReferencePrepIdeal.Facts] [hPre_finite_conv : Cert.Pre_finite_conv.Facts] : Prop :=
  ∀ (m : (ℓ : Loc Cert.ReferencePrepIdeal.nD Cert.ReferencePrepIdeal.τ Cert.ReferencePrepIdeal.sig) → Buf (Elt Ideal) ℓ) (g : Dev Cert.ReferencePrepIdeal.nD → PrngReg), Pre_ReferencePrepIdeal_finite_conv m →
    θ_run (Cert.ReferencePrepIdeal.defs (F := Ideal)) (onTc (τ := Cert.ReferencePrepIdeal.τ) (Cert.ReferencePrepIdeal.main (F := Ideal))) ⟨m, fun _ => 0, g⟩ (fun r => (∀ c : Dev Cert.ReferencePrepIdeal.nD,
      r.2.mem ((c.tc : Thread Cert.ReferencePrepIdeal.nD Cert.ReferencePrepIdeal.τ).loc Cert.ReferencePrepIdeal.main_arg0) = m ((c.tc : Thread Cert.ReferencePrepIdeal.nD Cert.ReferencePrepIdeal.τ).loc Cert.ReferencePrepIdeal.main_arg0)
      ∧ r.2.mem ((c.tc : Thread Cert.ReferencePrepIdeal.nD Cert.ReferencePrepIdeal.τ).loc Cert.ReferencePrepIdeal.main_arg1) = m ((c.tc : Thread Cert.ReferencePrepIdeal.nD Cert.ReferencePrepIdeal.τ).loc Cert.ReferencePrepIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v245)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v245) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v179) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_KernelProj_KernelProjIdeal : Prop :=
  True

def algebraic_KernelProjIdeal_ReferenceProjIdeal [hKernelProjIdeal : Cert.KernelProjIdeal.Facts] [hReferenceProjIdeal : Cert.ReferenceProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg)
    (m' : (ℓ : Loc Cert.ReferenceProjIdeal.nD Cert.ReferenceProjIdeal.τ Cert.ReferenceProjIdeal.sig) → Buf (Elt Ideal) ℓ) (g' : Dev Cert.ReferenceProjIdeal.nD → PrngReg), Pre_KernelProjIdeal m →
    (∀ c : Dev Cert.KernelProjIdeal.nD,
      m' ((c.tc : Thread Cert.ReferenceProjIdeal.nD Cert.ReferenceProjIdeal.τ).loc Cert.ReferenceProjIdeal.main_arg0) = m ((c.tc : Thread Cert.KernelProjIdeal.nD Cert.KernelProjIdeal.τ).loc Cert.KernelProjIdeal.main_arg0)
      ∧ m' ((c.tc : Thread Cert.ReferenceProjIdeal.nD Cert.ReferenceProjIdeal.τ).loc Cert.ReferenceProjIdeal.main_arg1) = m ((c.tc : Thread Cert.KernelProjIdeal.nD Cert.KernelProjIdeal.τ).loc Cert.KernelProjIdeal.main_arg1)
      ∧ m' ((c.tc : Thread Cert.ReferenceProjIdeal.nD Cert.ReferenceProjIdeal.τ).loc Cert.ReferenceProjIdeal.main_arg2) = m ((c.tc : Thread Cert.KernelProjIdeal.nD Cert.KernelProjIdeal.τ).loc Cert.KernelProjIdeal.main_arg2)
      ∧ m' ((c.tc : Thread Cert.ReferenceProjIdeal.nD Cert.ReferenceProjIdeal.τ).loc Cert.ReferenceProjIdeal.main_arg3) = m ((c.tc : Thread Cert.KernelProjIdeal.nD Cert.KernelProjIdeal.τ).loc Cert.KernelProjIdeal.main_arg3)
      ∧ m' ((c.tc : Thread Cert.ReferenceProjIdeal.nD Cert.ReferenceProjIdeal.τ).loc Cert.ReferenceProjIdeal.main_arg4) = m ((c.tc : Thread Cert.KernelProjIdeal.nD Cert.KernelProjIdeal.τ).loc Cert.KernelProjIdeal.main_arg4)) →
    ∃ (v0 : (c : Dev Cert.KernelProjIdeal.nD) → Buf (Elt Ideal) ((c.tc : Thread Cert.KernelProjIdeal.nD Cert.KernelProjIdeal.τ).loc Cert.KernelProjIdeal.main_v9_0)) (v1 : (c : Dev Cert.KernelProjIdeal.nD) → Buf (Elt Ideal) ((c.tc : Thread Cert.KernelProjIdeal.nD Cert.KernelProjIdeal.τ).loc Cert.KernelProjIdeal.main_v9_1)),
      θ_run (Cert.KernelProjIdeal.defs (F := Ideal)) (onTc (τ := Cert.KernelProjIdeal.τ) (Cert.KernelProjIdeal.main (F := Ideal))) ⟨m, fun _ => 0, g⟩ (fun r => ∀ c : Dev Cert.KernelProjIdeal.nD,
          r.2.mem ((c.tc : Thread Cert.KernelProjIdeal.nD Cert.KernelProjIdeal.τ).loc Cert.KernelProjIdeal.main_v9_0) = v0 c
          ∧ r.2.mem ((c.tc : Thread Cert.KernelProjIdeal.nD Cert.KernelProjIdeal.τ).loc Cert.KernelProjIdeal.main_v9_1) = v1 c
          ∧ r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
          ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
          ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2)
          ∧ r.2.mem ((c.tc : Thread Cert.KernelProjIdeal.nD Cert.KernelProjIdeal.τ).loc Cert.KernelProjIdeal.main_arg3) = m ((c.tc : Thread Cert.KernelProjIdeal.nD Cert.KernelProjIdeal.τ).loc Cert.KernelProjIdeal.main_arg3)
          ∧ r.2.mem ((c.tc : Thread Cert.KernelProjIdeal.nD Cert.KernelProjIdeal.τ).loc Cert.KernelProjIdeal.main_arg4) = m ((c.tc : Thread Cert.KernelProjIdeal.nD Cert.KernelProjIdeal.τ).loc Cert.KernelProjIdeal.main_arg4))
      ∧ θ_run (Cert.ReferenceProjIdeal.defs (F := Ideal)) (onTc (τ := Cert.ReferenceProjIdeal.τ) (Cert.ReferenceProjIdeal.main (F := Ideal))) ⟨m', fun _ => 0, g'⟩ (fun r => ∀ c : Dev Cert.ReferenceProjIdeal.nD,
          r.2.mem ((c.tc : Thread Cert.ReferenceProjIdeal.nD Cert.ReferenceProjIdeal.τ).loc Cert.ReferenceProjIdeal.main_v57) = v0 c
          ∧ r.2.mem ((c.tc : Thread Cert.ReferenceProjIdeal.nD Cert.ReferenceProjIdeal.τ).loc Cert.ReferenceProjIdeal.main_v59) = v1 c
          ∧ r.2.mem ((c.tc : Thread Cert.ReferenceProjIdeal.nD Cert.ReferenceProjIdeal.τ).loc Cert.ReferenceProjIdeal.main_arg0) = m' ((c.tc : Thread Cert.ReferenceProjIdeal.nD Cert.ReferenceProjIdeal.τ).loc Cert.ReferenceProjIdeal.main_arg0)
          ∧ r.2.mem ((c.tc : Thread Cert.ReferenceProjIdeal.nD Cert.ReferenceProjIdeal.τ).loc Cert.ReferenceProjIdeal.main_arg1) = m' ((c.tc : Thread Cert.ReferenceProjIdeal.nD Cert.ReferenceProjIdeal.τ).loc Cert.ReferenceProjIdeal.main_arg1)
          ∧ r.2.mem ((c.tc : Thread Cert.ReferenceProjIdeal.nD Cert.ReferenceProjIdeal.τ).loc Cert.ReferenceProjIdeal.main_arg2) = m' ((c.tc : Thread Cert.ReferenceProjIdeal.nD Cert.ReferenceProjIdeal.τ).loc Cert.ReferenceProjIdeal.main_arg2)
          ∧ r.2.mem ((c.tc : Thread Cert.ReferenceProjIdeal.nD Cert.ReferenceProjIdeal.τ).loc Cert.ReferenceProjIdeal.main_arg3) = m' ((c.tc : Thread Cert.ReferenceProjIdeal.nD Cert.ReferenceProjIdeal.τ).loc Cert.ReferenceProjIdeal.main_arg3)
          ∧ r.2.mem ((c.tc : Thread Cert.ReferenceProjIdeal.nD Cert.ReferenceProjIdeal.τ).loc Cert.ReferenceProjIdeal.main_arg4) = m' ((c.tc : Thread Cert.ReferenceProjIdeal.nD Cert.ReferenceProjIdeal.τ).loc Cert.ReferenceProjIdeal.main_arg4))

def preserves_KernelMerge_KernelMergeIdeal : Prop :=
  True

def algebraic_KernelMergeIdeal_ReferenceMergeIdeal_pre_finite_gates [hKernelMergeIdeal : Cert.KernelMergeIdeal.Facts] [hReferenceMergeIdeal : Cert.ReferenceMergeIdeal.Facts] [hPre_finite_gates : Cert.Pre_finite_gates.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg)
    (m' : (ℓ : Loc Cert.ReferenceMergeIdeal.nD Cert.ReferenceMergeIdeal.τ Cert.ReferenceMergeIdeal.sig) → Buf (Elt Ideal) ℓ) (g' : Dev Cert.ReferenceMergeIdeal.nD → PrngReg), Pre_KernelMergeIdeal_finite_gates m →
    (∀ c : Dev Cert.KernelMergeIdeal.nD,
      m' ((c.tc : Thread Cert.ReferenceMergeIdeal.nD Cert.ReferenceMergeIdeal.τ).loc Cert.ReferenceMergeIdeal.main_arg0) = m ((c.tc : Thread Cert.KernelMergeIdeal.nD Cert.KernelMergeIdeal.τ).loc Cert.KernelMergeIdeal.main_arg0)
      ∧ m' ((c.tc : Thread Cert.ReferenceMergeIdeal.nD Cert.ReferenceMergeIdeal.τ).loc Cert.ReferenceMergeIdeal.main_arg1) = m ((c.tc : Thread Cert.KernelMergeIdeal.nD Cert.KernelMergeIdeal.τ).loc Cert.KernelMergeIdeal.main_arg1)
      ∧ m' ((c.tc : Thread Cert.ReferenceMergeIdeal.nD Cert.ReferenceMergeIdeal.τ).loc Cert.ReferenceMergeIdeal.main_arg2) = m ((c.tc : Thread Cert.KernelMergeIdeal.nD Cert.KernelMergeIdeal.τ).loc Cert.KernelMergeIdeal.main_arg2)
      ∧ m' ((c.tc : Thread Cert.ReferenceMergeIdeal.nD Cert.ReferenceMergeIdeal.τ).loc Cert.ReferenceMergeIdeal.main_arg3) = m ((c.tc : Thread Cert.KernelMergeIdeal.nD Cert.KernelMergeIdeal.τ).loc Cert.KernelMergeIdeal.main_arg3)
      ∧ m' ((c.tc : Thread Cert.ReferenceMergeIdeal.nD Cert.ReferenceMergeIdeal.τ).loc Cert.ReferenceMergeIdeal.main_arg4) = m ((c.tc : Thread Cert.KernelMergeIdeal.nD Cert.KernelMergeIdeal.τ).loc Cert.KernelMergeIdeal.main_arg4)
      ∧ m' ((c.tc : Thread Cert.ReferenceMergeIdeal.nD Cert.ReferenceMergeIdeal.τ).loc Cert.ReferenceMergeIdeal.main_arg5) = m ((c.tc : Thread Cert.KernelMergeIdeal.nD Cert.KernelMergeIdeal.τ).loc Cert.KernelMergeIdeal.main_arg5)
      ∧ m' ((c.tc : Thread Cert.ReferenceMergeIdeal.nD Cert.ReferenceMergeIdeal.τ).loc Cert.ReferenceMergeIdeal.main_arg6) = m ((c.tc : Thread Cert.KernelMergeIdeal.nD Cert.KernelMergeIdeal.τ).loc Cert.KernelMergeIdeal.main_arg6)
      ∧ m' ((c.tc : Thread Cert.ReferenceMergeIdeal.nD Cert.ReferenceMergeIdeal.τ).loc Cert.ReferenceMergeIdeal.main_arg7) = m ((c.tc : Thread Cert.KernelMergeIdeal.nD Cert.KernelMergeIdeal.τ).loc Cert.KernelMergeIdeal.main_arg7)
      ∧ m' ((c.tc : Thread Cert.ReferenceMergeIdeal.nD Cert.ReferenceMergeIdeal.τ).loc Cert.ReferenceMergeIdeal.main_arg8) = m ((c.tc : Thread Cert.KernelMergeIdeal.nD Cert.KernelMergeIdeal.τ).loc Cert.KernelMergeIdeal.main_arg8)
      ∧ m' ((c.tc : Thread Cert.ReferenceMergeIdeal.nD Cert.ReferenceMergeIdeal.τ).loc Cert.ReferenceMergeIdeal.main_arg9) = m ((c.tc : Thread Cert.KernelMergeIdeal.nD Cert.KernelMergeIdeal.τ).loc Cert.KernelMergeIdeal.main_arg9)
      ∧ m' ((c.tc : Thread Cert.ReferenceMergeIdeal.nD Cert.ReferenceMergeIdeal.τ).loc Cert.ReferenceMergeIdeal.main_arg10) = m ((c.tc : Thread Cert.KernelMergeIdeal.nD Cert.KernelMergeIdeal.τ).loc Cert.KernelMergeIdeal.main_arg10)) →
    ∃ (v0 : (c : Dev Cert.KernelMergeIdeal.nD) → Buf (Elt Ideal) ((c.tc : Thread Cert.KernelMergeIdeal.nD Cert.KernelMergeIdeal.τ).loc Cert.KernelMergeIdeal.main_v7)),
      θ_run (Cert.KernelMergeIdeal.defs (F := Ideal)) (onTc (τ := Cert.KernelMergeIdeal.τ) (Cert.KernelMergeIdeal.main (F := Ideal))) ⟨m, fun _ => 0, g⟩ (fun r => ∀ c : Dev Cert.KernelMergeIdeal.nD,
          r.2.mem ((c.tc : Thread Cert.KernelMergeIdeal.nD Cert.KernelMergeIdeal.τ).loc Cert.KernelMergeIdeal.main_v7) = v0 c
          ∧ r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
          ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
          ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
          ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
          ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
          ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
          ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6)
          ∧ r.2.mem ((c.tc : Thread Cert.KernelMergeIdeal.nD Cert.KernelMergeIdeal.τ).loc Cert.KernelMergeIdeal.main_arg7) = m ((c.tc : Thread Cert.KernelMergeIdeal.nD Cert.KernelMergeIdeal.τ).loc Cert.KernelMergeIdeal.main_arg7)
          ∧ r.2.mem ((c.tc : Thread Cert.KernelMergeIdeal.nD Cert.KernelMergeIdeal.τ).loc Cert.KernelMergeIdeal.main_arg8) = m ((c.tc : Thread Cert.KernelMergeIdeal.nD Cert.KernelMergeIdeal.τ).loc Cert.KernelMergeIdeal.main_arg8)
          ∧ r.2.mem ((c.tc : Thread Cert.KernelMergeIdeal.nD Cert.KernelMergeIdeal.τ).loc Cert.KernelMergeIdeal.main_arg9) = m ((c.tc : Thread Cert.KernelMergeIdeal.nD Cert.KernelMergeIdeal.τ).loc Cert.KernelMergeIdeal.main_arg9)
          ∧ r.2.mem ((c.tc : Thread Cert.KernelMergeIdeal.nD Cert.KernelMergeIdeal.τ).loc Cert.KernelMergeIdeal.main_arg10) = m ((c.tc : Thread Cert.KernelMergeIdeal.nD Cert.KernelMergeIdeal.τ).loc Cert.KernelMergeIdeal.main_arg10))
      ∧ θ_run (Cert.ReferenceMergeIdeal.defs (F := Ideal)) (onTc (τ := Cert.ReferenceMergeIdeal.τ) (Cert.ReferenceMergeIdeal.main (F := Ideal))) ⟨m', fun _ => 0, g'⟩ (fun r => ∀ c : Dev Cert.ReferenceMergeIdeal.nD,
          r.2.mem ((c.tc : Thread Cert.ReferenceMergeIdeal.nD Cert.ReferenceMergeIdeal.τ).loc Cert.ReferenceMergeIdeal.main_v82) = v0 c
          ∧ r.2.mem ((c.tc : Thread Cert.ReferenceMergeIdeal.nD Cert.ReferenceMergeIdeal.τ).loc Cert.ReferenceMergeIdeal.main_arg0) = m' ((c.tc : Thread Cert.ReferenceMergeIdeal.nD Cert.ReferenceMergeIdeal.τ).loc Cert.ReferenceMergeIdeal.main_arg0)
          ∧ r.2.mem ((c.tc : Thread Cert.ReferenceMergeIdeal.nD Cert.ReferenceMergeIdeal.τ).loc Cert.ReferenceMergeIdeal.main_arg1) = m' ((c.tc : Thread Cert.ReferenceMergeIdeal.nD Cert.ReferenceMergeIdeal.τ).loc Cert.ReferenceMergeIdeal.main_arg1)
          ∧ r.2.mem ((c.tc : Thread Cert.ReferenceMergeIdeal.nD Cert.ReferenceMergeIdeal.τ).loc Cert.ReferenceMergeIdeal.main_arg2) = m' ((c.tc : Thread Cert.ReferenceMergeIdeal.nD Cert.ReferenceMergeIdeal.τ).loc Cert.ReferenceMergeIdeal.main_arg2)
          ∧ r.2.mem ((c.tc : Thread Cert.ReferenceMergeIdeal.nD Cert.ReferenceMergeIdeal.τ).loc Cert.ReferenceMergeIdeal.main_arg3) = m' ((c.tc : Thread Cert.ReferenceMergeIdeal.nD Cert.ReferenceMergeIdeal.τ).loc Cert.ReferenceMergeIdeal.main_arg3)
          ∧ r.2.mem ((c.tc : Thread Cert.ReferenceMergeIdeal.nD Cert.ReferenceMergeIdeal.τ).loc Cert.ReferenceMergeIdeal.main_arg4) = m' ((c.tc : Thread Cert.ReferenceMergeIdeal.nD Cert.ReferenceMergeIdeal.τ).loc Cert.ReferenceMergeIdeal.main_arg4)
          ∧ r.2.mem ((c.tc : Thread Cert.ReferenceMergeIdeal.nD Cert.ReferenceMergeIdeal.τ).loc Cert.ReferenceMergeIdeal.main_arg5) = m' ((c.tc : Thread Cert.ReferenceMergeIdeal.nD Cert.ReferenceMergeIdeal.τ).loc Cert.ReferenceMergeIdeal.main_arg5)
          ∧ r.2.mem ((c.tc : Thread Cert.ReferenceMergeIdeal.nD Cert.ReferenceMergeIdeal.τ).loc Cert.ReferenceMergeIdeal.main_arg6) = m' ((c.tc : Thread Cert.ReferenceMergeIdeal.nD Cert.ReferenceMergeIdeal.τ).loc Cert.ReferenceMergeIdeal.main_arg6)
          ∧ r.2.mem ((c.tc : Thread Cert.ReferenceMergeIdeal.nD Cert.ReferenceMergeIdeal.τ).loc Cert.ReferenceMergeIdeal.main_arg7) = m' ((c.tc : Thread Cert.ReferenceMergeIdeal.nD Cert.ReferenceMergeIdeal.τ).loc Cert.ReferenceMergeIdeal.main_arg7)
          ∧ r.2.mem ((c.tc : Thread Cert.ReferenceMergeIdeal.nD Cert.ReferenceMergeIdeal.τ).loc Cert.ReferenceMergeIdeal.main_arg8) = m' ((c.tc : Thread Cert.ReferenceMergeIdeal.nD Cert.ReferenceMergeIdeal.τ).loc Cert.ReferenceMergeIdeal.main_arg8)
          ∧ r.2.mem ((c.tc : Thread Cert.ReferenceMergeIdeal.nD Cert.ReferenceMergeIdeal.τ).loc Cert.ReferenceMergeIdeal.main_arg9) = m' ((c.tc : Thread Cert.ReferenceMergeIdeal.nD Cert.ReferenceMergeIdeal.τ).loc Cert.ReferenceMergeIdeal.main_arg9)
          ∧ r.2.mem ((c.tc : Thread Cert.ReferenceMergeIdeal.nD Cert.ReferenceMergeIdeal.τ).loc Cert.ReferenceMergeIdeal.main_arg10) = m' ((c.tc : Thread Cert.ReferenceMergeIdeal.nD Cert.ReferenceMergeIdeal.τ).loc Cert.ReferenceMergeIdeal.main_arg10))

def preserves_KernelMod_KernelModIdeal : Prop :=
  True

def algebraic_KernelModIdeal_ReferenceModIdeal_pre_finite_c [hKernelModIdeal : Cert.KernelModIdeal.Facts] [hReferenceModIdeal : Cert.ReferenceModIdeal.Facts] [hPre_finite_c : Cert.Pre_finite_c.Facts] : Prop :=
  ∀ (m : (ℓ : Loc Cert.KernelModIdeal.nD Cert.KernelModIdeal.τ Cert.KernelModIdeal.sig) → Buf (Elt Ideal) ℓ) (g : Dev Cert.KernelModIdeal.nD → PrngReg)
    (m' : (ℓ : Loc Cert.ReferenceModIdeal.nD Cert.ReferenceModIdeal.τ Cert.ReferenceModIdeal.sig) → Buf (Elt Ideal) ℓ) (g' : Dev Cert.ReferenceModIdeal.nD → PrngReg), Pre_KernelModIdeal_finite_c m →
    (∀ c : Dev Cert.KernelModIdeal.nD,
      m' ((c.tc : Thread Cert.ReferenceModIdeal.nD Cert.ReferenceModIdeal.τ).loc Cert.ReferenceModIdeal.main_arg0) = m ((c.tc : Thread Cert.KernelModIdeal.nD Cert.KernelModIdeal.τ).loc Cert.KernelModIdeal.main_arg0)
      ∧ m' ((c.tc : Thread Cert.ReferenceModIdeal.nD Cert.ReferenceModIdeal.τ).loc Cert.ReferenceModIdeal.main_arg1) = m ((c.tc : Thread Cert.KernelModIdeal.nD Cert.KernelModIdeal.τ).loc Cert.KernelModIdeal.main_arg1)
      ∧ m' ((c.tc : Thread Cert.ReferenceModIdeal.nD Cert.ReferenceModIdeal.τ).loc Cert.ReferenceModIdeal.main_arg2) = m ((c.tc : Thread Cert.KernelModIdeal.nD Cert.KernelModIdeal.τ).loc Cert.KernelModIdeal.main_arg2)
      ∧ m' ((c.tc : Thread Cert.ReferenceModIdeal.nD Cert.ReferenceModIdeal.τ).loc Cert.ReferenceModIdeal.main_arg3) = m ((c.tc : Thread Cert.KernelModIdeal.nD Cert.KernelModIdeal.τ).loc Cert.KernelModIdeal.main_arg3)) →
    ∃ (v0 : (c : Dev Cert.KernelModIdeal.nD) → Buf (Elt Ideal) ((c.tc : Thread Cert.KernelModIdeal.nD Cert.KernelModIdeal.τ).loc Cert.KernelModIdeal.main_v4)),
      θ_run (Cert.KernelModIdeal.defs (F := Ideal)) (onTc (τ := Cert.KernelModIdeal.τ) (Cert.KernelModIdeal.main (F := Ideal))) ⟨m, fun _ => 0, g⟩ (fun r => ∀ c : Dev Cert.KernelModIdeal.nD,
          r.2.mem ((c.tc : Thread Cert.KernelModIdeal.nD Cert.KernelModIdeal.τ).loc Cert.KernelModIdeal.main_v4) = v0 c
          ∧ r.2.mem ((c.tc : Thread Cert.KernelModIdeal.nD Cert.KernelModIdeal.τ).loc Cert.KernelModIdeal.main_arg0) = m ((c.tc : Thread Cert.KernelModIdeal.nD Cert.KernelModIdeal.τ).loc Cert.KernelModIdeal.main_arg0)
          ∧ r.2.mem ((c.tc : Thread Cert.KernelModIdeal.nD Cert.KernelModIdeal.τ).loc Cert.KernelModIdeal.main_arg1) = m ((c.tc : Thread Cert.KernelModIdeal.nD Cert.KernelModIdeal.τ).loc Cert.KernelModIdeal.main_arg1)
          ∧ r.2.mem ((c.tc : Thread Cert.KernelModIdeal.nD Cert.KernelModIdeal.τ).loc Cert.KernelModIdeal.main_arg2) = m ((c.tc : Thread Cert.KernelModIdeal.nD Cert.KernelModIdeal.τ).loc Cert.KernelModIdeal.main_arg2)
          ∧ r.2.mem ((c.tc : Thread Cert.KernelModIdeal.nD Cert.KernelModIdeal.τ).loc Cert.KernelModIdeal.main_arg3) = m ((c.tc : Thread Cert.KernelModIdeal.nD Cert.KernelModIdeal.τ).loc Cert.KernelModIdeal.main_arg3))
      ∧ θ_run (Cert.ReferenceModIdeal.defs (F := Ideal)) (onTc (τ := Cert.ReferenceModIdeal.τ) (Cert.ReferenceModIdeal.main (F := Ideal))) ⟨m', fun _ => 0, g'⟩ (fun r => ∀ c : Dev Cert.ReferenceModIdeal.nD,
          r.2.mem ((c.tc : Thread Cert.ReferenceModIdeal.nD Cert.ReferenceModIdeal.τ).loc Cert.ReferenceModIdeal.main_v12) = v0 c
          ∧ r.2.mem ((c.tc : Thread Cert.ReferenceModIdeal.nD Cert.ReferenceModIdeal.τ).loc Cert.ReferenceModIdeal.main_arg0) = m' ((c.tc : Thread Cert.ReferenceModIdeal.nD Cert.ReferenceModIdeal.τ).loc Cert.ReferenceModIdeal.main_arg0)
          ∧ r.2.mem ((c.tc : Thread Cert.ReferenceModIdeal.nD Cert.ReferenceModIdeal.τ).loc Cert.ReferenceModIdeal.main_arg1) = m' ((c.tc : Thread Cert.ReferenceModIdeal.nD Cert.ReferenceModIdeal.τ).loc Cert.ReferenceModIdeal.main_arg1)
          ∧ r.2.mem ((c.tc : Thread Cert.ReferenceModIdeal.nD Cert.ReferenceModIdeal.τ).loc Cert.ReferenceModIdeal.main_arg2) = m' ((c.tc : Thread Cert.ReferenceModIdeal.nD Cert.ReferenceModIdeal.τ).loc Cert.ReferenceModIdeal.main_arg2)
          ∧ r.2.mem ((c.tc : Thread Cert.ReferenceModIdeal.nD Cert.ReferenceModIdeal.τ).loc Cert.ReferenceModIdeal.main_arg3) = m' ((c.tc : Thread Cert.ReferenceModIdeal.nD Cert.ReferenceModIdeal.τ).loc Cert.ReferenceModIdeal.main_arg3))

def preserves_KernelGates_KernelGatesIdeal : Prop :=
  True

def algebraic_KernelGatesIdeal_ReferenceGatesIdeal [hKernelGatesIdeal : Cert.KernelGatesIdeal.Facts] [hReferenceGatesIdeal : Cert.ReferenceGatesIdeal.Facts] : Prop :=
  ∀ (m : (ℓ : Loc Cert.KernelGatesIdeal.nD Cert.KernelGatesIdeal.τ Cert.KernelGatesIdeal.sig) → Buf (Elt Ideal) ℓ) (g : Dev Cert.KernelGatesIdeal.nD → PrngReg)
    (m' : (ℓ : Loc Cert.ReferenceGatesIdeal.nD Cert.ReferenceGatesIdeal.τ Cert.ReferenceGatesIdeal.sig) → Buf (Elt Ideal) ℓ) (g' : Dev Cert.ReferenceGatesIdeal.nD → PrngReg), Pre_KernelGatesIdeal m →
    (∀ c : Dev Cert.KernelGatesIdeal.nD,
      m' ((c.tc : Thread Cert.ReferenceGatesIdeal.nD Cert.ReferenceGatesIdeal.τ).loc Cert.ReferenceGatesIdeal.main_arg0) = m ((c.tc : Thread Cert.KernelGatesIdeal.nD Cert.KernelGatesIdeal.τ).loc Cert.KernelGatesIdeal.main_arg0)
      ∧ m' ((c.tc : Thread Cert.ReferenceGatesIdeal.nD Cert.ReferenceGatesIdeal.τ).loc Cert.ReferenceGatesIdeal.main_arg1) = m ((c.tc : Thread Cert.KernelGatesIdeal.nD Cert.KernelGatesIdeal.τ).loc Cert.KernelGatesIdeal.main_arg1)
      ∧ m' ((c.tc : Thread Cert.ReferenceGatesIdeal.nD Cert.ReferenceGatesIdeal.τ).loc Cert.ReferenceGatesIdeal.main_arg2) = m ((c.tc : Thread Cert.KernelGatesIdeal.nD Cert.KernelGatesIdeal.τ).loc Cert.KernelGatesIdeal.main_arg2)) →
    ∃ (v0 : (c : Dev Cert.KernelGatesIdeal.nD) → Buf (Elt Ideal) ((c.tc : Thread Cert.KernelGatesIdeal.nD Cert.KernelGatesIdeal.τ).loc Cert.KernelGatesIdeal.main_v4)),
      θ_run (Cert.KernelGatesIdeal.defs (F := Ideal)) (onTc (τ := Cert.KernelGatesIdeal.τ) (Cert.KernelGatesIdeal.main (F := Ideal))) ⟨m, fun _ => 0, g⟩ (fun r => ∀ c : Dev Cert.KernelGatesIdeal.nD,
          r.2.mem ((c.tc : Thread Cert.KernelGatesIdeal.nD Cert.KernelGatesIdeal.τ).loc Cert.KernelGatesIdeal.main_v4) = v0 c
          ∧ r.2.mem ((c.tc : Thread Cert.KernelGatesIdeal.nD Cert.KernelGatesIdeal.τ).loc Cert.KernelGatesIdeal.main_arg0) = m ((c.tc : Thread Cert.KernelGatesIdeal.nD Cert.KernelGatesIdeal.τ).loc Cert.KernelGatesIdeal.main_arg0)
          ∧ r.2.mem ((c.tc : Thread Cert.KernelGatesIdeal.nD Cert.KernelGatesIdeal.τ).loc Cert.KernelGatesIdeal.main_arg1) = m ((c.tc : Thread Cert.KernelGatesIdeal.nD Cert.KernelGatesIdeal.τ).loc Cert.KernelGatesIdeal.main_arg1)
          ∧ r.2.mem ((c.tc : Thread Cert.KernelGatesIdeal.nD Cert.KernelGatesIdeal.τ).loc Cert.KernelGatesIdeal.main_arg2) = m ((c.tc : Thread Cert.KernelGatesIdeal.nD Cert.KernelGatesIdeal.τ).loc Cert.KernelGatesIdeal.main_arg2))
      ∧ θ_run (Cert.ReferenceGatesIdeal.defs (F := Ideal)) (onTc (τ := Cert.ReferenceGatesIdeal.τ) (Cert.ReferenceGatesIdeal.main (F := Ideal))) ⟨m', fun _ => 0, g'⟩ (fun r => ∀ c : Dev Cert.ReferenceGatesIdeal.nD,
          r.2.mem ((c.tc : Thread Cert.ReferenceGatesIdeal.nD Cert.ReferenceGatesIdeal.τ).loc Cert.ReferenceGatesIdeal.main_v53) = v0 c
          ∧ r.2.mem ((c.tc : Thread Cert.ReferenceGatesIdeal.nD Cert.ReferenceGatesIdeal.τ).loc Cert.ReferenceGatesIdeal.main_arg0) = m' ((c.tc : Thread Cert.ReferenceGatesIdeal.nD Cert.ReferenceGatesIdeal.τ).loc Cert.ReferenceGatesIdeal.main_arg0)
          ∧ r.2.mem ((c.tc : Thread Cert.ReferenceGatesIdeal.nD Cert.ReferenceGatesIdeal.τ).loc Cert.ReferenceGatesIdeal.main_arg1) = m' ((c.tc : Thread Cert.ReferenceGatesIdeal.nD Cert.ReferenceGatesIdeal.τ).loc Cert.ReferenceGatesIdeal.main_arg1)
          ∧ r.2.mem ((c.tc : Thread Cert.ReferenceGatesIdeal.nD Cert.ReferenceGatesIdeal.τ).loc Cert.ReferenceGatesIdeal.main_arg2) = m' ((c.tc : Thread Cert.ReferenceGatesIdeal.nD Cert.ReferenceGatesIdeal.τ).loc Cert.ReferenceGatesIdeal.main_arg2))

def preserves_KernelPrep_KernelPrepIdeal : Prop :=
  True

def algebraic_KernelPrepIdeal_ReferencePrepIdeal_pre_finite_conv [hKernelPrepIdeal : Cert.KernelPrepIdeal.Facts] [hReferencePrepIdeal : Cert.ReferencePrepIdeal.Facts] [hPre_finite_conv : Cert.Pre_finite_conv.Facts] : Prop :=
  ∀ (m : (ℓ : Loc Cert.KernelPrepIdeal.nD Cert.KernelPrepIdeal.τ Cert.KernelPrepIdeal.sig) → Buf (Elt Ideal) ℓ) (g : Dev Cert.KernelPrepIdeal.nD → PrngReg)
    (m' : (ℓ : Loc Cert.ReferencePrepIdeal.nD Cert.ReferencePrepIdeal.τ Cert.ReferencePrepIdeal.sig) → Buf (Elt Ideal) ℓ) (g' : Dev Cert.ReferencePrepIdeal.nD → PrngReg), Pre_KernelPrepIdeal_finite_conv m →
    (∀ c : Dev Cert.KernelPrepIdeal.nD,
      m' ((c.tc : Thread Cert.ReferencePrepIdeal.nD Cert.ReferencePrepIdeal.τ).loc Cert.ReferencePrepIdeal.main_arg0) = m ((c.tc : Thread Cert.KernelPrepIdeal.nD Cert.KernelPrepIdeal.τ).loc Cert.KernelPrepIdeal.main_arg0)
      ∧ m' ((c.tc : Thread Cert.ReferencePrepIdeal.nD Cert.ReferencePrepIdeal.τ).loc Cert.ReferencePrepIdeal.main_arg1) = m ((c.tc : Thread Cert.KernelPrepIdeal.nD Cert.KernelPrepIdeal.τ).loc Cert.KernelPrepIdeal.main_arg1)) →
    ∃ (v0 : (c : Dev Cert.KernelPrepIdeal.nD) → Buf (Elt Ideal) ((c.tc : Thread Cert.KernelPrepIdeal.nD Cert.KernelPrepIdeal.τ).loc Cert.KernelPrepIdeal.main_v35_0)) (v1 : (c : Dev Cert.KernelPrepIdeal.nD) → Buf (Elt Ideal) ((c.tc : Thread Cert.KernelPrepIdeal.nD Cert.KernelPrepIdeal.τ).loc Cert.KernelPrepIdeal.main_v35_1)) (v2 : (c : Dev Cert.KernelPrepIdeal.nD) → Buf (Elt Ideal) ((c.tc : Thread Cert.KernelPrepIdeal.nD Cert.KernelPrepIdeal.τ).loc Cert.KernelPrepIdeal.main_v35_2)),
      θ_run (Cert.KernelPrepIdeal.defs (F := Ideal)) (onTc (τ := Cert.KernelPrepIdeal.τ) (Cert.KernelPrepIdeal.main (F := Ideal))) ⟨m, fun _ => 0, g⟩ (fun r => ∀ c : Dev Cert.KernelPrepIdeal.nD,
          r.2.mem ((c.tc : Thread Cert.KernelPrepIdeal.nD Cert.KernelPrepIdeal.τ).loc Cert.KernelPrepIdeal.main_v35_0) = v0 c
          ∧ r.2.mem ((c.tc : Thread Cert.KernelPrepIdeal.nD Cert.KernelPrepIdeal.τ).loc Cert.KernelPrepIdeal.main_v35_1) = v1 c
          ∧ r.2.mem ((c.tc : Thread Cert.KernelPrepIdeal.nD Cert.KernelPrepIdeal.τ).loc Cert.KernelPrepIdeal.main_v35_2) = v2 c
          ∧ r.2.mem ((c.tc : Thread Cert.KernelPrepIdeal.nD Cert.KernelPrepIdeal.τ).loc Cert.KernelPrepIdeal.main_arg0) = m ((c.tc : Thread Cert.KernelPrepIdeal.nD Cert.KernelPrepIdeal.τ).loc Cert.KernelPrepIdeal.main_arg0)
          ∧ r.2.mem ((c.tc : Thread Cert.KernelPrepIdeal.nD Cert.KernelPrepIdeal.τ).loc Cert.KernelPrepIdeal.main_arg1) = m ((c.tc : Thread Cert.KernelPrepIdeal.nD Cert.KernelPrepIdeal.τ).loc Cert.KernelPrepIdeal.main_arg1))
      ∧ θ_run (Cert.ReferencePrepIdeal.defs (F := Ideal)) (onTc (τ := Cert.ReferencePrepIdeal.τ) (Cert.ReferencePrepIdeal.main (F := Ideal))) ⟨m', fun _ => 0, g'⟩ (fun r => ∀ c : Dev Cert.ReferencePrepIdeal.nD,
          r.2.mem ((c.tc : Thread Cert.ReferencePrepIdeal.nD Cert.ReferencePrepIdeal.τ).loc Cert.ReferencePrepIdeal.main_v231) = v0 c
          ∧ r.2.mem ((c.tc : Thread Cert.ReferencePrepIdeal.nD Cert.ReferencePrepIdeal.τ).loc Cert.ReferencePrepIdeal.main_v234) = v1 c
          ∧ r.2.mem ((c.tc : Thread Cert.ReferencePrepIdeal.nD Cert.ReferencePrepIdeal.τ).loc Cert.ReferencePrepIdeal.main_v237) = v2 c
          ∧ r.2.mem ((c.tc : Thread Cert.ReferencePrepIdeal.nD Cert.ReferencePrepIdeal.τ).loc Cert.ReferencePrepIdeal.main_arg0) = m' ((c.tc : Thread Cert.ReferencePrepIdeal.nD Cert.ReferencePrepIdeal.τ).loc Cert.ReferencePrepIdeal.main_arg0)
          ∧ r.2.mem ((c.tc : Thread Cert.ReferencePrepIdeal.nD Cert.ReferencePrepIdeal.τ).loc Cert.ReferencePrepIdeal.main_arg1) = m' ((c.tc : Thread Cert.ReferencePrepIdeal.nD Cert.ReferencePrepIdeal.τ).loc Cert.ReferencePrepIdeal.main_arg1))

def Claim : Prop :=
  ∃ (hKernel : Cert.Kernel.Facts) (hKernelIdeal : Cert.KernelIdeal.Facts) (hReferenceIdeal : Cert.ReferenceIdeal.Facts) (hKernelProj : Cert.KernelProj.Facts) (hKernelProjIdeal : Cert.KernelProjIdeal.Facts) (hReferenceProjIdeal : Cert.ReferenceProjIdeal.Facts) (hKernelMerge : Cert.KernelMerge.Facts) (hKernelMergeIdeal : Cert.KernelMergeIdeal.Facts) (hReferenceMergeIdeal : Cert.ReferenceMergeIdeal.Facts) (hKernelMod : Cert.KernelMod.Facts) (hKernelModIdeal : Cert.KernelModIdeal.Facts) (hReferenceModIdeal : Cert.ReferenceModIdeal.Facts) (hKernelGates : Cert.KernelGates.Facts) (hKernelGatesIdeal : Cert.KernelGatesIdeal.Facts) (hReferenceGatesIdeal : Cert.ReferenceGatesIdeal.Facts) (hKernelPrep : Cert.KernelPrep.Facts) (hKernelPrepIdeal : Cert.KernelPrepIdeal.Facts) (hReferencePrepIdeal : Cert.ReferencePrepIdeal.Facts) (hPre_finite : Cert.Pre_finite.Facts) (hPre_finite_gates : Cert.Pre_finite_gates.Facts) (hPre_finite_c : Cert.Pre_finite_c.Facts) (hPre_finite_conv : Cert.Pre_finite_conv.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelProj (hKernelProj := hKernelProj)
    ∧ quiescent_KernelProjIdeal (hKernelProjIdeal := hKernelProjIdeal)
    ∧ quiescent_ReferenceProjIdeal (hReferenceProjIdeal := hReferenceProjIdeal)
    ∧ quiescent_KernelMerge (hKernelMerge := hKernelMerge)
    ∧ quiescent_KernelMergeIdeal (hKernelMergeIdeal := hKernelMergeIdeal)
    ∧ quiescent_KernelMergeIdeal_pre_finite_gates (hKernelMergeIdeal := hKernelMergeIdeal) (hPre_finite_gates := hPre_finite_gates)
    ∧ quiescent_ReferenceMergeIdeal (hReferenceMergeIdeal := hReferenceMergeIdeal)
    ∧ quiescent_ReferenceMergeIdeal_pre_finite_gates (hReferenceMergeIdeal := hReferenceMergeIdeal) (hPre_finite_gates := hPre_finite_gates)
    ∧ quiescent_KernelMod (hKernelMod := hKernelMod)
    ∧ quiescent_KernelModIdeal (hKernelModIdeal := hKernelModIdeal)
    ∧ quiescent_KernelModIdeal_pre_finite_c (hKernelModIdeal := hKernelModIdeal) (hPre_finite_c := hPre_finite_c)
    ∧ quiescent_ReferenceModIdeal (hReferenceModIdeal := hReferenceModIdeal)
    ∧ quiescent_ReferenceModIdeal_pre_finite_c (hReferenceModIdeal := hReferenceModIdeal) (hPre_finite_c := hPre_finite_c)
    ∧ quiescent_KernelGates (hKernelGates := hKernelGates)
    ∧ quiescent_KernelGatesIdeal (hKernelGatesIdeal := hKernelGatesIdeal)
    ∧ quiescent_ReferenceGatesIdeal (hReferenceGatesIdeal := hReferenceGatesIdeal)
    ∧ quiescent_KernelPrep (hKernelPrep := hKernelPrep)
    ∧ quiescent_KernelPrepIdeal (hKernelPrepIdeal := hKernelPrepIdeal)
    ∧ quiescent_KernelPrepIdeal_pre_finite_conv (hKernelPrepIdeal := hKernelPrepIdeal) (hPre_finite_conv := hPre_finite_conv)
    ∧ quiescent_ReferencePrepIdeal (hReferencePrepIdeal := hReferencePrepIdeal)
    ∧ quiescent_ReferencePrepIdeal_pre_finite_conv (hReferencePrepIdeal := hReferencePrepIdeal) (hPre_finite_conv := hPre_finite_conv)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelProj_KernelProjIdeal
    ∧ algebraic_KernelProjIdeal_ReferenceProjIdeal (hKernelProjIdeal := hKernelProjIdeal) (hReferenceProjIdeal := hReferenceProjIdeal)
    ∧ preserves_KernelMerge_KernelMergeIdeal
    ∧ algebraic_KernelMergeIdeal_ReferenceMergeIdeal_pre_finite_gates (hKernelMergeIdeal := hKernelMergeIdeal) (hReferenceMergeIdeal := hReferenceMergeIdeal) (hPre_finite_gates := hPre_finite_gates)
    ∧ preserves_KernelMod_KernelModIdeal
    ∧ algebraic_KernelModIdeal_ReferenceModIdeal_pre_finite_c (hKernelModIdeal := hKernelModIdeal) (hReferenceModIdeal := hReferenceModIdeal) (hPre_finite_c := hPre_finite_c)
    ∧ preserves_KernelGates_KernelGatesIdeal
    ∧ algebraic_KernelGatesIdeal_ReferenceGatesIdeal (hKernelGatesIdeal := hKernelGatesIdeal) (hReferenceGatesIdeal := hReferenceGatesIdeal)
    ∧ preserves_KernelPrep_KernelPrepIdeal
    ∧ algebraic_KernelPrepIdeal_ReferencePrepIdeal_pre_finite_conv (hKernelPrepIdeal := hKernelPrepIdeal) (hReferencePrepIdeal := hReferencePrepIdeal) (hPre_finite_conv := hPre_finite_conv)
-- ==== Pre_finite.lean ====
abbrev S16x2304x8192 : Shape := ⟨3, ![16, 2304, 8192]⟩
abbrev S4x15x31 : Shape := ⟨3, ![4, 15, 31]⟩
abbrev S_ : Shape := ⟨0, ![]⟩

class Facts : Prop where
  bitsLt_bf16_f32 : FTy.bits .bf16 < FTy.bits .f32
  bcast_S_S16x2304x8192 : S_.BroadcastsInDim S16x2304x8192 (![] : Fin 0 → Fin S16x2304x8192.rank)
  reducesTo_S16x2304x8192_S_d0_1_2 : S16x2304x8192.ReducesTo [0, 1, 2] S_
  h_S_ : 0 < S_.numel
  bcast_S_S4x15x31 : S_.BroadcastsInDim S4x15x31 (![] : Fin 0 → Fin S4x15x31.rank)
  reducesTo_S4x15x31_S_d0_1_2 : S4x15x31.ReducesTo [0, 1, 2] S_

variable [Facts]

def fn {F : FTy → Type} [FloatOps F] (main_arg0 : FVec F S16x2304x8192 .bf16) (main_arg1 : FVec F S4x15x31 .f32) : IVec S_ 1 :=
  let main_v0 : FVec F S16x2304x8192 .f32 := (extf .f32 · bitsLt_bf16_f32) main_arg0
  let main_v1 : FVec F S16x2304x8192 .f32 := Host.absf main_v0
  let main_cst : FVec F S_ .f32 := constant S_ .f32 0x7F800000#32
  let main_v2 : FVec F S16x2304x8192 .f32 := broadcastInDim S16x2304x8192 ![] bcast_S_S16x2304x8192 main_cst
  let main_v3 : IVec S16x2304x8192 1 := cmpf .olt main_v1 main_v2
  let main_c : IVec S_ 1 := constantI S_ 1 1#1
  let main_v4 : IVec S_ 1 := (fun x v => Host.reduce IntOp.andi x v reducesTo_S16x2304x8192_S_d0_1_2 h_S_) main_v3 main_c
  let main_v5 : FVec F S4x15x31 .f32 := Host.absf main_arg1
  let main_cst_0 : FVec F S_ .f32 := constant S_ .f32 0x7F800000#32
  let main_v6 : FVec F S4x15x31 .f32 := broadcastInDim S4x15x31 ![] bcast_S_S4x15x31 main_cst_0
  let main_v7 : IVec S4x15x31 1 := cmpf .olt main_v5 main_v6
  let main_c_1 : IVec S_ 1 := constantI S_ 1 1#1
  let main_v8 : IVec S_ 1 := (fun x v => Host.reduce IntOp.andi x v reducesTo_S4x15x31_S_d0_1_2 h_S_) main_v7 main_c_1
  let main_v9 : IVec S_ 1 := andi main_v4 main_v8
  main_v9
-- ==== Pre_finite_c.lean ====
abbrev S16x1024 : Shape := ⟨2, ![16, 1024]⟩
abbrev S1024 : Shape := ⟨1, ![1024]⟩
abbrev S4x1024x3072 : Shape := ⟨3, ![4, 1024, 3072]⟩
abbrev S4x3072 : Shape := ⟨2, ![4, 3072]⟩
abbrev S_ : Shape := ⟨0, ![]⟩

class Facts : Prop where
  bcast_S_S16x1024 : S_.BroadcastsInDim S16x1024 (![] : Fin 0 → Fin S16x1024.rank)
  reducesTo_S16x1024_S_d0_1 : S16x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S16x1024 .f32) (main_arg1 : FVec F S1024 .f32) (main_arg2 : FVec F S4x1024x3072 .f32) (main_arg3 : FVec F S4x3072 .f32) : IVec S_ 1 :=
  let main_v0 : FVec F S16x1024 .f32 := Host.absf main_arg0
  let main_cst : FVec F S_ .f32 := constant S_ .f32 0x7F800000#32
  let main_v1 : FVec F S16x1024 .f32 := broadcastInDim S16x1024 ![] bcast_S_S16x1024 main_cst
  let main_v2 : IVec S16x1024 1 := cmpf .olt main_v0 main_v1
  let main_c : IVec S_ 1 := constantI S_ 1 1#1
  let main_v3 : IVec S_ 1 := (fun x v => Host.reduce IntOp.andi x v reducesTo_S16x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  main_v8
-- ==== Pre_finite_conv.lean ====
abbrev S16x2304x8192 : Shape := ⟨3, ![16, 2304, 8192]⟩
abbrev S4x1536 : Shape := ⟨2, ![4, 1536]⟩
abbrev S_ : Shape := ⟨0, ![]⟩

class Facts : Prop where
  bitsLt_bf16_f32 : FTy.bits .bf16 < FTy.bits .f32
  bcast_S_S16x2304x8192 : S_.BroadcastsInDim S16x2304x8192 (![] : Fin 0 → Fin S16x2304x8192.rank)
  reducesTo_S16x2304x8192_S_d0_1_2 : S16x2304x8192.ReducesTo [0, 1, 2] S_
  h_S_ : 0 < S_.numel
  bcast_S_S4x1536 : S_.BroadcastsInDim S4x1536 (![] : Fin 0 → Fin S4x1536.rank)
  reducesTo_S4x1536_S_d0_1 : S4x1536.ReducesTo [0, 1] S_

variable [Facts]

def fn {F : FTy → Type} [FloatOps F] (main_arg0 : FVec F S16x2304x8192 .bf16) (main_arg1 : FVec F S4x1536 .f32) : IVec S_ 1 :=
  let main_v0 : FVec F S16x2304x8192 .f32 := (extf .f32 · bitsLt_bf16_f32) main_arg0
  let main_v1 : FVec F S16x2304x8192 .f32 := Host.absf main_v0
  let main_cst : FVec F S_ .f32 := constant S_ .f32 0x7F800000#32
  let main_v2 : FVec F S16x2304x8192 .f32 := broadcastInDim S16x2304x8192 ![] bcast_S_S16x2304x8192 main_cst
  let main_v3 : IVec S16x2304x8192 1 := cmpf .olt main_v1 main_v2
  let main_c : IVec S_ 1 := constantI S_ 1 1#1
  let main_v4 : IVec S_ 1 := (fun x v => Host.reduce IntOp.andi x v reducesTo_S16x2304x8192_S_d0_1_2 h_S_) main_v3 main_c
  let main_v5 : FVec F S4x1536 .f32 := Host.absf main_arg1
  let main_cst_0 : FVec F S_ .f32 := constant S_ .f32 0x7F800000#32
  let main_v6 : FVec F S4x1536 .f32 := broadcastInDim S4x1536 ![] bcast_S_S4x1536 main_cst_0
  let main_v7 : IVec S4x1536 1 := cmpf .olt main_v5 main_v6
  let main_c_1 : IVec S_ 1 := constantI S_ 1 1#1
  let main_v8 : IVec S_ 1 := (fun x v => Host.reduce IntOp.andi x v reducesTo_S4x1536_S_d0_1 h_S_) main_v7 main_c_1
  let main_v9 : IVec S_ 1 := andi main_v4 main_v8
  main_v9
-- ==== Pre_finite_gates.lean ====
abbrev S16x2304x512 : Shape := ⟨3, ![16, 2304, 512]⟩
abbrev S16x2304x8192 : Shape := ⟨3, ![16, 2304, 8192]⟩
abbrev S128 : Shape := ⟨1, ![128]⟩
abbrev S3x512x1024 : Shape := ⟨3, ![3, 512, 1024]⟩
abbrev S1024x1024 : Shape := ⟨2, ![1024, 1024]⟩
abbrev S16x2304x1024 : Shape := ⟨3, ![16, 2304, 1024]⟩
abbrev S1024 : Shape := ⟨1, ![1024]⟩
abbrev S16x3072 : Shape := ⟨2, ![16, 3072]⟩
abbrev S1x3072 : Shape := ⟨2, ![1, 3072]⟩
abbrev S_ : Shape := ⟨0, ![]⟩

class Facts : Prop where
  bitsLt_bf16_f32 : FTy.bits .bf16 < FTy.bits .f32
  bcast_S_S16x2304x8192 : S_.BroadcastsInDim S16x2304x8192 (![] : Fin 0 → Fin S16x2304x8192.rank)
  reducesTo_S16x2304x8192_S_d0_1_2 : S16x2304x8192.ReducesTo [0, 1, 2] S_
  h_S_ : 0 < S_.numel

variable [Facts]

def fn {F : FTy → Type} [FloatOps F] (main_arg0 : FVec F S16x2304x512 .f32) (main_arg1 : FVec F S16x2304x512 .f32) (main_arg2 : FVec F S16x2304x512 .f32) (main_arg3 : FVec F S16x2304x8192 .bf16) (main_arg4 : FVec F S128 .f32) (main_arg5 : FVec F S3x512x1024 .f32) (main_arg6 : FVec F S1024x1024 .f32) (main_arg7 : FVec F S16x2304x1024 .f32) (main_arg8 : FVec F S1024 .f32) (main_arg9 : FVec F S16x3072 .f32) (main_arg10 : FVec F S1x3072 .f32) : IVec S_ 1 :=
  let main_v0 : FVec F S16x2304x8192 .f32 := (extf .f32 · bitsLt_bf16_f32) main_arg3
  let main_v1 : FVec F S16x2304x8192 .f32 := Host.absf main_v0
  let main_cst : FVec F S_ .f32 := constant S_ .f32 0x7F800000#32
  let main_v2 : FVec F S16x2304x8192 .f32 := broadcastInDim S16x2304x8192 ![] bcast_S_S16x2304x8192 main_cst
  let main_v3 : IVec S16x2304x8192 1 := cmpf .olt main_v1 main_v2
  let main_c : IVec S_ 1 := constantI S_ 1 1#1
  let main_v4 : IVec S_ 1 := (fun x v => Host.reduce IntOp.andi x v reducesTo_S16x2304x8192_S_d0_1_2 h_S_) main_v3 main_c
  main_v4
-- ==== Kernel.lean ====
abbrev S16x2304x8192 : Shape := ⟨3, ![16, 2304, 8192]⟩
abbrev S4x15x31 : Shape := ⟨3, ![4, 15, 31]⟩
abbrev S64 : Shape := ⟨1, ![64]⟩
abbrev S64x1 : Shape := ⟨2, ![64, 1]⟩
abbrev S1x64 : Shape := ⟨2, ![1, 64]⟩
abbrev S_ : Shape := ⟨0, ![]⟩
abbrev S64x64 : Shape := ⟨2, ![64, 64]⟩
abbrev S1x64x64 : Shape := ⟨3, ![1, 64, 64]⟩
abbrev S31 : Shape := ⟨1, ![31]⟩
abbrev S31x1x1 : Shape := ⟨3, ![31, 1, 1]⟩
abbrev S31x64x64 : Shape := ⟨3, ![31, 64, 64]⟩
abbrev S4x15x64x64 : Shape := ⟨4, ![4, 15, 64, 64]⟩
abbrev S4x64x64 : Shape := ⟨3, ![4, 64, 64]⟩
abbrev S4x1x64x64 : Shape := ⟨4, ![4, 1, 64, 64]⟩
abbrev S4x64x768 : Shape := ⟨3, ![4, 64, 768]⟩
abbrev S4x256x768 : Shape := ⟨3, ![4, 256, 768]⟩
abbrev S4x1x256x768 : Shape := ⟨4, ![4, 1, 256, 768]⟩
abbrev S4x3x256x768 : Shape := ⟨4, ![4, 3, 256, 768]⟩
abbrev S16x2304x512 : Shape := ⟨3, ![16, 2304, 512]⟩
abbrev S1x2304x128 : Shape := ⟨3, ![1, 2304, 128]⟩
abbrev S1x3x256x768 : Shape := ⟨4, ![1, 3, 256, 768]⟩
abbrev S1x256x128 : Shape := ⟨3, ![1, 256, 128]⟩
abbrev S256x128 : Shape := ⟨2, ![256, 128]⟩
abbrev S256x256 : Shape := ⟨2, ![256, 256]⟩
abbrev S1x768x128 : Shape := ⟨3, ![1, 768, 128]⟩
abbrev S768x128 : Shape := ⟨2, ![768, 128]⟩
abbrev S256x768 : Shape := ⟨2, ![256, 768]⟩
abbrev S1x1x256x768 : Shape := ⟨4, ![1, 1, 256, 768]⟩
abbrev S256 : Shape := ⟨1, ![256]⟩
abbrev S256x1 : Shape := ⟨2, ![256, 1]⟩

abbrev nBuf : Space → Nat
  | .hbm => 271
  | .vmem => 10
  | .smem => 0
  | _ => 0

abbrev hbmTy0_0 (i : Nat) : BufTy := match i % 128 with
  | 0 => ⟨S16x2304x8192, .bf16⟩
  | 1 => ⟨S4x15x31, .f32⟩
  | 2 => ⟨S64, .i32⟩
  | 3 => ⟨S64x1, .i32⟩
  | 4 => ⟨S64, .i32⟩
  | 5 => ⟨S1x64, .i32⟩
  | 6 => ⟨S_, .i32⟩
  | 7 => ⟨S64x1, .i32⟩
  | 8 => ⟨S64x1, .i32⟩
  | 9 => ⟨S_, .i32⟩
  | 10 => ⟨S_, .i32⟩
  | 11 => ⟨S_, .i32⟩
  | 12 => ⟨S64x1, .i32⟩
  | 13 => ⟨S64x1, .i32⟩
  | 14 => ⟨S_, .i32⟩
  | 15 => ⟨S64x1, .i32⟩
  | 16 => ⟨S64x1, .i32⟩
  | 17 => ⟨S64x64, .i32⟩
  | 18 => ⟨S64x64, .i32⟩
  | 19 => ⟨S64x64, .i1⟩
  | 20 => ⟨S_, .i32⟩
  | 21 => ⟨S64x1, .i32⟩
  | 22 => ⟨S64x1, .i32⟩
  | 23 => ⟨S64x64, .i32⟩
  | 24 => ⟨S64x64, .i32⟩
  | 25 => ⟨S64x64, .i1⟩
  | 26 => ⟨S64x64, .i1⟩
  | 27 => ⟨S64x64, .i32⟩
  | 28 => ⟨S64x64, .i32⟩
  | 29 => ⟨S64x64, .i32⟩
  | 30 => ⟨S_, .i32⟩
  | 31 => ⟨S_, .i32⟩
  | 32 => ⟨S_, .i32⟩
  | 33 => ⟨S64x64, .i32⟩
  | 34 => ⟨S64x64, .i32⟩
  | 35 => ⟨S_, .i32⟩
  | 36 => ⟨S64x64, .i32⟩
  | 37 => ⟨S64x64, .i32⟩
  | 38 => ⟨S_, .i32⟩
  | 39 => ⟨S64x64, .i32⟩
  | 40 => ⟨S64x64, .i32⟩
  | 41 => ⟨S_, .i32⟩
  | 42 => ⟨S64x64, .i32⟩
  | 43 => ⟨S64x64, .i32⟩
  | 44 => ⟨S1x64x64, .i32⟩
  | 45 => ⟨S31, .i32⟩
  | 46 => ⟨S31x1x1, .i32⟩
  | 47 => ⟨S31x64x64, .i32⟩
  | 48 => ⟨S31x64x64, .i32⟩
  | 49 => ⟨S31x64x64, .i1⟩
  | 50 => ⟨S31x64x64, .f32⟩
  | 51 => ⟨S4x15x64x64, .f32⟩
  | 52 => ⟨S_, .f32⟩
  | 53 => ⟨S_, .f32⟩
  | 54 => ⟨S4x15x64x64, .i1⟩
  | 55 => ⟨S4x15x64x64, .f32⟩
  | 56 => ⟨S4x15x64x64, .f32⟩
  | 57 => ⟨S_, .f32⟩
  | 58 => ⟨S4x64x64, .f32⟩
  | 59 => ⟨S4x1x64x64, .f32⟩
  | 60 => ⟨S4x64x64, .f32⟩
  | 61 => ⟨S4x1x64x64, .f32⟩
  | 62 => ⟨S4x64x64, .f32⟩
  | 63 => ⟨S4x1x64x64, .f32⟩
  | 64 => ⟨S4x64x64, .f32⟩
  | 65 => ⟨S4x1x64x64, .f32⟩
  | 66 => ⟨S4x64x64, .f32⟩
  | 67 => ⟨S4x1x64x64, .f32⟩
  | 68 => ⟨S4x64x64, .f32⟩
  | 69 => ⟨S4x1x64x64, .f32⟩
  | 70 => ⟨S4x64x64, .f32⟩
  | 71 => ⟨S4x1x64x64, .f32⟩
  | 72 => ⟨S4x64x64, .f32⟩
  | 73 => ⟨S4x1x64x64, .f32⟩
  | 74 => ⟨S4x64x64, .f32⟩
  | 75 => ⟨S4x64x768, .f32⟩
  | 76 => ⟨S4x1x64x64, .f32⟩
  | 77 => ⟨S4x64x64, .f32⟩
  | 78 => ⟨S4x1x64x64, .f32⟩
  | 79 => ⟨S4x64x64, .f32⟩
  | 80 => ⟨S4x1x64x64, .f32⟩
  | 81 => ⟨S4x64x64, .f32⟩
  | 82 => ⟨S4x1x64x64, .f32⟩
  | 83 => ⟨S4x64x64, .f32⟩
  | 84 => ⟨S4x1x64x64, .f32⟩
  | 85 => ⟨S4x64x64, .f32⟩
  | 86 => ⟨S4x1x64x64, .f32⟩
  | 87 => ⟨S4x64x64, .f32⟩
  | 88 => ⟨S4x1x64x64, .f32⟩
  | 89 => ⟨S4x64x64, .f32⟩
  | 90 => ⟨S4x1x64x64, .f32⟩
  | 91 => ⟨S4x64x64, .f32⟩
  | 92 => ⟨S4x64x768, .f32⟩
  | 93 => ⟨S4x1x64x64, .f32⟩
  | 94 => ⟨S4x64x64, .f32⟩
  | 95 => ⟨S4x1x64x64, .f32⟩
  | 96 => ⟨S4x64x64, .f32⟩
  | 97 => ⟨S4x1x64x64, .f32⟩
  | 98 => ⟨S4x64x64, .f32⟩
  | 99 => ⟨S4x1x64x64, .f32⟩
  | 100 => ⟨S4x64x64, .f32⟩
  | 101 => ⟨S4x1x64x64, .f32⟩
  | 102 => ⟨S4x64x64, .f32⟩
  | 103 => ⟨S4x1x64x64, .f32⟩
  | 104 => ⟨S4x64x64, .f32⟩
  | 105 => ⟨S4x1x64x64, .f32⟩
  | 106 => ⟨S4x64x64, .f32⟩
  | 107 => ⟨S4x1x64x64, .f32⟩
  | 108 => ⟨S4x64x64, .f32⟩
  | 109 => ⟨S4x64x768, .f32⟩
  | 110 => ⟨S4x1x64x64, .f32⟩
  | 111 => ⟨S4x64x64, .f32⟩
  | 112 => ⟨S4x1x64x64, .f32⟩
  | 113 => ⟨S4x64x64, .f32⟩
  | 114 => ⟨S4x1x64x64, .f32⟩
  | 115 => ⟨S4x64x64, .f32⟩
  | 116 => ⟨S4x1x64x64, .f32⟩
  | 117 => ⟨S4x64x64, .f32⟩
  | 118 => ⟨S4x1x64x64, .f32⟩
  | 119 => ⟨S4x64x64, .f32⟩
  | 120 => ⟨S4x1x64x64, .f32⟩
  | 121 => ⟨S4x64x64, .f32⟩
  | 122 => ⟨S4x1x64x64, .f32⟩
  | 123 => ⟨S4x64x64, .f32⟩
  | 124 => ⟨S4x1x64x64, .f32⟩
  | 125 => ⟨S4x64x64, .f32⟩
  | 126 => ⟨S4x64x768, .f32⟩
  | 127 => ⟨S4x256x768, .f32⟩
  | _ => ⟨S16x2304x8192, .bf16⟩

abbrev hbmTy0_1 (i : Nat) : BufTy := match i % 128 with
  | 0 => ⟨S4x1x64x64, .f32⟩
  | 1 => ⟨S4x64x64, .f32⟩
  | 2 => ⟨S4x1x64x64, .f32⟩
  | 3 => ⟨S4x64x64, .f32⟩
  | 4 => ⟨S4x1x64x64, .f32⟩
  | 5 => ⟨S4x64x64, .f32⟩
  | 6 => ⟨S4x1x64x64, .f32⟩
  | 7 => ⟨S4x64x64, .f32⟩
  | 8 => ⟨S4x1x64x64, .f32⟩
  | 9 => ⟨S4x64x64, .f32⟩
  | 10 => ⟨S4x1x64x64, .f32⟩
  | 11 => ⟨S4x64x64, .f32⟩
  | 12 => ⟨S4x1x64x64, .f32⟩
  | 13 => ⟨S4x64x64, .f32⟩
  | 14 => ⟨S4x1x64x64, .f32⟩
  | 15 => ⟨S4x64x64, .f32⟩
  | 16 => ⟨S4x64x768, .f32⟩
  | 17 => ⟨S4x1x64x64, .f32⟩
  | 18 => ⟨S4x64x64, .f32⟩
  | 19 => ⟨S4x1x64x64, .f32⟩
  | 20 => ⟨S4x64x64, .f32⟩
  | 21 => ⟨S4x1x64x64, .f32⟩
  | 22 => ⟨S4x64x64, .f32⟩
  | 23 => ⟨S4x1x64x64, .f32⟩
  | 24 => ⟨S4x64x64, .f32⟩
  | 25 => ⟨S4x1x64x64, .f32⟩
  | 26 => ⟨S4x64x64, .f32⟩
  | 27 => ⟨S4x1x64x64, .f32⟩
  | 28 => ⟨S4x64x64, .f32⟩
  | 29 => ⟨S4x1x64x64, .f32⟩
  | 30 => ⟨S4x64x64, .f32⟩
  | 31 => ⟨S4x1x64x64, .f32⟩
  | 32 => ⟨S4x64x64, .f32⟩
  | 33 => ⟨S4x64x768, .f32⟩
  | 34 => ⟨S4x1x64x64, .f32⟩
  | 35 => ⟨S4x64x64, .f32⟩
  | 36 => ⟨S4x1x64x64, .f32⟩
  | 37 => ⟨S4x64x64, .f32⟩
  | 38 => ⟨S4x1x64x64, .f32⟩
  | 39 => ⟨S4x64x64, .f32⟩
  | 40 => ⟨S4x1x64x64, .f32⟩
  | 41 => ⟨S4x64x64, .f32⟩
  | 42 => ⟨S4x1x64x64, .f32⟩
  | 43 => ⟨S4x64x64, .f32⟩
  | 44 => ⟨S4x1x64x64, .f32⟩
  | 45 => ⟨S4x64x64, .f32⟩
  | 46 => ⟨S4x1x64x64, .f32⟩
  | 47 => ⟨S4x64x64, .f32⟩
  | 48 => ⟨S4x1x64x64, .f32⟩
  | 49 => ⟨S4x64x64, .f32⟩
  | 50 => ⟨S4x64x768, .f32⟩
  | 51 => ⟨S4x1x64x64, .f32⟩
  | 52 => ⟨S4x64x64, .f32⟩
  | 53 => ⟨S4x1x64x64, .f32⟩
  | 54 => ⟨S4x64x64, .f32⟩
  | 55 => ⟨S4x1x64x64, .f32⟩
  | 56 => ⟨S4x64x64, .f32⟩
  | 57 => ⟨S4x1x64x64, .f32⟩
  | 58 => ⟨S4x64x64, .f32⟩
  | 59 => ⟨S4x1x64x64, .f32⟩
  | 60 => ⟨S4x64x64, .f32⟩
  | 61 => ⟨S4x1x64x64, .f32⟩
  | 62 => ⟨S4x64x64, .f32⟩
  | 63 => ⟨S4x1x64x64, .f32⟩
  | 64 => ⟨S4x64x64, .f32⟩
  | 65 => ⟨S4x1x64x64, .f32⟩
  | 66 => ⟨S4x64x64, .f32⟩
  | 67 => ⟨S4x64x768, .f32⟩
  | 68 => ⟨S4x256x768, .f32⟩
  | 69 => ⟨S4x1x64x64, .f32⟩
  | 70 => ⟨S4x64x64, .f32⟩
  | 71 => ⟨S4x1x64x64, .f32⟩
  | 72 => ⟨S4x64x64, .f32⟩
  | 73 => ⟨S4x1x64x64, .f32⟩
  | 74 => ⟨S4x64x64, .f32⟩
  | 75 => ⟨S4x1x64x64, .f32⟩
  | 76 => ⟨S4x64x64, .f32⟩
  | 77 => ⟨S4x1x64x64, .f32⟩
  | 78 => ⟨S4x64x64, .f32⟩
  | 79 => ⟨S4x1x64x64, .f32⟩
  | 80 => ⟨S4x64x64, .f32⟩
  | 81 => ⟨S4x1x64x64, .f32⟩
  | 82 => ⟨S4x64x64, .f32⟩
  | 83 => ⟨S4x1x64x64, .f32⟩
  | 84 => ⟨S4x64x64, .f32⟩
  | 85 => ⟨S4x64x768, .f32⟩
  | 86 => ⟨S4x1x64x64, .f32⟩
  | 87 => ⟨S4x64x64, .f32⟩
  | 88 => ⟨S4x1x64x64, .f32⟩
  | 89 => ⟨S4x64x64, .f32⟩
  | 90 => ⟨S4x1x64x64, .f32⟩
  | 91 => ⟨S4x64x64, .f32⟩
  | 92 => ⟨S4x1x64x64, .f32⟩
  | 93 => ⟨S4x64x64, .f32⟩
  | 94 => ⟨S4x1x64x64, .f32⟩
  | 95 => ⟨S4x64x64, .f32⟩
  | 96 => ⟨S4x1x64x64, .f32⟩
  | 97 => ⟨S4x64x64, .f32⟩
  | 98 => ⟨S4x1x64x64, .f32⟩
  | 99 => ⟨S4x64x64, .f32⟩
  | 100 => ⟨S4x1x64x64, .f32⟩
  | 101 => ⟨S4x64x64, .f32⟩
  | 102 => ⟨S4x64x768, .f32⟩
  | 103 => ⟨S4x1x64x64, .f32⟩
  | 104 => ⟨S4x64x64, .f32⟩
  | 105 => ⟨S4x1x64x64, .f32⟩
  | 106 => ⟨S4x64x64, .f32⟩
  | 107 => ⟨S4x1x64x64, .f32⟩
  | 108 => ⟨S4x64x64, .f32⟩
  | 109 => ⟨S4x1x64x64, .f32⟩
  | 110 => ⟨S4x64x64, .f32⟩
  | 111 => ⟨S4x1x64x64, .f32⟩
  | 112 => ⟨S4x64x64, .f32⟩
  | 113 => ⟨S4x1x64x64, .f32⟩
  | 114 => ⟨S4x64x64, .f32⟩
  | 115 => ⟨S4x1x64x64, .f32⟩
  | 116 => ⟨S4x64x64, .f32⟩
  | 117 => ⟨S4x1x64x64, .f32⟩
  | 118 => ⟨S4x64x64, .f32⟩
  | 119 => ⟨S4x64x768, .f32⟩
  | 120 => ⟨S4x1x64x64, .f32⟩
  | 121 => ⟨S4x64x64, .f32⟩
  | 122 => ⟨S4x1x64x64, .f32⟩
  | 123 => ⟨S4x64x64, .f32⟩
  | 124 => ⟨S4x1x64x64, .f32⟩
  | 125 => ⟨S4x64x64, .f32⟩
  | 126 => ⟨S4x1x64x64, .f32⟩
  | 127 => ⟨S4x64x64, .f32⟩
  | _ => ⟨S16x2304x8192, .bf16⟩

abbrev hbmTy0_2 (i : Nat) : BufTy := match i % 128 with
  | 0 => ⟨S4x1x64x64, .f32⟩
  | 1 => ⟨S4x64x64, .f32⟩
  | 2 => ⟨S4x1x64x64, .f32⟩
  | 3 => ⟨S4x64x64, .f32⟩
  | 4 => ⟨S4x1x64x64, .f32⟩
  | 5 => ⟨S4x64x64, .f32⟩
  | 6 => ⟨S4x1x64x64, .f32⟩
  | 7 => ⟨S4x64x64, .f32⟩
  | 8 => ⟨S4x64x768, .f32⟩
  | 9 => ⟨S4x256x768, .f32⟩
  | 10 => ⟨S4x1x256x768, .f32⟩
  | 11 => ⟨S4x1x256x768, .f32⟩
  | 12 => ⟨S4x1x256x768, .f32⟩
  | 13 => ⟨S4x3x256x768, .f32⟩
  | 14 => ⟨S16x2304x512, .f32⟩
  | _ => ⟨S16x2304x8192, .bf16⟩

abbrev hbmTy (i : Nat) : BufTy := match i / 128 with
  | 0 => hbmTy0_0 i
  | 1 => hbmTy0_1 i
  | 2 => hbmTy0_2 i
  | _ => ⟨S16x2304x8192, .bf16⟩

abbrev bufTy : (tb : Table) → Fin (tcTables nBuf tb) → BufTy
  | .hbm, ⟨i, _⟩ => hbmTy i
  | .local _ .vmem, ⟨0, _⟩ => ⟨S1x2304x128, .bf16⟩
  | .local _ .vmem, ⟨1, _⟩ => ⟨S1x2304x128, .bf16⟩
  | .local _ .vmem, ⟨2, _⟩ => ⟨S1x2304x128, .bf16⟩
  | .local _ .vmem, ⟨3, _⟩ => ⟨S1x2304x128, .bf16⟩
  | .local _ .vmem, ⟨4, _⟩ => ⟨S1x2304x128, .bf16⟩
  | .local _ .vmem, ⟨5, _⟩ => ⟨S1x2304x128, .bf16⟩
  | .local _ .vmem, ⟨6, _⟩ => ⟨S1x3x256x768, .f32⟩
  | .local _ .vmem, ⟨7, _⟩ => ⟨S1x3x256x768, .f32⟩
  | .local _ .vmem, ⟨8, _⟩ => ⟨S1x2304x128, .f32⟩
  | .local _ .vmem, ⟨9, _⟩ => ⟨S1x2304x128, .f32⟩
  | _, _ => ⟨S16x2304x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_c_4 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_v19 : Ref sig .tc := ⟨.hbm, 37, rfl⟩
abbrev main_c_5 : Ref sig .tc := ⟨.hbm, 38, rfl⟩
abbrev main_v20 : Ref sig .tc := ⟨.hbm, 39, rfl⟩
abbrev main_v21 : Ref sig .tc := ⟨.hbm, 40, rfl⟩
abbrev main_c_6 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_v32 : Ref sig .tc := ⟨.hbm, 56, rfl⟩
abbrev main_cst_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_v161 : Ref sig .tc := ⟨.hbm, 186, rfl⟩
abbrev main_v162 : Ref sig .tc := ⟨.hbm, 187, rfl⟩
abbrev main_v163 : Ref sig .tc := ⟨.hbm, 188, rfl⟩
abbrev main_v164 : Ref sig .tc := ⟨.hbm, 189, rfl⟩
abbrev main_v165 : Ref sig .tc := ⟨.hbm, 190, rfl⟩
abbrev main_v166 : Ref sig .tc := ⟨.hbm, 191, rfl⟩
abbrev main_v167 : Ref sig .tc := ⟨.hbm, 192, rfl⟩
abbrev main_v168 : Ref sig .tc := ⟨.hbm, 193, rfl⟩
abbrev main_v169 : Ref sig .tc := ⟨.hbm, 194, rfl⟩
abbrev main_v170 : Ref sig .tc := ⟨.hbm, 195, rfl⟩
abbrev main_v171 : Ref sig .tc := ⟨.hbm, 196, rfl⟩
abbrev main_v172 : Ref sig .tc := ⟨.hbm, 197, rfl⟩
abbrev main_v173 : Ref sig .tc := ⟨.hbm, 198, rfl⟩
abbrev main_v174 : Ref sig .tc := ⟨.hbm, 199, rfl⟩
abbrev main_v175 : Ref sig .tc := ⟨.hbm, 200, rfl⟩
abbrev main_v176 : Ref sig .tc := ⟨.hbm, 201, rfl⟩
abbrev main_v177 : Ref sig .tc := ⟨.hbm, 202, rfl⟩
abbrev main_v178 : Ref sig .tc := ⟨.hbm, 203, rfl⟩
abbrev main_v179 : Ref sig .tc := ⟨.hbm, 204, rfl⟩
abbrev main_v180 : Ref sig .tc := ⟨.hbm, 205, rfl⟩
abbrev main_v181 : Ref sig .tc := ⟨.hbm, 206, rfl⟩
abbrev main_v182 : Ref sig .tc := ⟨.hbm, 207, rfl⟩
abbrev main_v183 : Ref sig .tc := ⟨.hbm, 208, rfl⟩
abbrev main_v184 : Ref sig .tc := ⟨.hbm, 209, rfl⟩
abbrev main_v185 : Ref sig .tc := ⟨.hbm, 210, rfl⟩
abbrev main_v186 : Ref sig .tc := ⟨.hbm, 211, rfl⟩
abbrev main_v187 : Ref sig .tc := ⟨.hbm, 212, rfl⟩
abbrev main_v188 : Ref sig .tc := ⟨.hbm, 213, rfl⟩
abbrev main_v189 : Ref sig .tc := ⟨.hbm, 214, rfl⟩
abbrev main_v190 : Ref sig .tc := ⟨.hbm, 215, rfl⟩
abbrev main_v191 : Ref sig .tc := ⟨.hbm, 216, rfl⟩
abbrev main_v192 : Ref sig .tc := ⟨.hbm, 217, rfl⟩
abbrev main_v193 : Ref sig .tc := ⟨.hbm, 218, rfl⟩
abbrev main_v194 : Ref sig .tc := ⟨.hbm, 219, rfl⟩
abbrev main_v195 : Ref sig .tc := ⟨.hbm, 220, rfl⟩
abbrev main_v196 : Ref sig .tc := ⟨.hbm, 221, rfl⟩
abbrev main_v197 : Ref sig .tc := ⟨.hbm, 222, rfl⟩
abbrev main_v198 : Ref sig .tc := ⟨.hbm, 223, rfl⟩
abbrev main_v199 : Ref sig .tc := ⟨.hbm, 224, rfl⟩
abbrev main_v200 : Ref sig .tc := ⟨.hbm, 225, rfl⟩
abbrev main_v201 : Ref sig .tc := ⟨.hbm, 226, rfl⟩
abbrev main_v202 : Ref sig .tc := ⟨.hbm, 227, rfl⟩
abbrev main_v203 : Ref sig .tc := ⟨.hbm, 228, rfl⟩
abbrev main_v204 : Ref sig .tc := ⟨.hbm, 229, rfl⟩
abbrev main_v205 : Ref sig .tc := ⟨.hbm, 230, rfl⟩
abbrev main_v206 : Ref sig .tc := ⟨.hbm, 231, rfl⟩
abbrev main_v207 : Ref sig .tc := ⟨.hbm, 232, rfl⟩
abbrev main_v208 : Ref sig .tc := ⟨.hbm, 233, rfl⟩
abbrev main_v209 : Ref sig .tc := ⟨.hbm, 234, rfl⟩
abbrev main_v210 : Ref sig .tc := ⟨.hbm, 235, rfl⟩
abbrev main_v211 : Ref sig .tc := ⟨.hbm, 236, rfl⟩
abbrev main_v212 : Ref sig .tc := ⟨.hbm, 237, rfl⟩
abbrev main_v213 : Ref sig .tc := ⟨.hbm, 238, rfl⟩
abbrev main_v214 : Ref sig .tc := ⟨.hbm, 239, rfl⟩
abbrev main_v215 : Ref sig .tc := ⟨.hbm, 240, rfl⟩
abbrev main_v216 : Ref sig .tc := ⟨.hbm, 241, rfl⟩
abbrev main_v217 : Ref sig .tc := ⟨.hbm, 242, rfl⟩
abbrev main_v218 : Ref sig .tc := ⟨.hbm, 243, rfl⟩
abbrev main_v219 : Ref sig .tc := ⟨.hbm, 244, rfl⟩
abbrev main_v220 : Ref sig .tc := ⟨.hbm, 245, rfl⟩
abbrev main_v221 : Ref sig .tc := ⟨.hbm, 246, rfl⟩
abbrev main_v222 : Ref sig .tc := ⟨.hbm, 247, rfl⟩
abbrev main_v223 : Ref sig .tc := ⟨.hbm, 248, rfl⟩
abbrev main_v224 : Ref sig .tc := ⟨.hbm, 249, rfl⟩
abbrev main_v225 : Ref sig .tc := ⟨.hbm, 250, rfl⟩
abbrev main_v226 : Ref sig .tc := ⟨.hbm, 251, rfl⟩
abbrev main_v227 : Ref sig .tc := ⟨.hbm, 252, rfl⟩
abbrev main_v228 : Ref sig .tc := ⟨.hbm, 253, rfl⟩
abbrev main_v229 : Ref sig .tc := ⟨.hbm, 254, rfl⟩
abbrev main_v230 : Ref sig .tc := ⟨.hbm, 255, rfl⟩
abbrev main_v231 : Ref sig .tc := ⟨.hbm, 256, rfl⟩
abbrev main_v232 : Ref sig .tc := ⟨.hbm, 257, rfl⟩
abbrev main_v233 : Ref sig .tc := ⟨.hbm, 258, rfl⟩
abbrev main_v234 : Ref sig .tc := ⟨.hbm, 259, rfl⟩
abbrev main_v235 : Ref sig .tc := ⟨.hbm, 260, rfl⟩
abbrev main_v236 : Ref sig .tc := ⟨.hbm, 261, rfl⟩
abbrev main_v237 : Ref sig .tc := ⟨.hbm, 262, rfl⟩
abbrev main_v238 : Ref sig .tc := ⟨.hbm, 263, rfl⟩
abbrev main_v239 : Ref sig .tc := ⟨.hbm, 264, rfl⟩
abbrev main_v240 : Ref sig .tc := ⟨.hbm, 265, rfl⟩
abbrev main_v241 : Ref sig .tc := ⟨.hbm, 266, rfl⟩
abbrev main_v242 : Ref sig .tc := ⟨.hbm, 267, rfl⟩
abbrev main_v243 : Ref sig .tc := ⟨.hbm, 268, rfl⟩
abbrev main_v244 : Ref sig .tc := ⟨.hbm, 269, rfl⟩
abbrev main_v245 : Ref sig .tc := ⟨.hbm, 270, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  let c0_i32_0 : BitVec 32 := 0#32
  ![arg1.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg0
  let c0_i32 : BitVec 32 := 0#32
  let c0_i32_0 : BitVec 32 := 0#32
  ![arg1.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![arg1.toNat, c0_i32.toNat, v0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1x2304x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2304x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2304x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S16x2304x8192 : Shape := ⟨3, ![16, 2304, 8192]⟩
abbrev S4x15x31 : Shape := ⟨3, ![4, 15, 31]⟩
abbrev S16x2304x1536 : Shape := ⟨3, ![16, 2304, 1536]⟩
abbrev S16x2304x3x4x128 : Shape := ⟨5, ![16, 2304, 3, 4, 128]⟩
abbrev S16x2048x3x4x128 : Shape := ⟨5, ![16, 2048, 3, 4, 128]⟩
abbrev S16x256x3x4x128 : Shape := ⟨5, ![16, 256, 3, 4, 128]⟩
abbrev S16x2048x1x4x128 : Shape := ⟨5, ![16, 2048, 1, 4, 128]⟩
abbrev S16x2048x4x128 : Shape := ⟨4, ![16, 2048, 4, 128]⟩
abbrev S16x256x1x4x128 : Shape := ⟨5, ![16, 256, 1, 4, 128]⟩
abbrev S16x256x4x128 : Shape := ⟨4, ![16, 256, 4, 128]⟩
abbrev S64 : Shape := ⟨1, ![64]⟩
abbrev S4x16 : Shape := ⟨2, ![4, 16]⟩
abbrev S4 : Shape := ⟨1, ![4]⟩
abbrev S_ : Shape := ⟨0, ![]⟩
abbrev S4x1 : Shape := ⟨2, ![4, 1]⟩
abbrev S32 : Shape := ⟨1, ![32]⟩
abbrev S1x32 : Shape := ⟨2, ![1, 32]⟩
abbrev S4x32 : Shape := ⟨2, ![4, 32]⟩
abbrev S4x1x32 : Shape := ⟨3, ![4, 1, 32]⟩
abbrev S4x16x1 : Shape := ⟨3, ![4, 16, 1]⟩
abbrev S4x16x32 : Shape := ⟨3, ![4, 16, 32]⟩
abbrev S32x1 : Shape := ⟨2, ![32, 1]⟩
abbrev S8 : Shape := ⟨1, ![8]⟩
abbrev S1x8 : Shape := ⟨2, ![1, 8]⟩
abbrev S32x8 : Shape := ⟨2, ![32, 8]⟩
abbrev S16x32x4x16x4x128 : Shape := ⟨6, ![16, 32, 4, 16, 4, 128]⟩
abbrev S16x32x64x4x128 : Shape := ⟨5, ![16, 32, 64, 4, 128]⟩
abbrev S32x8x1x1 : Shape := ⟨4, ![32, 8, 1, 1]⟩
abbrev S32x8x4x32 : Shape := ⟨4, ![32, 8, 4, 32]⟩
abbrev S32x8x4x32x1 : Shape := ⟨5, ![32, 8, 4, 32, 1]⟩
abbrev S32x8x4x32x2 : Shape := ⟨5, ![32, 8, 4, 32, 2]⟩
abbrev S16x32x8x4x32x4x128 : Shape := ⟨7, ![16, 32, 8, 4, 32, 4, 128]⟩
abbrev S16x4x32x4x16x8x32 : Shape := ⟨7, ![16, 4, 32, 4, 16, 8, 32]⟩
abbrev S32x1x1x8x1 : Shape := ⟨5, ![32, 1, 1, 8, 1]⟩
abbrev S4x16x1x32 : Shape := ⟨4, ![4, 16, 1, 32]⟩
abbrev S32x4x16x8x32 : Shape := ⟨5, ![32, 4, 16, 8, 32]⟩
abbrev S32x4x16x8x32x1 : Shape := ⟨6, ![32, 4, 16, 8, 32, 1]⟩
abbrev S32x4x16x8x32x2 : Shape := ⟨6, ![32, 4, 16, 8, 32, 2]⟩
abbrev S4x32x4x16x8x32 : Shape := ⟨6, ![4, 32, 4, 16, 8, 32]⟩
abbrev S1x4x32x4x16x8x32 : Shape := ⟨7, ![1, 4, 32, 4, 16, 8, 32]⟩
abbrev S16x4x32x4x16x256 : Shape := ⟨6, ![16, 4, 32, 4, 16, 256]⟩
abbrev S16x4x32x4x16x512 : Shape := ⟨6, ![16, 4, 32, 4, 16, 512]⟩
abbrev S16x4x32x4x16 : Shape := ⟨5, ![16, 4, 32, 4, 16]⟩
abbrev S16x4x32x4x16x1 : Shape := ⟨6, ![16, 4, 32, 4, 16, 1]⟩
abbrev S16x32x4x4x128x16 : Shape := ⟨6, ![16, 32, 4, 4, 128, 16]⟩
abbrev S16x4x128x32x4x16 : Shape := ⟨6, ![16, 4, 128, 32, 4, 16]⟩
abbrev S16x4x256x256 : Shape := ⟨4, ![16, 4, 256, 256]⟩
abbrev S16x4x256 : Shape := ⟨3, ![16, 4, 256]⟩
abbrev S16x4x256x1 : Shape := ⟨4, ![16, 4, 256, 1]⟩
abbrev S16x4x128x256 : Shape := ⟨4, ![16, 4, 128, 256]⟩
abbrev S16x2304x4x128 : Shape := ⟨4, ![16, 2304, 4, 128]⟩
abbrev S16x2304x512 : Shape := ⟨3, ![16, 2304, 512]⟩

abbrev nBuf : Space → Nat
  | .hbm => 244
  | .vmem => 0
  | .smem => 0
  | _ => 0

abbrev hbmTy0_0 (i : Nat) : BufTy := match i % 128 with
  | 0 => ⟨S16x2304x8192, .bf16⟩
  | 1 => ⟨S4x15x31, .f32⟩
  | 2 => ⟨S16x2304x1536, .bf16⟩
  | 3 => ⟨S16x2304x1536, .f32⟩
  | 4 => ⟨S16x2304x3x4x128, .f32⟩
  | 5 => ⟨S16x2048x3x4x128, .f32⟩
  | 6 => ⟨S16x256x3x4x128, .f32⟩
  | 7 => ⟨S16x2048x1x4x128, .f32⟩
  | 8 => ⟨S16x2048x4x128, .f32⟩
  | 9 => ⟨S16x2048x1x4x128, .f32⟩
  | 10 => ⟨S16x2048x4x128, .f32⟩
  | 11 => ⟨S16x2048x1x4x128, .f32⟩
  | 12 => ⟨S16x2048x4x128, .f32⟩
  | 13 => ⟨S16x256x1x4x128, .f32⟩
  | 14 => ⟨S16x256x4x128, .f32⟩
  | 15 => ⟨S16x256x1x4x128, .f32⟩
  | 16 => ⟨S16x256x4x128, .f32⟩
  | 17 => ⟨S16x256x1x4x128, .f32⟩
  | 18 => ⟨S16x256x4x128, .f32⟩
  | 19 => ⟨S64, .i32⟩
  | 20 => ⟨S4x16, .i32⟩
  | 21 => ⟨S4, .i32⟩
  | 22 => ⟨S_, .i32⟩
  | 23 => ⟨S4, .i32⟩
  | 24 => ⟨S4, .i32⟩
  | 25 => ⟨S_, .i32⟩
  | 26 => ⟨S4, .i32⟩
  | 27 => ⟨S4, .i32⟩
  | 28 => ⟨S_, .i32⟩
  | 29 => ⟨S_, .i32⟩
  | 30 => ⟨S_, .i32⟩
  | 31 => ⟨S4, .i32⟩
  | 32 => ⟨S4, .i32⟩
  | 33 => ⟨S_, .i32⟩
  | 34 => ⟨S4, .i32⟩
  | 35 => ⟨S4, .i32⟩
  | 36 => ⟨S4x1, .i32⟩
  | 37 => ⟨S32, .i32⟩
  | 38 => ⟨S1x32, .i32⟩
  | 39 => ⟨S4x32, .i32⟩
  | 40 => ⟨S4x32, .i32⟩
  | 41 => ⟨S4x32, .i32⟩
  | 42 => ⟨S_, .i32⟩
  | 43 => ⟨S4x16, .i32⟩
  | 44 => ⟨S4x16, .i32⟩
  | 45 => ⟨S_, .i32⟩
  | 46 => ⟨S_, .i32⟩
  | 47 => ⟨S_, .i32⟩
  | 48 => ⟨S4x16, .i32⟩
  | 49 => ⟨S4x16, .i32⟩
  | 50 => ⟨S_, .i32⟩
  | 51 => ⟨S4x16, .i32⟩
  | 52 => ⟨S4x16, .i32⟩
  | 53 => ⟨S4x1x32, .i32⟩
  | 54 => ⟨S4x16x1, .i32⟩
  | 55 => ⟨S4x16x32, .i32⟩
  | 56 => ⟨S4x16x32, .i32⟩
  | 57 => ⟨S4x16x32, .i1⟩
  | 58 => ⟨S4x1x32, .i32⟩
  | 59 => ⟨S4x16x1, .i32⟩
  | 60 => ⟨S_, .i32⟩
  | 61 => ⟨S4x16x1, .i32⟩
  | 62 => ⟨S4x16x1, .i32⟩
  | 63 => ⟨S4x16x32, .i32⟩
  | 64 => ⟨S4x16x32, .i32⟩
  | 65 => ⟨S4x16x32, .i1⟩
  | 66 => ⟨S4x16x32, .i1⟩
  | 67 => ⟨S4x1x32, .i32⟩
  | 68 => ⟨S4x16x1, .i32⟩
  | 69 => ⟨S4x16x32, .i32⟩
  | 70 => ⟨S4x16x32, .i32⟩
  | 71 => ⟨S4x16x32, .i32⟩
  | 72 => ⟨S_, .i32⟩
  | 73 => ⟨S_, .i32⟩
  | 74 => ⟨S_, .i32⟩
  | 75 => ⟨S4x16x32, .i32⟩
  | 76 => ⟨S4x16x32, .i32⟩
  | 77 => ⟨S_, .i32⟩
  | 78 => ⟨S4x16x32, .i32⟩
  | 79 => ⟨S4x16x32, .i32⟩
  | 80 => ⟨S_, .i32⟩
  | 81 => ⟨S4x16x32, .i32⟩
  | 82 => ⟨S4x16x32, .i32⟩
  | 83 => ⟨S_, .i32⟩
  | 84 => ⟨S4x16x32, .i32⟩
  | 85 => ⟨S4x16x32, .i32⟩
  | 86 => ⟨S32, .i32⟩
  | 87 => ⟨S_, .i32⟩
  | 88 => ⟨S32, .i32⟩
  | 89 => ⟨S32, .i32⟩
  | 90 => ⟨S_, .i32⟩
  | 91 => ⟨S_, .i32⟩
  | 92 => ⟨S_, .i32⟩
  | 93 => ⟨S32, .i32⟩
  | 94 => ⟨S32, .i32⟩
  | 95 => ⟨S_, .i32⟩
  | 96 => ⟨S32, .i32⟩
  | 97 => ⟨S32, .i32⟩
  | 98 => ⟨S32x1, .i32⟩
  | 99 => ⟨S8, .i32⟩
  | 100 => ⟨S1x8, .i32⟩
  | 101 => ⟨S32x8, .i32⟩
  | 102 => ⟨S32x8, .i32⟩
  | 103 => ⟨S32x8, .i32⟩
  | 104 => ⟨S32x1, .i32⟩
  | 105 => ⟨S32x8, .i32⟩
  | 106 => ⟨S32x8, .i32⟩
  | 107 => ⟨S_, .i32⟩
  | 108 => ⟨S32x8, .i32⟩
  | 109 => ⟨S32x8, .i32⟩
  | 110 => ⟨S_, .i32⟩
  | 111 => ⟨S32x8, .i32⟩
  | 112 => ⟨S32x8, .i32⟩
  | 113 => ⟨S16x32x4x16x4x128, .f32⟩
  | 114 => ⟨S16x32x64x4x128, .f32⟩
  | 115 => ⟨S32x8x1x1, .i32⟩
  | 116 => ⟨S_, .i32⟩
  | 117 => ⟨S32x8x1x1, .i32⟩
  | 118 => ⟨S32x8x1x1, .i1⟩
  | 119 => ⟨S_, .i32⟩
  | 120 => ⟨S32x8x1x1, .i32⟩
  | 121 => ⟨S32x8x1x1, .i32⟩
  | 122 => ⟨S32x8x1x1, .i32⟩
  | 123 => ⟨S_, .i32⟩
  | 124 => ⟨S4x32, .i32⟩
  | 125 => ⟨S4x32, .i1⟩
  | 126 => ⟨S_, .i32⟩
  | 127 => ⟨S4x32, .i32⟩
  | _ => ⟨S16x2304x8192, .bf16⟩

abbrev hbmTy0_1 (i : Nat) : BufTy := match i % 128 with
  | 0 => ⟨S4x32, .i32⟩
  | 1 => ⟨S4x32, .i32⟩
  | 2 => ⟨S32x8x4x32, .i32⟩
  | 3 => ⟨S32x8x4x32, .i32⟩
  | 4 => ⟨S32x8x4x32x1, .i32⟩
  | 5 => ⟨S32x8x4x32x1, .i32⟩
  | 6 => ⟨S32x8x4x32x2, .i32⟩
  | 7 => ⟨S16x32x8x4x32x4x128, .f32⟩
  | 8 => ⟨S16x32x64x4x128, .f32⟩
  | 9 => ⟨S32x8x1x1, .i32⟩
  | 10 => ⟨S_, .i32⟩
  | 11 => ⟨S32x8x1x1, .i32⟩
  | 12 => ⟨S32x8x1x1, .i1⟩
  | 13 => ⟨S_, .i32⟩
  | 14 => ⟨S32x8x1x1, .i32⟩
  | 15 => ⟨S32x8x1x1, .i32⟩
  | 16 => ⟨S32x8x1x1, .i32⟩
  | 17 => ⟨S_, .i32⟩
  | 18 => ⟨S4x32, .i32⟩
  | 19 => ⟨S4x32, .i1⟩
  | 20 => ⟨S_, .i32⟩
  | 21 => ⟨S4x32, .i32⟩
  | 22 => ⟨S4x32, .i32⟩
  | 23 => ⟨S4x32, .i32⟩
  | 24 => ⟨S32x8x4x32, .i32⟩
  | 25 => ⟨S32x8x4x32, .i32⟩
  | 26 => ⟨S32x8x4x32x1, .i32⟩
  | 27 => ⟨S32x8x4x32x1, .i32⟩
  | 28 => ⟨S32x8x4x32x2, .i32⟩
  | 29 => ⟨S16x32x8x4x32x4x128, .f32⟩
  | 30 => ⟨S16x4x32x4x16x8x32, .f32⟩
  | 31 => ⟨S_, .f32⟩
  | 32 => ⟨S16x4x32x4x16x8x32, .f32⟩
  | 33 => ⟨S16x4x32x4x16x8x32, .f32⟩
  | 34 => ⟨S32x1x1x8x1, .i32⟩
  | 35 => ⟨S4x16x1x32, .i32⟩
  | 36 => ⟨S_, .i32⟩
  | 37 => ⟨S32x1x1x8x1, .i32⟩
  | 38 => ⟨S32x1x1x8x1, .i1⟩
  | 39 => ⟨S_, .i32⟩
  | 40 => ⟨S32x1x1x8x1, .i32⟩
  | 41 => ⟨S32x1x1x8x1, .i32⟩
  | 42 => ⟨S32x1x1x8x1, .i32⟩
  | 43 => ⟨S_, .i32⟩
  | 44 => ⟨S4x16x1x32, .i32⟩
  | 45 => ⟨S4x16x1x32, .i1⟩
  | 46 => ⟨S_, .i32⟩
  | 47 => ⟨S4x16x1x32, .i32⟩
  | 48 => ⟨S4x16x1x32, .i32⟩
  | 49 => ⟨S4x16x1x32, .i32⟩
  | 50 => ⟨S32x4x16x8x32, .i32⟩
  | 51 => ⟨S32x4x16x8x32, .i32⟩
  | 52 => ⟨S32x4x16x8x32x1, .i32⟩
  | 53 => ⟨S32x4x16x8x32x1, .i32⟩
  | 54 => ⟨S32x4x16x8x32x2, .i32⟩
  | 55 => ⟨S4x32x4x16x8x32, .f32⟩
  | 56 => ⟨S4x16x1x32, .i1⟩
  | 57 => ⟨S1x4x32x4x16x8x32, .f32⟩
  | 58 => ⟨S16x4x32x4x16x8x32, .f32⟩
  | 59 => ⟨S16x4x32x4x16x8x32, .f32⟩
  | 60 => ⟨S_, .f32⟩
  | 61 => ⟨S_, .f32⟩
  | 62 => ⟨S16x4x32x4x16x8x32, .i1⟩
  | 63 => ⟨S16x4x32x4x16x8x32, .f32⟩
  | 64 => ⟨S16x4x32x4x16x8x32, .f32⟩
  | 65 => ⟨S16x4x32x4x16x256, .f32⟩
  | 66 => ⟨S16x4x32x4x16x256, .f32⟩
  | 67 => ⟨S_, .f32⟩
  | 68 => ⟨S16x4x32x4x16x256, .f32⟩
  | 69 => ⟨S16x4x32x4x16x256, .f32⟩
  | 70 => ⟨S16x4x32x4x16x512, .f32⟩
  | 71 => ⟨S_, .f32⟩
  | 72 => ⟨S16x4x32x4x16, .f32⟩
  | 73 => ⟨S_, .f32⟩
  | 74 => ⟨S16x4x32x4x16, .f32⟩
  | 75 => ⟨S16x4x32x4x16, .f32⟩
  | 76 => ⟨S16x4x32x4x16x1, .f32⟩
  | 77 => ⟨S16x4x32x4x16x512, .f32⟩
  | 78 => ⟨S16x4x32x4x16x512, .f32⟩
  | 79 => ⟨S16x4x32x4x16x512, .f32⟩
  | 80 => ⟨S_, .f32⟩
  | 81 => ⟨S16x4x32x4x16, .f32⟩
  | 82 => ⟨S16x4x32x4x16x1, .f32⟩
  | 83 => ⟨S16x4x32x4x16x512, .f32⟩
  | 84 => ⟨S16x4x32x4x16x512, .f32⟩
  | 85 => ⟨S16x4x32x4x16x256, .f32⟩
  | 86 => ⟨S16x4x32x4x16x8x32, .f32⟩
  | 87 => ⟨S16x32x4x4x128x16, .f32⟩
  | 88 => ⟨S16x32x4x16x4x128, .f32⟩
  | 89 => ⟨S16x4x32x4x16x256, .f32⟩
  | 90 => ⟨S16x4x128x32x4x16, .f32⟩
  | 91 => ⟨S16x32x4x16x4x128, .f32⟩
  | 92 => ⟨S16x32x4x16x4x128, .f32⟩
  | 93 => ⟨S16x4x256x256, .f32⟩
  | 94 => ⟨S_, .f32⟩
  | 95 => ⟨S16x4x256x256, .f32⟩
  | 96 => ⟨S16x4x256x256, .f32⟩
  | 97 => ⟨S_, .f32⟩
  | 98 => ⟨S16x4x256, .f32⟩
  | 99 => ⟨S_, .f32⟩
  | 100 => ⟨S16x4x256, .f32⟩
  | 101 => ⟨S16x4x256, .f32⟩
  | 102 => ⟨S16x4x256x1, .f32⟩
  | 103 => ⟨S16x4x256x256, .f32⟩
  | 104 => ⟨S16x4x256x256, .f32⟩
  | 105 => ⟨S16x4x256x256, .f32⟩
  | 106 => ⟨S_, .f32⟩
  | 107 => ⟨S16x4x256, .f32⟩
  | 108 => ⟨S16x4x256x1, .f32⟩
  | 109 => ⟨S16x4x256x256, .f32⟩
  | 110 => ⟨S16x4x256x256, .f32⟩
  | 111 => ⟨S16x4x128x256, .f32⟩
  | 112 => ⟨S16x256x4x128, .f32⟩
  | 113 => ⟨S16x2048x4x128, .f32⟩
  | 114 => ⟨S16x2304x4x128, .f32⟩
  | 115 => ⟨S16x2304x512, .f32⟩
  | _ => ⟨S16x2304x8192, .bf16⟩

abbrev hbmTy (i : Nat) : BufTy := match i / 128 with
  | 0 => hbmTy0_0 i
  | 1 => hbmTy0_1 i
  | _ => ⟨S16x2304x8192, .bf16⟩

abbrev bufTy : (tb : Table) → Fin (tcTables nBuf tb) → BufTy
  | .hbm, ⟨i, _⟩ => hbmTy i
  | _, _ => ⟨S16x2304x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_c : Ref sig .tc := ⟨.hbm, 22, rfl⟩
abbrev main_v20 : Ref sig .tc := ⟨.hbm, 23, rfl⟩
abbrev main_v21 : Ref sig .tc := ⟨.hbm, 24, rfl⟩
abbrev main_c_0 : Ref sig .tc := ⟨.hbm, 25, rfl⟩
abbrev main_v22 : Ref sig .tc := ⟨.hbm, 26, rfl⟩
abbrev main_v23 : Ref sig .tc := ⟨.hbm, 27, rfl⟩
abbrev main_c_1 : Ref sig .tc := ⟨.hbm, 28, rfl⟩
abbrev main_c_2 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_3 : Ref sig .tc := ⟨.hbm, 42, rfl⟩
abbrev main_v31 : Ref sig .tc := ⟨.hbm, 43, rfl⟩
abbrev main_v32 : Ref sig .tc := ⟨.hbm, 44, rfl⟩
abbrev main_c_4 : Ref sig .tc := ⟨.hbm, 45, rfl⟩
abbrev main_c_5 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c_6 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_c_7 : Ref sig .tc := ⟨.hbm, 72, rfl⟩
abbrev main_c_8 : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_v52 : Ref sig .tc := ⟨.hbm, 79, rfl⟩
abbrev main_c_9 : Ref sig .tc := ⟨.hbm, 80, rfl⟩
abbrev main_v53 : Ref sig .tc := ⟨.hbm, 81, rfl⟩
abbrev main_v54 : Ref sig .tc := ⟨.hbm, 82, rfl⟩
abbrev main_c_10 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_c_11 : Ref sig .tc := ⟨.hbm, 87, rfl⟩
abbrev main_v58 : Ref sig .tc := ⟨.hbm, 88, rfl⟩
abbrev main_v59 : Ref sig .tc := ⟨.hbm, 89, rfl⟩
abbrev main_c_12 : Ref sig .tc := ⟨.hbm, 90, rfl⟩
abbrev main_c_13 : Ref sig .tc := ⟨.hbm, 91, rfl⟩
abbrev main_call3_v0 : Ref sig .tc := ⟨.hbm, 92, rfl⟩
abbrev main_call3_v1 : Ref sig .tc := ⟨.hbm, 93, rfl⟩
abbrev main_call3_v2 : Ref sig .tc := ⟨.hbm, 94, rfl⟩
abbrev main_call3_v3 : Ref sig .tc := ⟨.hbm, 95, rfl⟩
abbrev main_call3_v4 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_c_14 : Ref sig .tc := ⟨.hbm, 107, rfl⟩
abbrev main_v70 : Ref sig .tc := ⟨.hbm, 108, rfl⟩
abbrev main_v71 : Ref sig .tc := ⟨.hbm, 109, rfl⟩
abbrev main_c_15 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_c_16 : Ref sig .tc := ⟨.hbm, 116, rfl⟩
abbrev main_v77 : Ref sig .tc := ⟨.hbm, 117, rfl⟩
abbrev main_v78 : Ref sig .tc := ⟨.hbm, 118, rfl⟩
abbrev main_c_17 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_c_18 : Ref sig .tc := ⟨.hbm, 123, rfl⟩
abbrev main_v82 : Ref sig .tc := ⟨.hbm, 124, rfl⟩
abbrev main_v83 : Ref sig .tc := ⟨.hbm, 125, rfl⟩
abbrev main_c_19 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_c_20 : Ref sig .tc := ⟨.hbm, 138, rfl⟩
abbrev main_v95 : Ref sig .tc := ⟨.hbm, 139, rfl⟩
abbrev main_v96 : Ref sig .tc := ⟨.hbm, 140, rfl⟩
abbrev main_c_21 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_c_22 : Ref sig .tc := ⟨.hbm, 145, rfl⟩
abbrev main_v100 : Ref sig .tc := ⟨.hbm, 146, rfl⟩
abbrev main_v101 : Ref sig .tc := ⟨.hbm, 147, rfl⟩
abbrev main_c_23 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_cst : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_c_24 : Ref sig .tc := ⟨.hbm, 164, rfl⟩
abbrev main_v116 : Ref sig .tc := ⟨.hbm, 165, rfl⟩
abbrev main_v117 : Ref sig .tc := ⟨.hbm, 166, rfl⟩
abbrev main_c_25 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_c_26 : Ref sig .tc := ⟨.hbm, 171, rfl⟩
abbrev main_v121 : Ref sig .tc := ⟨.hbm, 172, rfl⟩
abbrev main_v122 : Ref sig .tc := ⟨.hbm, 173, rfl⟩
abbrev main_c_27 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_cst_28 : Ref sig .tc := ⟨.hbm, 188, rfl⟩
abbrev main_call4_v0 : Ref sig .tc := ⟨.hbm, 189, rfl⟩
abbrev main_call4_v1 : Ref sig .tc := ⟨.hbm, 190, rfl⟩
abbrev main_call4_v2 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_cst_29 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_cst_30 : Ref sig .tc := ⟨.hbm, 199, rfl⟩
abbrev main_v142 : Ref sig .tc := ⟨.hbm, 200, rfl⟩
abbrev main_cst_31 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_cst_32 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_cst_33 : Ref sig .tc := ⟨.hbm, 222, rfl⟩
abbrev main_v162 : Ref sig .tc := ⟨.hbm, 223, rfl⟩
abbrev main_v163 : Ref sig .tc := ⟨.hbm, 224, rfl⟩
abbrev main_cst_34 : Ref sig .tc := ⟨.hbm, 225, rfl⟩
abbrev main_v164 : Ref sig .tc := ⟨.hbm, 226, rfl⟩
abbrev main_cst_35 : Ref sig .tc := ⟨.hbm, 227, rfl⟩
abbrev main_v165 : Ref sig .tc := ⟨.hbm, 228, rfl⟩
abbrev main_v166 : Ref sig .tc := ⟨.hbm, 229, rfl⟩
abbrev main_v167 : Ref sig .tc := ⟨.hbm, 230, rfl⟩
abbrev main_v168 : Ref sig .tc := ⟨.hbm, 231, rfl⟩
abbrev main_v169 : Ref sig .tc := ⟨.hbm, 232, rfl⟩
abbrev main_v170 : Ref sig .tc := ⟨.hbm, 233, rfl⟩
abbrev main_cst_36 : Ref sig .tc := ⟨.hbm, 234, rfl⟩
abbrev main_v171 : Ref sig .tc := ⟨.hbm, 235, rfl⟩
abbrev main_v172 : Ref sig .tc := ⟨.hbm, 236, rfl⟩
abbrev main_v173 : Ref sig .tc := ⟨.hbm, 237, rfl⟩
abbrev main_v174 : Ref sig .tc := ⟨.hbm, 238, rfl⟩
abbrev main_v175 : Ref sig .tc := ⟨.hbm, 239, rfl⟩
abbrev main_v176 : Ref sig .tc := ⟨.hbm, 240, rfl⟩
abbrev main_v177 : Ref sig .tc := ⟨.hbm, 241, rfl⟩
abbrev main_v178 : Ref sig .tc := ⟨.hbm, 242, rfl⟩
abbrev main_v179 : Ref sig .tc := ⟨.hbm, 243, rfl⟩

abbrev nD : Nat := 1
abbrev τ : Topo := Topo.v7x

variable {F : FTy → Type} [FloatOps F]
-- ==== KernelProj.lean ====
abbrev S16x2304x1024 : Shape := ⟨3, ![16, 2304, 1024]⟩
abbrev S16x3072 : Shape := ⟨2, ![16, 3072]⟩
abbrev S1x3072 : Shape := ⟨2, ![1, 3072]⟩
abbrev S1024 : Shape := ⟨1, ![1024]⟩
abbrev S1024x8208 : Shape := ⟨2, ![1024, 8208]⟩
abbrev S1024x2048 : Shape := ⟨2, ![1024, 2048]⟩
abbrev S1024x6144 : Shape := ⟨2, ![1024, 6144]⟩
abbrev S1024x8192 : Shape := ⟨2, ![1024, 8192]⟩
abbrev S1024x16 : Shape := ⟨2, ![1024, 16]⟩
abbrev S_ : Shape := ⟨0, ![]⟩
abbrev S1024x128 : Shape := ⟨2, ![1024, 128]⟩
abbrev S16x1x3072 : Shape := ⟨3, ![16, 1, 3072]⟩
abbrev S1x1024 : Shape := ⟨2, ![1, 1024]⟩
abbrev S16x2304x8192 : Shape := ⟨3, ![16, 2304, 8192]⟩
abbrev S16x2304x128 : Shape := ⟨3, ![16, 2304, 128]⟩
abbrev S1x2304x1024 : Shape := ⟨3, ![1, 2304, 1024]⟩
abbrev S1x1x3072 : Shape := ⟨3, ![1, 1, 3072]⟩
abbrev S1024x1024 : Shape := ⟨2, ![1024, 1024]⟩
abbrev S1x2304x128 : Shape := ⟨3, ![1, 2304, 128]⟩
abbrev S2304x1024 : Shape := ⟨2, ![2304, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1x2048x1024 : Shape := ⟨3, ![1, 2048, 1024]⟩
abbrev S2048x1024 : Shape := ⟨2, ![2048, 1024]⟩
abbrev S2048 : Shape := ⟨1, ![2048]⟩
abbrev S2048x1 : Shape := ⟨2, ![2048, 1]⟩
abbrev S2304x128 : Shape := ⟨2, ![2304, 128]⟩

abbrev nBuf : Space → Nat
  | .hbm => 18
  | .vmem => 14
  | .smem => 0
  | _ => 0

abbrev bufTy : (tb : Table) → Fin (tcTables nBuf tb) → BufTy
  | .hbm, ⟨0, _⟩ => ⟨S16x2304x1024, .f32⟩
  | .hbm, ⟨1, _⟩ => ⟨S16x3072, .f32⟩
  | .hbm, ⟨2, _⟩ => ⟨S1x3072, .f32⟩
  | .hbm, ⟨3, _⟩ => ⟨S1024, .f32⟩
  | .hbm, ⟨4, _⟩ => ⟨S1024x8208, .f32⟩
  | .hbm, ⟨5, _⟩ => ⟨S1024x2048, .f32⟩
  | .hbm, ⟨6, _⟩ => ⟨S1024x6144, .f32⟩
  | .hbm, ⟨7, _⟩ => ⟨S1024x8192, .f32⟩
  | .hbm, ⟨8, _⟩ => ⟨S1024x8192, .bf16⟩
  | .hbm, ⟨9, _⟩ => ⟨S1024x16, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x128, .bf16⟩
  | .hbm, ⟨14, _⟩ => ⟨S16x1x3072, .f32⟩
  | .hbm, ⟨15, _⟩ => ⟨S1x1024, .f32⟩
  | .hbm, ⟨16, _⟩ => ⟨S16x2304x8192, .bf16⟩
  | .hbm, ⟨17, _⟩ => ⟨S16x2304x128, .f32⟩
  | .local _ .vmem, ⟨0, _⟩ => ⟨S1x2304x1024, .f32⟩
  | .local _ .vmem, ⟨1, _⟩ => ⟨S1x2304x1024, .f32⟩
  | .local _ .vmem, ⟨2, _⟩ => ⟨S1x1x3072, .f32⟩
  | .local _ .vmem, ⟨3, _⟩ => ⟨S1x1x3072, .f32⟩
  | .local _ .vmem, ⟨4, _⟩ => ⟨S1x3072, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x128, .bf16⟩
  | .local _ .vmem, ⟨9, _⟩ => ⟨S1x2304x1024, .bf16⟩
  | .local _ .vmem, ⟨10, _⟩ => ⟨S1x2304x1024, .bf16⟩
  | .local _ .vmem, ⟨11, _⟩ => ⟨S1x2304x128, .f32⟩
  | .local _ .vmem, ⟨12, _⟩ => ⟨S1x2304x128, .f32⟩
  | .local _ .vmem, ⟨13, _⟩ => ⟨S2304x1024, .bf16⟩
  | _, _ => ⟨S16x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2304x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x2304x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2304x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceProjIdeal.lean ====
abbrev S16x2304x1024 : Shape := ⟨3, ![16, 2304, 1024]⟩
abbrev S16x3072 : Shape := ⟨2, ![16, 3072]⟩
abbrev S1x3072 : Shape := ⟨2, ![1, 3072]⟩
abbrev S1024 : Shape := ⟨1, ![1024]⟩
abbrev S1024x8208 : Shape := ⟨2, ![1024, 8208]⟩
abbrev S16x1024 : Shape := ⟨2, ![16, 1024]⟩
abbrev S3072 : Shape := ⟨1, ![3072]⟩
abbrev S16x2048x1024 : Shape := ⟨3, ![16, 2048, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x1x1024 : Shape := ⟨3, ![16, 1, 1024]⟩
abbrev S16x256x1024 : Shape := ⟨3, ![16, 256, 1024]⟩
abbrev S16x256 : Shape := ⟨2, ![16, 256]⟩
abbrev S16x256x1 : Shape := ⟨3, ![16, 256, 1]⟩
abbrev S16x256x8208 : Shape := ⟨3, ![16, 256, 8208]⟩
abbrev S16x2048x8208 : Shape := ⟨3, ![16, 2048, 8208]⟩
abbrev S16x2304x8208 : Shape := ⟨3, ![16, 2304, 8208]⟩
abbrev S16x2304x2048 : Shape := ⟨3, ![16, 2304, 2048]⟩
abbrev S16x2304x6144 : Shape := ⟨3, ![16, 2304, 6144]⟩
abbrev S16x2304x8192 : Shape := ⟨3, ![16, 2304, 8192]⟩
abbrev S16x2304x16 : Shape := ⟨3, ![16, 2304, 16]⟩
abbrev S16x2304x128 : Shape := ⟨3, ![16, 2304, 128]⟩

abbrev nBuf : Space → Nat
  | .hbm => 75
  | .vmem => 0
  | .smem => 0
  | _ => 0

abbrev bufTy : (tb : Table) → Fin (tcTables nBuf tb) → BufTy
  | .hbm, ⟨0, _⟩ => ⟨S16x2304x1024, .f32⟩
  | .hbm, ⟨1, _⟩ => ⟨S16x3072, .f32⟩
  | .hbm, ⟨2, _⟩ => ⟨S1x3072, .f32⟩
  | .hbm, ⟨3, _⟩ => ⟨S1024, .f32⟩
  | .hbm, ⟨4, _⟩ => ⟨S1024x8208, .f32⟩
  | .hbm, ⟨5, _⟩ => ⟨S16x1024, .f32⟩
  | .hbm, ⟨6, _⟩ => ⟨S16x1024, .f32⟩
  | .hbm, ⟨7, _⟩ => ⟨S16x1024, .f32⟩
  | .hbm, ⟨8, _⟩ => ⟨S3072, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S16x2048x1024, .f32⟩
  | .hbm, ⟨13, _⟩ => ⟨S16x2048x1024, .f32⟩
  | .hbm, ⟨14, _⟩ => ⟨S_, .f32⟩
  | .hbm, ⟨15, _⟩ => ⟨S16x2048, .f32⟩
  | .hbm, ⟨16, _⟩ => ⟨S16x2048x1, .f32⟩
  | .hbm, ⟨17, _⟩ => ⟨S_, .f32⟩
  | .hbm, ⟨18, _⟩ => ⟨S16x2048x1, .f32⟩
  | .hbm, ⟨19, _⟩ => ⟨S16x2048x1, .f32⟩
  | .hbm, ⟨20, _⟩ => ⟨S_, .f32⟩
  | .hbm, ⟨21, _⟩ => ⟨S16x2048x1, .f32⟩
  | .hbm, ⟨22, _⟩ => ⟨S16x2048x1, .f32⟩
  | .hbm, ⟨23, _⟩ => ⟨S16x2048x1, .f32⟩
  | .hbm, ⟨24, _⟩ => ⟨S16x2048x1024, .f32⟩
  | .hbm, ⟨25, _⟩ => ⟨S16x2048x1024, .f32⟩
  | .hbm, ⟨26, _⟩ => ⟨S1x1x1024, .f32⟩
  | .hbm, ⟨27, _⟩ => ⟨S16x2048x1024, .f32⟩
  | .hbm, ⟨28, _⟩ => ⟨S16x2048x1024, .f32⟩
  | .hbm, ⟨29, _⟩ => ⟨S16x1x1024, .f32⟩
  | .hbm, ⟨30, _⟩ => ⟨S_, .f32⟩
  | .hbm, ⟨31, _⟩ => ⟨S16x1x1024, .f32⟩
  | .hbm, ⟨32, _⟩ => ⟨S16x1x1024, .f32⟩
  | .hbm, ⟨33, _⟩ => ⟨S16x2048x1024, .f32⟩
  | .hbm, ⟨34, _⟩ => ⟨S16x2048x1024, .f32⟩
  | .hbm, ⟨35, _⟩ => ⟨S16x1x1024, .f32⟩
  | .hbm, ⟨36, _⟩ => ⟨S16x2048x1024, .f32⟩
  | .hbm, ⟨37, _⟩ => ⟨S16x2048x1024, .f32⟩
  | .hbm, ⟨38, _⟩ => ⟨S16x256x1024, .f32⟩
  | .hbm, ⟨39, _⟩ => ⟨S16x256x1024, .f32⟩
  | .hbm, ⟨40, _⟩ => ⟨S_, .f32⟩
  | .hbm, ⟨41, _⟩ => ⟨S16x256, .f32⟩
  | .hbm, ⟨42, _⟩ => ⟨S16x256x1, .f32⟩
  | .hbm, ⟨43, _⟩ => ⟨S_, .f32⟩
  | .hbm, ⟨44, _⟩ => ⟨S16x256x1, .f32⟩
  | .hbm, ⟨45, _⟩ => ⟨S16x256x1, .f32⟩
  | .hbm, ⟨46, _⟩ => ⟨S_, .f32⟩
  | .hbm, ⟨47, _⟩ => ⟨S16x256x1, .f32⟩
  | .hbm, ⟨48, _⟩ => ⟨S16x256x1, .f32⟩
  | .hbm, ⟨49, _⟩ => ⟨S16x256x1, .f32⟩
  | .hbm, ⟨50, _⟩ => ⟨S16x256x1024, .f32⟩
  | .hbm, ⟨51, _⟩ => ⟨S16x256x1024, .f32⟩
  | .hbm, ⟨52, _⟩ => ⟨S1x1x1024, .f32⟩
  | .hbm, ⟨53, _⟩ => ⟨S16x256x1024, .f32⟩
  | .hbm, ⟨54, _⟩ => ⟨S16x256x1024, .f32⟩
  | .hbm, ⟨55, _⟩ => ⟨S_, .f32⟩
  | .hbm, ⟨56, _⟩ => ⟨S1024, .f32⟩
  | .hbm, ⟨57, _⟩ => ⟨S1024, .f32⟩
  | .hbm, ⟨58, _⟩ => ⟨S1x1x1024, .f32⟩
  | .hbm, ⟨59, _⟩ => ⟨S16x256x1024, .f32⟩
  | .hbm, ⟨60, _⟩ => ⟨S16x256x1024, .f32⟩
  | .hbm, ⟨61, _⟩ => ⟨S1x1x1024, .f32⟩
  | .hbm, ⟨62, _⟩ => ⟨S16x256x1024, .f32⟩
  | .hbm, ⟨63, _⟩ => ⟨S16x256x1024, .f32⟩
  | .hbm, ⟨64, _⟩ => ⟨S16x256x8208, .f32⟩
  | .hbm, ⟨65, _⟩ => ⟨S16x2048x8208, .f32⟩
  | .hbm, ⟨66, _⟩ => ⟨S16x2304x8208, .f32⟩
  | .hbm, ⟨67, _⟩ => ⟨S16x2304x2048, .f32⟩
  | .hbm, ⟨68, _⟩ => ⟨S16x2304x6144, .f32⟩
  | .hbm, ⟨69, _⟩ => ⟨S16x2304x8192, .f32⟩
  | .hbm, ⟨70, _⟩ => ⟨S16x2304x8192, .bf16⟩
  | .hbm, ⟨71, _⟩ => ⟨S16x2304x16, .f32⟩
  | .hbm, ⟨72, _⟩ => ⟨S_, .i32⟩
  | .hbm, ⟨73, _⟩ => ⟨S_, .f32⟩
  | .hbm, ⟨74, _⟩ => ⟨S16x2304x128, .f32⟩
  | _, _ => ⟨S16x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_6 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_c : Ref sig .tc := ⟨.hbm, 72, rfl⟩
abbrev main_call0_v0 : Ref sig .tc := ⟨.hbm, 73, rfl⟩
abbrev main_v59 : Ref sig .tc := ⟨.hbm, 74, rfl⟩

abbrev nD : Nat := 1
abbrev τ : Topo := Topo.v7x

variable {F : FTy → Type} [FloatOps F]
-- ==== KernelMerge.lean ====
abbrev S16x2304x512 : Shape := ⟨3, ![16, 2304, 512]⟩
abbrev S16x2304x8192 : Shape := ⟨3, ![16, 2304, 8192]⟩
abbrev S128 : Shape := ⟨1, ![128]⟩
abbrev S3x512x1024 : Shape := ⟨3, ![3, 512, 1024]⟩
abbrev S1024x1024 : Shape := ⟨2, ![1024, 1024]⟩
abbrev S16x2304x1024 : Shape := ⟨3, ![16, 2304, 1024]⟩
abbrev S1024 : Shape := ⟨1, ![1024]⟩
abbrev S16x3072 : Shape := ⟨2, ![16, 3072]⟩
abbrev S1x3072 : Shape := ⟨2, ![1, 3072]⟩
abbrev S1x128 : Shape := ⟨2, ![1, 128]⟩
abbrev S1x1024 : Shape := ⟨2, ![1, 1024]⟩
abbrev S16x1024 : Shape := ⟨2, ![16, 1024]⟩
abbrev S16x1x1024 : Shape := ⟨3, ![16, 1, 1024]⟩
abbrev S1x256x512 : Shape := ⟨3, ![1, 256, 512]⟩
abbrev S1x256x1024 : Shape := ⟨3, ![1, 256, 1024]⟩
abbrev S1x1x1024 : Shape := ⟨3, ![1, 1, 1024]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S256x1024 : Shape := ⟨2, ![256, 1024]⟩
abbrev S1x512x1024 : Shape := ⟨3, ![1, 512, 1024]⟩
abbrev S512x1024 : Shape := ⟨2, ![512, 1024]⟩

abbrev nBuf : Space → Nat
  | .hbm => 19
  | .vmem => 29
  | .smem => 0
  | _ => 0

abbrev bufTy : (tb : Table) → Fin (tcTables nBuf tb) → BufTy
  | .hbm, ⟨0, _⟩ => ⟨S16x2304x512, .f32⟩
  | .hbm, ⟨1, _⟩ => ⟨S16x2304x512, .f32⟩
  | .hbm, ⟨2, _⟩ => ⟨S16x2304x512, .f32⟩
  | .hbm, ⟨3, _⟩ => ⟨S16x2304x8192, .bf16⟩
  | .hbm, ⟨4, _⟩ => ⟨S128, .f32⟩
  | .hbm, ⟨5, _⟩ => ⟨S3x512x1024, .f32⟩
  | .hbm, ⟨6, _⟩ => ⟨S1024x1024, .f32⟩
  | .hbm, ⟨7, _⟩ => ⟨S16x2304x1024, .f32⟩
  | .hbm, ⟨8, _⟩ => ⟨S1024, .f32⟩
  | .hbm, ⟨9, _⟩ => ⟨S16x3072, .f32⟩
  | .hbm, ⟨10, _⟩ => ⟨S1x3072, .f32⟩
  | .hbm, ⟨11, _⟩ => ⟨S1x128, .f32⟩
  | .hbm, ⟨12, _⟩ => ⟨S3x512x1024, .bf16⟩
  | .hbm, ⟨13, _⟩ => ⟨S1024x1024, .bf16⟩
  | .hbm, ⟨14, _⟩ => ⟨S1x1024, .f32⟩
  | .hbm, ⟨15, _⟩ => ⟨S16x1024, .f32⟩
  | .hbm, ⟨16, _⟩ => ⟨S16x1x1024, .f32⟩
  | .hbm, ⟨17, _⟩ => ⟨S1x1024, .f32⟩
  | .hbm, ⟨18, _⟩ => ⟨S16x2304x1024, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | .local _ .vmem, ⟨9, _⟩ => ⟨S1x256x512, .bf16⟩
  | .local _ .vmem, ⟨10, _⟩ => ⟨S1x256x512, .bf16⟩
  | .local _ .vmem, ⟨11, _⟩ => ⟨S1x256x512, .bf16⟩
  | .local _ .vmem, ⟨12, _⟩ => ⟨S1x256x1024, .bf16⟩
  | .local _ .vmem, ⟨13, _⟩ => ⟨S1x256x1024, .bf16⟩
  | .local _ .vmem, ⟨14, _⟩ => ⟨S1x256x1024, .bf16⟩
  | .local _ .vmem, ⟨15, _⟩ => ⟨S1x256x1024, .bf16⟩
  | .local _ .vmem, ⟨16, _⟩ => ⟨S1x256x1024, .bf16⟩
  | .local _ .vmem, ⟨17, _⟩ => ⟨S1x256x1024, .bf16⟩
  | .local _ .vmem, ⟨18, _⟩ => ⟨S1x128, .f32⟩
  | .local _ .vmem, ⟨19, _⟩ => ⟨S3x512x1024, .bf16⟩
  | .local _ .vmem, ⟨20, _⟩ => ⟨S1024x1024, .bf16⟩
  | .local _ .vmem, ⟨21, _⟩ => ⟨S1x256x1024, .f32⟩
  | .local _ .vmem, ⟨22, _⟩ => ⟨S1x256x1024, .f32⟩
  | .local _ .vmem, ⟨23, _⟩ => ⟨S1x1024, .f32⟩
  | .local _ .vmem, ⟨24, _⟩ => ⟨S1x1x1024, .f32⟩
  | .local _ .vmem, ⟨25, _⟩ => ⟨S1x1x1024, .f32⟩
  | .local _ .vmem, ⟨26, _⟩ => ⟨S1x1024, .f32⟩
  | .local _ .vmem, ⟨27, _⟩ => ⟨S1x256x1024, .f32⟩
  | .local _ .vmem, ⟨28, _⟩ => ⟨S1x256x1024, .f32⟩
  | _, _ => ⟨S16x2304x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg16_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem12_1 : DmaSem sig := 22
abbrev cc0_sem13_0 : DmaSem sig := 23
abbrev cc0_sem14_0 : DmaSem sig := 24
abbrev cc0_sem14_1 : DmaSem sig := 25
abbrev cc0_sem15_0 : DmaSem sig := 26
abbrev cc0_sem16_0 : DmaSem sig := 27
abbrev cc0_sem16_1 : DmaSem sig := 28

abbrev nD : Nat := 1
abbrev τ : Topo := Topo.v7x

variable {F : FTy → Type} [FloatOps F]

abbrev grid0 : Pipeline.Grid := ⟨2, ![16, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c3_i32 : BitVec 32 := 3#32
  let c0_i32_0 : BitVec 32 := 0#32
  ![arg0.toNat, v0.toNat, c3_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c5_i32 : BitVec 32 := 5#32
  let c0_i32_0 : BitVec 32 := 0#32
  ![arg0.toNat, v0.toNat, c5_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c9_i32 : BitVec 32 := 9#32
  let c0_i32_0 : BitVec 32 := 0#32
  ![arg0.toNat, v0.toNat, c9_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c5_i32 : BitVec 32 := 5#32
  let c0_i32_0 : BitVec 32 := 0#32
  ![arg0.toNat, v0.toNat, c5_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c6_i32 : BitVec 32 := 6#32
  let c0_i32_0 : BitVec 32 := 0#32
  ![arg0.toNat, v0.toNat, c6_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c7_i32 : BitVec 32 := 7#32
  let c0_i32_0 : BitVec 32 := 0#32
  ![arg0.toNat, v0.toNat, c7_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S3x512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x1x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== ReferenceMergeIdeal.lean ====
abbrev S16x2304x512 : Shape := ⟨3, ![16, 2304, 512]⟩
abbrev S16x2304x8192 : Shape := ⟨3, ![16, 2304, 8192]⟩
abbrev S128 : Shape := ⟨1, ![128]⟩
abbrev S3x512x1024 : Shape := ⟨3, ![3, 512, 1024]⟩
abbrev S1024x1024 : Shape := ⟨2, ![1024, 1024]⟩
abbrev S16x2304x1024 : Shape := ⟨3, ![16, 2304, 1024]⟩
abbrev S1024 : Shape := ⟨1, ![1024]⟩
abbrev S16x3072 : Shape := ⟨2, ![16, 3072]⟩
abbrev S1x3072 : Shape := ⟨2, ![1, 3072]⟩
abbrev S16x2304x4x128 : Shape := ⟨4, ![16, 2304, 4, 128]⟩
abbrev S_ : Shape := ⟨0, ![]⟩
abbrev S16x2304x4 : Shape := ⟨3, ![16, 2304, 4]⟩
abbrev S16x2304x4x1 : Shape := ⟨4, ![16, 2304, 4, 1]⟩
abbrev S1x1x1x128 : Shape := ⟨4, ![1, 1, 1, 128]⟩
abbrev S16x2304x3072 : Shape := ⟨3, ![16, 2304, 3072]⟩
abbrev S16x2304x3x1024 : Shape := ⟨4, ![16, 2304, 3, 1024]⟩
abbrev S16x2304x1x1024 : Shape := ⟨4, ![16, 2304, 1, 1024]⟩
abbrev S1x512x1024 : Shape := ⟨3, ![1, 512, 1024]⟩
abbrev S512x1024 : Shape := ⟨2, ![512, 1024]⟩
abbrev S16x2304 : Shape := ⟨2, ![16, 2304]⟩
abbrev S16x2304x1 : Shape := ⟨3, ![16, 2304, 1]⟩
abbrev S1x1x1024 : Shape := ⟨3, ![1, 1, 1024]⟩
abbrev S16x2048x1024 : Shape := ⟨3, ![16, 2048, 1024]⟩
abbrev S16x1024 : Shape := ⟨2, ![16, 1024]⟩
abbrev S16x1x1024 : Shape := ⟨3, ![16, 1, 1024]⟩
abbrev S16x256x1024 : Shape := ⟨3, ![16, 256, 1024]⟩
abbrev S1x1024 : Shape := ⟨2, ![1, 1024]⟩

abbrev nBuf : Space → Nat
  | .hbm => 126
  | .vmem => 0
  | .smem => 0
  | _ => 0

abbrev bufTy : (tb : Table) → Fin (tcTables nBuf tb) → BufTy
  | .hbm, ⟨0, _⟩ => ⟨S16x2304x512, .f32⟩
  | .hbm, ⟨1, _⟩ => ⟨S16x2304x512, .f32⟩
  | .hbm, ⟨2, _⟩ => ⟨S16x2304x512, .f32⟩
  | .hbm, ⟨3, _⟩ => ⟨S16x2304x8192, .bf16⟩
  | .hbm, ⟨4, _⟩ => ⟨S128, .f32⟩
  | .hbm, ⟨5, _⟩ => ⟨S3x512x1024, .f32⟩
  | .hbm, ⟨6, _⟩ => ⟨S1024x1024, .f32⟩
  | .hbm, ⟨7, _⟩ => ⟨S16x2304x1024, .f32⟩
  | .hbm, ⟨8, _⟩ => ⟨S1024, .f32⟩
  | .hbm, ⟨9, _⟩ => ⟨S16x3072, .f32⟩
  | .hbm, ⟨10, _⟩ => ⟨S1x3072, .f32⟩
  | .hbm, ⟨11, _⟩ => ⟨S16x2304x8192, .f32⟩
  | .hbm, ⟨12, _⟩ => ⟨S16x2304x4x128, .f32⟩
  | .hbm, ⟨13, _⟩ => ⟨S16x2304x4x128, .f32⟩
  | .hbm, ⟨14, _⟩ => ⟨S_, .f32⟩
  | .hbm, ⟨15, _⟩ => ⟨S16x2304x4, .f32⟩
  | .hbm, ⟨16, _⟩ => ⟨S16x2304x4x1, .f32⟩
  | .hbm, ⟨17, _⟩ => ⟨S_, .f32⟩
  | .hbm, ⟨18, _⟩ => ⟨S16x2304x4x1, .f32⟩
  | .hbm, ⟨19, _⟩ => ⟨S16x2304x4x1, .f32⟩
  | .hbm, ⟨20, _⟩ => ⟨S_, .f32⟩
  | .hbm, ⟨21, _⟩ => ⟨S16x2304x4x1, .f32⟩
  | .hbm, ⟨22, _⟩ => ⟨S16x2304x4x1, .f32⟩
  | .hbm, ⟨23, _⟩ => ⟨S16x2304x4x1, .f32⟩
  | .hbm, ⟨24, _⟩ => ⟨S16x2304x4x128, .f32⟩
  | .hbm, ⟨25, _⟩ => ⟨S16x2304x4x128, .f32⟩
  | .hbm, ⟨26, _⟩ => ⟨S1x1x1x128, .f32⟩
  | .hbm, ⟨27, _⟩ => ⟨S16x2304x4x128, .f32⟩
  | .hbm, ⟨28, _⟩ => ⟨S16x2304x4x128, .f32⟩
  | .hbm, ⟨29, _⟩ => ⟨S16x2304x512, .f32⟩
  | .hbm, ⟨30, _⟩ => ⟨S16x2304x512, .f32⟩
  | .hbm, ⟨31, _⟩ => ⟨S16x2304x512, .f32⟩
  | .hbm, ⟨32, _⟩ => ⟨S16x2304x512, .f32⟩
  | .hbm, ⟨33, _⟩ => ⟨S_, .f32⟩
  | .hbm, ⟨34, _⟩ => ⟨S16x2304x512, .f32⟩
  | .hbm, ⟨35, _⟩ => ⟨S16x2304x512, .f32⟩
  | .hbm, ⟨36, _⟩ => ⟨S_, .f32⟩
  | .hbm, ⟨37, _⟩ => ⟨S16x2304x512, .f32⟩
  | .hbm, ⟨38, _⟩ => ⟨S16x2304x512, .f32⟩
  | .hbm, ⟨39, _⟩ => ⟨S16x2304x512, .f32⟩
  | .hbm, ⟨40, _⟩ => ⟨S16x2304x512, .f32⟩
  | .hbm, ⟨41, _⟩ => ⟨S16x2304x512, .f32⟩
  | .hbm, ⟨42, _⟩ => ⟨S16x2304x512, .f32⟩
  | .hbm, ⟨43, _⟩ => ⟨S16x2304x512, .f32⟩
  | .hbm, ⟨44, _⟩ => ⟨S_, .f32⟩
  | .hbm, ⟨45, _⟩ => ⟨S16x2304x512, .f32⟩
  | .hbm, ⟨46, _⟩ => ⟨S16x2304x512, .f32⟩
  | .hbm, ⟨47, _⟩ => ⟨S_, .f32⟩
  | .hbm, ⟨48, _⟩ => ⟨S16x2304x512, .f32⟩
  | .hbm, ⟨49, _⟩ => ⟨S16x2304x512, .f32⟩
  | .hbm, ⟨50, _⟩ => ⟨S16x2304x512, .f32⟩
  | .hbm, ⟨51, _⟩ => ⟨S16x2304x512, .f32⟩
  | .hbm, ⟨52, _⟩ => ⟨S16x2304x512, .f32⟩
  | .hbm, ⟨53, _⟩ => ⟨S16x2304x512, .f32⟩
  | .hbm, ⟨54, _⟩ => ⟨S16x2304x512, .f32⟩
  | .hbm, ⟨55, _⟩ => ⟨S_, .f32⟩
  | .hbm, ⟨56, _⟩ => ⟨S16x2304x512, .f32⟩
  | .hbm, ⟨57, _⟩ => ⟨S16x2304x512, .f32⟩
  | .hbm, ⟨58, _⟩ => ⟨S_, .f32⟩
  | .hbm, ⟨59, _⟩ => ⟨S16x2304x512, .f32⟩
  | .hbm, ⟨60, _⟩ => ⟨S16x2304x512, .f32⟩
  | .hbm, ⟨61, _⟩ => ⟨S16x2304x512, .f32⟩
  | .hbm, ⟨62, _⟩ => ⟨S16x2304x512, .f32⟩
  | .hbm, ⟨63, _⟩ => ⟨S16x2304x3072, .f32⟩
  | .hbm, ⟨64, _⟩ => ⟨S16x2304x3x1024, .f32⟩
  | .hbm, ⟨65, _⟩ => ⟨S16x2304x3x1024, .f32⟩
  | .hbm, ⟨66, _⟩ => ⟨S16x2304x3x1024, .f32⟩
  | .hbm, ⟨67, _⟩ => ⟨S_, .f32⟩
  | .hbm, ⟨68, _⟩ => ⟨S16x2304x3x1024, .f32⟩
  | .hbm, ⟨69, _⟩ => ⟨S16x2304x3x1024, .f32⟩
  | .hbm, ⟨70, _⟩ => ⟨S_, .f32⟩
  | .hbm, ⟨71, _⟩ => ⟨S16x2304x3x1024, .f32⟩
  | .hbm, ⟨72, _⟩ => ⟨S16x2304x3x1024, .f32⟩
  | .hbm, ⟨73, _⟩ => ⟨S16x2304x1x1024, .f32⟩
  | .hbm, ⟨74, _⟩ => ⟨S16x2304x1024, .f32⟩
  | .hbm, ⟨75, _⟩ => ⟨S1x512x1024, .f32⟩
  | .hbm, ⟨76, _⟩ => ⟨S512x1024, .f32⟩
  | .hbm, ⟨77, _⟩ => ⟨S16x2304x1024, .f32⟩
  | .hbm, ⟨78, _⟩ => ⟨S16x2304x1024, .f32⟩
  | .hbm, ⟨79, _⟩ => ⟨S16x2304x1x1024, .f32⟩
  | .hbm, ⟨80, _⟩ => ⟨S16x2304x1024, .f32⟩
  | .hbm, ⟨81, _⟩ => ⟨S1x512x1024, .f32⟩
  | .hbm, ⟨82, _⟩ => ⟨S512x1024, .f32⟩
  | .hbm, ⟨83, _⟩ => ⟨S16x2304x1024, .f32⟩
  | .hbm, ⟨84, _⟩ => ⟨S16x2304x1024, .f32⟩
  | .hbm, ⟨85, _⟩ => ⟨S16x2304x1024, .f32⟩
  | .hbm, ⟨86, _⟩ => ⟨S16x2304x1x1024, .f32⟩
  | .hbm, ⟨87, _⟩ => ⟨S16x2304x1024, .f32⟩
  | .hbm, ⟨88, _⟩ => ⟨S1x512x1024, .f32⟩
  | .hbm, ⟨89, _⟩ => ⟨S512x1024, .f32⟩
  | .hbm, ⟨90, _⟩ => ⟨S16x2304x1024, .f32⟩
  | .hbm, ⟨91, _⟩ => ⟨S16x2304x1024, .f32⟩
  | .hbm, ⟨92, _⟩ => ⟨S16x2304x1024, .f32⟩
  | .hbm, ⟨93, _⟩ => ⟨S16x2304x1024, .f32⟩
  | .hbm, ⟨94, _⟩ => ⟨S16x2304x1024, .f32⟩
  | .hbm, ⟨95, _⟩ => ⟨S_, .f32⟩
  | .hbm, ⟨96, _⟩ => ⟨S16x2304, .f32⟩
  | .hbm, ⟨97, _⟩ => ⟨S16x2304x1, .f32⟩
  | .hbm, ⟨98, _⟩ => ⟨S_, .f32⟩
  | .hbm, ⟨99, _⟩ => ⟨S16x2304x1, .f32⟩
  | .hbm, ⟨100, _⟩ => ⟨S16x2304x1, .f32⟩
  | .hbm, ⟨101, _⟩ => ⟨S_, .f32⟩
  | .hbm, ⟨102, _⟩ => ⟨S16x2304x1, .f32⟩
  | .hbm, ⟨103, _⟩ => ⟨S16x2304x1, .f32⟩
  | .hbm, ⟨104, _⟩ => ⟨S16x2304x1, .f32⟩
  | .hbm, ⟨105, _⟩ => ⟨S16x2304x1024, .f32⟩
  | .hbm, ⟨106, _⟩ => ⟨S16x2304x1024, .f32⟩
  | .hbm, ⟨107, _⟩ => ⟨S1x1x1024, .f32⟩
  | .hbm, ⟨108, _⟩ => ⟨S16x2304x1024, .f32⟩
  | .hbm, ⟨109, _⟩ => ⟨S16x2304x1024, .f32⟩
  | .hbm, ⟨110, _⟩ => ⟨S16x2048x1024, .f32⟩
  | .hbm, ⟨111, _⟩ => ⟨S16x1024, .f32⟩
  | .hbm, ⟨112, _⟩ => ⟨S16x1x1024, .f32⟩
  | .hbm, ⟨113, _⟩ => ⟨S16x2048x1024, .f32⟩
  | .hbm, ⟨114, _⟩ => ⟨S16x2048x1024, .f32⟩
  | .hbm, ⟨115, _⟩ => ⟨S16x2048x1024, .f32⟩
  | .hbm, ⟨116, _⟩ => ⟨S16x2048x1024, .f32⟩
  | .hbm, ⟨117, _⟩ => ⟨S16x256x1024, .f32⟩
  | .hbm, ⟨118, _⟩ => ⟨S1x1024, .f32⟩
  | .hbm, ⟨119, _⟩ => ⟨S1024, .f32⟩
  | .hbm, ⟨120, _⟩ => ⟨S16x256x1024, .f32⟩
  | .hbm, ⟨121, _⟩ => ⟨S1x1x1024, .f32⟩
  | .hbm, ⟨122, _⟩ => ⟨S16x256x1024, .f32⟩
  | .hbm, ⟨123, _⟩ => ⟨S16x256x1024, .f32⟩
  | .hbm, ⟨124, _⟩ => ⟨S16x256x1024, .f32⟩
  | .hbm, ⟨125, _⟩ => ⟨S16x2304x1024, .f32⟩
  | _, _ => ⟨S16x2304x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_call1_v0 : Ref sig .tc := ⟨.hbm, 42, rfl⟩
abbrev main_call1_v1 : Ref sig .tc := ⟨.hbm, 43, rfl⟩
abbrev main_call1_cst : Ref sig .tc := ⟨.hbm, 44, rfl⟩
abbrev main_call1_v2 : Ref sig .tc := ⟨.hbm, 45, rfl⟩
abbrev main_call1_v3 : Ref sig .tc := ⟨.hbm, 46, rfl⟩
abbrev main_call1_cst_0 : Ref sig .tc := ⟨.hbm, 47, rfl⟩
abbrev main_call1_v4 : Ref sig .tc := ⟨.hbm, 48, rfl⟩
abbrev main_call1_v5 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_call2_v0 : Ref sig .tc := ⟨.hbm, 53, rfl⟩
abbrev main_call2_v1 : Ref sig .tc := ⟨.hbm, 54, rfl⟩
abbrev main_call2_cst : Ref sig .tc := ⟨.hbm, 55, rfl⟩
abbrev main_call2_v2 : Ref sig .tc := ⟨.hbm, 56, rfl⟩
abbrev main_call2_v3 : Ref sig .tc := ⟨.hbm, 57, rfl⟩
abbrev main_call2_cst_0 : Ref sig .tc := ⟨.hbm, 58, rfl⟩
abbrev main_call2_v4 : Ref sig .tc := ⟨.hbm, 59, rfl⟩
abbrev main_call2_v5 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_cst_2 : Ref sig .tc := ⟨.hbm, 67, rfl⟩
abbrev main_v29 : Ref sig .tc := ⟨.hbm, 68, rfl⟩
abbrev main_v30 : Ref sig .tc := ⟨.hbm, 69, rfl⟩
abbrev main_cst_3 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_cst_4 : Ref sig .tc := ⟨.hbm, 95, rfl⟩
abbrev main_v55 : Ref sig .tc := ⟨.hbm, 96, rfl⟩
abbrev main_v56 : Ref sig .tc := ⟨.hbm, 97, rfl⟩
abbrev main_cst_5 : Ref sig .tc := ⟨.hbm, 98, rfl⟩
abbrev main_v57 : Ref sig .tc := ⟨.hbm, 99, rfl⟩
abbrev main_v58 : Ref sig .tc := ⟨.hbm, 100, rfl⟩
abbrev main_cst_6 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩

abbrev nD : Nat := 1
abbrev τ : Topo := Topo.v7x

variable {F : FTy → Type} [FloatOps F]
-- ==== KernelMod.lean ====
abbrev S16x1024 : Shape := ⟨2, ![16, 1024]⟩
abbrev S1024 : Shape := ⟨1, ![1024]⟩
abbrev S4x1024x3072 : Shape := ⟨3, ![4, 1024, 3072]⟩
abbrev S4x3072 : Shape := ⟨2, ![4, 3072]⟩
abbrev S1x1024 : Shape := ⟨2, ![1, 1024]⟩
abbrev S_ : Shape := ⟨0, ![]⟩
abbrev S7x1024 : Shape := ⟨2, ![7, 1024]⟩
abbrev S24x1024 : Shape := ⟨2, ![24, 1024]⟩
abbrev S4x1x3072 : Shape := ⟨3, ![4, 1, 3072]⟩
abbrev S4x24x3072 : Shape := ⟨3, ![4, 24, 3072]⟩
abbrev S1x1024x768 : Shape := ⟨3, ![1, 1024, 768]⟩
abbrev S1x1x768 : Shape := ⟨3, ![1, 1, 768]⟩
abbrev S1x24x768 : Shape := ⟨3, ![1, 24, 768]⟩
abbrev S1024x768 : Shape := ⟨2, ![1024, 768]⟩
abbrev S24x768 : Shape := ⟨2, ![24, 768]⟩
abbrev S1x768 : Shape := ⟨2, ![1, 768]⟩

abbrev nBuf : Space → Nat
  | .hbm => 10
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S1024, .f32⟩
  | .hbm, ⟨2, _⟩ => ⟨S4x1024x3072, .f32⟩
  | .hbm, ⟨3, _⟩ => ⟨S4x3072, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S24x1024, .f32⟩
  | .hbm, ⟨8, _⟩ => ⟨S4x1x3072, .f32⟩
  | .hbm, ⟨9, _⟩ => ⟨S4x24x3072, .f32⟩
  | .local _ .vmem, ⟨0, _⟩ => ⟨S24x1024, .f32⟩
  | .local _ .vmem, ⟨1, _⟩ => ⟨S1x1024x768, .f32⟩
  | .local _ .vmem, ⟨2, _⟩ => ⟨S1x1024x768, .f32⟩
  | .local _ .vmem, ⟨3, _⟩ => ⟨S1x1x768, .f32⟩
  | .local _ .vmem, ⟨4, _⟩ => ⟨S1x1x768, .f32⟩
  | .local _ .vmem, ⟨5, _⟩ => ⟨S1x24x768, .f32⟩
  | .local _ .vmem, ⟨6, _⟩ => ⟨S1x24x768, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x24x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceModIdeal.lean ====
abbrev S16x1024 : Shape := ⟨2, ![16, 1024]⟩
abbrev S1024 : Shape := ⟨1, ![1024]⟩
abbrev S4x1024x3072 : Shape := ⟨3, ![4, 1024, 3072]⟩
abbrev S4x3072 : Shape := ⟨2, ![4, 3072]⟩
abbrev S_ : Shape := ⟨0, ![]⟩
abbrev S4x3072x16 : Shape := ⟨3, ![4, 3072, 16]⟩
abbrev S4x16x3072 : Shape := ⟨3, ![4, 16, 3072]⟩
abbrev S4x1x3072 : Shape := ⟨3, ![4, 1, 3072]⟩
abbrev S4x7x3072 : Shape := ⟨3, ![4, 7, 3072]⟩
abbrev S4x24x3072 : Shape := ⟨3, ![4, 24, 3072]⟩

abbrev nBuf : Space → Nat
  | .hbm => 33
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024, .f32⟩
  | .hbm, ⟨2, _⟩ => ⟨S4x1024x3072, .f32⟩
  | .hbm, ⟨3, _⟩ => ⟨S4x3072, .f32⟩
  | .hbm, ⟨4, _⟩ => ⟨S16x1024, .f32⟩
  | .hbm, ⟨5, _⟩ => ⟨S16x1024, .f32⟩
  | .hbm, ⟨6, _⟩ => ⟨S_, .f32⟩
  | .hbm, ⟨7, _⟩ => ⟨S16x1024, .f32⟩
  | .hbm, ⟨8, _⟩ => ⟨S16x1024, .f32⟩
  | .hbm, ⟨9, _⟩ => ⟨S_, .f32⟩
  | .hbm, ⟨10, _⟩ => ⟨S16x1024, .f32⟩
  | .hbm, ⟨11, _⟩ => ⟨S16x1024, .f32⟩
  | .hbm, ⟨12, _⟩ => ⟨S16x1024, .f32⟩
  | .hbm, ⟨13, _⟩ => ⟨S4x3072x16, .f32⟩
  | .hbm, ⟨14, _⟩ => ⟨S4x16x3072, .f32⟩
  | .hbm, ⟨15, _⟩ => ⟨S4x1x3072, .f32⟩
  | .hbm, ⟨16, _⟩ => ⟨S4x16x3072, .f32⟩
  | .hbm, ⟨17, _⟩ => ⟨S4x16x3072, .f32⟩
  | .hbm, ⟨18, _⟩ => ⟨S1024, .f32⟩
  | .hbm, ⟨19, _⟩ => ⟨S1024, .f32⟩
  | .hbm, ⟨20, _⟩ => ⟨S_, .f32⟩
  | .hbm, ⟨21, _⟩ => ⟨S1024, .f32⟩
  | .hbm, ⟨22, _⟩ => ⟨S1024, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S1024, .f32⟩
  | .hbm, ⟨27, _⟩ => ⟨S4x3072, .f32⟩
  | .hbm, ⟨28, _⟩ => ⟨S4x3072, .f32⟩
  | .hbm, ⟨29, _⟩ => ⟨S4x1x3072, .f32⟩
  | .hbm, ⟨30, _⟩ => ⟨S4x1x3072, .f32⟩
  | .hbm, ⟨31, _⟩ => ⟨S4x7x3072, .f32⟩
  | .hbm, ⟨32, _⟩ => ⟨S4x24x3072, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_call1_v0 : Ref sig .tc := ⟨.hbm, 18, rfl⟩
abbrev main_call1_v1 : Ref sig .tc := ⟨.hbm, 19, rfl⟩
abbrev main_call1_cst : Ref sig .tc := ⟨.hbm, 20, rfl⟩
abbrev main_call1_v2 : Ref sig .tc := ⟨.hbm, 21, rfl⟩
abbrev main_call1_v3 : Ref sig .tc := ⟨.hbm, 22, rfl⟩
abbrev main_call1_cst_0 : Ref sig .tc := ⟨.hbm, 23, rfl⟩
abbrev main_call1_v4 : Ref sig .tc := ⟨.hbm, 24, rfl⟩
abbrev main_call1_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩

abbrev nD : Nat := 1
abbrev τ : Topo := Topo.v7x

variable {F : FTy → Type} [FloatOps F]
-- ==== KernelGates.lean ====
abbrev S16x2304x128 : Shape := ⟨3, ![16, 2304, 128]⟩
abbrev S2x4 : Shape := ⟨2, ![2, 4]⟩
abbrev S1x8 : Shape := ⟨2, ![1, 8]⟩
abbrev S_ : Shape := ⟨0, ![]⟩
abbrev S1x128 : Shape := ⟨2, ![1, 128]⟩
abbrev S1x2304x128 : Shape := ⟨3, ![1, 2304, 128]⟩
abbrev S2304x128 : Shape := ⟨2, ![2304, 128]⟩
abbrev S2304x1 : Shape := ⟨2, ![2304, 1]⟩

abbrev nBuf : Space → Nat
  | .hbm => 12
  | .vmem => 6
  | .smem => 0
  | _ => 0

abbrev bufTy : (tb : Table) → Fin (tcTables nBuf tb) → BufTy
  | .hbm, ⟨0, _⟩ => ⟨S16x2304x128, .f32⟩
  | .hbm, ⟨1, _⟩ => ⟨S2x4, .f32⟩
  | .hbm, ⟨2, _⟩ => ⟨S2x4, .f32⟩
  | .hbm, ⟨3, _⟩ => ⟨S1x8, .f32⟩
  | .hbm, ⟨4, _⟩ => ⟨S_, .i32⟩
  | .hbm, ⟨5, _⟩ => ⟨S_, .f32⟩
  | .hbm, ⟨6, _⟩ => ⟨S1x128, .f32⟩
  | .hbm, ⟨7, _⟩ => ⟨S1x8, .f32⟩
  | .hbm, ⟨8, _⟩ => ⟨S_, .i32⟩
  | .hbm, ⟨9, _⟩ => ⟨S_, .f32⟩
  | .hbm, ⟨10, _⟩ => ⟨S1x128, .f32⟩
  | .hbm, ⟨11, _⟩ => ⟨S16x2304x128, .f32⟩
  | .local _ .vmem, ⟨0, _⟩ => ⟨S1x2304x128, .f32⟩
  | .local _ .vmem, ⟨1, _⟩ => ⟨S1x2304x128, .f32⟩
  | .local _ .vmem, ⟨2, _⟩ => ⟨S1x128, .f32⟩
  | .local _ .vmem, ⟨3, _⟩ => ⟨S1x128, .f32⟩
  | .local _ .vmem, ⟨4, _⟩ => ⟨S1x2304x128, .f32⟩
  | .local _ .vmem, ⟨5, _⟩ => ⟨S1x2304x128, .f32⟩
  | _, _ => ⟨S16x2304x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2304x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x2304x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceGatesIdeal.lean ====
abbrev S16x2304x128 : Shape := ⟨3, ![16, 2304, 128]⟩
abbrev S2x4 : Shape := ⟨2, ![2, 4]⟩
abbrev S16x2304x8 : Shape := ⟨3, ![16, 2304, 8]⟩
abbrev S_ : Shape := ⟨0, ![]⟩
abbrev S8 : Shape := ⟨1, ![8]⟩
abbrev S112 : Shape := ⟨1, ![112]⟩
abbrev S120 : Shape := ⟨1, ![120]⟩
abbrev S16x2304x120 : Shape := ⟨3, ![16, 2304, 120]⟩
abbrev S1x1x120 : Shape := ⟨3, ![1, 1, 120]⟩
abbrev S16x256x4 : Shape := ⟨3, ![16, 256, 4]⟩
abbrev S16x4x64x4 : Shape := ⟨4, ![16, 4, 64, 4]⟩
abbrev S4x16x4x64 : Shape := ⟨4, ![4, 16, 4, 64]⟩
abbrev S16x2048x4 : Shape := ⟨3, ![16, 2048, 4]⟩
abbrev S16x32x64x4 : Shape := ⟨4, ![16, 32, 64, 4]⟩
abbrev S32x16x4x64 : Shape := ⟨4, ![32, 16, 4, 64]⟩
abbrev S16x2304x4 : Shape := ⟨3, ![16, 2304, 4]⟩
abbrev S16x256x116 : Shape := ⟨3, ![16, 256, 116]⟩
abbrev S16x4x64x116 : Shape := ⟨4, ![16, 4, 64, 116]⟩
abbrev S4x16x116x64 : Shape := ⟨4, ![4, 16, 116, 64]⟩
abbrev S16x2048x116 : Shape := ⟨3, ![16, 2048, 116]⟩
abbrev S16x32x64x116 : Shape := ⟨4, ![16, 32, 64, 116]⟩
abbrev S32x16x116x64 : Shape := ⟨4, ![32, 16, 116, 64]⟩
abbrev S16x2304x116 : Shape := ⟨3, ![16, 2304, 116]⟩

abbrev nBuf : Space → Nat
  | .hbm => 82
  | .vmem => 0
  | .smem => 0
  | _ => 0

abbrev bufTy : (tb : Table) → Fin (tcTables nBuf tb) → BufTy
  | .hbm, ⟨0, _⟩ => ⟨S16x2304x128, .f32⟩
  | .hbm, ⟨1, _⟩ => ⟨S2x4, .f32⟩
  | .hbm, ⟨2, _⟩ => ⟨S2x4, .f32⟩
  | .hbm, ⟨3, _⟩ => ⟨S16x2304x8, .f32⟩
  | .hbm, ⟨4, _⟩ => ⟨S16x2304x8, .f32⟩
  | .hbm, ⟨5, _⟩ => ⟨S16x2304x8, .f32⟩
  | .hbm, ⟨6, _⟩ => ⟨S_, .f32⟩
  | .hbm, ⟨7, _⟩ => ⟨S16x2304x8, .f32⟩
  | .hbm, ⟨8, _⟩ => ⟨S16x2304x8, .f32⟩
  | .hbm, ⟨9, _⟩ => ⟨S_, .f32⟩
  | .hbm, ⟨10, _⟩ => ⟨S16x2304x8, .f32⟩
  | .hbm, ⟨11, _⟩ => ⟨S16x2304x8, .f32⟩
  | .hbm, ⟨12, _⟩ => ⟨S8, .f32⟩
  | .hbm, ⟨13, _⟩ => ⟨S_, .f32⟩
  | .hbm, ⟨14, _⟩ => ⟨S112, .f32⟩
  | .hbm, ⟨15, _⟩ => ⟨S120, .f32⟩
  | .hbm, ⟨16, _⟩ => ⟨S8, .f32⟩
  | .hbm, ⟨17, _⟩ => ⟨S_, .f32⟩
  | .hbm, ⟨18, _⟩ => ⟨S112, .f32⟩
  | .hbm, ⟨19, _⟩ => ⟨S120, .f32⟩
  | .hbm, ⟨20, _⟩ => ⟨S120, .f32⟩
  | .hbm, ⟨21, _⟩ => ⟨S120, .f32⟩
  | .hbm, ⟨22, _⟩ => ⟨S16x2304x120, .f32⟩
  | .hbm, ⟨23, _⟩ => ⟨S1x1x120, .f32⟩
  | .hbm, ⟨24, _⟩ => ⟨S16x2304x120, .f32⟩
  | .hbm, ⟨25, _⟩ => ⟨S16x2304x120, .f32⟩
  | .hbm, ⟨26, _⟩ => ⟨S_, .f32⟩
  | .hbm, ⟨27, _⟩ => ⟨S16x2304x120, .f32⟩
  | .hbm, ⟨28, _⟩ => ⟨S16x2304x120, .f32⟩
  | .hbm, ⟨29, _⟩ => ⟨S16x2304x120, .f32⟩
  | .hbm, ⟨30, _⟩ => ⟨S16x2304x120, .f32⟩
  | .hbm, ⟨31, _⟩ => ⟨S16x2304x120, .i1⟩
  | .hbm, ⟨32, _⟩ => ⟨S16x2304x120, .f32⟩
  | .hbm, ⟨33, _⟩ => ⟨S16x2304x120, .f32⟩
  | .hbm, ⟨34, _⟩ => ⟨S16x2304x120, .f32⟩
  | .hbm, ⟨35, _⟩ => ⟨S16x2304x120, .f32⟩
  | .hbm, ⟨36, _⟩ => ⟨S16x2304x120, .f32⟩
  | .hbm, ⟨37, _⟩ => ⟨S16x2304x120, .f32⟩
  | .hbm, ⟨38, _⟩ => ⟨S16x2304x120, .f32⟩
  | .hbm, ⟨39, _⟩ => ⟨S16x2304x120, .f32⟩
  | .hbm, ⟨40, _⟩ => ⟨S1x1x120, .f32⟩
  | .hbm, ⟨41, _⟩ => ⟨S16x2304x120, .f32⟩
  | .hbm, ⟨42, _⟩ => ⟨S16x2304x120, .f32⟩
  | .hbm, ⟨43, _⟩ => ⟨S16x256x4, .f32⟩
  | .hbm, ⟨44, _⟩ => ⟨S16x4x64x4, .f32⟩
  | .hbm, ⟨45, _⟩ => ⟨S4x16x4x64, .f32⟩
  | .hbm, ⟨46, _⟩ => ⟨S_, .f32⟩
  | .hbm, ⟨47, _⟩ => ⟨S_, .f32⟩
  | .hbm, ⟨48, _⟩ => ⟨S4x16x4x64, .f32⟩
  | .hbm, ⟨49, _⟩ => ⟨S16x4x64x4, .f32⟩
  | .hbm, ⟨50, _⟩ => ⟨S16x256x4, .f32⟩
  | .hbm, ⟨51, _⟩ => ⟨S16x2048x4, .f32⟩
  | .hbm, ⟨52, _⟩ => ⟨S16x32x64x4, .f32⟩
  | .hbm, ⟨53, _⟩ => ⟨S32x16x4x64, .f32⟩
  | .hbm, ⟨54, _⟩ => ⟨S_, .f32⟩
  | .hbm, ⟨55, _⟩ => ⟨S_, .f32⟩
  | .hbm, ⟨56, _⟩ => ⟨S32x16x4x64, .f32⟩
  | .hbm, ⟨57, _⟩ => ⟨S16x32x64x4, .f32⟩
  | .hbm, ⟨58, _⟩ => ⟨S16x2048x4, .f32⟩
  | .hbm, ⟨59, _⟩ => ⟨S16x2304x4, .f32⟩
  | .hbm, ⟨60, _⟩ => ⟨S16x256x116, .f32⟩
  | .hbm, ⟨61, _⟩ => ⟨S16x256x116, .f32⟩
  | .hbm, ⟨62, _⟩ => ⟨S16x4x64x116, .f32⟩
  | .hbm, ⟨63, _⟩ => ⟨S4x16x116x64, .f32⟩
  | .hbm, ⟨64, _⟩ => ⟨S_, .f32⟩
  | .hbm, ⟨65, _⟩ => ⟨S_, .f32⟩
  | .hbm, ⟨66, _⟩ => ⟨S4x16x116x64, .f32⟩
  | .hbm, ⟨67, _⟩ => ⟨S16x4x64x116, .f32⟩
  | .hbm, ⟨68, _⟩ => ⟨S16x256x116, .f32⟩
  | .hbm, ⟨69, _⟩ => ⟨S16x256x116, .f32⟩
  | .hbm, ⟨70, _⟩ => ⟨S16x2048x116, .f32⟩
  | .hbm, ⟨71, _⟩ => ⟨S16x2048x116, .f32⟩
  | .hbm, ⟨72, _⟩ => ⟨S16x32x64x116, .f32⟩
  | .hbm, ⟨73, _⟩ => ⟨S32x16x116x64, .f32⟩
  | .hbm, ⟨74, _⟩ => ⟨S_, .f32⟩
  | .hbm, ⟨75, _⟩ => ⟨S_, .f32⟩
  | .hbm, ⟨76, _⟩ => ⟨S32x16x116x64, .f32⟩
  | .hbm, ⟨77, _⟩ => ⟨S16x32x64x116, .f32⟩
  | .hbm, ⟨78, _⟩ => ⟨S16x2048x116, .f32⟩
  | .hbm, ⟨79, _⟩ => ⟨S16x2048x116, .f32⟩
  | .hbm, ⟨80, _⟩ => ⟨S16x2304x116, .f32⟩
  | .hbm, ⟨81, _⟩ => ⟨S16x2304x128, .f32⟩
  | _, _ => ⟨S16x2304x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_call0_cst : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_call1_call0_cst : Ref sig .tc := ⟨.hbm, 46, rfl⟩
abbrev main_call1_call0_v0 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_call2_call0_cst : Ref sig .tc := ⟨.hbm, 54, rfl⟩
abbrev main_call2_call0_v0 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_call4_call0_cst : Ref sig .tc := ⟨.hbm, 64, rfl⟩
abbrev main_call4_call0_v0 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_call7_call0_cst : Ref sig .tc := ⟨.hbm, 74, rfl⟩
abbrev main_call7_call0_v0 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩

abbrev nD : Nat := 1
abbrev τ : Topo := Topo.v7x

variable {F : FTy → Type} [FloatOps F]
-- ==== KernelPrep.lean ====
abbrev S16x2304x8192 : Shape := ⟨3, ![16, 2304, 8192]⟩
abbrev S4x1536 : Shape := ⟨2, ![4, 1536]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S256x128 : Shape := ⟨2, ![256, 128]⟩
abbrev S2304x128 : Shape := ⟨2, ![2304, 128]⟩
abbrev S16x2304x512 : Shape := ⟨3, ![16, 2304, 512]⟩
abbrev S1x2304x128 : Shape := ⟨3, ![1, 2304, 128]⟩
abbrev S4x128 : Shape := ⟨2, ![4, 128]⟩
abbrev S1x128 : Shape := ⟨2, ![1, 128]⟩
abbrev S2304x1 : Shape := ⟨2, ![2304, 1]⟩
abbrev S2304 : Shape := ⟨1, ![2304]⟩

abbrev nBuf : Space → Nat
  | .hbm => 82
  | .vmem => 20
  | .smem => 0
  | _ => 0

abbrev bufTy : (tb : Table) → Fin (tcTables nBuf tb) → BufTy
  | .hbm, ⟨0, _⟩ => ⟨S16x2304x8192, .bf16⟩
  | .hbm, ⟨1, _⟩ => ⟨S4x1536, .f32⟩
  | .hbm, ⟨2, _⟩ => ⟨S2048, .i32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .i32⟩
  | .hbm, ⟨12, _⟩ => ⟨S_, .i32⟩
  | .hbm, ⟨13, _⟩ => ⟨S2048, .i32⟩
  | .hbm, ⟨14, _⟩ => ⟨S2048, .i32⟩
  | .hbm, ⟨15, _⟩ => ⟨S2048, .i32⟩
  | .hbm, ⟨16, _⟩ => ⟨S_, .i32⟩
  | .hbm, ⟨17, _⟩ => ⟨S2048, .i32⟩
  | .hbm, ⟨18, _⟩ => ⟨S2048, .i1⟩
  | .hbm, ⟨19, _⟩ => ⟨S2048, .i32⟩
  | .hbm, ⟨20, _⟩ => ⟨S2048, .i32⟩
  | .hbm, ⟨21, _⟩ => ⟨S_, .i32⟩
  | .hbm, ⟨22, _⟩ => ⟨S2048, .i32⟩
  | .hbm, ⟨23, _⟩ => ⟨S2048, .i1⟩
  | .hbm, ⟨24, _⟩ => ⟨S2048, .i1⟩
  | .hbm, ⟨25, _⟩ => ⟨S_, .i32⟩
  | .hbm, ⟨26, _⟩ => ⟨S2048, .i32⟩
  | .hbm, ⟨27, _⟩ => ⟨S2048, .i32⟩
  | .hbm, ⟨28, _⟩ => ⟨S2048, .i32⟩
  | .hbm, ⟨29, _⟩ => ⟨S2048, .f32⟩
  | .hbm, ⟨30, _⟩ => ⟨S2048x1, .f32⟩
  | .hbm, ⟨31, _⟩ => ⟨S1x32, .f32⟩
  | .hbm, ⟨32, _⟩ => ⟨S2048x32, .f32⟩
  | .hbm, ⟨33, _⟩ => ⟨S2048x32, .f32⟩
  | .hbm, ⟨34, _⟩ => ⟨S2048x32, .f32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i1⟩
  | .hbm, ⟨39, _⟩ => ⟨S_, .i32⟩
  | .hbm, ⟨40, _⟩ => ⟨S_, .i32⟩
  | .hbm, ⟨41, _⟩ => ⟨S2048, .i32⟩
  | .hbm, ⟨42, _⟩ => ⟨S2048, .i32⟩
  | .hbm, ⟨43, _⟩ => ⟨S_, .i32⟩
  | .hbm, ⟨44, _⟩ => ⟨S2048, .i32⟩
  | .hbm, ⟨45, _⟩ => ⟨S2048, .i1⟩
  | .hbm, ⟨46, _⟩ => ⟨S_, .i32⟩
  | .hbm, ⟨47, _⟩ => ⟨S2048, .i32⟩
  | .hbm, ⟨48, _⟩ => ⟨S2048, .i1⟩
  | .hbm, ⟨49, _⟩ => ⟨S_, .i32⟩
  | .hbm, ⟨50, _⟩ => ⟨S_, .i1⟩
  | .hbm, ⟨51, _⟩ => ⟨S2048, .i1⟩
  | .hbm, ⟨52, _⟩ => ⟨S2048, .i1⟩
  | .hbm, ⟨53, _⟩ => ⟨S2048, .i1⟩
  | .hbm, ⟨54, _⟩ => ⟨S2048, .i32⟩
  | .hbm, ⟨55, _⟩ => ⟨S2048, .i32⟩
  | .hbm, ⟨56, _⟩ => ⟨S2048, .i32⟩
  | .hbm, ⟨57, _⟩ => ⟨S2048, .f32⟩
  | .hbm, ⟨58, _⟩ => ⟨S2048x1, .f32⟩
  | .hbm, ⟨59, _⟩ => ⟨S1x32, .f32⟩
  | .hbm, ⟨60, _⟩ => ⟨S2048x32, .f32⟩
  | .hbm, ⟨61, _⟩ => ⟨S2048x32, .f32⟩
  | .hbm, ⟨62, _⟩ => ⟨S2048x32, .f32⟩
  | .hbm, ⟨63, _⟩ => ⟨S2048x32, .f32⟩
  | .hbm, ⟨64, _⟩ => ⟨S2048x32, .f32⟩
  | .hbm, ⟨65, _⟩ => ⟨S2048x128, .f32⟩
  | .hbm, ⟨66, _⟩ => ⟨S2048x32, .f32⟩
  | .hbm, ⟨67, _⟩ => ⟨S2048x32, .f32⟩
  | .hbm, ⟨68, _⟩ => ⟨S2048x32, .f32⟩
  | .hbm, ⟨69, _⟩ => ⟨S2048x32, .f32⟩
  | .hbm, ⟨70, _⟩ => ⟨S2048x32, .f32⟩
  | .hbm, ⟨71, _⟩ => ⟨S2048x32, .f32⟩
  | .hbm, ⟨72, _⟩ => ⟨S2048x128, .f32⟩
  | .hbm, ⟨73, _⟩ => ⟨S_, .f32⟩
  | .hbm, ⟨74, _⟩ => ⟨S256x128, .f32⟩
  | .hbm, ⟨75, _⟩ => ⟨S2304x128, .f32⟩
  | .hbm, ⟨76, _⟩ => ⟨S_, .f32⟩
  | .hbm, ⟨77, _⟩ => ⟨S256x128, .f32⟩
  | .hbm, ⟨78, _⟩ => ⟨S2304x128, .f32⟩
  | .hbm, ⟨79, _⟩ => ⟨S16x2304x512, .bf16⟩
  | .hbm, ⟨80, _⟩ => ⟨S16x2304x512, .bf16⟩
  | .hbm, ⟨81, _⟩ => ⟨S16x2304x512, .bf16⟩
  | .local _ .vmem, ⟨0, _⟩ => ⟨S1x2304x128, .bf16⟩
  | .local _ .vmem, ⟨1, _⟩ => ⟨S1x2304x128, .bf16⟩
  | .local _ .vmem, ⟨2, _⟩ => ⟨S1x2304x128, .bf16⟩
  | .local _ .vmem, ⟨3, _⟩ => ⟨S1x2304x128, .bf16⟩
  | .local _ .vmem, ⟨4, _⟩ => ⟨S1x2304x128, .bf16⟩
  | .local _ .vmem, ⟨5, _⟩ => ⟨S1x2304x128, .bf16⟩
  | .local _ .vmem, ⟨6, _⟩ => ⟨S4x128, .f32⟩
  | .local _ .vmem, ⟨7, _⟩ => ⟨S4x128, .f32⟩
  | .local _ .vmem, ⟨8, _⟩ => ⟨S4x128, .f32⟩
  | .local _ .vmem, ⟨9, _⟩ => ⟨S4x128, .f32⟩
  | .local _ .vmem, ⟨10, _⟩ => ⟨S4x128, .f32⟩
  | .local _ .vmem, ⟨11, _⟩ => ⟨S4x128, .f32⟩
  | .local _ .vmem, ⟨12, _⟩ => ⟨S2304x128, .f32⟩
  | .local _ .vmem, ⟨13, _⟩ => ⟨S2304x128, .f32⟩
  | .local _ .vmem, ⟨14, _⟩ => ⟨S1x2304x128, .bf16⟩
  | .local _ .vmem, ⟨15, _⟩ => ⟨S1x2304x128, .bf16⟩
  | .local _ .vmem, ⟨16, _⟩ => ⟨S1x2304x128, .bf16⟩
  | .local _ .vmem, ⟨17, _⟩ => ⟨S1x2304x128, .bf16⟩
  | .local _ .vmem, ⟨18, _⟩ => ⟨S1x2304x128, .bf16⟩
  | .local _ .vmem, ⟨19, _⟩ => ⟨S1x2304x128, .bf16⟩
  | _, _ => ⟨S16x2304x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c_1 : Ref sig .tc := ⟨.hbm, 35, rfl⟩
abbrev main_call1_v0 : Ref sig .tc := ⟨.hbm, 36, rfl⟩
abbrev main_call1_c : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_c_1 : Ref sig .tc := ⟨.hbm, 43, rfl⟩
abbrev main_call1_v5 : Ref sig .tc := ⟨.hbm, 44, rfl⟩
abbrev main_call1_v6 : Ref sig .tc := ⟨.hbm, 45, rfl⟩
abbrev main_call1_c_2 : Ref sig .tc := ⟨.hbm, 46, rfl⟩
abbrev main_call1_v7 : Ref sig .tc := ⟨.hbm, 47, rfl⟩
abbrev main_call1_v8 : Ref sig .tc := ⟨.hbm, 48, rfl⟩
abbrev main_call1_c_3 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_cst_2 : Ref sig .tc := ⟨.hbm, 73, rfl⟩
abbrev main_v31 : Ref sig .tc := ⟨.hbm, 74, rfl⟩
abbrev main_v32 : Ref sig .tc := ⟨.hbm, 75, rfl⟩
abbrev main_cst_3 : Ref sig .tc := ⟨.hbm, 76, rfl⟩
abbrev main_v33 : Ref sig .tc := ⟨.hbm, 77, rfl⟩
abbrev main_v34 : Ref sig .tc := ⟨.hbm, 78, rfl⟩
abbrev main_v35_0 : Ref sig .tc := ⟨.hbm, 79, rfl⟩
abbrev main_v35_1 : Ref sig .tc := ⟨.hbm, 80, rfl⟩
abbrev main_v35_2 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2304x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2304x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S4x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S2304x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2304x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x2304x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2304x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2304x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferencePrepIdeal.lean ====
abbrev S16x2304x8192 : Shape := ⟨3, ![16, 2304, 8192]⟩
abbrev S4x1536 : Shape := ⟨2, ![4, 1536]⟩
abbrev S2048 : Shape := ⟨1, ![2048]⟩
abbrev S_ : Shape := ⟨0, ![]⟩
abbrev S16x256x1536 : Shape := ⟨3, ![16, 256, 1536]⟩
abbrev S16x259x1536 : Shape := ⟨3, ![16, 259, 1536]⟩
abbrev S1x1536 : Shape := ⟨2, ![1, 1536]⟩
abbrev S1536 : Shape := ⟨1, ![1536]⟩
abbrev S1x1x1536 : Shape := ⟨3, ![1, 1, 1536]⟩
abbrev S16x256x3x4x128 : Shape := ⟨5, ![16, 256, 3, 4, 128]⟩
abbrev S16x256x1x4x128 : Shape := ⟨5, ![16, 256, 1, 4, 128]⟩
abbrev S16x256x4x128 : Shape := ⟨4, ![16, 256, 4, 128]⟩
abbrev S16x256x4 : Shape := ⟨3, ![16, 256, 4]⟩
abbrev S16x256x4x1 : Shape := ⟨4, ![16, 256, 4, 1]⟩
abbrev S16x2048x1536 : Shape := ⟨3, ![16, 2048, 1536]⟩
abbrev S16x2051x1536 : Shape := ⟨3, ![16, 2051, 1536]⟩
abbrev S16x2048x3x4x128 : Shape := ⟨5, ![16, 2048, 3, 4, 128]⟩
abbrev S16x2048x1x4x128 : Shape := ⟨5, ![16, 2048, 1, 4, 128]⟩
abbrev S16x2048x4x128 : Shape := ⟨4, ![16, 2048, 4, 128]⟩
abbrev S16x2048x4 : Shape := ⟨3, ![16, 2048, 4]⟩
abbrev S16x2048x4x1 : Shape := ⟨4, ![16, 2048, 4, 1]⟩
abbrev S32 : Shape := ⟨1, ![32]⟩
abbrev S16x2048x4x64 : Shape := ⟨4, ![16, 2048, 4, 64]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S16x2048x4x32 : Shape := ⟨4, ![16, 2048, 4, 32]⟩
abbrev S16x2304x4x128 : Shape := ⟨4, ![16, 2304, 4, 128]⟩
abbrev S16x2304x512 : Shape := ⟨3, ![16, 2304, 512]⟩

abbrev nBuf : Space → Nat
  | .hbm => 314
  | .vmem => 0
  | .smem => 0
  | _ => 0

abbrev hbmTy0_0 (i : Nat) : BufTy := match i % 128 with
  | 0 => ⟨S16x2304x8192, .bf16⟩
  | 1 => ⟨S4x1536, .f32⟩
  | 2 => ⟨S2048, .i32⟩
  | 3 => ⟨S_, .i32⟩
  | 4 => ⟨S_, .i32⟩
  | 5 => ⟨S2048, .i32⟩
  | 6 => ⟨S2048, .i32⟩
  | 7 => ⟨S2048, .i32⟩
  | 8 => ⟨S_, .i32⟩
  | 9 => ⟨S2048, .i32⟩
  | 10 => ⟨S2048, .i1⟩
  | 11 => ⟨S2048, .i32⟩
  | 12 => ⟨S2048, .i32⟩
  | 13 => ⟨S_, .i32⟩
  | 14 => ⟨S2048, .i32⟩
  | 15 => ⟨S2048, .i1⟩
  | 16 => ⟨S2048, .i1⟩
  | 17 => ⟨S_, .i32⟩
  | 18 => ⟨S2048, .i32⟩
  | 19 => ⟨S2048, .i32⟩
  | 20 => ⟨S2048, .i32⟩
  | 21 => ⟨S_, .i32⟩
  | 22 => ⟨S_, .i32⟩
  | 23 => ⟨S_, .i32⟩
  | 24 => ⟨S_, .i1⟩
  | 25 => ⟨S_, .i32⟩
  | 26 => ⟨S_, .i32⟩
  | 27 => ⟨S2048, .i32⟩
  | 28 => ⟨S2048, .i32⟩
  | 29 => ⟨S_, .i32⟩
  | 30 => ⟨S2048, .i32⟩
  | 31 => ⟨S2048, .i1⟩
  | 32 => ⟨S_, .i32⟩
  | 33 => ⟨S2048, .i32⟩
  | 34 => ⟨S2048, .i1⟩
  | 35 => ⟨S_, .i32⟩
  | 36 => ⟨S_, .i1⟩
  | 37 => ⟨S2048, .i1⟩
  | 38 => ⟨S2048, .i1⟩
  | 39 => ⟨S2048, .i1⟩
  | 40 => ⟨S2048, .i32⟩
  | 41 => ⟨S2048, .i32⟩
  | 42 => ⟨S2048, .i32⟩
  | 43 => ⟨S16x256x1536, .bf16⟩
  | 44 => ⟨S16x256x1536, .f32⟩
  | 45 => ⟨S_, .i32⟩
  | 46 => ⟨S_, .f32⟩
  | 47 => ⟨S16x259x1536, .f32⟩
  | 48 => ⟨S16x256x1536, .f32⟩
  | 49 => ⟨S1x1536, .f32⟩
  | 50 => ⟨S1536, .f32⟩
  | 51 => ⟨S1x1x1536, .f32⟩
  | 52 => ⟨S16x256x1536, .f32⟩
  | 53 => ⟨S16x256x1536, .f32⟩
  | 54 => ⟨S_, .f32⟩
  | 55 => ⟨S16x256x1536, .f32⟩
  | 56 => ⟨S16x256x1536, .f32⟩
  | 57 => ⟨S16x256x1536, .f32⟩
  | 58 => ⟨S1x1536, .f32⟩
  | 59 => ⟨S1536, .f32⟩
  | 60 => ⟨S1x1x1536, .f32⟩
  | 61 => ⟨S16x256x1536, .f32⟩
  | 62 => ⟨S16x256x1536, .f32⟩
  | 63 => ⟨S16x256x1536, .f32⟩
  | 64 => ⟨S16x256x1536, .f32⟩
  | 65 => ⟨S1x1536, .f32⟩
  | 66 => ⟨S1536, .f32⟩
  | 67 => ⟨S1x1x1536, .f32⟩
  | 68 => ⟨S16x256x1536, .f32⟩
  | 69 => ⟨S16x256x1536, .f32⟩
  | 70 => ⟨S16x256x1536, .f32⟩
  | 71 => ⟨S16x256x1536, .f32⟩
  | 72 => ⟨S1x1536, .f32⟩
  | 73 => ⟨S1536, .f32⟩
  | 74 => ⟨S1x1x1536, .f32⟩
  | 75 => ⟨S16x256x1536, .f32⟩
  | 76 => ⟨S16x256x1536, .f32⟩
  | 77 => ⟨S16x256x1536, .f32⟩
  | 78 => ⟨S16x256x1536, .f32⟩
  | 79 => ⟨S16x256x1536, .f32⟩
  | 80 => ⟨S_, .f32⟩
  | 81 => ⟨S16x256x1536, .f32⟩
  | 82 => ⟨S16x256x1536, .f32⟩
  | 83 => ⟨S_, .f32⟩
  | 84 => ⟨S16x256x1536, .f32⟩
  | 85 => ⟨S16x256x1536, .f32⟩
  | 86 => ⟨S16x256x1536, .f32⟩
  | 87 => ⟨S16x256x3x4x128, .f32⟩
  | 88 => ⟨S16x256x1x4x128, .f32⟩
  | 89 => ⟨S16x256x4x128, .f32⟩
  | 90 => ⟨S16x256x4x128, .f32⟩
  | 91 => ⟨S_, .f32⟩
  | 92 => ⟨S16x256x4, .f32⟩
  | 93 => ⟨S16x256x4x1, .f32⟩
  | 94 => ⟨S_, .f32⟩
  | 95 => ⟨S16x256x4x1, .f32⟩
  | 96 => ⟨S16x256x4x1, .f32⟩
  | 97 => ⟨S16x256x4x1, .f32⟩
  | 98 => ⟨S16x256x4x128, .f32⟩
  | 99 => ⟨S16x256x4x128, .f32⟩
  | 100 => ⟨S16x256x1x4x128, .f32⟩
  | 101 => ⟨S16x256x4x128, .f32⟩
  | 102 => ⟨S16x256x4x128, .f32⟩
  | 103 => ⟨S_, .f32⟩
  | 104 => ⟨S16x256x4, .f32⟩
  | 105 => ⟨S16x256x4x1, .f32⟩
  | 106 => ⟨S_, .f32⟩
  | 107 => ⟨S16x256x4x1, .f32⟩
  | 108 => ⟨S16x256x4x1, .f32⟩
  | 109 => ⟨S16x256x4x1, .f32⟩
  | 110 => ⟨S16x256x4x128, .f32⟩
  | 111 => ⟨S16x256x4x128, .f32⟩
  | 112 => ⟨S16x256x1x4x128, .f32⟩
  | 113 => ⟨S16x256x4x128, .f32⟩
  | 114 => ⟨S_, .f32⟩
  | 115 => ⟨S16x256x4x128, .f32⟩
  | 116 => ⟨S16x256x4x128, .f32⟩
  | 117 => ⟨S16x2048x1536, .bf16⟩
  | 118 => ⟨S16x2048x1536, .f32⟩
  | 119 => ⟨S_, .i32⟩
  | 120 => ⟨S_, .f32⟩
  | 121 => ⟨S16x2051x1536, .f32⟩
  | 122 => ⟨S16x2048x1536, .f32⟩
  | 123 => ⟨S1x1536, .f32⟩
  | 124 => ⟨S1536, .f32⟩
  | 125 => ⟨S1x1x1536, .f32⟩
  | 126 => ⟨S16x2048x1536, .f32⟩
  | 127 => ⟨S16x2048x1536, .f32⟩
  | _ => ⟨S16x2304x8192, .bf16⟩

abbrev hbmTy0_1 (i : Nat) : BufTy := match i % 128 with
  | 0 => ⟨S_, .f32⟩
  | 1 => ⟨S16x2048x1536, .f32⟩
  | 2 => ⟨S16x2048x1536, .f32⟩
  | 3 => ⟨S16x2048x1536, .f32⟩
  | 4 => ⟨S1x1536, .f32⟩
  | 5 => ⟨S1536, .f32⟩
  | 6 => ⟨S1x1x1536, .f32⟩
  | 7 => ⟨S16x2048x1536, .f32⟩
  | 8 => ⟨S16x2048x1536, .f32⟩
  | 9 => ⟨S16x2048x1536, .f32⟩
  | 10 => ⟨S16x2048x1536, .f32⟩
  | 11 => ⟨S1x1536, .f32⟩
  | 12 => ⟨S1536, .f32⟩
  | 13 => ⟨S1x1x1536, .f32⟩
  | 14 => ⟨S16x2048x1536, .f32⟩
  | 15 => ⟨S16x2048x1536, .f32⟩
  | 16 => ⟨S16x2048x1536, .f32⟩
  | 17 => ⟨S16x2048x1536, .f32⟩
  | 18 => ⟨S1x1536, .f32⟩
  | 19 => ⟨S1536, .f32⟩
  | 20 => ⟨S1x1x1536, .f32⟩
  | 21 => ⟨S16x2048x1536, .f32⟩
  | 22 => ⟨S16x2048x1536, .f32⟩
  | 23 => ⟨S16x2048x1536, .f32⟩
  | 24 => ⟨S16x2048x1536, .f32⟩
  | 25 => ⟨S16x2048x1536, .f32⟩
  | 26 => ⟨S_, .f32⟩
  | 27 => ⟨S16x2048x1536, .f32⟩
  | 28 => ⟨S16x2048x1536, .f32⟩
  | 29 => ⟨S_, .f32⟩
  | 30 => ⟨S16x2048x1536, .f32⟩
  | 31 => ⟨S16x2048x1536, .f32⟩
  | 32 => ⟨S16x2048x1536, .f32⟩
  | 33 => ⟨S16x2048x3x4x128, .f32⟩
  | 34 => ⟨S16x2048x1x4x128, .f32⟩
  | 35 => ⟨S16x2048x4x128, .f32⟩
  | 36 => ⟨S16x2048x4x128, .f32⟩
  | 37 => ⟨S_, .f32⟩
  | 38 => ⟨S16x2048x4, .f32⟩
  | 39 => ⟨S16x2048x4x1, .f32⟩
  | 40 => ⟨S_, .f32⟩
  | 41 => ⟨S16x2048x4x1, .f32⟩
  | 42 => ⟨S16x2048x4x1, .f32⟩
  | 43 => ⟨S16x2048x4x1, .f32⟩
  | 44 => ⟨S16x2048x4x128, .f32⟩
  | 45 => ⟨S16x2048x4x128, .f32⟩
  | 46 => ⟨S16x2048x1x4x128, .f32⟩
  | 47 => ⟨S16x2048x4x128, .f32⟩
  | 48 => ⟨S16x2048x4x128, .f32⟩
  | 49 => ⟨S_, .f32⟩
  | 50 => ⟨S16x2048x4, .f32⟩
  | 51 => ⟨S16x2048x4x1, .f32⟩
  | 52 => ⟨S_, .f32⟩
  | 53 => ⟨S16x2048x4x1, .f32⟩
  | 54 => ⟨S16x2048x4x1, .f32⟩
  | 55 => ⟨S16x2048x4x1, .f32⟩
  | 56 => ⟨S16x2048x4x128, .f32⟩
  | 57 => ⟨S16x2048x4x128, .f32⟩
  | 58 => ⟨S16x2048x1x4x128, .f32⟩
  | 59 => ⟨S16x2048x4x128, .f32⟩
  | 60 => ⟨S32, .f32⟩
  | 61 => ⟨S32, .f32⟩
  | 62 => ⟨S_, .f32⟩
  | 63 => ⟨S32, .f32⟩
  | 64 => ⟨S32, .f32⟩
  | 65 => ⟨S_, .f32⟩
  | 66 => ⟨S32, .f32⟩
  | 67 => ⟨S32, .f32⟩
  | 68 => ⟨S16x2048x4x64, .f32⟩
  | 69 => ⟨S2048, .f32⟩
  | 70 => ⟨S2048x1, .f32⟩
  | 71 => ⟨S1x32, .f32⟩
  | 72 => ⟨S2048x32, .f32⟩
  | 73 => ⟨S2048x32, .f32⟩
  | 74 => ⟨S2048x32, .f32⟩
  | 75 => ⟨S2048x32, .f32⟩
  | 76 => ⟨S1x2048x1x32, .f32⟩
  | 77 => ⟨S2048x32, .f32⟩
  | 78 => ⟨S1x2048x1x32, .f32⟩
  | 79 => ⟨S16x2048x4x32, .f32⟩
  | 80 => ⟨S16x2048x4x32, .f32⟩
  | 81 => ⟨S16x2048x4x32, .f32⟩
  | 82 => ⟨S16x2048x4x32, .f32⟩
  | 83 => ⟨S16x2048x4x32, .f32⟩
  | 84 => ⟨S16x2048x4x32, .f32⟩
  | 85 => ⟨S16x2048x4x32, .f32⟩
  | 86 => ⟨S16x2048x4x32, .f32⟩
  | 87 => ⟨S16x2048x4x32, .f32⟩
  | 88 => ⟨S16x2048x4x32, .f32⟩
  | 89 => ⟨S16x2048x4x32, .f32⟩
  | 90 => ⟨S16x2048x4x32, .f32⟩
  | 91 => ⟨S16x2048x4x64, .f32⟩
  | 92 => ⟨S16x2048x4x64, .f32⟩
  | 93 => ⟨S2048, .f32⟩
  | 94 => ⟨S2048x1, .f32⟩
  | 95 => ⟨S1x32, .f32⟩
  | 96 => ⟨S2048x32, .f32⟩
  | 97 => ⟨S2048x32, .f32⟩
  | 98 => ⟨S2048x32, .f32⟩
  | 99 => ⟨S2048x32, .f32⟩
  | 100 => ⟨S1x2048x1x32, .f32⟩
  | 101 => ⟨S2048x32, .f32⟩
  | 102 => ⟨S1x2048x1x32, .f32⟩
  | 103 => ⟨S16x2048x4x32, .f32⟩
  | 104 => ⟨S16x2048x4x32, .f32⟩
  | 105 => ⟨S16x2048x4x32, .f32⟩
  | 106 => ⟨S16x2048x4x32, .f32⟩
  | 107 => ⟨S16x2048x4x32, .f32⟩
  | 108 => ⟨S16x2048x4x32, .f32⟩
  | 109 => ⟨S16x2048x4x32, .f32⟩
  | 110 => ⟨S16x2048x4x32, .f32⟩
  | 111 => ⟨S16x2048x4x32, .f32⟩
  | 112 => ⟨S16x2048x4x32, .f32⟩
  | 113 => ⟨S16x2048x4x32, .f32⟩
  | 114 => ⟨S16x2048x4x32, .f32⟩
  | 115 => ⟨S16x2048x4x64, .f32⟩
  | 116 => ⟨S16x2048x4x128, .f32⟩
  | 117 => ⟨S32, .f32⟩
  | 118 => ⟨S32, .f32⟩
  | 119 => ⟨S_, .f32⟩
  | 120 => ⟨S32, .f32⟩
  | 121 => ⟨S32, .f32⟩
  | 122 => ⟨S_, .f32⟩
  | 123 => ⟨S32, .f32⟩
  | 124 => ⟨S32, .f32⟩
  | 125 => ⟨S16x2048x4x64, .f32⟩
  | 126 => ⟨S2048, .f32⟩
  | 127 => ⟨S2048x1, .f32⟩
  | _ => ⟨S16x2304x8192, .bf16⟩

abbrev hbmTy0_2 (i : Nat) : BufTy := match i % 128 with
  | 0 => ⟨S1x32, .f32⟩
  | 1 => ⟨S2048x32, .f32⟩
  | 2 => ⟨S2048x32, .f32⟩
  | 3 => ⟨S2048x32, .f32⟩
  | 4 => ⟨S2048x32, .f32⟩
  | 5 => ⟨S1x2048x1x32, .f32⟩
  | 6 => ⟨S2048x32, .f32⟩
  | 7 => ⟨S1x2048x1x32, .f32⟩
  | 8 => ⟨S16x2048x4x32, .f32⟩
  | 9 => ⟨S16x2048x4x32, .f32⟩
  | 10 => ⟨S16x2048x4x32, .f32⟩
  | 11 => ⟨S16x2048x4x32, .f32⟩
  | 12 => ⟨S16x2048x4x32, .f32⟩
  | 13 => ⟨S16x2048x4x32, .f32⟩
  | 14 => ⟨S16x2048x4x32, .f32⟩
  | 15 => ⟨S16x2048x4x32, .f32⟩
  | 16 => ⟨S16x2048x4x32, .f32⟩
  | 17 => ⟨S16x2048x4x32, .f32⟩
  | 18 => ⟨S16x2048x4x32, .f32⟩
  | 19 => ⟨S16x2048x4x32, .f32⟩
  | 20 => ⟨S16x2048x4x64, .f32⟩
  | 21 => ⟨S16x2048x4x64, .f32⟩
  | 22 => ⟨S2048, .f32⟩
  | 23 => ⟨S2048x1, .f32⟩
  | 24 => ⟨S1x32, .f32⟩
  | 25 => ⟨S2048x32, .f32⟩
  | 26 => ⟨S2048x32, .f32⟩
  | 27 => ⟨S2048x32, .f32⟩
  | 28 => ⟨S2048x32, .f32⟩
  | 29 => ⟨S1x2048x1x32, .f32⟩
  | 30 => ⟨S2048x32, .f32⟩
  | 31 => ⟨S1x2048x1x32, .f32⟩
  | 32 => ⟨S16x2048x4x32, .f32⟩
  | 33 => ⟨S16x2048x4x32, .f32⟩
  | 34 => ⟨S16x2048x4x32, .f32⟩
  | 35 => ⟨S16x2048x4x32, .f32⟩
  | 36 => ⟨S16x2048x4x32, .f32⟩
  | 37 => ⟨S16x2048x4x32, .f32⟩
  | 38 => ⟨S16x2048x4x32, .f32⟩
  | 39 => ⟨S16x2048x4x32, .f32⟩
  | 40 => ⟨S16x2048x4x32, .f32⟩
  | 41 => ⟨S16x2048x4x32, .f32⟩
  | 42 => ⟨S16x2048x4x32, .f32⟩
  | 43 => ⟨S16x2048x4x32, .f32⟩
  | 44 => ⟨S16x2048x4x64, .f32⟩
  | 45 => ⟨S16x2048x4x128, .f32⟩
  | 46 => ⟨S_, .f32⟩
  | 47 => ⟨S16x2048x4x128, .f32⟩
  | 48 => ⟨S16x2048x4x128, .f32⟩
  | 49 => ⟨S16x2304x4x128, .f32⟩
  | 50 => ⟨S16x2304x512, .f32⟩
  | 51 => ⟨S16x2304x512, .bf16⟩
  | 52 => ⟨S16x2304x4x128, .f32⟩
  | 53 => ⟨S16x2304x512, .f32⟩
  | 54 => ⟨S16x2304x512, .bf16⟩
  | 55 => ⟨S16x2304x4x128, .f32⟩
  | 56 => ⟨S16x2304x512, .f32⟩
  | 57 => ⟨S16x2304x512, .bf16⟩
  | _ => ⟨S16x2304x8192, .bf16⟩

abbrev hbmTy (i : Nat) : BufTy := match i / 128 with
  | 0 => hbmTy0_0 i
  | 1 => hbmTy0_1 i
  | 2 => hbmTy0_2 i
  | _ => ⟨S16x2304x8192, .bf16⟩

abbrev bufTy : (tb : Table) → Fin (tcTables nBuf tb) → BufTy
  | .hbm, ⟨i, _⟩ => hbmTy i
  | _, _ => ⟨S16x2304x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_c : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_call0_c_0 : Ref sig .tc := ⟨.hbm, 17, rfl⟩
abbrev main_call0_v12 : Ref sig .tc := ⟨.hbm, 18, rfl⟩
abbrev main_call0_v13 : Ref sig .tc := ⟨.hbm, 19, rfl⟩
abbrev main_v1 : Ref sig .tc := ⟨.hbm, 20, rfl⟩
abbrev main_c_0 : Ref sig .tc := ⟨.hbm, 21, rfl⟩
abbrev main_call1_v0 : Ref sig .tc := ⟨.hbm, 22, rfl⟩
abbrev main_call1_c : Ref sig .tc := ⟨.hbm, 23, rfl⟩
abbrev main_call1_v1 : Ref sig .tc := ⟨.hbm, 24, rfl⟩
abbrev main_call1_c_0 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_c_1 : Ref sig .tc := ⟨.hbm, 29, rfl⟩
abbrev main_call1_v5 : Ref sig .tc := ⟨.hbm, 30, rfl⟩
abbrev main_call1_v6 : Ref sig .tc := ⟨.hbm, 31, rfl⟩
abbrev main_call1_c_2 : Ref sig .tc := ⟨.hbm, 32, rfl⟩
abbrev main_call1_v7 : Ref sig .tc := ⟨.hbm, 33, rfl⟩
abbrev main_call1_v8 : Ref sig .tc := ⟨.hbm, 34, rfl⟩
abbrev main_call1_c_3 : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_v12 : Ref sig .tc := ⟨.hbm, 39, rfl⟩
abbrev main_call1_v13 : Ref sig .tc := ⟨.hbm, 40, rfl⟩
abbrev main_call1_v14 : Ref sig .tc := ⟨.hbm, 41, rfl⟩
abbrev main_v2 : Ref sig .tc := ⟨.hbm, 42, rfl⟩
abbrev main_v3 : Ref sig .tc := ⟨.hbm, 43, rfl⟩
abbrev main_v4 : Ref sig .tc := ⟨.hbm, 44, rfl⟩
abbrev main_c_1 : Ref sig .tc := ⟨.hbm, 45, rfl⟩
abbrev main_call2_v0 : Ref sig .tc := ⟨.hbm, 46, rfl⟩
abbrev main_v5 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_cst : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_call3_v0 : Ref sig .tc := ⟨.hbm, 78, rfl⟩
abbrev main_call3_v1 : Ref sig .tc := ⟨.hbm, 79, rfl⟩
abbrev main_call3_cst : Ref sig .tc := ⟨.hbm, 80, rfl⟩
abbrev main_call3_v2 : Ref sig .tc := ⟨.hbm, 81, rfl⟩
abbrev main_call3_v3 : Ref sig .tc := ⟨.hbm, 82, rfl⟩
abbrev main_call3_cst_0 : Ref sig .tc := ⟨.hbm, 83, rfl⟩
abbrev main_call3_v4 : Ref sig .tc := ⟨.hbm, 84, rfl⟩
abbrev main_call3_v5 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_cst_2 : Ref sig .tc := ⟨.hbm, 91, rfl⟩
abbrev main_v40 : Ref sig .tc := ⟨.hbm, 92, rfl⟩
abbrev main_v41 : Ref sig .tc := ⟨.hbm, 93, rfl⟩
abbrev main_cst_3 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_cst_4 : Ref sig .tc := ⟨.hbm, 103, rfl⟩
abbrev main_v50 : Ref sig .tc := ⟨.hbm, 104, rfl⟩
abbrev main_v51 : Ref sig .tc := ⟨.hbm, 105, rfl⟩
abbrev main_cst_5 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_cst_6 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_c_7 : Ref sig .tc := ⟨.hbm, 119, rfl⟩
abbrev main_call4_v0 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_cst_8 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_call5_v0 : Ref sig .tc := ⟨.hbm, 152, rfl⟩
abbrev main_call5_v1 : Ref sig .tc := ⟨.hbm, 153, rfl⟩
abbrev main_call5_cst : Ref sig .tc := ⟨.hbm, 154, rfl⟩
abbrev main_call5_v2 : Ref sig .tc := ⟨.hbm, 155, rfl⟩
abbrev main_call5_v3 : Ref sig .tc := ⟨.hbm, 156, rfl⟩
abbrev main_call5_cst_0 : Ref sig .tc := ⟨.hbm, 157, rfl⟩
abbrev main_call5_v4 : Ref sig .tc := ⟨.hbm, 158, rfl⟩
abbrev main_call5_v5 : Ref sig .tc := ⟨.hbm, 159, rfl⟩
abbrev main_v93 : Ref sig .tc := ⟨.hbm, 160, rfl⟩
abbrev main_v94 : Ref sig .tc := ⟨.hbm, 161, rfl⟩
abbrev main_v95 : Ref sig .tc := ⟨.hbm, 162, rfl⟩
abbrev main_v96 : Ref sig .tc := ⟨.hbm, 163, rfl⟩
abbrev main_v97 : Ref sig .tc := ⟨.hbm, 164, rfl⟩
abbrev main_cst_9 : Ref sig .tc := ⟨.hbm, 165, rfl⟩
abbrev main_v98 : Ref sig .tc := ⟨.hbm, 166, rfl⟩
abbrev main_v99 : Ref sig .tc := ⟨.hbm, 167, rfl⟩
abbrev main_cst_10 : Ref sig .tc := ⟨.hbm, 168, rfl⟩
abbrev main_v100 : Ref sig .tc := ⟨.hbm, 169, rfl⟩
abbrev main_v101 : Ref sig .tc := ⟨.hbm, 170, rfl⟩
abbrev main_v102 : Ref sig .tc := ⟨.hbm, 171, rfl⟩
abbrev main_v103 : Ref sig .tc := ⟨.hbm, 172, rfl⟩
abbrev main_v104 : Ref sig .tc := ⟨.hbm, 173, rfl⟩
abbrev main_v105 : Ref sig .tc := ⟨.hbm, 174, rfl⟩
abbrev main_v106 : Ref sig .tc := ⟨.hbm, 175, rfl⟩
abbrev main_v107 : Ref sig .tc := ⟨.hbm, 176, rfl⟩
abbrev main_cst_11 : Ref sig .tc := ⟨.hbm, 177, rfl⟩
abbrev main_v108 : Ref sig .tc := ⟨.hbm, 178, rfl⟩
abbrev main_v109 : Ref sig .tc := ⟨.hbm, 179, rfl⟩
abbrev main_cst_12 : Ref sig .tc := ⟨.hbm, 180, rfl⟩
abbrev main_v110 : Ref sig .tc := ⟨.hbm, 181, rfl⟩
abbrev main_v111 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_v115 : Ref sig .tc := ⟨.hbm, 186, rfl⟩
abbrev main_v116 : Ref sig .tc := ⟨.hbm, 187, rfl⟩
abbrev main_v117 : Ref sig .tc := ⟨.hbm, 188, rfl⟩
abbrev main_v118 : Ref sig .tc := ⟨.hbm, 189, rfl⟩
abbrev main_cst_13 : Ref sig .tc := ⟨.hbm, 190, rfl⟩
abbrev main_v119 : Ref sig .tc := ⟨.hbm, 191, rfl⟩
abbrev main_v120 : Ref sig .tc := ⟨.hbm, 192, rfl⟩
abbrev main_cst_14 : Ref sig .tc := ⟨.hbm, 193, rfl⟩
abbrev main_v121 : Ref sig .tc := ⟨.hbm, 194, rfl⟩
abbrev main_v122 : Ref sig .tc := ⟨.hbm, 195, rfl⟩
abbrev main_v123 : Ref sig .tc := ⟨.hbm, 196, rfl⟩
abbrev main_v124 : Ref sig .tc := ⟨.hbm, 197, rfl⟩
abbrev main_v125 : Ref sig .tc := ⟨.hbm, 198, rfl⟩
abbrev main_v126 : Ref sig .tc := ⟨.hbm, 199, rfl⟩
abbrev main_v127 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_v131 : Ref sig .tc := ⟨.hbm, 204, rfl⟩
abbrev main_v132 : Ref sig .tc := ⟨.hbm, 205, rfl⟩
abbrev main_v133 : Ref sig .tc := ⟨.hbm, 206, rfl⟩
abbrev main_v134 : Ref sig .tc := ⟨.hbm, 207, rfl⟩
abbrev main_v135 : Ref sig .tc := ⟨.hbm, 208, rfl⟩
abbrev main_v136 : Ref sig .tc := ⟨.hbm, 209, rfl⟩
abbrev main_v137 : Ref sig .tc := ⟨.hbm, 210, rfl⟩
abbrev main_v138 : Ref sig .tc := ⟨.hbm, 211, rfl⟩
abbrev main_v139 : Ref sig .tc := ⟨.hbm, 212, rfl⟩
abbrev main_v140 : Ref sig .tc := ⟨.hbm, 213, rfl⟩
abbrev main_v141 : Ref sig .tc := ⟨.hbm, 214, rfl⟩
abbrev main_v142 : Ref sig .tc := ⟨.hbm, 215, rfl⟩
abbrev main_v143 : Ref sig .tc := ⟨.hbm, 216, rfl⟩
abbrev main_v144 : Ref sig .tc := ⟨.hbm, 217, rfl⟩
abbrev main_v145 : Ref sig .tc := ⟨.hbm, 218, rfl⟩
abbrev main_v146 : Ref sig .tc := ⟨.hbm, 219, rfl⟩
abbrev main_v147 : Ref sig .tc := ⟨.hbm, 220, rfl⟩
abbrev main_v148 : Ref sig .tc := ⟨.hbm, 221, rfl⟩
abbrev main_v149 : Ref sig .tc := ⟨.hbm, 222, rfl⟩
abbrev main_v150 : Ref sig .tc := ⟨.hbm, 223, rfl⟩
abbrev main_v151 : Ref sig .tc := ⟨.hbm, 224, rfl⟩
abbrev main_v152 : Ref sig .tc := ⟨.hbm, 225, rfl⟩
abbrev main_v153 : Ref sig .tc := ⟨.hbm, 226, rfl⟩
abbrev main_v154 : Ref sig .tc := ⟨.hbm, 227, rfl⟩
abbrev main_v155 : Ref sig .tc := ⟨.hbm, 228, rfl⟩
abbrev main_v156 : Ref sig .tc := ⟨.hbm, 229, rfl⟩
abbrev main_v157 : Ref sig .tc := ⟨.hbm, 230, rfl⟩
abbrev main_v158 : Ref sig .tc := ⟨.hbm, 231, rfl⟩
abbrev main_v159 : Ref sig .tc := ⟨.hbm, 232, rfl⟩
abbrev main_v160 : Ref sig .tc := ⟨.hbm, 233, rfl⟩
abbrev main_v161 : Ref sig .tc := ⟨.hbm, 234, rfl⟩
abbrev main_v162 : Ref sig .tc := ⟨.hbm, 235, rfl⟩
abbrev main_v163 : Ref sig .tc := ⟨.hbm, 236, rfl⟩
abbrev main_v164 : Ref sig .tc := ⟨.hbm, 237, rfl⟩
abbrev main_v165 : Ref sig .tc := ⟨.hbm, 238, rfl⟩
abbrev main_v166 : Ref sig .tc := ⟨.hbm, 239, rfl⟩
abbrev main_v167 : Ref sig .tc := ⟨.hbm, 240, rfl⟩
abbrev main_v168 : Ref sig .tc := ⟨.hbm, 241, rfl⟩
abbrev main_v169 : Ref sig .tc := ⟨.hbm, 242, rfl⟩
abbrev main_v170 : Ref sig .tc := ⟨.hbm, 243, rfl⟩
abbrev main_v171 : Ref sig .tc := ⟨.hbm, 244, rfl⟩
abbrev main_v172 : Ref sig .tc := ⟨.hbm, 245, rfl⟩
abbrev main_v173 : Ref sig .tc := ⟨.hbm, 246, rfl⟩
abbrev main_cst_15 : Ref sig .tc := ⟨.hbm, 247, rfl⟩
abbrev main_v174 : Ref sig .tc := ⟨.hbm, 248, rfl⟩
abbrev main_v175 : Ref sig .tc := ⟨.hbm, 249, rfl⟩
abbrev main_cst_16 : Ref sig .tc := ⟨.hbm, 250, rfl⟩
abbrev main_v176 : Ref sig .tc := ⟨.hbm, 251, rfl⟩
abbrev main_v177 : Ref sig .tc := ⟨.hbm, 252, rfl⟩
abbrev main_v178 : Ref sig .tc := ⟨.hbm, 253, rfl⟩
abbrev main_v179 : Ref sig .tc := ⟨.hbm, 254, rfl⟩
abbrev main_v180 : Ref sig .tc := ⟨.hbm, 255, rfl⟩
abbrev main_v181 : Ref sig .tc := ⟨.hbm, 256, rfl⟩
abbrev main_v182 : Ref sig .tc := ⟨.hbm, 257, rfl⟩
abbrev main_v183 : Ref sig .tc := ⟨.hbm, 258, rfl⟩
abbrev main_v184 : Ref sig .tc := ⟨.hbm, 259, rfl⟩
abbrev main_v185 : Ref sig .tc := ⟨.hbm, 260, rfl⟩
abbrev main_v186 : Ref sig .tc := ⟨.hbm, 261, rfl⟩
abbrev main_v187 : Ref sig .tc := ⟨.hbm, 262, rfl⟩
abbrev main_v188 : Ref sig .tc := ⟨.hbm, 263, rfl⟩
abbrev main_v189 : Ref sig .tc := ⟨.hbm, 264, rfl⟩
abbrev main_v190 : Ref sig .tc := ⟨.hbm, 265, rfl⟩
abbrev main_v191 : Ref sig .tc := ⟨.hbm, 266, rfl⟩
abbrev main_v192 : Ref sig .tc := ⟨.hbm, 267, rfl⟩
abbrev main_v193 : Ref sig .tc := ⟨.hbm, 268, rfl⟩
abbrev main_v194 : Ref sig .tc := ⟨.hbm, 269, rfl⟩
abbrev main_v195 : Ref sig .tc := ⟨.hbm, 270, rfl⟩
abbrev main_v196 : Ref sig .tc := ⟨.hbm, 271, rfl⟩
abbrev main_v197 : Ref sig .tc := ⟨.hbm, 272, rfl⟩
abbrev main_v198 : Ref sig .tc := ⟨.hbm, 273, rfl⟩
abbrev main_v199 : Ref sig .tc := ⟨.hbm, 274, rfl⟩
abbrev main_v200 : Ref sig .tc := ⟨.hbm, 275, rfl⟩
abbrev main_v201 : Ref sig .tc := ⟨.hbm, 276, rfl⟩
abbrev main_v202 : Ref sig .tc := ⟨.hbm, 277, rfl⟩
abbrev main_v203 : Ref sig .tc := ⟨.hbm, 278, rfl⟩
abbrev main_v204 : Ref sig .tc := ⟨.hbm, 279, rfl⟩
abbrev main_v205 : Ref sig .tc := ⟨.hbm, 280, rfl⟩
abbrev main_v206 : Ref sig .tc := ⟨.hbm, 281, rfl⟩
abbrev main_v207 : Ref sig .tc := ⟨.hbm, 282, rfl⟩
abbrev main_v208 : Ref sig .tc := ⟨.hbm, 283, rfl⟩
abbrev main_v209 : Ref sig .tc := ⟨.hbm, 284, rfl⟩
abbrev main_v210 : Ref sig .tc := ⟨.hbm, 285, rfl⟩
abbrev main_v211 : Ref sig .tc := ⟨.hbm, 286, rfl⟩
abbrev main_v212 : Ref sig .tc := ⟨.hbm, 287, rfl⟩
abbrev main_v213 : Ref sig .tc := ⟨.hbm, 288, rfl⟩
abbrev main_v214 : Ref sig .tc := ⟨.hbm, 289, rfl⟩
abbrev main_v215 : Ref sig .tc := ⟨.hbm, 290, rfl⟩
abbrev main_v216 : Ref sig .tc := ⟨.hbm, 291, rfl⟩
abbrev main_v217 : Ref sig .tc := ⟨.hbm, 292, rfl⟩
abbrev main_v218 : Ref sig .tc := ⟨.hbm, 293, rfl⟩
abbrev main_v219 : Ref sig .tc := ⟨.hbm, 294, rfl⟩
abbrev main_v220 : Ref sig .tc := ⟨.hbm, 295, rfl⟩
abbrev main_v221 : Ref sig .tc := ⟨.hbm, 296, rfl⟩
abbrev main_v222 : Ref sig .tc := ⟨.hbm, 297, rfl⟩
abbrev main_v223 : Ref sig .tc := ⟨.hbm, 298, rfl⟩
abbrev main_v224 : Ref sig .tc := ⟨.hbm, 299, rfl⟩
abbrev main_v225 : Ref sig .tc := ⟨.hbm, 300, rfl⟩
abbrev main_v226 : Ref sig .tc := ⟨.hbm, 301, rfl⟩
abbrev main_cst_17 : Ref sig .tc := ⟨.hbm, 302, rfl⟩
abbrev main_v227 : Ref sig .tc := ⟨.hbm, 303, rfl⟩
abbrev main_v228 : Ref sig .tc := ⟨.hbm, 304, rfl⟩
abbrev main_v229 : Ref sig .tc := ⟨.hbm, 305, rfl⟩
abbrev main_v230 : Ref sig .tc := ⟨.hbm, 306, rfl⟩
abbrev main_v231 : Ref sig .tc := ⟨.hbm, 307, rfl⟩
abbrev main_v232 : Ref sig .tc := ⟨.hbm, 308, rfl⟩
abbrev main_v233 : Ref sig .tc := ⟨.hbm, 309, rfl⟩
abbrev main_v234 : Ref sig .tc := ⟨.hbm, 310, rfl⟩
abbrev main_v235 : Ref sig .tc := ⟨.hbm, 311, rfl⟩
abbrev main_v236 : Ref sig .tc := ⟨.hbm, 312, rfl⟩
abbrev main_v237 : Ref sig .tc := ⟨.hbm, 313, rfl⟩

abbrev nD : Nat := 1
abbrev τ : Topo := Topo.v7x

variable {F : FTy → Type} [FloatOps F]
-- ==== Proof.Attn.Soft.lean ====
/- The softmax over the reals: what a row of scores, some of them minus infinity, weighs. -/
module

public import Idealize.ShloMosaic.Lib.Pointwise

@[expose] public section

noncomputable section

namespace Cert.Attn

open Idealize.ShloMosaic

/-- The word of minus infinity is `⊥`. -/
theorem ofBits_neg_inf : Ideal.ofBits FTy.f32 4286578688#32 = ⊥ := by
  simp [Ideal.ofBits, Ideal.ieee]

/-- The score `s` weighs `w` before the division: nothing at minus infinity, its exponential otherwise. -/
def HasW (s : EReal) (w : ℝ) : Prop := (s = ⊥ ∧ w = 0) ∨ ∃ t : ℝ, s = t ∧ w = Real.exp t

theorem HasW.nonneg {s : EReal} {w : ℝ} (h : HasW s w) : 0 ≤ w := by
  rcases h with ⟨_, rfl⟩ | ⟨t, _, rfl⟩
  · exact le_rfl
  · exact (Real.exp_pos t).le

theorem hasW_coe (t : ℝ) : HasW (t : EReal) (Real.exp t) := Or.inr ⟨t, rfl, rfl⟩
theorem hasW_bot : HasW ⊥ 0 := Or.inl ⟨rfl, rfl⟩

/-- Subtracting a real number before the exponential divides the weight. -/
theorem exp_sub {s : EReal} {w : ℝ} (h : HasW s w) (M : ℝ) : Ideal.exp (s - (M : EReal)) = ((w * Real.exp (-M) : ℝ) : EReal) := by
  rcases h with ⟨rfl, rfl⟩ | ⟨t, rfl, rfl⟩
  · rw [show (⊥ : EReal) - (M : EReal) = ⊥ from EReal.bot_sub _, zero_mul]; rfl
  · rw [← EReal.coe_sub, ← Real.exp_add, ← sub_eq_add_neg]; rfl

theorem fold_real {n : Nat} (S : Fin n → EReal) (w : Fin n → ℝ) (h : ∀ x, HasW (S x) (w x)) (hp : ∃ x, S x ≠ ⊥) :
    ∃ M : ℝ, Finset.fold max (Ideal.ofBits FTy.f32 4286578688#32) S Finset.univ = M := by
  rw [ofBits_neg_inf]
  have h1 : Finset.fold max ⊥ S Finset.univ ≠ ⊥ := by
    obtain ⟨x, hx⟩ := hp
    intro e
    have := (Finset.fold_max_le (s := Finset.univ) (f := S) (b := ⊥) ⊥).1 e.le
    exact hx (le_bot_iff.1 (this.2 x (Finset.mem_univ x)))
  have h2 : Finset.fold max ⊥ S Finset.univ ≠ ⊤ := by
    refine ne_of_lt ((Finset.fold_max_lt (s := Finset.univ) (f := S) (b := ⊥) ⊤).2 ⟨bot_lt_top, fun x _ => ?_⟩)
    rcases h x with ⟨e, _⟩ | ⟨t, e, _⟩
    · rw [e]; exact bot_lt_top
    · rw [e]; exact EReal.coe_lt_top t
  exact ⟨_, (EReal.coe_toReal h2 h1).symm⟩

/-- Some score is real, at worst minus infinity for all of a row: the row's maximum. -/
theorem fold_bot_or_real {n : Nat} (S : Fin n → EReal) (w : Fin n → ℝ) (h : ∀ x, HasW (S x) (w x)) :
    Finset.fold max (Ideal.ofBits FTy.f32 4286578688#32) S Finset.univ = ⊥
      ∨ ∃ M : ℝ, Finset.fold max (Ideal.ofBits FTy.f32 4286578688#32) S Finset.univ = M := by
  by_cases hp : ∃ x, S x ≠ ⊥
  · exact Or.inr (fold_real S w h hp)
  · refine Or.inl (le_bot_iff.1 ?_)
    rw [ofBits_neg_inf]
    exact (Finset.fold_max_le (s := Finset.univ) (f := S) (b := ⊥) ⊥).2 ⟨le_rfl, fun x _ => (not_not.1 (not_exists.1 hp x)).le⟩

/-- The division of real numbers, the divisor not zero. -/
theorem div_real (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

theorem coe_sum {n : Nat} (f : Fin n → ℝ) : (∑ x, ((f x : ℝ) : EReal)) = ((∑ x, f x : ℝ) : EReal) := by
  induction (Finset.univ : Finset (Fin n)) using Finset.induction_on with
  | empty => simp
  | insert a s ha ih => rw [Finset.sum_insert ha, Finset.sum_insert ha, ih, EReal.coe_add]

theorem sum_eq {n : Nat} (f : Fin n → EReal) (g : Fin n → ℝ) (h : ∀ x, f x = ((g x : ℝ) : EReal)) :
    (∑ x, f x) = ((∑ x, g x : ℝ) : EReal) := by
  rw [Finset.sum_congr rfl fun x _ => h x, coe_sum]

/-- The kernel's block for one query and one channel: two rows of scores under one maximum, the division at the end. -/
def att {n k : Nat} (s1 v1 : Fin n → EReal) (s2 v2 : Fin k → EReal) : EReal :=
  let m := max (Finset.fold max (Ideal.ofBits FTy.f32 4286578688#32) s1 Finset.univ) (Finset.fold max (Ideal.ofBits FTy.f32 4286578688#32) s2 Finset.univ)
  Ideal.div ((∑ x, Ideal.exp (s1 x - m) * v1 x) + ∑ x, Ideal.exp (s2 x - m) * v2 x)
    ((∑ x, Ideal.exp (s1 x - m)) + ∑ x, Ideal.exp (s2 x - m))

theorem att_eq {n k : Nat} (s1 v1 : Fin n → EReal) (s2 v2 : Fin (k + 1) → EReal) (w1 u1 : Fin n → ℝ) (t2 u2 : Fin (k + 1) → ℝ)
    (h1 : ∀ x, HasW (s1 x) (w1 x)) (h2 : ∀ x, s2 x = (t2 x : EReal)) (g1 : ∀ x, v1 x = (u1 x : EReal)) (g2 : ∀ x, v2 x = (u2 x : EReal)) :
    att s1 v1 s2 v2 = (((∑ x, w1 x * u1 x + ∑ x, Real.exp (t2 x) * u2 x) / (∑ x, w1 x + ∑ x, Real.exp (t2 x)) : ℝ) : EReal) := by
  have h2' : ∀ x, HasW (s2 x) (Real.exp (t2 x)) := fun x => by rw [h2 x]; exact hasW_coe _
  obtain ⟨M2, hM2⟩ := fold_real s2 _ h2' ⟨0, by rw [h2 0]; exact EReal.coe_ne_bot _⟩
  obtain ⟨M, hM⟩ : ∃ M : ℝ, max (Finset.fold max (Ideal.ofBits FTy.f32 4286578688#32) s1 Finset.univ)
      (Finset.fold max (Ideal.ofBits FTy.f32 4286578688#32) s2 Finset.univ) = M := by
    rcases fold_bot_or_real s1 _ h1 with e | ⟨M1, e⟩
    · exact ⟨M2, by rw [e, hM2]; exact max_eq_right bot_le⟩
    · exact ⟨max M1 M2, by rw [e, hM2]; exact (EReal.coe_strictMono.monotone.map_max (a := M1) (b := M2)).symm⟩
  unfold att
  simp only [hM]
  have e1 : ∀ x, Ideal.exp (s1 x - (M : EReal)) = ((w1 x * Real.exp (-M) : ℝ) : EReal) := fun x => exp_sub (h1 x) M
  have e2 : ∀ x, Ideal.exp (s2 x - (M : EReal)) = ((Real.exp (t2 x) * Real.exp (-M) : ℝ) : EReal) := fun x => exp_sub (h2' x) M
  rw [sum_eq _ (fun x => w1 x * Real.exp (-M) * u1 x) (fun x => by rw [e1, g1, ← EReal.coe_mul]),
    sum_eq _ (fun x => Real.exp (t2 x) * Real.exp (-M) * u2 x) (fun x => by rw [e2, g2, ← EReal.coe_mul]),
    sum_eq _ _ e1, sum_eq _ _ e2, ← EReal.coe_add, ← EReal.coe_add]
  have p1 : 0 ≤ ∑ x, w1 x := Finset.sum_nonneg fun x _ => (h1 x).nonneg
  have p2 : 0 < ∑ x, Real.exp (t2 x) := Finset.sum_pos (fun x _ => Real.exp_pos _) ⟨0, Finset.mem_univ _⟩
  have q : (∑ x, w1 x * Real.exp (-M)) + ∑ x, Real.exp (t2 x) * Real.exp (-M) = (∑ x, w1 x + ∑ x, Real.exp (t2 x)) * Real.exp (-M) := by
    rw [add_mul, Finset.sum_mul, Finset.sum_mul]
  have q' : (∑ x, w1 x * Real.exp (-M) * u1 x) + ∑ x, Real.exp (t2 x) * Real.exp (-M) * u2 x
      = (∑ x, w1 x * u1 x + ∑ x, Real.exp (t2 x) * u2 x) * Real.exp (-M) := by
    rw [add_mul, Finset.sum_mul, Finset.sum_mul]
    exact congrArg₂ _ (Finset.sum_congr rfl fun x _ => by ring) (Finset.sum_congr rfl fun x _ => by ring)
  have p3 := Real.exp_pos (-M)
  rw [q, q', div_real _ _ (by positivity)]
  exact congrArg _ (mul_div_mul_right _ _ p3.ne')

/-- A numerator of the softmax of the row `S`, as the reference forms it. -/
def softE {n : Nat} (S : Fin n → EReal) (x : Fin n) : EReal :=
  Ideal.exp (S x - max (Ideal.ofBits FTy.f32 4286578688#32) (Finset.fold max (Ideal.ofBits FTy.f32 4286578688#32) S Finset.univ))

/-- A weight of the softmax of the row `S`. -/
def softW {n : Nat} (S : Fin n → EReal) (x : Fin n) : EReal := Ideal.div (softE S x) (∑ y, softE S y)

theorem softW_eq {n : Nat} (S : Fin n → EReal) (w : Fin n → ℝ) (h : ∀ x, HasW (S x) (w x)) (hp : 0 < ∑ y, w y) (x : Fin n) :
    softW S x = ((w x / ∑ y, w y : ℝ) : EReal) := by
  have hp' : ∃ x, S x ≠ ⊥ := by
    by_contra hc
    refine hp.ne' (Finset.sum_eq_zero fun y _ => ?_)
    rcases h y with ⟨_, e⟩ | ⟨t, e, _⟩
    · exact e
    · exact absurd (not_not.1 (not_exists.1 hc y)) (by rw [e]; exact EReal.coe_ne_bot t)
  obtain ⟨M, hM⟩ := fold_real S w h hp'
  have e : ∀ x, softE S x = ((w x * Real.exp (-M) : ℝ) : EReal) := fun x => by
    unfold softE
    rw [hM, ofBits_neg_inf, max_eq_right bot_le]
    exact exp_sub (h x) M
  unfold softW
  rw [e, sum_eq _ _ e, ← Finset.sum_mul]
  have p3 := Real.exp_pos (-M)
  rw [div_real _ _ (by positivity)]
  exact congrArg _ (mul_div_mul_right _ _ p3.ne')

end Cert.Attn

end
-- ==== Proof.Attn.Body.lean ====
/- One block of the attention kernel's body: 256 queries against their 768 window keys and the 256 context keys. -/
module

public import proofs.«01_k».proof.Proof.Gen.KernelIdeal.Skeleton
public import proofs.«01_k».proof.Proof.Attn.Soft
public import Idealize.ShloMosaic.Lib.Pointwise

@[expose] public section

set_option maxRecDepth 16384

noncomputable section

namespace Cert.Attn

open Cert.KernelIdeal Cert.KernelIdeal.Gen Idealize.ShloMosaic

/-- What a block of latent queries stores. -/
def blk (q kc vc : FVec Ideal S1x256x128 .bf16) (kw vw : FVec Ideal S1x768x128 .bf16) (b : FVec Ideal S1x1x256x768 .f32) :
    FVec Ideal S1x256x128 .f32 :=
  k0_pay1 (k0_pay3 vc) (k0_pay50 (k0_pay48 q) (Scalar.ofBits .f32 0x3DB504F3#32) kw b)
    (k0_pay51 (k0_pay2 kc) (k0_pay48 q) (Scalar.ofBits .f32 0x3DB504F3#32)) vw

/-- A score of the kernel: the query is scaled before the product. -/
def kscore (q k : Fin 128 → EReal) : EReal := ∑ e, q e * Ideal.ofBits FTy.f32 1035273459#32 * k e

theorem blk_apply (q kc vc : FVec Ideal S1x256x128 .bf16) (kw vw : FVec Ideal S1x768x128 .bf16) (b : FVec Ideal S1x1x256x768 .f32)
    (y : Fin 256) (d : Fin 128) : blk q kc vc kw vw b (ix3 0 y d) =
      att (fun x : Fin 768 => kscore (fun e => q (ix3 0 y e)) (fun e => kw (ix3 0 x e)) + b (ix4 0 0 y x)) (fun x => vw (ix3 0 x d))
        (fun x : Fin 256 => kscore (fun e => q (ix3 0 y e)) (fun e => kc (ix3 0 x e))) (fun x => vc (ix3 0 x d)) := by
  unfold blk
  pointwise [k0_pay1, k0_pay3, k0_pay50, k0_pay49, k0_pay48, k0_pay51, k0_pay2]
  unfold att kscore
  with_reducible rfl

end Cert.Attn

end
-- ==== Proof.Attn.Pieces.lean ====
/- The attention kernel's result block, read at a token. -/
module

public import proofs.«01_k».proof.Proof.Gen.KernelIdeal.Frame
public import proofs.«01_k».proof.Proof.Attn.Body
public import Idealize.ShloMosaic.Lib.Pipeline.ValueKit
public import Idealize.ShloMosaic.Lib.Pipeline.ValueKit.Point

@[expose] public section

set_option maxRecDepth 16384

noncomputable section

namespace Cert.Attn

open Cert.KernelIdeal Cert.KernelIdeal.Gen Idealize.ShloMosaic

/-- The tile of 256 tokens at which the keys of query tile `j` of the image begin. -/
def kt (j : Nat) : Nat := max 1 (min j 6)

/-- The key token at place `x` of query tile `j`'s 768 keys. -/
def keyTk (j : Fin 8) (x : Fin 768) : Fin 2304 := ⟨256 * kt j.val + x.val, by unfold kt; omega⟩

/-- The token at place `y` of query tile `j`. -/
def qryTk (j : Fin 8) (y : Fin 256) : Fin 2304 := ⟨256 * (j.val + 1) + y.val, by omega⟩

/-- The context token at place `x`. -/
def ctxTk (x : Fin 256) : Fin 2304 := ⟨x.val, by omega⟩

/-- Which of the three tables of the bias query tile `j` reads. -/
def var (j : Fin 8) : Fin 3 := if j.val = 0 then 0 else if j.val = 7 then 2 else 1

variable (x0 x1 x2 : Vec Ideal S1x2304x128 .bf16) (x3 : Vec Ideal S1x3x256x768 .f32)

/-- The result at place `y` of query tile `j`. -/
def latV (j : Fin 8) (y : Fin 256) (d : Fin 128) : EReal :=
  att (fun x : Fin 768 => kscore (fun e => x0 (ix3 0 (qryTk j y) e)) (fun e => x1 (ix3 0 (keyTk j x) e)) + x3 (ix4 0 (var j) y x))
    (fun x => x2 (ix3 0 (keyTk j x) d))
    (fun x : Fin 256 => kscore (fun e => x0 (ix3 0 (qryTk j y) e)) (fun e => x1 (ix3 0 (ctxTk x) e))) (fun x => x2 (ix3 0 (ctxTk x) d))

/-- The kernel's context block for one query and one channel: a row of scores under its maximum, the division at the end. -/
def attC {k : Nat} (s v : Fin k → EReal) : EReal :=
  let m := Finset.fold max (Ideal.ofBits FTy.f32 4286578688#32) s Finset.univ
  Ideal.div (∑ x, Ideal.exp (s x - m) * v x) (∑ x, Ideal.exp (s x - m))

/-- The result at a context token. -/
def ctxV (y : Fin 256) (d : Fin 128) : EReal :=
  attC (fun x : Fin 256 => kscore (fun e => x0 (ix3 0 (ctxTk y) e)) (fun e => x1 (ix3 0 (ctxTk x) e))) (fun x => x2 (ix3 0 (ctxTk x) d))

/-- The result at any token. -/
def allV (T : Fin 2304) (d : Fin 128) : EReal :=
  if h : T.val < 256 then ctxV x0 x1 x2 ⟨T.val, h⟩ d else latV x0 x1 x2 x3 ⟨(T.val - 256) / 256, by omega⟩ ⟨(T.val - 256) % 256, by omega⟩ d

theorem allV_ctx (y : Fin 256) (d : Fin 128) : allV x0 x1 x2 x3 (ctxTk y) d = ctxV x0 x1 x2 y d := by
  unfold allV
  rw [dif_pos (show (ctxTk y).val < 256 from y.isLt)]
  rfl

theorem allV_lat (j : Fin 8) (y : Fin 256) (d : Fin 128) : allV x0 x1 x2 x3 (qryTk j y) d = latV x0 x1 x2 x3 j y d := by
  unfold allV
  rw [dif_neg (show ¬ (qryTk j y).val < 256 by show ¬ (256 * (j.val + 1) + y.val < 256); omega)]
  have e1 : (⟨((qryTk j y).val - 256) / 256, by have := (qryTk j y).isLt; omega⟩ : Fin 8) = j :=
    Fin.ext (by show (256 * (j.val + 1) + y.val - 256) / 256 = j.val; omega)
  have e2 : (⟨((qryTk j y).val - 256) % 256, by omega⟩ : Fin 256) = y :=
    Fin.ext (by show (256 * (j.val + 1) + y.val - 256) % 256 = y.val; omega)
  rw [e1, e2]

theorem att_congr {n k : Nat} {s1 s1' v1 v1' : Fin n → EReal} {s2 s2' v2 v2' : Fin k → EReal} (h1 : ∀ x, s1 x = s1' x) (h2 : ∀ x, v1 x = v1' x)
    (h3 : ∀ x, s2 x = s2' x) (h4 : ∀ x, v2 x = v2' x) : att s1 v1 s2 v2 = att s1' v1' s2' v2' := by
  rw [funext h1, funext h2, funext h3, funext h4]

theorem kscore_congr {q q' k k' : Fin 128 → EReal} (h1 : ∀ x, q x = q' x) (h2 : ∀ x, k x = k' x) : kscore q k = kscore q' k' := by
  rw [funext h1, funext h2]

theorem ld_ctx (x : Fin 256) (e : Fin 128) : View.ld x1 r0_0 (ix3 0 x e) = x1 (ix3 0 (ctxTk x) e) :=
  View.ld_unit_apply_of x1 _ _ _ _ _ fun a => match a with
    | 0 => rfl
    | 1 => (Nat.zero_add _).symm
    | 2 => (Nat.zero_add _).symm

theorem ld_q0 (x : Fin 256) (e : Fin 128) : View.ld x0 r0_1 (ix3 0 x e) = x0 (ix3 0 (qryTk 0 x) e) :=
  View.ld_unit_apply_of x0 _ _ _ _ _ fun a => match a with
    | 0 => rfl
    | 1 => rfl
    | 2 => (Nat.zero_add _).symm
theorem ld_k0 (x : Fin 768) (e : Fin 128) : View.ld x1 r0_2 (ix3 0 x e) = x1 (ix3 0 (keyTk 0 x) e) :=
  View.ld_unit_apply_of x1 _ _ _ _ _ fun a => match a with
    | 0 => rfl
    | 1 => rfl
    | 2 => (Nat.zero_add _).symm
theorem ld_b0 (y : Fin 256) (x : Fin 768) : View.ld x3 r0_3 (ix4 0 0 y x) = x3 (ix4 0 (var 0) y x) :=
  View.ld_unit_apply_of x3 _ _ _ _ _ fun a => match a with
    | 0 => rfl
    | 1 => rfl
    | 2 => (Nat.zero_add _).symm
    | 3 => (Nat.zero_add _).symm
/-- What query tile 0 stores. -/
theorem blk0 (y : Fin 256) (d : Fin 128) :
    blk (View.ld x0 r0_1) (View.ld x1 r0_0) (View.ld x2 r0_0) (View.ld x1 r0_2) (View.ld x2 r0_2) (View.ld x3 r0_3) (ix3 0 y d)
      = latV x0 x1 x2 x3 0 y d := by
  refine (blk_apply _ _ _ _ _ _ y d).trans (att_congr (fun x => ?_) (fun x => ld_k0 x2 x d) (fun x => ?_) (fun x => ld_ctx x2 x d))
  · exact congrArg₂ (fun a b : EReal => a + b) (kscore_congr (fun e => ld_q0 x0 y e) (fun e => ld_k0 x1 x e)) (ld_b0 x3 y x)
  · exact kscore_congr (fun e => ld_q0 x0 y e) (fun e => ld_ctx x1 x e)

theorem ld_q1 (x : Fin 256) (e : Fin 128) : View.ld x0 r0_4 (ix3 0 x e) = x0 (ix3 0 (qryTk 1 x) e) :=
  View.ld_unit_apply_of x0 _ _ _ _ _ fun a => match a with
    | 0 => rfl
    | 1 => rfl
    | 2 => (Nat.zero_add _).symm
theorem ld_k1 (x : Fin 768) (e : Fin 128) : View.ld x1 r0_2 (ix3 0 x e) = x1 (ix3 0 (keyTk 1 x) e) :=
  View.ld_unit_apply_of x1 _ _ _ _ _ fun a => match a with
    | 0 => rfl
    | 1 => rfl
    | 2 => (Nat.zero_add _).symm
theorem ld_b1 (y : Fin 256) (x : Fin 768) : View.ld x3 r0_5 (ix4 0 0 y x) = x3 (ix4 0 (var 1) y x) :=
  View.ld_unit_apply_of x3 _ _ _ _ _ fun a => match a with
    | 0 => rfl
    | 1 => rfl
    | 2 => (Nat.zero_add _).symm
    | 3 => (Nat.zero_add _).symm
/-- What query tile 1 stores. -/
theorem blk1 (y : Fin 256) (d : Fin 128) :
    blk (View.ld x0 r0_4) (View.ld x1 r0_0) (View.ld x2 r0_0) (View.ld x1 r0_2) (View.ld x2 r0_2) (View.ld x3 r0_5) (ix3 0 y d)
      = latV x0 x1 x2 x3 1 y d := by
  refine (blk_apply _ _ _ _ _ _ y d).trans (att_congr (fun x => ?_) (fun x => ld_k1 x2 x d) (fun x => ?_) (fun x => ld_ctx x2 x d))
  · exact congrArg₂ (fun a b : EReal => a + b) (kscore_congr (fun e => ld_q1 x0 y e) (fun e => ld_k1 x1 x e)) (ld_b1 x3 y x)
  · exact kscore_congr (fun e => ld_q1 x0 y e) (fun e => ld_ctx x1 x e)

theorem ld_q2 (x : Fin 256) (e : Fin 128) : View.ld x0 r0_6 (ix3 0 x e) = x0 (ix3 0 (qryTk 2 x) e) :=
  View.ld_unit_apply_of x0 _ _ _ _ _ fun a => match a with
    | 0 => rfl
    | 1 => rfl
    | 2 => (Nat.zero_add _).symm
theorem ld_k2 (x : Fin 768) (e : Fin 128) : View.ld x1 r0_7 (ix3 0 x e) = x1 (ix3 0 (keyTk 2 x) e) :=
  View.ld_unit_apply_of x1 _ _ _ _ _ fun a => match a with
    | 0 => rfl
    | 1 => rfl
    | 2 => (Nat.zero_add _).symm
theorem ld_b2 (y : Fin 256) (x : Fin 768) : View.ld x3 r0_5 (ix4 0 0 y x) = x3 (ix4 0 (var 2) y x) :=
  View.ld_unit_apply_of x3 _ _ _ _ _ fun a => match a with
    | 0 => rfl
    | 1 => rfl
    | 2 => (Nat.zero_add _).symm
    | 3 => (Nat.zero_add _).symm
/-- What query tile 2 stores. -/
theorem blk2 (y : Fin 256) (d : Fin 128) :
    blk (View.ld x0 r0_6) (View.ld x1 r0_0) (View.ld x2 r0_0) (View.ld x1 r0_7) (View.ld x2 r0_7) (View.ld x3 r0_5) (ix3 0 y d)
      = latV x0 x1 x2 x3 2 y d := by
  refine (blk_apply _ _ _ _ _ _ y d).trans (att_congr (fun x => ?_) (fun x => ld_k2 x2 x d) (fun x => ?_) (fun x => ld_ctx x2 x d))
  · exact congrArg₂ (fun a b : EReal => a + b) (kscore_congr (fun e => ld_q2 x0 y e) (fun e => ld_k2 x1 x e)) (ld_b2 x3 y x)
  · exact kscore_congr (fun e => ld_q2 x0 y e) (fun e => ld_ctx x1 x e)

theorem ld_q3 (x : Fin 256) (e : Fin 128) : View.ld x0 r0_8 (ix3 0 x e) = x0 (ix3 0 (qryTk 3 x) e) :=
  View.ld_unit_apply_of x0 _ _ _ _ _ fun a => match a with
    | 0 => rfl
    | 1 => rfl
    | 2 => (Nat.zero_add _).symm
theorem ld_k3 (x : Fin 768) (e : Fin 128) : View.ld x1 r0_9 (ix3 0 x e) = x1 (ix3 0 (keyTk 3 x) e) :=
  View.ld_unit_apply_of x1 _ _ _ _ _ fun a => match a with
    | 0 => rfl
    | 1 => rfl
    | 2 => (Nat.zero_add _).symm
theorem ld_b3 (y : Fin 256) (x : Fin 768) : View.ld x3 r0_5 (ix4 0 0 y x) = x3 (ix4 0 (var 3) y x) :=
  View.ld_unit_apply_of x3 _ _ _ _ _ fun a => match a with
    | 0 => rfl
    | 1 => rfl
    | 2 => (Nat.zero_add _).symm
    | 3 => (Nat.zero_add _).symm
/-- What query tile 3 stores. -/
theorem blk3 (y : Fin 256) (d : Fin 128) :
    blk (View.ld x0 r0_8) (View.ld x1 r0_0) (View.ld x2 r0_0) (View.ld x1 r0_9) (View.ld x2 r0_9) (View.ld x3 r0_5) (ix3 0 y d)
      = latV x0 x1 x2 x3 3 y d := by
  refine (blk_apply _ _ _ _ _ _ y d).trans (att_congr (fun x => ?_) (fun x => ld_k3 x2 x d) (fun x => ?_) (fun x => ld_ctx x2 x d))
  · exact congrArg₂ (fun a b : EReal => a + b) (kscore_congr (fun e => ld_q3 x0 y e) (fun e => ld_k3 x1 x e)) (ld_b3 x3 y x)
  · exact kscore_congr (fun e => ld_q3 x0 y e) (fun e => ld_ctx x1 x e)

theorem ld_q4 (x : Fin 256) (e : Fin 128) : View.ld x0 r0_10 (ix3 0 x e) = x0 (ix3 0 (qryTk 4 x) e) :=
  View.ld_unit_apply_of x0 _ _ _ _ _ fun a => match a with
    | 0 => rfl
    | 1 => rfl
    | 2 => (Nat.zero_add _).symm
theorem ld_k4 (x : Fin 768) (e : Fin 128) : View.ld x1 r0_11 (ix3 0 x e) = x1 (ix3 0 (keyTk 4 x) e) :=
  View.ld_unit_apply_of x1 _ _ _ _ _ fun a => match a with
    | 0 => rfl
    | 1 => rfl
    | 2 => (Nat.zero_add _).symm
theorem ld_b4 (y : Fin 256) (x : Fin 768) : View.ld x3 r0_5 (ix4 0 0 y x) = x3 (ix4 0 (var 4) y x) :=
  View.ld_unit_apply_of x3 _ _ _ _ _ fun a => match a with
    | 0 => rfl
    | 1 => rfl
    | 2 => (Nat.zero_add _).symm
    | 3 => (Nat.zero_add _).symm
/-- What query tile 4 stores. -/
theorem blk4 (y : Fin 256) (d : Fin 128) :
    blk (View.ld x0 r0_10) (View.ld x1 r0_0) (View.ld x2 r0_0) (View.ld x1 r0_11) (View.ld x2 r0_11) (View.ld x3 r0_5) (ix3 0 y d)
      = latV x0 x1 x2 x3 4 y d := by
  refine (blk_apply _ _ _ _ _ _ y d).trans (att_congr (fun x => ?_) (fun x => ld_k4 x2 x d) (fun x => ?_) (fun x => ld_ctx x2 x d))
  · exact congrArg₂ (fun a b : EReal => a + b) (kscore_congr (fun e => ld_q4 x0 y e) (fun e => ld_k4 x1 x e)) (ld_b4 x3 y x)
  · exact kscore_congr (fun e => ld_q4 x0 y e) (fun e => ld_ctx x1 x e)

theorem ld_q5 (x : Fin 256) (e : Fin 128) : View.ld x0 r0_12 (ix3 0 x e) = x0 (ix3 0 (qryTk 5 x) e) :=
  View.ld_unit_apply_of x0 _ _ _ _ _ fun a => match a with
    | 0 => rfl
    | 1 => rfl
    | 2 => (Nat.zero_add _).symm
theorem ld_k5 (x : Fin 768) (e : Fin 128) : View.ld x1 r0_13 (ix3 0 x e) = x1 (ix3 0 (keyTk 5 x) e) :=
  View.ld_unit_apply_of x1 _ _ _ _ _ fun a => match a with
    | 0 => rfl
    | 1 => rfl
    | 2 => (Nat.zero_add _).symm
theorem ld_b5 (y : Fin 256) (x : Fin 768) : View.ld x3 r0_5 (ix4 0 0 y x) = x3 (ix4 0 (var 5) y x) :=
  View.ld_unit_apply_of x3 _ _ _ _ _ fun a => match a with
    | 0 => rfl
    | 1 => rfl
    | 2 => (Nat.zero_add _).symm
    | 3 => (Nat.zero_add _).symm
/-- What query tile 5 stores. -/
theorem blk5 (y : Fin 256) (d : Fin 128) :
    blk (View.ld x0 r0_12) (View.ld x1 r0_0) (View.ld x2 r0_0) (View.ld x1 r0_13) (View.ld x2 r0_13) (View.ld x3 r0_5) (ix3 0 y d)
      = latV x0 x1 x2 x3 5 y d := by
  refine (blk_apply _ _ _ _ _ _ y d).trans (att_congr (fun x => ?_) (fun x => ld_k5 x2 x d) (fun x => ?_) (fun x => ld_ctx x2 x d))
  · exact congrArg₂ (fun a b : EReal => a + b) (kscore_congr (fun e => ld_q5 x0 y e) (fun e => ld_k5 x1 x e)) (ld_b5 x3 y x)
  · exact kscore_congr (fun e => ld_q5 x0 y e) (fun e => ld_ctx x1 x e)

theorem ld_q6 (x : Fin 256) (e : Fin 128) : View.ld x0 r0_14 (ix3 0 x e) = x0 (ix3 0 (qryTk 6 x) e) :=
  View.ld_unit_apply_of x0 _ _ _ _ _ fun a => match a with
    | 0 => rfl
    | 1 => rfl
    | 2 => (Nat.zero_add _).symm
theorem ld_k6 (x : Fin 768) (e : Fin 128) : View.ld x1 r0_15 (ix3 0 x e) = x1 (ix3 0 (keyTk 6 x) e) :=
  View.ld_unit_apply_of x1 _ _ _ _ _ fun a => match a with
    | 0 => rfl
    | 1 => rfl
    | 2 => (Nat.zero_add _).symm
theorem ld_b6 (y : Fin 256) (x : Fin 768) : View.ld x3 r0_5 (ix4 0 0 y x) = x3 (ix4 0 (var 6) y x) :=
  View.ld_unit_apply_of x3 _ _ _ _ _ fun a => match a with
    | 0 => rfl
    | 1 => rfl
    | 2 => (Nat.zero_add _).symm
    | 3 => (Nat.zero_add _).symm
/-- What query tile 6 stores. -/
theorem blk6 (y : Fin 256) (d : Fin 128) :
    blk (View.ld x0 r0_14) (View.ld x1 r0_0) (View.ld x2 r0_0) (View.ld x1 r0_15) (View.ld x2 r0_15) (View.ld x3 r0_5) (ix3 0 y d)
      = latV x0 x1 x2 x3 6 y d := by
  refine (blk_apply _ _ _ _ _ _ y d).trans (att_congr (fun x => ?_) (fun x => ld_k6 x2 x d) (fun x => ?_) (fun x => ld_ctx x2 x d))
  · exact congrArg₂ (fun a b : EReal => a + b) (kscore_congr (fun e => ld_q6 x0 y e) (fun e => ld_k6 x1 x e)) (ld_b6 x3 y x)
  · exact kscore_congr (fun e => ld_q6 x0 y e) (fun e => ld_ctx x1 x e)

theorem ld_q7 (x : Fin 256) (e : Fin 128) : View.ld x0 r0_16 (ix3 0 x e) = x0 (ix3 0 (qryTk 7 x) e) :=
  View.ld_unit_apply_of x0 _ _ _ _ _ fun a => match a with
    | 0 => rfl
    | 1 => rfl
    | 2 => (Nat.zero_add _).symm
theorem ld_k7 (x : Fin 768) (e : Fin 128) : View.ld x1 r0_15 (ix3 0 x e) = x1 (ix3 0 (keyTk 7 x) e) :=
  View.ld_unit_apply_of x1 _ _ _ _ _ fun a => match a with
    | 0 => rfl
    | 1 => rfl
    | 2 => (Nat.zero_add _).symm
theorem ld_b7 (y : Fin 256) (x : Fin 768) : View.ld x3 r0_17 (ix4 0 0 y x) = x3 (ix4 0 (var 7) y x) :=
  View.ld_unit_apply_of x3 _ _ _ _ _ fun a => match a with
    | 0 => rfl
    | 1 => rfl
    | 2 => (Nat.zero_add _).symm
    | 3 => (Nat.zero_add _).symm
/-- What query tile 7 stores. -/
theorem blk7 (y : Fin 256) (d : Fin 128) :
    blk (View.ld x0 r0_16) (View.ld x1 r0_0) (View.ld x2 r0_0) (View.ld x1 r0_15) (View.ld x2 r0_15) (View.ld x3 r0_17) (ix3 0 y d)
      = latV x0 x1 x2 x3 7 y d := by
  refine (blk_apply _ _ _ _ _ _ y d).trans (att_congr (fun x => ?_) (fun x => ld_k7 x2 x d) (fun x => ?_) (fun x => ld_ctx x2 x d))
  · exact congrArg₂ (fun a b : EReal => a + b) (kscore_congr (fun e => ld_q7 x0 y e) (fun e => ld_k7 x1 x e)) (ld_b7 x3 y x)
  · exact kscore_congr (fun e => ld_q7 x0 y e) (fun e => ld_ctx x1 x e)

/-- What the context's tile stores. -/
theorem blkC (q kc vc : FVec Ideal S1x256x128 .bf16) (y : Fin 256) (d : Fin 128) :
    k0_pay10 (F := Ideal) (k0_pay3 (F := Ideal) vc) (k0_pay8 (F := Ideal) kc q) (k0_pay9 (F := Ideal) kc q) (ix3 0 y d)
      = attC (fun x : Fin 256 => kscore (fun e => q (ix3 0 y e)) (fun e => kc (ix3 0 x e))) (fun x => vc (ix3 0 x d)) := by
  pointwise [k0_pay10, k0_pay3, k0_pay8, k0_pay9, k0_pay7, k0_pay2]
  unfold attC kscore
  with_reducible rfl

theorem attC_congr {k : Nat} {s2 s2' v2 v2' : Fin k → EReal}
    (h3 : ∀ x, s2 x = s2' x) (h4 : ∀ x, v2 x = v2' x) : attC s2 v2 = attC s2' v2' := by
  rw [funext h3, funext h4]

theorem emb_ctx (y : Fin 256) (d : Fin 128) : r0_0.emb (ix3 0 y d) = (ix3 0 (ctxTk y) d : S1x2304x128.Idx) := by blk_ext [ctxTk]
theorem emb_q0 (y : Fin 256) (d : Fin 128) : r0_1.emb (ix3 0 y d) = (ix3 0 (qryTk 0 y) d : S1x2304x128.Idx) := by blk_ext [qryTk]
theorem emb_q1 (y : Fin 256) (d : Fin 128) : r0_4.emb (ix3 0 y d) = (ix3 0 (qryTk 1 y) d : S1x2304x128.Idx) := by blk_ext [qryTk]
theorem emb_q2 (y : Fin 256) (d : Fin 128) : r0_6.emb (ix3 0 y d) = (ix3 0 (qryTk 2 y) d : S1x2304x128.Idx) := by blk_ext [qryTk]
theorem emb_q3 (y : Fin 256) (d : Fin 128) : r0_8.emb (ix3 0 y d) = (ix3 0 (qryTk 3 y) d : S1x2304x128.Idx) := by blk_ext [qryTk]
theorem emb_q4 (y : Fin 256) (d : Fin 128) : r0_10.emb (ix3 0 y d) = (ix3 0 (qryTk 4 y) d : S1x2304x128.Idx) := by blk_ext [qryTk]
theorem emb_q5 (y : Fin 256) (d : Fin 128) : r0_12.emb (ix3 0 y d) = (ix3 0 (qryTk 5 y) d : S1x2304x128.Idx) := by blk_ext [qryTk]
theorem emb_q6 (y : Fin 256) (d : Fin 128) : r0_14.emb (ix3 0 y d) = (ix3 0 (qryTk 6 y) d : S1x2304x128.Idx) := by blk_ext [qryTk]
theorem emb_q7 (y : Fin 256) (d : Fin 128) : r0_16.emb (ix3 0 y d) = (ix3 0 (qryTk 7 y) d : S1x2304x128.Idx) := by blk_ext [qryTk]

/-- The result block at a token. -/
theorem out_at (T : Fin 2304) (d : Fin 128) : out0_4 (F := Ideal) x0 x1 x2 x3 (ix3 0 T d) = allV x0 x1 x2 x3 T d := by
  unfold out0_4
  refine View.canon_apply_of_pieces (Val := Elt Ideal) (e := .f32) (fun i : S1x2304x128.Idx => allV x0 x1 x2 x3 (i 1) (i 2)) _ ?_ (ix3 0 T d) ?_
  · intro p hp i
    rcases List.mem_cons.mp hp with rfl | hp
    · obtain ⟨y, d, rfl⟩ : ∃ (y : Fin 256) (d : Fin 128), i = ix3 0 y d := ⟨i 1, i 2, by blk_ext []⟩
      refine (blk7 x0 x1 x2 x3 y d).trans ?_
      dsimp only
      rw [emb_q7]
      exact (allV_lat x0 x1 x2 x3 7 y d).symm
    rcases List.mem_cons.mp hp with rfl | hp
    · obtain ⟨y, d, rfl⟩ : ∃ (y : Fin 256) (d : Fin 128), i = ix3 0 y d := ⟨i 1, i 2, by blk_ext []⟩
      refine (blk6 x0 x1 x2 x3 y d).trans ?_
      dsimp only
      rw [emb_q6]
      exact (allV_lat x0 x1 x2 x3 6 y d).symm
    rcases List.mem_cons.mp hp with rfl | hp
    · obtain ⟨y, d, rfl⟩ : ∃ (y : Fin 256) (d : Fin 128), i = ix3 0 y d := ⟨i 1, i 2, by blk_ext []⟩
      refine (blk5 x0 x1 x2 x3 y d).trans ?_
      dsimp only
      rw [emb_q5]
      exact (allV_lat x0 x1 x2 x3 5 y d).symm
    rcases List.mem_cons.mp hp with rfl | hp
    · obtain ⟨y, d, rfl⟩ : ∃ (y : Fin 256) (d : Fin 128), i = ix3 0 y d := ⟨i 1, i 2, by blk_ext []⟩
      refine (blk4 x0 x1 x2 x3 y d).trans ?_
      dsimp only
      rw [emb_q4]
      exact (allV_lat x0 x1 x2 x3 4 y d).symm
    rcases List.mem_cons.mp hp with rfl | hp
    · obtain ⟨y, d, rfl⟩ : ∃ (y : Fin 256) (d : Fin 128), i = ix3 0 y d := ⟨i 1, i 2, by blk_ext []⟩
      refine (blk3 x0 x1 x2 x3 y d).trans ?_
      dsimp only
      rw [emb_q3]
      exact (allV_lat x0 x1 x2 x3 3 y d).symm
    rcases List.mem_cons.mp hp with rfl | hp
    · obtain ⟨y, d, rfl⟩ : ∃ (y : Fin 256) (d : Fin 128), i = ix3 0 y d := ⟨i 1, i 2, by blk_ext []⟩
      refine (blk2 x0 x1 x2 x3 y d).trans ?_
      dsimp only
      rw [emb_q2]
      exact (allV_lat x0 x1 x2 x3 2 y d).symm
    rcases List.mem_cons.mp hp with rfl | hp
    · obtain ⟨y, d, rfl⟩ : ∃ (y : Fin 256) (d : Fin 128), i = ix3 0 y d := ⟨i 1, i 2, by blk_ext []⟩
      refine (blk1 x0 x1 x2 x3 y d).trans ?_
      dsimp only
      rw [emb_q1]
      exact (allV_lat x0 x1 x2 x3 1 y d).symm
    rcases List.mem_cons.mp hp with rfl | hp
    · obtain ⟨y, d, rfl⟩ : ∃ (y : Fin 256) (d : Fin 128), i = ix3 0 y d := ⟨i 1, i 2, by blk_ext []⟩
      refine (blk0 x0 x1 x2 x3 y d).trans ?_
      dsimp only
      rw [emb_q0]
      exact (allV_lat x0 x1 x2 x3 0 y d).symm
    · obtain rfl := List.mem_singleton.mp hp
      obtain ⟨y, d, rfl⟩ : ∃ (y : Fin 256) (d : Fin 128), i = ix3 0 y d := ⟨i 1, i 2, by blk_ext []⟩
      refine (blkC _ _ _ y d).trans ?_
      dsimp only
      rw [emb_ctx]
      refine Eq.trans ?_ (allV_ctx x0 x1 x2 x3 y d).symm
      exact attC_congr (fun x => kscore_congr (fun e => ld_ctx x0 y e) (fun e => ld_ctx x1 x e)) (fun x => ld_ctx x2 x d)
  · exact cover0_4 (F := Ideal) _ _ _ _ _ _ _ _ _ (ix3 0 T d)

end Cert.Attn

end
-- ==== Proof.Attn.Nat.lean ====
/- The windows of the neighbourhood attention, as natural numbers. -/
module

public import Idealize.ShloMosaic.Lib.Pointwise

@[expose] public section

namespace Cert.Attn

/-- First key row of the window of query row `r`. -/
def r0 (r : Nat) : Nat := min (r - 4) 24

/-- First key column of the window of query column `c`. -/
def c0 (c : Nat) : Nat := min (c - 8) 48

/-- First key column the reference gathers for the `n`th block of query columns. -/
def kc0 (n : Nat) : Nat := min (16 * n - 8) 32

theorem r0_le (r : Nat) : r0 r ≤ 24 := Nat.min_le_right _ _
theorem kc0_le (n : Nat) : kc0 n ≤ 32 := Nat.min_le_right _ _
theorem c0_le (c : Nat) : c0 c ≤ 48 := Nat.min_le_right _ _
theorem r0_rel_lt (r : Fin 32) (w : Fin 8) : r0 r.val + w.val + 7 - r.val < 15 := by unfold r0; omega
end Cert.Attn
-- ==== Proof.Attn.Match.lean ====
/- The kernel's attention and the reference's are one, over the reals: weights, sums and the final division. -/
module

public import proofs.«01_k».proof.Proof.Attn.Pieces
public import proofs.«01_k».proof.Proof.Attn.Nat

@[expose] public section

set_option maxRecDepth 16384

noncomputable section

namespace Cert.Attn

open Idealize.ShloMosaic

/-- The kernel's context block over the reals. -/
theorem attC_eq {k : Nat} (s v : Fin (k + 1) → EReal) (t u : Fin (k + 1) → ℝ) (h1 : ∀ x, s x = (t x : EReal)) (h2 : ∀ x, v x = (u x : EReal)) :
    attC s v = (((∑ x, Real.exp (t x) * u x) / ∑ x, Real.exp (t x) : ℝ) : EReal) := by
  have hw : ∀ x, HasW (s x) (Real.exp (t x)) := fun x => by rw [h1 x]; exact hasW_coe _
  obtain ⟨M, hM⟩ := fold_real s _ hw ⟨0, by rw [h1 0]; exact EReal.coe_ne_bot _⟩
  unfold attC
  simp only [hM]
  have e1 : ∀ x, Ideal.exp (s x - (M : EReal)) = ((Real.exp (t x) * Real.exp (-M) : ℝ) : EReal) := fun x => exp_sub (hw x) M
  rw [sum_eq _ (fun x => Real.exp (t x) * Real.exp (-M) * u x) (fun x => by rw [e1, h2, ← EReal.coe_mul]), sum_eq _ _ e1]
  have p2 : 0 < ∑ x, Real.exp (t x) := Finset.sum_pos (fun x _ => Real.exp_pos _) ⟨0, Finset.mem_univ _⟩
  have q' : (∑ x, Real.exp (t x) * Real.exp (-M) * u x) = (∑ x, Real.exp (t x) * u x) * Real.exp (-M) := by
    rw [Finset.sum_mul]
    exact Finset.sum_congr rfl fun x _ => by ring
  have p3 := Real.exp_pos (-M)
  rw [q', ← Finset.sum_mul, div_real _ _ (by positivity)]
  exact congrArg _ (mul_div_mul_right _ _ p3.ne')

/-- The reference's context row over the reals. -/
theorem refC_eq {k : Nat} (s v : Fin (k + 1) → EReal) (t u : Fin (k + 1) → ℝ) (h1 : ∀ x, s x = (t x : EReal)) (h2 : ∀ x, v x = (u x : EReal)) :
    (∑ x, v x * softW s x) = (((∑ x, Real.exp (t x) * u x) / ∑ x, Real.exp (t x) : ℝ) : EReal) := by
  have hw : ∀ x, HasW (s x) (Real.exp (t x)) := fun x => by rw [h1 x]; exact hasW_coe _
  have p2 : 0 < ∑ x, Real.exp (t x) := Finset.sum_pos (fun x _ => Real.exp_pos _) ⟨0, Finset.mem_univ _⟩
  rw [sum_eq _ (fun x => u x * (Real.exp (t x) / ∑ y, Real.exp (t y))) (fun x => by rw [softW_eq s _ hw p2, h2, ← EReal.coe_mul]), Finset.sum_div]
  exact congrArg _ (Finset.sum_congr rfl fun x _ => by ring)

/-- The sum over a row of 512 scores: the 8 by 32 places of the window, then the 256 context tokens. -/
theorem sum_512 (f : Fin 512 → ℝ) :
    (∑ x, f x) = (∑ k : Fin 32, ∑ w : Fin 8, f ⟨w.val * 32 + k.val, by omega⟩) + ∑ x : Fin 256, f ⟨256 + x.val, by omega⟩ := by
  have h := Fin.sum_univ_add (a := 256) (b := 256) (fun x : Fin (256 + 256) => f x)
  refine h.trans ?_
  have e : (∑ k : Fin 32, ∑ w : Fin 8, f ⟨w.val * 32 + k.val, by omega⟩) = ∑ x : Fin 256, f ⟨x.val, by omega⟩ := by
    rw [← Finset.sum_product']
    exact Fintype.sum_of_injective (fun a : Fin 32 × Fin 8 => (⟨a.2.val * 32 + a.1.val, by omega⟩ : Fin 256))
      (fun a b hab => by
        have := congrArg Fin.val hab
        dsimp only at this
        exact Prod.ext (Fin.ext (by omega)) (Fin.ext (by omega)))
      (fun a : Fin 32 × Fin 8 => f ⟨a.2.val * 32 + a.1.val, by omega⟩) (fun x : Fin 256 => f ⟨x.val, by omega⟩)
      (fun x hx => absurd ⟨(⟨x.val % 32, by omega⟩, ⟨x.val / 32, by omega⟩), Fin.ext (by show x.val / 32 * 32 + x.val % 32 = x.val; omega)⟩ hx)
      (fun a => rfl)
  rw [e]
  rfl

/-- The reference's image row over the reals: `g` weighs the window's places, `t` are the scores of the context. -/
theorem refI_eq (S : Fin 512 → EReal) (v : Fin 8 → Fin 32 → EReal) (vc : Fin 256 → EReal) (g u : Fin 8 → Fin 32 → ℝ) (t uc : Fin 256 → ℝ)
    (h1 : ∀ w k, HasW (S ⟨w.val * 32 + k.val, by omega⟩) (g w k)) (h2 : ∀ x : Fin 256, S ⟨256 + x.val, by omega⟩ = (t x : EReal))
    (h3 : ∀ w k, v w k = (u w k : EReal)) (h4 : ∀ x, vc x = (uc x : EReal)) :
    ((∑ k : Fin 32, ∑ w : Fin 8, v w k * softW S ⟨w.val * 32 + k.val, by omega⟩) + ∑ x : Fin 256, vc x * softW S ⟨256 + x.val, by omega⟩ : EReal)
      = ((((∑ k : Fin 32, ∑ w : Fin 8, g w k * u w k) + ∑ x, Real.exp (t x) * uc x)
          / ((∑ k : Fin 32, ∑ w : Fin 8, g w k) + ∑ x, Real.exp (t x)) : ℝ) : EReal) := by
  let W : Fin 512 → ℝ := fun x => if h : x.val < 256 then g ⟨x.val / 32, by omega⟩ ⟨x.val % 32, by omega⟩ else Real.exp (t ⟨x.val - 256, by omega⟩)
  have W1 : ∀ (w : Fin 8) (k : Fin 32), W ⟨w.val * 32 + k.val, by omega⟩ = g w k := by
    intro w k
    refine (dif_pos (show w.val * 32 + k.val < 256 by omega)).trans ?_
    exact congrArg₂ g (Fin.ext (by show (w.val * 32 + k.val) / 32 = w.val; omega)) (Fin.ext (by show (w.val * 32 + k.val) % 32 = k.val; omega))
  have W2 : ∀ x : Fin 256, W ⟨256 + x.val, by omega⟩ = Real.exp (t x) := by
    intro x
    refine (dif_neg (show ¬ 256 + x.val < 256 by omega)).trans ?_
    exact congrArg (fun z => Real.exp (t z)) (Fin.ext (by show 256 + x.val - 256 = x.val; omega))
  have hW : ∀ x, HasW (S x) (W x) := by
    intro x
    by_cases hx : x.val < 256
    · have e : x = ⟨(⟨x.val / 32, by omega⟩ : Fin 8).val * 32 + (⟨x.val % 32, by omega⟩ : Fin 32).val, by show x.val / 32 * 32 + x.val % 32 < 512; omega⟩ :=
        Fin.ext (by show x.val = x.val / 32 * 32 + x.val % 32; omega)
      rw [e, W1]
      exact h1 _ _
    · have e : x = ⟨256 + (⟨x.val - 256, by omega⟩ : Fin 256).val, by show 256 + (x.val - 256) < 512; omega⟩ :=
        Fin.ext (by show x.val = 256 + (x.val - 256); omega)
      rw [e, W2, h2]
      exact hasW_coe _
  have hs : (∑ x, W x) = (∑ k : Fin 32, ∑ w : Fin 8, g w k) + ∑ x, Real.exp (t x) := by
    rw [sum_512]
    exact congrArg₂ _ (Finset.sum_congr rfl fun k _ => Finset.sum_congr rfl fun w _ => W1 w k) (Finset.sum_congr rfl fun x _ => W2 x)
  have p1 : 0 ≤ ∑ k : Fin 32, ∑ w : Fin 8, g w k := Finset.sum_nonneg fun k _ => Finset.sum_nonneg fun w _ => (h1 w k).nonneg
  have p2 : 0 < ∑ x, Real.exp (t x) := Finset.sum_pos (fun x _ => Real.exp_pos _) ⟨0, Finset.mem_univ _⟩
  have hp : 0 < ∑ x, W x := by rw [hs]; positivity
  rw [sum_eq _ (fun k => ∑ w : Fin 8, u w k * (g w k / ∑ x, W x)) (fun k => sum_eq _ _ fun w => by
      rw [softW_eq S W hW hp, h3, W1, ← EReal.coe_mul]),
    sum_eq _ (fun x => uc x * (Real.exp (t x) / ∑ x, W x)) (fun x => by rw [softW_eq S W hW hp, h4, W2, ← EReal.coe_mul]), ← EReal.coe_add]
  rw [hs, add_div, Finset.sum_div, Finset.sum_div]
  refine congrArg _ (congrArg₂ _ (Finset.sum_congr rfl fun k _ => ?_) (Finset.sum_congr rfl fun x _ => by ring))
  rw [Finset.sum_div]
  exact Finset.sum_congr rfl fun w _ => by ring

/-- A sum over the kernel's 768 keys whose terms vanish outside the window is the sum over the window's places. -/
theorem sum_768 (lo kc : Nat) (hlo : lo ≤ 4) (hkc : kc ≤ 32) (f : Fin 768 → ℝ)
    (h0 : ∀ x : Fin 768, f x ≠ 0 → lo ≤ x.val / 64 ∧ x.val / 64 < lo + 8 ∧ kc ≤ x.val % 64 ∧ x.val % 64 < kc + 32) :
    (∑ x, f x) = ∑ k : Fin 32, ∑ w : Fin 8, f ⟨64 * (lo + w.val) + (kc + k.val), by omega⟩ := by
  rw [← Finset.sum_product']
  symm
  refine Fintype.sum_of_injective (fun a : Fin 32 × Fin 8 => (⟨64 * (lo + a.2.val) + (kc + a.1.val), by omega⟩ : Fin 768)) ?_ _ f ?_ (fun a => rfl)
  · intro a b hab
    have := congrArg Fin.val hab
    dsimp only at this
    exact Prod.ext (Fin.ext (by omega)) (Fin.ext (by omega))
  · intro x hx
    by_contra hn
    have h := h0 x hn
    exact hx ⟨(⟨x.val % 64 - kc, by omega⟩, ⟨x.val / 64 - lo, by omega⟩), Fin.ext (by
      show 64 * (lo + (x.val / 64 - lo)) + (kc + (x.val % 64 - kc)) = x.val; omega)⟩

end Cert.Attn

end
-- ==== Proof.Attn.Tab.lean ====
/- The table of the bias that the host lays out for the attention's call. -/
module

public import proofs.«01_k».proof.Proof.Gen.KernelIdeal.Frame

@[expose] public section

set_option maxRecDepth 16384

noncomputable section

namespace Cert.Attn

open Cert.KernelIdeal Cert.KernelIdeal.Gen Idealize.ShloMosaic Idealize.ShloMosaic.TcCoe

variable {F : FTy → Type} [FloatOps F] [∀ e, Nonempty (Elt F e)]

/-- A square of minus infinity. -/
def tabNone : FVec F S4x64x64 .f32 := broadcastInDim S4x64x64 ![] bcast_S_S4x64x64 (constant S_ .f32 0xFF800000#32)

/-- One square of the table: the bias of every column pair at one row offset. -/
def tabSq (u : FVec F S4x15x64x64 .f32) (d : ℕ) (h : S4x15x64x64.Slices ![0, d, 0, 0] S4x1x64x64) : FVec F S4x64x64 .f32 :=
  shapeCast S4x64x64 (extractStridedSlice S4x1x64x64 ![0, d, 0, 0] u h) shapeCasts_S4x1x64x64_S4x64x64

/-- Twelve squares side by side. -/
def tabRow (u : Fin 12 → FVec F S4x64x64 .f32) : FVec F S4x64x768 .f32 :=
  concatenate S4x64x768 2 [⟨S4x64x64, u 0⟩, ⟨S4x64x64, u 1⟩, ⟨S4x64x64, u 2⟩, ⟨S4x64x64, u 3⟩, ⟨S4x64x64, u 4⟩, ⟨S4x64x64, u 5⟩, ⟨S4x64x64, u 6⟩, ⟨S4x64x64, u 7⟩, ⟨S4x64x64, u 8⟩, ⟨S4x64x64, u 9⟩, ⟨S4x64x64, u 10⟩, ⟨S4x64x64, u 11⟩]
    concatenates_S4x64x64_S4x64x64_S4x64x64_S4x64x64_S4x64x64_S4x64x64_S4x64x64_S4x64x64_S4x64x64_S4x64x64_S4x64x64_S4x64x64_S4x64x768_d2

/-- Four rows of squares, one below the other. -/
def tabRows (u : Fin 4 → FVec F S4x64x768 .f32) : FVec F S4x256x768 .f32 :=
  concatenate S4x256x768 1 [⟨S4x64x768, u 0⟩, ⟨S4x64x768, u 1⟩, ⟨S4x64x768, u 2⟩, ⟨S4x64x768, u 3⟩]
    concatenates_S4x64x768_S4x64x768_S4x64x768_S4x64x768_S4x256x768_d1

/-- The three tables, one behind the other. -/
def tabAll (u : Fin 3 → FVec F S4x256x768 .f32) : FVec F S4x3x256x768 .f32 :=
  concatenate S4x3x256x768 1 [⟨S4x1x256x768, broadcastInDim S4x1x256x768 ![0, 2, 3] bcast_S4x256x768_S4x1x256x768_0_2_3 (u 0)⟩, ⟨S4x1x256x768, broadcastInDim S4x1x256x768 ![0, 2, 3] bcast_S4x256x768_S4x1x256x768_0_2_3 (u 1)⟩, ⟨S4x1x256x768, broadcastInDim S4x1x256x768 ![0, 2, 3] bcast_S4x256x768_S4x1x256x768_0_2_3 (u 2)⟩]
    concatenates_S4x1x256x768_S4x1x256x768_S4x1x256x768_S4x3x256x768_d1

/-- The squares of table 0, row 0. -/
def squares00 (u : FVec F S4x15x64x64 .f32) : Fin 12 → FVec F S4x64x64 .f32 :=
  ![tabSq u 7 slices_S4x15x64x64_S4x1x64x64_0_7_0_0,
    tabSq u 8 slices_S4x15x64x64_S4x1x64x64_0_8_0_0,
    tabSq u 9 slices_S4x15x64x64_S4x1x64x64_0_9_0_0,
    tabSq u 10 slices_S4x15x64x64_S4x1x64x64_0_10_0_0,
    tabSq u 11 slices_S4x15x64x64_S4x1x64x64_0_11_0_0,
    tabSq u 12 slices_S4x15x64x64_S4x1x64x64_0_12_0_0,
    tabSq u 13 slices_S4x15x64x64_S4x1x64x64_0_13_0_0,
    tabSq u 14 slices_S4x15x64x64_S4x1x64x64_0_14_0_0,
    tabNone,
    tabNone,
    tabNone,
    tabNone]

/-- The squares of table 0, row 1. -/
def squares01 (u : FVec F S4x15x64x64 .f32) : Fin 12 → FVec F S4x64x64 .f32 :=
  ![tabSq u 6 slices_S4x15x64x64_S4x1x64x64_0_6_0_0,
    tabSq u 7 slices_S4x15x64x64_S4x1x64x64_0_7_0_0,
    tabSq u 8 slices_S4x15x64x64_S4x1x64x64_0_8_0_0,
    tabSq u 9 slices_S4x15x64x64_S4x1x64x64_0_9_0_0,
    tabSq u 10 slices_S4x15x64x64_S4x1x64x64_0_10_0_0,
    tabSq u 11 slices_S4x15x64x64_S4x1x64x64_0_11_0_0,
    tabSq u 12 slices_S4x15x64x64_S4x1x64x64_0_12_0_0,
    tabSq u 13 slices_S4x15x64x64_S4x1x64x64_0_13_0_0,
    tabNone,
    tabNone,
    tabNone,
    tabNone]

/-- The squares of table 0, row 2. -/
def squares02 (u : FVec F S4x15x64x64 .f32) : Fin 12 → FVec F S4x64x64 .f32 :=
  ![tabSq u 5 slices_S4x15x64x64_S4x1x64x64_0_5_0_0,
    tabSq u 6 slices_S4x15x64x64_S4x1x64x64_0_6_0_0,
    tabSq u 7 slices_S4x15x64x64_S4x1x64x64_0_7_0_0,
    tabSq u 8 slices_S4x15x64x64_S4x1x64x64_0_8_0_0,
    tabSq u 9 slices_S4x15x64x64_S4x1x64x64_0_9_0_0,
    tabSq u 10 slices_S4x15x64x64_S4x1x64x64_0_10_0_0,
    tabSq u 11 slices_S4x15x64x64_S4x1x64x64_0_11_0_0,
    tabSq u 12 slices_S4x15x64x64_S4x1x64x64_0_12_0_0,
    tabNone,
    tabNone,
    tabNone,
    tabNone]

/-- The squares of table 0, row 3. -/
def squares03 (u : FVec F S4x15x64x64 .f32) : Fin 12 → FVec F S4x64x64 .f32 :=
  ![tabSq u 4 slices_S4x15x64x64_S4x1x64x64_0_4_0_0,
    tabSq u 5 slices_S4x15x64x64_S4x1x64x64_0_5_0_0,
    tabSq u 6 slices_S4x15x64x64_S4x1x64x64_0_6_0_0,
    tabSq u 7 slices_S4x15x64x64_S4x1x64x64_0_7_0_0,
    tabSq u 8 slices_S4x15x64x64_S4x1x64x64_0_8_0_0,
    tabSq u 9 slices_S4x15x64x64_S4x1x64x64_0_9_0_0,
    tabSq u 10 slices_S4x15x64x64_S4x1x64x64_0_10_0_0,
    tabSq u 11 slices_S4x15x64x64_S4x1x64x64_0_11_0_0,
    tabNone,
    tabNone,
    tabNone,
    tabNone]

/-- The squares of table 1, row 0. -/
def squares10 (u : FVec F S4x15x64x64 .f32) : Fin 12 → FVec F S4x64x64 .f32 :=
  ![tabSq u 3 slices_S4x15x64x64_S4x1x64x64_0_3_0_0,
    tabSq u 4 slices_S4x15x64x64_S4x1x64x64_0_4_0_0,
    tabSq u 5 slices_S4x15x64x64_S4x1x64x64_0_5_0_0,
    tabSq u 6 slices_S4x15x64x64_S4x1x64x64_0_6_0_0,
    tabSq u 7 slices_S4x15x64x64_S4x1x64x64_0_7_0_0,
    tabSq u 8 slices_S4x15x64x64_S4x1x64x64_0_8_0_0,
    tabSq u 9 slices_S4x15x64x64_S4x1x64x64_0_9_0_0,
    tabSq u 10 slices_S4x15x64x64_S4x1x64x64_0_10_0_0,
    tabNone,
    tabNone,
    tabNone,
    tabNone]

/-- The squares of table 1, row 1. -/
def squares11 (u : FVec F S4x15x64x64 .f32) : Fin 12 → FVec F S4x64x64 .f32 :=
  ![tabNone,
    tabSq u 3 slices_S4x15x64x64_S4x1x64x64_0_3_0_0,
    tabSq u 4 slices_S4x15x64x64_S4x1x64x64_0_4_0_0,
    tabSq u 5 slices_S4x15x64x64_S4x1x64x64_0_5_0_0,
    tabSq u 6 slices_S4x15x64x64_S4x1x64x64_0_6_0_0,
    tabSq u 7 slices_S4x15x64x64_S4x1x64x64_0_7_0_0,
    tabSq u 8 slices_S4x15x64x64_S4x1x64x64_0_8_0_0,
    tabSq u 9 slices_S4x15x64x64_S4x1x64x64_0_9_0_0,
    tabSq u 10 slices_S4x15x64x64_S4x1x64x64_0_10_0_0,
    tabNone,
    tabNone,
    tabNone]

/-- The squares of table 1, row 2. -/
def squares12 (u : FVec F S4x15x64x64 .f32) : Fin 12 → FVec F S4x64x64 .f32 :=
  ![tabNone,
    tabNone,
    tabSq u 3 slices_S4x15x64x64_S4x1x64x64_0_3_0_0,
    tabSq u 4 slices_S4x15x64x64_S4x1x64x64_0_4_0_0,
    tabSq u 5 slices_S4x15x64x64_S4x1x64x64_0_5_0_0,
    tabSq u 6 slices_S4x15x64x64_S4x1x64x64_0_6_0_0,
    tabSq u 7 slices_S4x15x64x64_S4x1x64x64_0_7_0_0,
    tabSq u 8 slices_S4x15x64x64_S4x1x64x64_0_8_0_0,
    tabSq u 9 slices_S4x15x64x64_S4x1x64x64_0_9_0_0,
    tabSq u 10 slices_S4x15x64x64_S4x1x64x64_0_10_0_0,
    tabNone,
    tabNone]

/-- The squares of table 1, row 3. -/
def squares13 (u : FVec F S4x15x64x64 .f32) : Fin 12 → FVec F S4x64x64 .f32 :=
  ![tabNone,
    tabNone,
    tabNone,
    tabSq u 3 slices_S4x15x64x64_S4x1x64x64_0_3_0_0,
    tabSq u 4 slices_S4x15x64x64_S4x1x64x64_0_4_0_0,
    tabSq u 5 slices_S4x15x64x64_S4x1x64x64_0_5_0_0,
    tabSq u 6 slices_S4x15x64x64_S4x1x64x64_0_6_0_0,
    tabSq u 7 slices_S4x15x64x64_S4x1x64x64_0_7_0_0,
    tabSq u 8 slices_S4x15x64x64_S4x1x64x64_0_8_0_0,
    tabSq u 9 slices_S4x15x64x64_S4x1x64x64_0_9_0_0,
    tabSq u 10 slices_S4x15x64x64_S4x1x64x64_0_10_0_0,
    tabNone]

/-- The squares of table 2, row 0. -/
def squares20 (u : FVec F S4x15x64x64 .f32) : Fin 12 → FVec F S4x64x64 .f32 :=
  ![tabNone,
    tabNone,
    tabNone,
    tabNone,
    tabSq u 3 slices_S4x15x64x64_S4x1x64x64_0_3_0_0,
    tabSq u 4 slices_S4x15x64x64_S4x1x64x64_0_4_0_0,
    tabSq u 5 slices_S4x15x64x64_S4x1x64x64_0_5_0_0,
    tabSq u 6 slices_S4x15x64x64_S4x1x64x64_0_6_0_0,
    tabSq u 7 slices_S4x15x64x64_S4x1x64x64_0_7_0_0,
    tabSq u 8 slices_S4x15x64x64_S4x1x64x64_0_8_0_0,
    tabSq u 9 slices_S4x15x64x64_S4x1x64x64_0_9_0_0,
    tabSq u 10 slices_S4x15x64x64_S4x1x64x64_0_10_0_0]

/-- The squares of table 2, row 1. -/
def squares21 (u : FVec F S4x15x64x64 .f32) : Fin 12 → FVec F S4x64x64 .f32 :=
  ![tabNone,
    tabNone,
    tabNone,
    tabNone,
    tabSq u 2 slices_S4x15x64x64_S4x1x64x64_0_2_0_0,
    tabSq u 3 slices_S4x15x64x64_S4x1x64x64_0_3_0_0,
    tabSq u 4 slices_S4x15x64x64_S4x1x64x64_0_4_0_0,
    tabSq u 5 slices_S4x15x64x64_S4x1x64x64_0_5_0_0,
    tabSq u 6 slices_S4x15x64x64_S4x1x64x64_0_6_0_0,
    tabSq u 7 slices_S4x15x64x64_S4x1x64x64_0_7_0_0,
    tabSq u 8 slices_S4x15x64x64_S4x1x64x64_0_8_0_0,
    tabSq u 9 slices_S4x15x64x64_S4x1x64x64_0_9_0_0]

/-- The squares of table 2, row 2. -/
def squares22 (u : FVec F S4x15x64x64 .f32) : Fin 12 → FVec F S4x64x64 .f32 :=
  ![tabNone,
    tabNone,
    tabNone,
    tabNone,
    tabSq u 1 slices_S4x15x64x64_S4x1x64x64_0_1_0_0,
    tabSq u 2 slices_S4x15x64x64_S4x1x64x64_0_2_0_0,
    tabSq u 3 slices_S4x15x64x64_S4x1x64x64_0_3_0_0,
    tabSq u 4 slices_S4x15x64x64_S4x1x64x64_0_4_0_0,
    tabSq u 5 slices_S4x15x64x64_S4x1x64x64_0_5_0_0,
    tabSq u 6 slices_S4x15x64x64_S4x1x64x64_0_6_0_0,
    tabSq u 7 slices_S4x15x64x64_S4x1x64x64_0_7_0_0,
    tabSq u 8 slices_S4x15x64x64_S4x1x64x64_0_8_0_0]

/-- The squares of table 2, row 3. -/
def squares23 (u : FVec F S4x15x64x64 .f32) : Fin 12 → FVec F S4x64x64 .f32 :=
  ![tabNone,
    tabNone,
    tabNone,
    tabNone,
    tabSq u 0 slices_S4x15x64x64_S4x1x64x64_0_0_0_0,
    tabSq u 1 slices_S4x15x64x64_S4x1x64x64_0_1_0_0,
    tabSq u 2 slices_S4x15x64x64_S4x1x64x64_0_2_0_0,
    tabSq u 3 slices_S4x15x64x64_S4x1x64x64_0_3_0_0,
    tabSq u 4 slices_S4x15x64x64_S4x1x64x64_0_4_0_0,
    tabSq u 5 slices_S4x15x64x64_S4x1x64x64_0_5_0_0,
    tabSq u 6 slices_S4x15x64x64_S4x1x64x64_0_6_0_0,
    tabSq u 7 slices_S4x15x64x64_S4x1x64x64_0_7_0_0]

/-- The whole table, of the bias of every row offset and column pair. -/
def tab (u : FVec F S4x15x64x64 .f32) : FVec F S4x3x256x768 .f32 :=
  tabAll ![tabRows ![tabRow (squares00 u), tabRow (squares01 u), tabRow (squares02 u), tabRow (squares03 u)],
    tabRows ![tabRow (squares10 u), tabRow (squares11 u), tabRow (squares12 u), tabRow (squares13 u)],
    tabRows ![tabRow (squares20 u), tabRow (squares21 u), tabRow (squares22 u), tabRow (squares23 u)]]

end Cert.Attn

end
-- ==== Proof.Attn.TabAt.lean ====
/- The table of the bias, read at an index. -/
module

public import proofs.«01_k».proof.Proof.Attn.Tab
public import proofs.«01_k».proof.Proof.Attn.Soft
public import Idealize.ShloMosaic.Lib.Pointwise

@[expose] public section

set_option maxRecDepth 16384

noncomputable section

namespace Cert.Attn

open Cert.KernelIdeal Cert.KernelIdeal.Gen Idealize.ShloMosaic

theorem tabNone_at (i : S4x64x64.Idx) : tabNone (F := Ideal) i = (⊥ : EReal) := by
  unfold tabNone
  pointwise
  exact ofBits_neg_inf

theorem tabSq_at (u : FVec Ideal S4x15x64x64 .f32) (d : ℕ) (hd : d < 15) (s : S4x15x64x64.Slices ![0, d, 0, 0] S4x1x64x64) (h : Fin 4) (q k : Fin 64) :
    @Eq EReal (tabSq u d s (ix3 h q k)) (u (ix4 h ⟨d, hd⟩ q k)) := by
  unfold tabSq
  pointwise

theorem tabRow_at (u : Fin 12 → FVec Ideal S4x64x64 .f32) (h : Fin 4) (q : Fin 64) (b : Fin 12) (k : Fin 64) :
    @Eq EReal (tabRow u (ix3 h q ⟨64 * b.val + k.val, by omega⟩)) (u b (ix3 h q k)) := by
  unfold tabRow
  pointwise
  by_cases h0 : 64 * b.val + k.val < 64
  · rw [dif_pos h0]
    have hb : b = (0 : Fin 12) := Fin.ext (by show b.val = 0; omega)
    refine Eq.trans ?_ (congrArg (fun z => u z (ix3 h q k)) hb.symm)
    exact congrArg (fun z : Fin 64 => u 0 (ix3 h q z)) (show (⟨64 * b.val + k.val, by omega⟩ : Fin 64) = k from Fin.ext (by show 64 * b.val + k.val = k.val; omega))
  rw [dif_neg h0]
  by_cases h1 : 64 * b.val + k.val - 64 < 64
  · rw [dif_pos h1]
    have hb : b = (1 : Fin 12) := Fin.ext (by show b.val = 1; omega)
    refine Eq.trans ?_ (congrArg (fun z => u z (ix3 h q k)) hb.symm)
    exact congrArg (fun z : Fin 64 => u 1 (ix3 h q z)) (show (⟨64 * b.val + k.val - 64, by omega⟩ : Fin 64) = k from Fin.ext (by show 64 * b.val + k.val - 64 = k.val; omega))
  rw [dif_neg h1]
  by_cases h2 : 64 * b.val + k.val - 64 - 64 < 64
  · rw [dif_pos h2]
    have hb : b = (2 : Fin 12) := Fin.ext (by show b.val = 2; omega)
    refine Eq.trans ?_ (congrArg (fun z => u z (ix3 h q k)) hb.symm)
    exact congrArg (fun z : Fin 64 => u 2 (ix3 h q z)) (show (⟨64 * b.val + k.val - 64 - 64, by omega⟩ : Fin 64) = k from Fin.ext (by show 64 * b.val + k.val - 64 - 64 = k.val; omega))
  rw [dif_neg h2]
  by_cases h3 : 64 * b.val + k.val - 64 - 64 - 64 < 64
  · rw [dif_pos h3]
    have hb : b = (3 : Fin 12) := Fin.ext (by show b.val = 3; omega)
    refine Eq.trans ?_ (congrArg (fun z => u z (ix3 h q k)) hb.symm)
    exact congrArg (fun z : Fin 64 => u 3 (ix3 h q z)) (show (⟨64 * b.val + k.val - 64 - 64 - 64, by omega⟩ : Fin 64) = k from Fin.ext (by show 64 * b.val + k.val - 64 - 64 - 64 = k.val; omega))
  rw [dif_neg h3]
  by_cases h4 : 64 * b.val + k.val - 64 - 64 - 64 - 64 < 64
  · rw [dif_pos h4]
    have hb : b = (4 : Fin 12) := Fin.ext (by show b.val = 4; omega)
    refine Eq.trans ?_ (congrArg (fun z => u z (ix3 h q k)) hb.symm)
    exact congrArg (fun z : Fin 64 => u 4 (ix3 h q z)) (show (⟨64 * b.val + k.val - 64 - 64 - 64 - 64, by omega⟩ : Fin 64) = k from Fin.ext (by show 64 * b.val + k.val - 64 - 64 - 64 - 64 = k.val; omega))
  rw [dif_neg h4]
  by_cases h5 : 64 * b.val + k.val - 64 - 64 - 64 - 64 - 64 < 64
  · rw [dif_pos h5]
    have hb : b = (5 : Fin 12) := Fin.ext (by show b.val = 5; omega)
    refine Eq.trans ?_ (congrArg (fun z => u z (ix3 h q k)) hb.symm)
    exact congrArg (fun z : Fin 64 => u 5 (ix3 h q z)) (show (⟨64 * b.val + k.val - 64 - 64 - 64 - 64 - 64, by omega⟩ : Fin 64) = k from Fin.ext (by show 64 * b.val + k.val - 64 - 64 - 64 - 64 - 64 = k.val; omega))
  rw [dif_neg h5]
  by_cases h6 : 64 * b.val + k.val - 64 - 64 - 64 - 64 - 64 - 64 < 64
  · rw [dif_pos h6]
    have hb : b = (6 : Fin 12) := Fin.ext (by show b.val = 6; omega)
    refine Eq.trans ?_ (congrArg (fun z => u z (ix3 h q k)) hb.symm)
    exact congrArg (fun z : Fin 64 => u 6 (ix3 h q z)) (show (⟨64 * b.val + k.val - 64 - 64 - 64 - 64 - 64 - 64, by omega⟩ : Fin 64) = k from Fin.ext (by show 64 * b.val + k.val - 64 - 64 - 64 - 64 - 64 - 64 = k.val; omega))
  rw [dif_neg h6]
  by_cases h7 : 64 * b.val + k.val - 64 - 64 - 64 - 64 - 64 - 64 - 64 < 64
  · rw [dif_pos h7]
    have hb : b = (7 : Fin 12) := Fin.ext (by show b.val = 7; omega)
    refine Eq.trans ?_ (congrArg (fun z => u z (ix3 h q k)) hb.symm)
    exact congrArg (fun z : Fin 64 => u 7 (ix3 h q z)) (show (⟨64 * b.val + k.val - 64 - 64 - 64 - 64 - 64 - 64 - 64, by omega⟩ : Fin 64) = k from Fin.ext (by show 64 * b.val + k.val - 64 - 64 - 64 - 64 - 64 - 64 - 64 = k.val; omega))
  rw [dif_neg h7]
  by_cases h8 : 64 * b.val + k.val - 64 - 64 - 64 - 64 - 64 - 64 - 64 - 64 < 64
  · rw [dif_pos h8]
    have hb : b = (8 : Fin 12) := Fin.ext (by show b.val = 8; omega)
    refine Eq.trans ?_ (congrArg (fun z => u z (ix3 h q k)) hb.symm)
    exact congrArg (fun z : Fin 64 => u 8 (ix3 h q z)) (show (⟨64 * b.val + k.val - 64 - 64 - 64 - 64 - 64 - 64 - 64 - 64, by omega⟩ : Fin 64) = k from Fin.ext (by show 64 * b.val + k.val - 64 - 64 - 64 - 64 - 64 - 64 - 64 - 64 = k.val; omega))
  rw [dif_neg h8]
  by_cases h9 : 64 * b.val + k.val - 64 - 64 - 64 - 64 - 64 - 64 - 64 - 64 - 64 < 64
  · rw [dif_pos h9]
    have hb : b = (9 : Fin 12) := Fin.ext (by show b.val = 9; omega)
    refine Eq.trans ?_ (congrArg (fun z => u z (ix3 h q k)) hb.symm)
    exact congrArg (fun z : Fin 64 => u 9 (ix3 h q z)) (show (⟨64 * b.val + k.val - 64 - 64 - 64 - 64 - 64 - 64 - 64 - 64 - 64, by omega⟩ : Fin 64) = k from Fin.ext (by show 64 * b.val + k.val - 64 - 64 - 64 - 64 - 64 - 64 - 64 - 64 - 64 = k.val; omega))
  rw [dif_neg h9]
  by_cases h10 : 64 * b.val + k.val - 64 - 64 - 64 - 64 - 64 - 64 - 64 - 64 - 64 - 64 < 64
  · rw [dif_pos h10]
    have hb : b = (10 : Fin 12) := Fin.ext (by show b.val = 10; omega)
    refine Eq.trans ?_ (congrArg (fun z => u z (ix3 h q k)) hb.symm)
    exact congrArg (fun z : Fin 64 => u 10 (ix3 h q z)) (show (⟨64 * b.val + k.val - 64 - 64 - 64 - 64 - 64 - 64 - 64 - 64 - 64 - 64, by omega⟩ : Fin 64) = k from Fin.ext (by show 64 * b.val + k.val - 64 - 64 - 64 - 64 - 64 - 64 - 64 - 64 - 64 - 64 = k.val; omega))
  rw [dif_neg h10]
  have hb : b = (11 : Fin 12) := Fin.ext (by show b.val = 11; omega)
  refine Eq.trans ?_ (congrArg (fun z => u z (ix3 h q k)) hb.symm)
  exact congrArg (fun z : Fin 64 => u 11 (ix3 h q z)) (show (⟨64 * b.val + k.val - 64 - 64 - 64 - 64 - 64 - 64 - 64 - 64 - 64 - 64 - 64, by omega⟩ : Fin 64) = k from Fin.ext (by show 64 * b.val + k.val - 64 - 64 - 64 - 64 - 64 - 64 - 64 - 64 - 64 - 64 - 64 = k.val; omega))

theorem tabRows_at (u : Fin 4 → FVec Ideal S4x64x768 .f32) (h : Fin 4) (a : Fin 4) (q : Fin 64) (x : Fin 768) :
    @Eq EReal (tabRows u (ix3 h ⟨64 * a.val + q.val, by omega⟩ x)) (u a (ix3 h q x)) := by
  unfold tabRows
  pointwise
  by_cases h0 : 64 * a.val + q.val < 64
  · rw [dif_pos h0]
    have hb : a = (0 : Fin 4) := Fin.ext (by show a.val = 0; omega)
    refine Eq.trans ?_ (congrArg (fun z => u z (ix3 h q x)) hb.symm)
    exact congrArg (fun z : Fin 64 => u 0 (ix3 h z x)) (show (⟨64 * a.val + q.val, by omega⟩ : Fin 64) = q from Fin.ext (by show 64 * a.val + q.val = q.val; omega))
  rw [dif_neg h0]
  by_cases h1 : 64 * a.val + q.val - 64 < 64
  · rw [dif_pos h1]
    have hb : a = (1 : Fin 4) := Fin.ext (by show a.val = 1; omega)
    refine Eq.trans ?_ (congrArg (fun z => u z (ix3 h q x)) hb.symm)
    exact congrArg (fun z : Fin 64 => u 1 (ix3 h z x)) (show (⟨64 * a.val + q.val - 64, by omega⟩ : Fin 64) = q from Fin.ext (by show 64 * a.val + q.val - 64 = q.val; omega))
  rw [dif_neg h1]
  by_cases h2 : 64 * a.val + q.val - 64 - 64 < 64
  · rw [dif_pos h2]
    have hb : a = (2 : Fin 4) := Fin.ext (by show a.val = 2; omega)
    refine Eq.trans ?_ (congrArg (fun z => u z (ix3 h q x)) hb.symm)
    exact congrArg (fun z : Fin 64 => u 2 (ix3 h z x)) (show (⟨64 * a.val + q.val - 64 - 64, by omega⟩ : Fin 64) = q from Fin.ext (by show 64 * a.val + q.val - 64 - 64 = q.val; omega))
  rw [dif_neg h2]
  have hb : a = (3 : Fin 4) := Fin.ext (by show a.val = 3; omega)
  refine Eq.trans ?_ (congrArg (fun z => u z (ix3 h q x)) hb.symm)
  exact congrArg (fun z : Fin 64 => u 3 (ix3 h z x)) (show (⟨64 * a.val + q.val - 64 - 64 - 64, by omega⟩ : Fin 64) = q from Fin.ext (by show 64 * a.val + q.val - 64 - 64 - 64 = q.val; omega))

theorem tabAll_at (u : Fin 3 → FVec Ideal S4x256x768 .f32) (h : Fin 4) (v : Fin 3) (y : Fin 256) (x : Fin 768) :
    @Eq EReal (tabAll u (ix4 h v y x)) (u v (ix3 h y x)) := by
  unfold tabAll
  pointwise
  by_cases h0 : v.val < 1
  · rw [dif_pos h0]
    have hb : v = (0 : Fin 3) := Fin.ext (by show v.val = 0; omega)
    refine Eq.trans ?_ (congrArg (fun z => u z (ix3 h y x)) hb.symm)
    rfl
  rw [dif_neg h0]
  by_cases h1 : v.val - 1 < 1
  · rw [dif_pos h1]
    have hb : v = (1 : Fin 3) := Fin.ext (by show v.val = 1; omega)
    refine Eq.trans ?_ (congrArg (fun z => u z (ix3 h y x)) hb.symm)
    rfl
  rw [dif_neg h1]
  have hb : v = (2 : Fin 3) := Fin.ext (by show v.val = 2; omega)
  refine Eq.trans ?_ (congrArg (fun z => u z (ix3 h y x)) hb.symm)
  rfl

/-- The first of the eight squares that row `a` of table `v` fills. -/
def tabLo (v : Fin 3) (a : Fin 4) : ℕ := if v = 0 then 0 else if v = 1 then a.val else 4
/-- The row of the bias in that square. -/
def tabOff (v : Fin 3) (a : Fin 4) : ℕ := if v = 0 then 7 - a.val else if v = 1 then 3 else 3 - a.val
theorem tabOff_le (v : Fin 3) (a : Fin 4) : tabOff v a ≤ 7 := by revert v a; decide

variable (u : FVec Ideal S4x15x64x64 .f32)

/-- Square `b` of row `a` of table `v`, at an index. -/
def sqAt (v : Fin 3) (a : Fin 4) (b : Fin 12) (h : Fin 4) (q k : Fin 64) : EReal :=
  if hb : tabLo v a ≤ b.val ∧ b.val < tabLo v a + 8 then
    u (ix4 h ⟨b.val - tabLo v a + tabOff v a, by have := tabOff_le v a; omega⟩ q k)
  else ⊥

theorem sqAt_in (v : Fin 3) (a : Fin 4) (b : Fin 12) (h : Fin 4) (q k : Fin 64) (hb : tabLo v a ≤ b.val ∧ b.val < tabLo v a + 8) :
    sqAt u v a b h q k = u (ix4 h ⟨b.val - tabLo v a + tabOff v a, by have := tabOff_le v a; omega⟩ q k) := dif_pos hb
theorem sqAt_out (v : Fin 3) (a : Fin 4) (b : Fin 12) (h : Fin 4) (q k : Fin 64) (hb : ¬ (tabLo v a ≤ b.val ∧ b.val < tabLo v a + 8)) :
    sqAt u v a b h q k = ⊥ := dif_neg hb

theorem squares00_at (b : Fin 12) (h : Fin 4) (q k : Fin 64) : squares00 u b (ix3 h q k) = sqAt u 0 0 b h q k :=
  match b with
  | 0 => (tabSq_at u 7 (by decide) slices_S4x15x64x64_S4x1x64x64_0_7_0_0 h q k).trans (sqAt_in u 0 0 0 h q k (by decide)).symm
  | 1 => (tabSq_at u 8 (by decide) slices_S4x15x64x64_S4x1x64x64_0_8_0_0 h q k).trans (sqAt_in u 0 0 1 h q k (by decide)).symm
  | 2 => (tabSq_at u 9 (by decide) slices_S4x15x64x64_S4x1x64x64_0_9_0_0 h q k).trans (sqAt_in u 0 0 2 h q k (by decide)).symm
  | 3 => (tabSq_at u 10 (by decide) slices_S4x15x64x64_S4x1x64x64_0_10_0_0 h q k).trans (sqAt_in u 0 0 3 h q k (by decide)).symm
  | 4 => (tabSq_at u 11 (by decide) slices_S4x15x64x64_S4x1x64x64_0_11_0_0 h q k).trans (sqAt_in u 0 0 4 h q k (by decide)).symm
  | 5 => (tabSq_at u 12 (by decide) slices_S4x15x64x64_S4x1x64x64_0_12_0_0 h q k).trans (sqAt_in u 0 0 5 h q k (by decide)).symm
  | 6 => (tabSq_at u 13 (by decide) slices_S4x15x64x64_S4x1x64x64_0_13_0_0 h q k).trans (sqAt_in u 0 0 6 h q k (by decide)).symm
  | 7 => (tabSq_at u 14 (by decide) slices_S4x15x64x64_S4x1x64x64_0_14_0_0 h q k).trans (sqAt_in u 0 0 7 h q k (by decide)).symm
  | 8 => (tabNone_at (ix3 h q k)).trans (sqAt_out u 0 0 8 h q k (by decide)).symm
  | 9 => (tabNone_at (ix3 h q k)).trans (sqAt_out u 0 0 9 h q k (by decide)).symm
  | 10 => (tabNone_at (ix3 h q k)).trans (sqAt_out u 0 0 10 h q k (by decide)).symm
  | 11 => (tabNone_at (ix3 h q k)).trans (sqAt_out u 0 0 11 h q k (by decide)).symm

theorem squares01_at (b : Fin 12) (h : Fin 4) (q k : Fin 64) : squares01 u b (ix3 h q k) = sqAt u 0 1 b h q k :=
  match b with
  | 0 => (tabSq_at u 6 (by decide) slices_S4x15x64x64_S4x1x64x64_0_6_0_0 h q k).trans (sqAt_in u 0 1 0 h q k (by decide)).symm
  | 1 => (tabSq_at u 7 (by decide) slices_S4x15x64x64_S4x1x64x64_0_7_0_0 h q k).trans (sqAt_in u 0 1 1 h q k (by decide)).symm
  | 2 => (tabSq_at u 8 (by decide) slices_S4x15x64x64_S4x1x64x64_0_8_0_0 h q k).trans (sqAt_in u 0 1 2 h q k (by decide)).symm
  | 3 => (tabSq_at u 9 (by decide) slices_S4x15x64x64_S4x1x64x64_0_9_0_0 h q k).trans (sqAt_in u 0 1 3 h q k (by decide)).symm
  | 4 => (tabSq_at u 10 (by decide) slices_S4x15x64x64_S4x1x64x64_0_10_0_0 h q k).trans (sqAt_in u 0 1 4 h q k (by decide)).symm
  | 5 => (tabSq_at u 11 (by decide) slices_S4x15x64x64_S4x1x64x64_0_11_0_0 h q k).trans (sqAt_in u 0 1 5 h q k (by decide)).symm
  | 6 => (tabSq_at u 12 (by decide) slices_S4x15x64x64_S4x1x64x64_0_12_0_0 h q k).trans (sqAt_in u 0 1 6 h q k (by decide)).symm
  | 7 => (tabSq_at u 13 (by decide) slices_S4x15x64x64_S4x1x64x64_0_13_0_0 h q k).trans (sqAt_in u 0 1 7 h q k (by decide)).symm
  | 8 => (tabNone_at (ix3 h q k)).trans (sqAt_out u 0 1 8 h q k (by decide)).symm
  | 9 => (tabNone_at (ix3 h q k)).trans (sqAt_out u 0 1 9 h q k (by decide)).symm
  | 10 => (tabNone_at (ix3 h q k)).trans (sqAt_out u 0 1 10 h q k (by decide)).symm
  | 11 => (tabNone_at (ix3 h q k)).trans (sqAt_out u 0 1 11 h q k (by decide)).symm

theorem squares02_at (b : Fin 12) (h : Fin 4) (q k : Fin 64) : squares02 u b (ix3 h q k) = sqAt u 0 2 b h q k :=
  match b with
  | 0 => (tabSq_at u 5 (by decide) slices_S4x15x64x64_S4x1x64x64_0_5_0_0 h q k).trans (sqAt_in u 0 2 0 h q k (by decide)).symm
  | 1 => (tabSq_at u 6 (by decide) slices_S4x15x64x64_S4x1x64x64_0_6_0_0 h q k).trans (sqAt_in u 0 2 1 h q k (by decide)).symm
  | 2 => (tabSq_at u 7 (by decide) slices_S4x15x64x64_S4x1x64x64_0_7_0_0 h q k).trans (sqAt_in u 0 2 2 h q k (by decide)).symm
  | 3 => (tabSq_at u 8 (by decide) slices_S4x15x64x64_S4x1x64x64_0_8_0_0 h q k).trans (sqAt_in u 0 2 3 h q k (by decide)).symm
  | 4 => (tabSq_at u 9 (by decide) slices_S4x15x64x64_S4x1x64x64_0_9_0_0 h q k).trans (sqAt_in u 0 2 4 h q k (by decide)).symm
  | 5 => (tabSq_at u 10 (by decide) slices_S4x15x64x64_S4x1x64x64_0_10_0_0 h q k).trans (sqAt_in u 0 2 5 h q k (by decide)).symm
  | 6 => (tabSq_at u 11 (by decide) slices_S4x15x64x64_S4x1x64x64_0_11_0_0 h q k).trans (sqAt_in u 0 2 6 h q k (by decide)).symm
  | 7 => (tabSq_at u 12 (by decide) slices_S4x15x64x64_S4x1x64x64_0_12_0_0 h q k).trans (sqAt_in u 0 2 7 h q k (by decide)).symm
  | 8 => (tabNone_at (ix3 h q k)).trans (sqAt_out u 0 2 8 h q k (by decide)).symm
  | 9 => (tabNone_at (ix3 h q k)).trans (sqAt_out u 0 2 9 h q k (by decide)).symm
  | 10 => (tabNone_at (ix3 h q k)).trans (sqAt_out u 0 2 10 h q k (by decide)).symm
  | 11 => (tabNone_at (ix3 h q k)).trans (sqAt_out u 0 2 11 h q k (by decide)).symm

theorem squares03_at (b : Fin 12) (h : Fin 4) (q k : Fin 64) : squares03 u b (ix3 h q k) = sqAt u 0 3 b h q k :=
  match b with
  | 0 => (tabSq_at u 4 (by decide) slices_S4x15x64x64_S4x1x64x64_0_4_0_0 h q k).trans (sqAt_in u 0 3 0 h q k (by decide)).symm
  | 1 => (tabSq_at u 5 (by decide) slices_S4x15x64x64_S4x1x64x64_0_5_0_0 h q k).trans (sqAt_in u 0 3 1 h q k (by decide)).symm
  | 2 => (tabSq_at u 6 (by decide) slices_S4x15x64x64_S4x1x64x64_0_6_0_0 h q k).trans (sqAt_in u 0 3 2 h q k (by decide)).symm
  | 3 => (tabSq_at u 7 (by decide) slices_S4x15x64x64_S4x1x64x64_0_7_0_0 h q k).trans (sqAt_in u 0 3 3 h q k (by decide)).symm
  | 4 => (tabSq_at u 8 (by decide) slices_S4x15x64x64_S4x1x64x64_0_8_0_0 h q k).trans (sqAt_in u 0 3 4 h q k (by decide)).symm
  | 5 => (tabSq_at u 9 (by decide) slices_S4x15x64x64_S4x1x64x64_0_9_0_0 h q k).trans (sqAt_in u 0 3 5 h q k (by decide)).symm
  | 6 => (tabSq_at u 10 (by decide) slices_S4x15x64x64_S4x1x64x64_0_10_0_0 h q k).trans (sqAt_in u 0 3 6 h q k (by decide)).symm
  | 7 => (tabSq_at u 11 (by decide) slices_S4x15x64x64_S4x1x64x64_0_11_0_0 h q k).trans (sqAt_in u 0 3 7 h q k (by decide)).symm
  | 8 => (tabNone_at (ix3 h q k)).trans (sqAt_out u 0 3 8 h q k (by decide)).symm
  | 9 => (tabNone_at (ix3 h q k)).trans (sqAt_out u 0 3 9 h q k (by decide)).symm
  | 10 => (tabNone_at (ix3 h q k)).trans (sqAt_out u 0 3 10 h q k (by decide)).symm
  | 11 => (tabNone_at (ix3 h q k)).trans (sqAt_out u 0 3 11 h q k (by decide)).symm

theorem squares10_at (b : Fin 12) (h : Fin 4) (q k : Fin 64) : squares10 u b (ix3 h q k) = sqAt u 1 0 b h q k :=
  match b with
  | 0 => (tabSq_at u 3 (by decide) slices_S4x15x64x64_S4x1x64x64_0_3_0_0 h q k).trans (sqAt_in u 1 0 0 h q k (by decide)).symm
  | 1 => (tabSq_at u 4 (by decide) slices_S4x15x64x64_S4x1x64x64_0_4_0_0 h q k).trans (sqAt_in u 1 0 1 h q k (by decide)).symm
  | 2 => (tabSq_at u 5 (by decide) slices_S4x15x64x64_S4x1x64x64_0_5_0_0 h q k).trans (sqAt_in u 1 0 2 h q k (by decide)).symm
  | 3 => (tabSq_at u 6 (by decide) slices_S4x15x64x64_S4x1x64x64_0_6_0_0 h q k).trans (sqAt_in u 1 0 3 h q k (by decide)).symm
  | 4 => (tabSq_at u 7 (by decide) slices_S4x15x64x64_S4x1x64x64_0_7_0_0 h q k).trans (sqAt_in u 1 0 4 h q k (by decide)).symm
  | 5 => (tabSq_at u 8 (by decide) slices_S4x15x64x64_S4x1x64x64_0_8_0_0 h q k).trans (sqAt_in u 1 0 5 h q k (by decide)).symm
  | 6 => (tabSq_at u 9 (by decide) slices_S4x15x64x64_S4x1x64x64_0_9_0_0 h q k).trans (sqAt_in u 1 0 6 h q k (by decide)).symm
  | 7 => (tabSq_at u 10 (by decide) slices_S4x15x64x64_S4x1x64x64_0_10_0_0 h q k).trans (sqAt_in u 1 0 7 h q k (by decide)).symm
  | 8 => (tabNone_at (ix3 h q k)).trans (sqAt_out u 1 0 8 h q k (by decide)).symm
  | 9 => (tabNone_at (ix3 h q k)).trans (sqAt_out u 1 0 9 h q k (by decide)).symm
  | 10 => (tabNone_at (ix3 h q k)).trans (sqAt_out u 1 0 10 h q k (by decide)).symm
  | 11 => (tabNone_at (ix3 h q k)).trans (sqAt_out u 1 0 11 h q k (by decide)).symm

theorem squares11_at (b : Fin 12) (h : Fin 4) (q k : Fin 64) : squares11 u b (ix3 h q k) = sqAt u 1 1 b h q k :=
  match b with
  | 0 => (tabNone_at (ix3 h q k)).trans (sqAt_out u 1 1 0 h q k (by decide)).symm
  | 1 => (tabSq_at u 3 (by decide) slices_S4x15x64x64_S4x1x64x64_0_3_0_0 h q k).trans (sqAt_in u 1 1 1 h q k (by decide)).symm
  | 2 => (tabSq_at u 4 (by decide) slices_S4x15x64x64_S4x1x64x64_0_4_0_0 h q k).trans (sqAt_in u 1 1 2 h q k (by decide)).symm
  | 3 => (tabSq_at u 5 (by decide) slices_S4x15x64x64_S4x1x64x64_0_5_0_0 h q k).trans (sqAt_in u 1 1 3 h q k (by decide)).symm
  | 4 => (tabSq_at u 6 (by decide) slices_S4x15x64x64_S4x1x64x64_0_6_0_0 h q k).trans (sqAt_in u 1 1 4 h q k (by decide)).symm
  | 5 => (tabSq_at u 7 (by decide) slices_S4x15x64x64_S4x1x64x64_0_7_0_0 h q k).trans (sqAt_in u 1 1 5 h q k (by decide)).symm
  | 6 => (tabSq_at u 8 (by decide) slices_S4x15x64x64_S4x1x64x64_0_8_0_0 h q k).trans (sqAt_in u 1 1 6 h q k (by decide)).symm
  | 7 => (tabSq_at u 9 (by decide) slices_S4x15x64x64_S4x1x64x64_0_9_0_0 h q k).trans (sqAt_in u 1 1 7 h q k (by decide)).symm
  | 8 => (tabSq_at u 10 (by decide) slices_S4x15x64x64_S4x1x64x64_0_10_0_0 h q k).trans (sqAt_in u 1 1 8 h q k (by decide)).symm
  | 9 => (tabNone_at (ix3 h q k)).trans (sqAt_out u 1 1 9 h q k (by decide)).symm
  | 10 => (tabNone_at (ix3 h q k)).trans (sqAt_out u 1 1 10 h q k (by decide)).symm
  | 11 => (tabNone_at (ix3 h q k)).trans (sqAt_out u 1 1 11 h q k (by decide)).symm

theorem squares12_at (b : Fin 12) (h : Fin 4) (q k : Fin 64) : squares12 u b (ix3 h q k) = sqAt u 1 2 b h q k :=
  match b with
  | 0 => (tabNone_at (ix3 h q k)).trans (sqAt_out u 1 2 0 h q k (by decide)).symm
  | 1 => (tabNone_at (ix3 h q k)).trans (sqAt_out u 1 2 1 h q k (by decide)).symm
  | 2 => (tabSq_at u 3 (by decide) slices_S4x15x64x64_S4x1x64x64_0_3_0_0 h q k).trans (sqAt_in u 1 2 2 h q k (by decide)).symm
  | 3 => (tabSq_at u 4 (by decide) slices_S4x15x64x64_S4x1x64x64_0_4_0_0 h q k).trans (sqAt_in u 1 2 3 h q k (by decide)).symm
  | 4 => (tabSq_at u 5 (by decide) slices_S4x15x64x64_S4x1x64x64_0_5_0_0 h q k).trans (sqAt_in u 1 2 4 h q k (by decide)).symm
  | 5 => (tabSq_at u 6 (by decide) slices_S4x15x64x64_S4x1x64x64_0_6_0_0 h q k).trans (sqAt_in u 1 2 5 h q k (by decide)).symm
  | 6 => (tabSq_at u 7 (by decide) slices_S4x15x64x64_S4x1x64x64_0_7_0_0 h q k).trans (sqAt_in u 1 2 6 h q k (by decide)).symm
  | 7 => (tabSq_at u 8 (by decide) slices_S4x15x64x64_S4x1x64x64_0_8_0_0 h q k).trans (sqAt_in u 1 2 7 h q k (by decide)).symm
  | 8 => (tabSq_at u 9 (by decide) slices_S4x15x64x64_S4x1x64x64_0_9_0_0 h q k).trans (sqAt_in u 1 2 8 h q k (by decide)).symm
  | 9 => (tabSq_at u 10 (by decide) slices_S4x15x64x64_S4x1x64x64_0_10_0_0 h q k).trans (sqAt_in u 1 2 9 h q k (by decide)).symm
  | 10 => (tabNone_at (ix3 h q k)).trans (sqAt_out u 1 2 10 h q k (by decide)).symm
  | 11 => (tabNone_at (ix3 h q k)).trans (sqAt_out u 1 2 11 h q k (by decide)).symm

theorem squares13_at (b : Fin 12) (h : Fin 4) (q k : Fin 64) : squares13 u b (ix3 h q k) = sqAt u 1 3 b h q k :=
  match b with
  | 0 => (tabNone_at (ix3 h q k)).trans (sqAt_out u 1 3 0 h q k (by decide)).symm
  | 1 => (tabNone_at (ix3 h q k)).trans (sqAt_out u 1 3 1 h q k (by decide)).symm
  | 2 => (tabNone_at (ix3 h q k)).trans (sqAt_out u 1 3 2 h q k (by decide)).symm
  | 3 => (tabSq_at u 3 (by decide) slices_S4x15x64x64_S4x1x64x64_0_3_0_0 h q k).trans (sqAt_in u 1 3 3 h q k (by decide)).symm
  | 4 => (tabSq_at u 4 (by decide) slices_S4x15x64x64_S4x1x64x64_0_4_0_0 h q k).trans (sqAt_in u 1 3 4 h q k (by decide)).symm
  | 5 => (tabSq_at u 5 (by decide) slices_S4x15x64x64_S4x1x64x64_0_5_0_0 h q k).trans (sqAt_in u 1 3 5 h q k (by decide)).symm
  | 6 => (tabSq_at u 6 (by decide) slices_S4x15x64x64_S4x1x64x64_0_6_0_0 h q k).trans (sqAt_in u 1 3 6 h q k (by decide)).symm
  | 7 => (tabSq_at u 7 (by decide) slices_S4x15x64x64_S4x1x64x64_0_7_0_0 h q k).trans (sqAt_in u 1 3 7 h q k (by decide)).symm
  | 8 => (tabSq_at u 8 (by decide) slices_S4x15x64x64_S4x1x64x64_0_8_0_0 h q k).trans (sqAt_in u 1 3 8 h q k (by decide)).symm
  | 9 => (tabSq_at u 9 (by decide) slices_S4x15x64x64_S4x1x64x64_0_9_0_0 h q k).trans (sqAt_in u 1 3 9 h q k (by decide)).symm
  | 10 => (tabSq_at u 10 (by decide) slices_S4x15x64x64_S4x1x64x64_0_10_0_0 h q k).trans (sqAt_in u 1 3 10 h q k (by decide)).symm
  | 11 => (tabNone_at (ix3 h q k)).trans (sqAt_out u 1 3 11 h q k (by decide)).symm

theorem squares20_at (b : Fin 12) (h : Fin 4) (q k : Fin 64) : squares20 u b (ix3 h q k) = sqAt u 2 0 b h q k :=
  match b with
  | 0 => (tabNone_at (ix3 h q k)).trans (sqAt_out u 2 0 0 h q k (by decide)).symm
  | 1 => (tabNone_at (ix3 h q k)).trans (sqAt_out u 2 0 1 h q k (by decide)).symm
  | 2 => (tabNone_at (ix3 h q k)).trans (sqAt_out u 2 0 2 h q k (by decide)).symm
  | 3 => (tabNone_at (ix3 h q k)).trans (sqAt_out u 2 0 3 h q k (by decide)).symm
  | 4 => (tabSq_at u 3 (by decide) slices_S4x15x64x64_S4x1x64x64_0_3_0_0 h q k).trans (sqAt_in u 2 0 4 h q k (by decide)).symm
  | 5 => (tabSq_at u 4 (by decide) slices_S4x15x64x64_S4x1x64x64_0_4_0_0 h q k).trans (sqAt_in u 2 0 5 h q k (by decide)).symm
  | 6 => (tabSq_at u 5 (by decide) slices_S4x15x64x64_S4x1x64x64_0_5_0_0 h q k).trans (sqAt_in u 2 0 6 h q k (by decide)).symm
  | 7 => (tabSq_at u 6 (by decide) slices_S4x15x64x64_S4x1x64x64_0_6_0_0 h q k).trans (sqAt_in u 2 0 7 h q k (by decide)).symm
  | 8 => (tabSq_at u 7 (by decide) slices_S4x15x64x64_S4x1x64x64_0_7_0_0 h q k).trans (sqAt_in u 2 0 8 h q k (by decide)).symm
  | 9 => (tabSq_at u 8 (by decide) slices_S4x15x64x64_S4x1x64x64_0_8_0_0 h q k).trans (sqAt_in u 2 0 9 h q k (by decide)).symm
  | 10 => (tabSq_at u 9 (by decide) slices_S4x15x64x64_S4x1x64x64_0_9_0_0 h q k).trans (sqAt_in u 2 0 10 h q k (by decide)).symm
  | 11 => (tabSq_at u 10 (by decide) slices_S4x15x64x64_S4x1x64x64_0_10_0_0 h q k).trans (sqAt_in u 2 0 11 h q k (by decide)).symm

theorem squares21_at (b : Fin 12) (h : Fin 4) (q k : Fin 64) : squares21 u b (ix3 h q k) = sqAt u 2 1 b h q k :=
  match b with
  | 0 => (tabNone_at (ix3 h q k)).trans (sqAt_out u 2 1 0 h q k (by decide)).symm
  | 1 => (tabNone_at (ix3 h q k)).trans (sqAt_out u 2 1 1 h q k (by decide)).symm
  | 2 => (tabNone_at (ix3 h q k)).trans (sqAt_out u 2 1 2 h q k (by decide)).symm
  | 3 => (tabNone_at (ix3 h q k)).trans (sqAt_out u 2 1 3 h q k (by decide)).symm
  | 4 => (tabSq_at u 2 (by decide) slices_S4x15x64x64_S4x1x64x64_0_2_0_0 h q k).trans (sqAt_in u 2 1 4 h q k (by decide)).symm
  | 5 => (tabSq_at u 3 (by decide) slices_S4x15x64x64_S4x1x64x64_0_3_0_0 h q k).trans (sqAt_in u 2 1 5 h q k (by decide)).symm
  | 6 => (tabSq_at u 4 (by decide) slices_S4x15x64x64_S4x1x64x64_0_4_0_0 h q k).trans (sqAt_in u 2 1 6 h q k (by decide)).symm
  | 7 => (tabSq_at u 5 (by decide) slices_S4x15x64x64_S4x1x64x64_0_5_0_0 h q k).trans (sqAt_in u 2 1 7 h q k (by decide)).symm
  | 8 => (tabSq_at u 6 (by decide) slices_S4x15x64x64_S4x1x64x64_0_6_0_0 h q k).trans (sqAt_in u 2 1 8 h q k (by decide)).symm
  | 9 => (tabSq_at u 7 (by decide) slices_S4x15x64x64_S4x1x64x64_0_7_0_0 h q k).trans (sqAt_in u 2 1 9 h q k (by decide)).symm
  | 10 => (tabSq_at u 8 (by decide) slices_S4x15x64x64_S4x1x64x64_0_8_0_0 h q k).trans (sqAt_in u 2 1 10 h q k (by decide)).symm
  | 11 => (tabSq_at u 9 (by decide) slices_S4x15x64x64_S4x1x64x64_0_9_0_0 h q k).trans (sqAt_in u 2 1 11 h q k (by decide)).symm

theorem squares22_at (b : Fin 12) (h : Fin 4) (q k : Fin 64) : squares22 u b (ix3 h q k) = sqAt u 2 2 b h q k :=
  match b with
  | 0 => (tabNone_at (ix3 h q k)).trans (sqAt_out u 2 2 0 h q k (by decide)).symm
  | 1 => (tabNone_at (ix3 h q k)).trans (sqAt_out u 2 2 1 h q k (by decide)).symm
  | 2 => (tabNone_at (ix3 h q k)).trans (sqAt_out u 2 2 2 h q k (by decide)).symm
  | 3 => (tabNone_at (ix3 h q k)).trans (sqAt_out u 2 2 3 h q k (by decide)).symm
  | 4 => (tabSq_at u 1 (by decide) slices_S4x15x64x64_S4x1x64x64_0_1_0_0 h q k).trans (sqAt_in u 2 2 4 h q k (by decide)).symm
  | 5 => (tabSq_at u 2 (by decide) slices_S4x15x64x64_S4x1x64x64_0_2_0_0 h q k).trans (sqAt_in u 2 2 5 h q k (by decide)).symm
  | 6 => (tabSq_at u 3 (by decide) slices_S4x15x64x64_S4x1x64x64_0_3_0_0 h q k).trans (sqAt_in u 2 2 6 h q k (by decide)).symm
  | 7 => (tabSq_at u 4 (by decide) slices_S4x15x64x64_S4x1x64x64_0_4_0_0 h q k).trans (sqAt_in u 2 2 7 h q k (by decide)).symm
  | 8 => (tabSq_at u 5 (by decide) slices_S4x15x64x64_S4x1x64x64_0_5_0_0 h q k).trans (sqAt_in u 2 2 8 h q k (by decide)).symm
  | 9 => (tabSq_at u 6 (by decide) slices_S4x15x64x64_S4x1x64x64_0_6_0_0 h q k).trans (sqAt_in u 2 2 9 h q k (by decide)).symm
  | 10 => (tabSq_at u 7 (by decide) slices_S4x15x64x64_S4x1x64x64_0_7_0_0 h q k).trans (sqAt_in u 2 2 10 h q k (by decide)).symm
  | 11 => (tabSq_at u 8 (by decide) slices_S4x15x64x64_S4x1x64x64_0_8_0_0 h q k).trans (sqAt_in u 2 2 11 h q k (by decide)).symm

theorem squares23_at (b : Fin 12) (h : Fin 4) (q k : Fin 64) : squares23 u b (ix3 h q k) = sqAt u 2 3 b h q k :=
  match b with
  | 0 => (tabNone_at (ix3 h q k)).trans (sqAt_out u 2 3 0 h q k (by decide)).symm
  | 1 => (tabNone_at (ix3 h q k)).trans (sqAt_out u 2 3 1 h q k (by decide)).symm
  | 2 => (tabNone_at (ix3 h q k)).trans (sqAt_out u 2 3 2 h q k (by decide)).symm
  | 3 => (tabNone_at (ix3 h q k)).trans (sqAt_out u 2 3 3 h q k (by decide)).symm
  | 4 => (tabSq_at u 0 (by decide) slices_S4x15x64x64_S4x1x64x64_0_0_0_0 h q k).trans (sqAt_in u 2 3 4 h q k (by decide)).symm
  | 5 => (tabSq_at u 1 (by decide) slices_S4x15x64x64_S4x1x64x64_0_1_0_0 h q k).trans (sqAt_in u 2 3 5 h q k (by decide)).symm
  | 6 => (tabSq_at u 2 (by decide) slices_S4x15x64x64_S4x1x64x64_0_2_0_0 h q k).trans (sqAt_in u 2 3 6 h q k (by decide)).symm
  | 7 => (tabSq_at u 3 (by decide) slices_S4x15x64x64_S4x1x64x64_0_3_0_0 h q k).trans (sqAt_in u 2 3 7 h q k (by decide)).symm
  | 8 => (tabSq_at u 4 (by decide) slices_S4x15x64x64_S4x1x64x64_0_4_0_0 h q k).trans (sqAt_in u 2 3 8 h q k (by decide)).symm
  | 9 => (tabSq_at u 5 (by decide) slices_S4x15x64x64_S4x1x64x64_0_5_0_0 h q k).trans (sqAt_in u 2 3 9 h q k (by decide)).symm
  | 10 => (tabSq_at u 6 (by decide) slices_S4x15x64x64_S4x1x64x64_0_6_0_0 h q k).trans (sqAt_in u 2 3 10 h q k (by decide)).symm
  | 11 => (tabSq_at u 7 (by decide) slices_S4x15x64x64_S4x1x64x64_0_7_0_0 h q k).trans (sqAt_in u 2 3 11 h q k (by decide)).symm

theorem tabs_at (v : Fin 3) (a : Fin 4) (b : Fin 12) (h : Fin 4) (q k : Fin 64) :
    @Eq EReal (tab u (ix4 h v ⟨64 * a.val + q.val, by omega⟩ ⟨64 * b.val + k.val, by omega⟩)) (sqAt u v a b h q k) := by
  unfold tab
  refine (tabAll_at _ h v _ _).trans ?_
  match v with
  | 0 =>
    refine (tabRows_at _ h a q _).trans ?_
    match a with
    | 0 => exact (tabRow_at _ h q b k).trans (squares00_at u b h q k)
    | 1 => exact (tabRow_at _ h q b k).trans (squares01_at u b h q k)
    | 2 => exact (tabRow_at _ h q b k).trans (squares02_at u b h q k)
    | 3 => exact (tabRow_at _ h q b k).trans (squares03_at u b h q k)
  | 1 =>
    refine (tabRows_at _ h a q _).trans ?_
    match a with
    | 0 => exact (tabRow_at _ h q b k).trans (squares10_at u b h q k)
    | 1 => exact (tabRow_at _ h q b k).trans (squares11_at u b h q k)
    | 2 => exact (tabRow_at _ h q b k).trans (squares12_at u b h q k)
    | 3 => exact (tabRow_at _ h q b k).trans (squares13_at u b h q k)
  | 2 =>
    refine (tabRows_at _ h a q _).trans ?_
    match a with
    | 0 => exact (tabRow_at _ h q b k).trans (squares20_at u b h q k)
    | 1 => exact (tabRow_at _ h q b k).trans (squares21_at u b h q k)
    | 2 => exact (tabRow_at _ h q b k).trans (squares22_at u b h q k)
    | 3 => exact (tabRow_at _ h q b k).trans (squares23_at u b h q k)

end Cert.Attn

end
-- ==== Proof.Attn.Cols.lean ====
/- The biases of every row offset and column pair that the host prepares for the attention's call. -/
module

public import proofs.«01_k».proof.Proof.Gen.KernelIdeal.Frame
public import proofs.«01_k».proof.Proof.Attn.Nat
public import proofs.«01_k».proof.Proof.Attn.Soft
public import Idealize.ShloMosaic.Lib.Claim
public import Idealize.ShloMosaic.Lib.Pointwise

@[expose] public section

set_option maxRecDepth 16384

noncomputable section

namespace Cert.Attn

open Cert.KernelIdeal Cert.KernelIdeal.Gen Idealize.ShloMosaic Idealize.ShloMosaic.TcCoe

section
variable {F : FTy → Type} [FloatOps F] [∀ e, Nonempty (Elt F e)]

/-- The query columns, down. -/
def colQ : IVec S64x1 32 := broadcastInDim S64x1 ![0] bcast_S64_S64x1_0 (iotaInDim S64 32 0)
/-- The key columns, across. -/
def colK : IVec S1x64 32 := broadcastInDim S1x64 ![1] bcast_S64_S1x64_1 (iotaInDim S64 32 0)
/-- The first key column of each query column's window. -/
def colS : IVec S64x1 32 :=
  minsi (broadcastInDim S64x1 ![] bcast_S_S64x1 (constantI S_ 32 48#32))
    (maxsi (broadcastInDim S64x1 ![] bcast_S_S64x1 (constantI S_ 32 0#32))
      (subi colQ (broadcastInDim S64x1 ![] bcast_S_S64x1 (constantI S_ 32 8#32))))
/-- Whether a key column lies in a query column's window. -/
def colIn : IVec S64x64 1 :=
  andi (cmpi .sge (broadcastInDim S64x64 ![0, 1] bcast_S1x64_S64x64_0_1 colK) (broadcastInDim S64x64 ![0, 1] bcast_S64x1_S64x64_0_1 colS))
    (cmpi .slt (broadcastInDim S64x64 ![0, 1] bcast_S1x64_S64x64_0_1 colK)
      (broadcastInDim S64x64 ![0, 1] bcast_S64x1_S64x64_0_1 (addi colS (broadcastInDim S64x1 ![] bcast_S_S64x1 (constantI S_ 32 16#32)))))
/-- The column of the bias for a pair of columns. -/
def colD : IVec S64x64 32 :=
  subi (addi (minsi (broadcastInDim S64x64 ![] bcast_S_S64x64 (constantI S_ 32 15#32))
      (maxsi (broadcastInDim S64x64 ![] bcast_S_S64x64 (constantI S_ 32 4294967281#32))
        (subi (broadcastInDim S64x64 ![0, 1] bcast_S1x64_S64x64_0_1 colK) (broadcastInDim S64x64 ![0, 1] bcast_S64x1_S64x64_0_1 colQ))))
    (broadcastInDim S64x64 ![] bcast_S_S64x64 (constantI S_ 32 16#32))) (broadcastInDim S64x64 ![] bcast_S_S64x64 (constantI S_ 32 1#32))
/-- Where that column is the given one. -/
def colHotI : IVec S31x64x64 1 :=
  cmpi .eq (broadcastInDim S31x64x64 ![0, 1, 2] bcast_S1x64x64_S31x64x64_0_1_2 (broadcastInDim S1x64x64 ![1, 2] bcast_S64x64_S1x64x64_1_2 colD))
    (broadcastInDim S31x64x64 ![0, 1, 2] bcast_S31x1x1_S31x64x64_0_1_2 (broadcastInDim S31x1x1 ![0] bcast_S31_S31x1x1_0 (iotaInDim S31 32 0)))
/-- The biases, minus infinity outside the window of columns. -/
def cols (rpb : FVec F S4x15x31 .f32) : FVec F S4x15x64x64 .f32 :=
  select (broadcastInDim S4x15x64x64 ![2, 3] bcast_S64x64_S4x15x64x64_2_3 colIn)
    (Host.dotGeneral dot_S4x15x31_S31x64x64_S4x15x64x64_2_0_01_12_n_n (some .fp32) rpb (uitofp .f32 colHotI))
    (broadcastInDim S4x15x64x64 ![] bcast_S_S4x15x64x64 (constant S_ .f32 0xFF800000#32))

set_option maxHeartbeats 0 in
/-- The host operations before the table's make these biases. -/
theorem cols_eq (σ : Valuation τ sig (Elt F)) :
    StableHlo.after (List.flatten [hostOps0, hostOps0_1, hostOps0_2, hostOps0_3, hostOps0_4, hostOps0_5]) σ (Proc.devRef .tc main_v32)
      = cols (σ (Proc.devRef .tc main_arg1)) := by
  simp only [hostOps0, hostOps0_1, hostOps0_2, hostOps0_3, hostOps0_4, hostOps0_5, List.flatten_cons, List.flatten_nil, List.append_nil, List.cons_append, List.nil_append]
  after_results
  rfl

end

theorem colIn_at (q k : Fin 64) : colIn (ix2 q k) = if c0 q.val ≤ k.val ∧ k.val < c0 q.val + 16 then 1#1 else 0#1 := by
  pointwise [colIn, colS, colK, colQ]
  change @Eq (BitVec 1) _ _
  revert q k; decide +kernel

theorem colHotI_at (d : Fin 31) (q k : Fin 64) : colHotI (ix3 d q k) = if d.val = min (k.val + 15 - q.val) 30 then 1#1 else 0#1 := by
  pointwise [colHotI, colD, colK, colQ]
  change @Eq (BitVec 1) _ _
  revert d q k; decide +kernel

end Cert.Attn

end
-- ==== Proof.Attn.ColsAt.lean ====
/- The biases the host prepares, read at an index. -/
module

public import proofs.«01_k».proof.Proof.Attn.Cols
public import proofs.«01_k».proof.Proof.Attn.Nat
public import proofs.«01_k».proof.Proof.Attn.Soft
public import Idealize.ShloMosaic.Lib.Claim
public import Idealize.ShloMosaic.Lib.Pointwise

@[expose] public section

set_option maxRecDepth 16384

noncomputable section

namespace Cert.Attn

open Cert.KernelIdeal Cert.KernelIdeal.Gen Idealize.ShloMosaic Idealize.ShloMosaic.TcCoe

/-- The bias of a row offset and a pair of columns. -/
theorem cols_at (rpb : FVec Ideal S4x15x31 .f32) (h : Fin 4) (d : Fin 15) (q k : Fin 64) :
    @Eq EReal (cols (F := Ideal) rpb (ix4 h d q k))
      (if c0 q.val ≤ k.val ∧ k.val < c0 q.val + 16 then rpb (ix3 h d ⟨min (k.val + 15 - q.val) 30, by omega⟩) else ⊥) := by
  unfold cols
  pointwise
  rw [colIn_at]
  by_cases hc : c0 q.val ≤ k.val ∧ k.val < c0 q.val + 16
  · rw [if_pos hc, if_pos hc]
    have e : ∀ x : Fin 31, @Eq EReal (rpb (ix3 h d x) * FloatOps.uitofp (F := Ideal) FTy.f32 (colHotI (ix3 x q k)))
        (if x = ⟨min (k.val + 15 - q.val) 30, by omega⟩ then rpb (ix3 h d x) else 0) := by
      intro x
      rw [colHotI_at]
      by_cases hx : x.val = min (k.val + 15 - q.val) 30
      · rw [if_pos hx, if_pos (Fin.ext hx)]
        have h1 : @Eq EReal (FloatOps.uitofp (F := Ideal) FTy.f32 1#1) 1 := by
          show (((1#1 : BitVec 1).toNat : ℝ) : EReal) = 1; simp
        rw [h1]; exact mul_one (_ : EReal)
      · rw [if_neg hx, if_neg (fun e => hx (congrArg Fin.val e))]
        have h0 : @Eq EReal (FloatOps.uitofp (F := Ideal) FTy.f32 0#1) 0 := by
          show (((0#1 : BitVec 1).toNat : ℝ) : EReal) = 0; simp
        rw [h0]; exact mul_zero (_ : EReal)
    show (∑ x, rpb (ix3 h d x) * FloatOps.uitofp (F := Ideal) FTy.f32 (colHotI (ix3 x q k)) : EReal) = _
    rw [Finset.sum_congr rfl fun x _ => e x, Finset.sum_ite_eq' Finset.univ, if_pos (Finset.mem_univ _)]
  · rw [if_neg hc, if_neg hc]
    exact ofBits_neg_inf

end Cert.Attn

end
-- ==== Proof.Attn.RefIdx.lean ====
/- The index arithmetic of the reference, read at an index. -/
module

public import proofs.«01_k».proof.Proof.Gen.ReferenceIdeal.Run
public import proofs.«01_k».proof.Proof.Attn.Nat
public import Idealize.ShloMosaic.Lib.Tactic.CleanTypes

@[expose] public section

set_option maxRecDepth 16384

noncomputable section

namespace Cert.Attn

open Cert.ReferenceIdeal Cert.ReferenceIdeal.Gen Cert.ReferenceIdeal.Value Idealize.ShloMosaic

variable (V : Valuation τ sig (Elt Ideal))

theorem v18_at (n : Fin 4) (q : Fin 16) : res_main_v18 V (ix2 n q) = BitVec.ofNat 32 (16 * n.val + q.val) := by
  unfold res_main_v18
  clean_types
  pointwise
  change @Eq (BitVec 32) _ _
  revert n q; decide +kernel

theorem v30_at (n : Fin 4) (k : Fin 32) : res_main_v30 V (ix2 n k) = BitVec.ofNat 32 (kc0 n.val + k.val) := by
  pointwise [res_main_v30]
  change @Eq (BitVec 32) _ _
  revert n k; decide +kernel

theorem v33_at (n : Fin 4) (q : Fin 16) : res_main_v33 V (ix2 n q) = BitVec.ofNat 32 (c0 (16 * n.val + q.val)) := by
  pointwise [res_main_v33]
  rw [v18_at]
  change @Eq (BitVec 32) _ _
  revert n q; decide +kernel

theorem v66_at (r : Fin 32) (w : Fin 8) : res_main_v66 V (ix2 r w) = BitVec.ofNat 32 (r0 r.val + w.val) := by
  pointwise [res_main_v66, res_main_v57]
  change @Eq (BitVec 32) _ _
  revert r w; decide +kernel

theorem v114_at (r : Fin 32) (w : Fin 8) :
    res_main_v114 V (ix5 r 0 0 w 0) = BitVec.ofNat 32 (r0 r.val + w.val + 7 - r.val) := by
  pointwise [res_main_v114, res_main_v57]
  rw [v66_at]
  change @Eq (BitVec 32) _ _
  revert r w; decide +kernel

theorem v115_at (n : Fin 4) (q : Fin 16) (k : Fin 32) :
    res_main_v115 V (ix4 n q 0 k) = BitVec.ofNat 32 (min (kc0 n.val + k.val + 15 - (16 * n.val + q.val)) 30) := by
  pointwise [res_main_v115]
  rw [v30_at, v18_at]
  change @Eq (BitVec 32) _ _
  revert n q k; decide +kernel

end Cert.Attn

end
-- ==== Proof.Attn.Gather.lean ====
/- The reference's two gathers read at an index: the operand at the two start indices, the other axes as they are. -/
module

public import proofs.«01_k».proof.Proof.Gen.ReferenceIdeal
public import Idealize.ShloMosaic.Lib.Pointwise

@[expose] public section

set_option maxRecDepth 16384

noncomputable section

namespace Cert.Attn

open Cert.ReferenceIdeal Cert.ReferenceIdeal.Gen Idealize.ShloMosaic

/-- Keys (or values) gathered at a window row and column: `x[b, R, C, h, e]`, where the start indices hold the natural numbers `R` and `C`. -/
theorem gather_rows_cols {α : Type} (x : S16x32x64x4x128.Idx → α) (idx : IVec S32x8x4x32x2 32)
    (b : Fin 16) (r : Fin 32) (w : Fin 8) (n : Fin 4) (k : Fin 32) (h : Fin 4) (e : Fin 128) (R : Fin 32) (C : Fin 64)
    (hR : idx (ix5 r w n k 0) = BitVec.ofNat 32 R.val) (hC : idx (ix5 r w n k 1) = BitVec.ofNat 32 C.val) :
    Host.gather gather_S16x32x64x4x128_S32x8x4x32x2_S16x32x8x4x32x4x128_056_12_n_n_12_4_16114128 x idx (ix7 b r w n k h e) = x (ix5 b R C h e) := by
  have hsR : (idx (ix5 r w n k 0)).toInt.toNat = R.val := by
    rw [hR]; clear hR; revert R; decide +kernel
  have hsC : (idx (ix5 r w n k 1)).toInt.toNat = C.val := by
    rw [hC]; clear hC; revert C; decide +kernel
  unfold Host.gather
  congr 1
  funext a
  refine Fin.ext ?_
  show (gather_S16x32x64x4x128_S32x8x4x32x2_S16x32x8x4x32x4x128_056_12_n_n_12_4_16114128).start _ idx a + GatherDims.batchCoord _ _ a + GatherDims.offCoord _ _ a = _
  rw [GatherDims.batchCoord_eq_zero _ _ _ List.not_mem_nil]
  clear hR hC
  match a with
  | ⟨0, _⟩ =>
    have h1 : (gather_S16x32x64x4x128_S32x8x4x32x2_S16x32x8x4x32x4x128_056_12_n_n_12_4_16114128).start (ix7 b r w n k h e) idx (0 : Fin 5) = 0 := by
      unfold GatherDims.start
      exact dif_neg (show (0 : Fin 5) ∉ ([1, 2] : List (Fin 5)) from by decide)
    have h2 : (gather_S16x32x64x4x128_S32x8x4x32x2_S16x32x8x4x32x4x128_056_12_n_n_12_4_16114128).offCoord (ix7 b r w n k h e) (0 : Fin 5) = ((ix5 b R C h e) (0 : Fin 5)).val := by
      unfold GatherDims.offCoord
      exact dif_pos (show (0 : Fin 5) ∈ ([0, 3, 4] : List (Fin 5)) from by decide)
    show (gather_S16x32x64x4x128_S32x8x4x32x2_S16x32x8x4x32x4x128_056_12_n_n_12_4_16114128).start (ix7 b r w n k h e) idx (0 : Fin 5) + 0 + (gather_S16x32x64x4x128_S32x8x4x32x2_S16x32x8x4x32x4x128_056_12_n_n_12_4_16114128).offCoord (ix7 b r w n k h e) (0 : Fin 5) = ((ix5 b R C h e) (0 : Fin 5)).val
    rw [h1, h2, Nat.add_zero, Nat.zero_add]
  | ⟨1, _⟩ =>
    have hm : (1 : Fin 5) ∈ (gather_S16x32x64x4x128_S32x8x4x32x2_S16x32x8x4x32x4x128_056_12_n_n_12_4_16114128).startIndexMap := show (1 : Fin 5) ∈ ([1, 2] : List (Fin 5)) from by decide
    have hsi : (gather_S16x32x64x4x128_S32x8x4x32x2_S16x32x8x4x32x4x128_056_12_n_n_12_4_16114128).siIdx (ix7 b r w n k h e) ⟨List.idxOf (1 : Fin 5) (gather_S16x32x64x4x128_S32x8x4x32x2_S16x32x8x4x32x4x128_056_12_n_n_12_4_16114128).startIndexMap, List.idxOf_lt_length_iff.2 hm⟩ = ix5 r w n k 0 := by
      funext c
      refine Fin.ext ?_
      match c with
      | ⟨0, _⟩ => rfl
      | ⟨1, _⟩ => rfl
      | ⟨2, _⟩ => rfl
      | ⟨3, _⟩ => rfl
      | ⟨4, _⟩ => rfl
    have h1 : (gather_S16x32x64x4x128_S32x8x4x32x2_S16x32x8x4x32x4x128_056_12_n_n_12_4_16114128).start (ix7 b r w n k h e) idx (1 : Fin 5) = R.val := by
      unfold GatherDims.start
      rw [dif_pos hm, hsi, hsR]
      have hlt := R.isLt
      show min R.val (32 - 1) = R.val
      omega
    have h2 : (gather_S16x32x64x4x128_S32x8x4x32x2_S16x32x8x4x32x4x128_056_12_n_n_12_4_16114128).offCoord (ix7 b r w n k h e) (1 : Fin 5) = 0 := by
      unfold GatherDims.offCoord
      exact dif_neg (show (1 : Fin 5) ∉ ([0, 3, 4] : List (Fin 5)) from by decide)
    show (gather_S16x32x64x4x128_S32x8x4x32x2_S16x32x8x4x32x4x128_056_12_n_n_12_4_16114128).start (ix7 b r w n k h e) idx (1 : Fin 5) + 0 + (gather_S16x32x64x4x128_S32x8x4x32x2_S16x32x8x4x32x4x128_056_12_n_n_12_4_16114128).offCoord (ix7 b r w n k h e) (1 : Fin 5) = R.val
    rw [h1, h2]; rfl
  | ⟨2, _⟩ =>
    have hm : (2 : Fin 5) ∈ (gather_S16x32x64x4x128_S32x8x4x32x2_S16x32x8x4x32x4x128_056_12_n_n_12_4_16114128).startIndexMap := show (2 : Fin 5) ∈ ([1, 2] : List (Fin 5)) from by decide
    have hsi : (gather_S16x32x64x4x128_S32x8x4x32x2_S16x32x8x4x32x4x128_056_12_n_n_12_4_16114128).siIdx (ix7 b r w n k h e) ⟨List.idxOf (2 : Fin 5) (gather_S16x32x64x4x128_S32x8x4x32x2_S16x32x8x4x32x4x128_056_12_n_n_12_4_16114128).startIndexMap, List.idxOf_lt_length_iff.2 hm⟩ = ix5 r w n k 1 := by
      funext c
      refine Fin.ext ?_
      match c with
      | ⟨0, _⟩ => rfl
      | ⟨1, _⟩ => rfl
      | ⟨2, _⟩ => rfl
      | ⟨3, _⟩ => rfl
      | ⟨4, _⟩ => rfl
    have h1 : (gather_S16x32x64x4x128_S32x8x4x32x2_S16x32x8x4x32x4x128_056_12_n_n_12_4_16114128).start (ix7 b r w n k h e) idx (2 : Fin 5) = C.val := by
      unfold GatherDims.start
      rw [dif_pos hm, hsi, hsC]
      have hlt := C.isLt
      show min C.val (64 - 1) = C.val
      omega
    have h2 : (gather_S16x32x64x4x128_S32x8x4x32x2_S16x32x8x4x32x4x128_056_12_n_n_12_4_16114128).offCoord (ix7 b r w n k h e) (2 : Fin 5) = 0 := by
      unfold GatherDims.offCoord
      exact dif_neg (show (2 : Fin 5) ∉ ([0, 3, 4] : List (Fin 5)) from by decide)
    show (gather_S16x32x64x4x128_S32x8x4x32x2_S16x32x8x4x32x4x128_056_12_n_n_12_4_16114128).start (ix7 b r w n k h e) idx (2 : Fin 5) + 0 + (gather_S16x32x64x4x128_S32x8x4x32x2_S16x32x8x4x32x4x128_056_12_n_n_12_4_16114128).offCoord (ix7 b r w n k h e) (2 : Fin 5) = C.val
    rw [h1, h2]; rfl
  | ⟨3, _⟩ =>
    have h1 : (gather_S16x32x64x4x128_S32x8x4x32x2_S16x32x8x4x32x4x128_056_12_n_n_12_4_16114128).start (ix7 b r w n k h e) idx (3 : Fin 5) = 0 := by
      unfold GatherDims.start
      exact dif_neg (show (3 : Fin 5) ∉ ([1, 2] : List (Fin 5)) from by decide)
    have h2 : (gather_S16x32x64x4x128_S32x8x4x32x2_S16x32x8x4x32x4x128_056_12_n_n_12_4_16114128).offCoord (ix7 b r w n k h e) (3 : Fin 5) = ((ix5 b R C h e) (3 : Fin 5)).val := by
      unfold GatherDims.offCoord
      exact dif_pos (show (3 : Fin 5) ∈ ([0, 3, 4] : List (Fin 5)) from by decide)
    show (gather_S16x32x64x4x128_S32x8x4x32x2_S16x32x8x4x32x4x128_056_12_n_n_12_4_16114128).start (ix7 b r w n k h e) idx (3 : Fin 5) + 0 + (gather_S16x32x64x4x128_S32x8x4x32x2_S16x32x8x4x32x4x128_056_12_n_n_12_4_16114128).offCoord (ix7 b r w n k h e) (3 : Fin 5) = ((ix5 b R C h e) (3 : Fin 5)).val
    rw [h1, h2, Nat.add_zero, Nat.zero_add]
  | ⟨4, _⟩ =>
    have h1 : (gather_S16x32x64x4x128_S32x8x4x32x2_S16x32x8x4x32x4x128_056_12_n_n_12_4_16114128).start (ix7 b r w n k h e) idx (4 : Fin 5) = 0 := by
      unfold GatherDims.start
      exact dif_neg (show (4 : Fin 5) ∉ ([1, 2] : List (Fin 5)) from by decide)
    have h2 : (gather_S16x32x64x4x128_S32x8x4x32x2_S16x32x8x4x32x4x128_056_12_n_n_12_4_16114128).offCoord (ix7 b r w n k h e) (4 : Fin 5) = ((ix5 b R C h e) (4 : Fin 5)).val := by
      unfold GatherDims.offCoord
      exact dif_pos (show (4 : Fin 5) ∈ ([0, 3, 4] : List (Fin 5)) from by decide)
    show (gather_S16x32x64x4x128_S32x8x4x32x2_S16x32x8x4x32x4x128_056_12_n_n_12_4_16114128).start (ix7 b r w n k h e) idx (4 : Fin 5) + 0 + (gather_S16x32x64x4x128_S32x8x4x32x2_S16x32x8x4x32x4x128_056_12_n_n_12_4_16114128).offCoord (ix7 b r w n k h e) (4 : Fin 5) = ((ix5 b R C h e) (4 : Fin 5)).val
    rw [h1, h2, Nat.add_zero, Nat.zero_add]

/-- The relative position bias gathered at a row and column offset: `x[h, A, D]`, where the start indices hold the natural numbers `A` and `D`. -/
theorem gather_rel_bias {α : Type} (x : S4x15x31.Idx → α) (idx : IVec S32x4x16x8x32x2 32)
    (h : Fin 4) (r : Fin 32) (n : Fin 4) (q : Fin 16) (w : Fin 8) (k : Fin 32) (A : Fin 15) (D : Fin 31)
    (hR : idx (ix6 r n q w k 0) = BitVec.ofNat 32 A.val) (hC : idx (ix6 r n q w k 1) = BitVec.ofNat 32 D.val) :
    Host.gather gather_S4x15x31_S32x4x16x8x32x2_S4x32x4x16x8x32_0_12_n_n_12_5_411 x idx (ix6 h r n q w k) = x (ix3 h A D) := by
  have hsR : (idx (ix6 r n q w k 0)).toInt.toNat = A.val := by
    rw [hR]; clear hR; revert A; decide +kernel
  have hsC : (idx (ix6 r n q w k 1)).toInt.toNat = D.val := by
    rw [hC]; clear hC; revert D; decide +kernel
  unfold Host.gather
  congr 1
  funext a
  refine Fin.ext ?_
  show (gather_S4x15x31_S32x4x16x8x32x2_S4x32x4x16x8x32_0_12_n_n_12_5_411).start _ idx a + GatherDims.batchCoord _ _ a + GatherDims.offCoord _ _ a = _
  rw [GatherDims.batchCoord_eq_zero _ _ _ List.not_mem_nil]
  clear hR hC
  match a with
  | ⟨0, _⟩ =>
    have h1 : (gather_S4x15x31_S32x4x16x8x32x2_S4x32x4x16x8x32_0_12_n_n_12_5_411).start (ix6 h r n q w k) idx (0 : Fin 3) = 0 := by
      unfold GatherDims.start
      exact dif_neg (show (0 : Fin 3) ∉ ([1, 2] : List (Fin 3)) from by decide)
    have h2 : (gather_S4x15x31_S32x4x16x8x32x2_S4x32x4x16x8x32_0_12_n_n_12_5_411).offCoord (ix6 h r n q w k) (0 : Fin 3) = ((ix3 h A D) (0 : Fin 3)).val := by
      unfold GatherDims.offCoord
      exact dif_pos (show (0 : Fin 3) ∈ ([0] : List (Fin 3)) from by decide)
    show (gather_S4x15x31_S32x4x16x8x32x2_S4x32x4x16x8x32_0_12_n_n_12_5_411).start (ix6 h r n q w k) idx (0 : Fin 3) + 0 + (gather_S4x15x31_S32x4x16x8x32x2_S4x32x4x16x8x32_0_12_n_n_12_5_411).offCoord (ix6 h r n q w k) (0 : Fin 3) = ((ix3 h A D) (0 : Fin 3)).val
    rw [h1, h2, Nat.add_zero, Nat.zero_add]
  | ⟨1, _⟩ =>
    have hm : (1 : Fin 3) ∈ (gather_S4x15x31_S32x4x16x8x32x2_S4x32x4x16x8x32_0_12_n_n_12_5_411).startIndexMap := show (1 : Fin 3) ∈ ([1, 2] : List (Fin 3)) from by decide
    have hsi : (gather_S4x15x31_S32x4x16x8x32x2_S4x32x4x16x8x32_0_12_n_n_12_5_411).siIdx (ix6 h r n q w k) ⟨List.idxOf (1 : Fin 3) (gather_S4x15x31_S32x4x16x8x32x2_S4x32x4x16x8x32_0_12_n_n_12_5_411).startIndexMap, List.idxOf_lt_length_iff.2 hm⟩ = ix6 r n q w k 0 := by
      funext c
      refine Fin.ext ?_
      match c with
      | ⟨0, _⟩ => rfl
      | ⟨1, _⟩ => rfl
      | ⟨2, _⟩ => rfl
      | ⟨3, _⟩ => rfl
      | ⟨4, _⟩ => rfl
      | ⟨5, _⟩ => rfl
    have h1 : (gather_S4x15x31_S32x4x16x8x32x2_S4x32x4x16x8x32_0_12_n_n_12_5_411).start (ix6 h r n q w k) idx (1 : Fin 3) = A.val := by
      unfold GatherDims.start
      rw [dif_pos hm, hsi, hsR]
      have hlt := A.isLt
      show min A.val (15 - 1) = A.val
      omega
    have h2 : (gather_S4x15x31_S32x4x16x8x32x2_S4x32x4x16x8x32_0_12_n_n_12_5_411).offCoord (ix6 h r n q w k) (1 : Fin 3) = 0 := by
      unfold GatherDims.offCoord
      exact dif_neg (show (1 : Fin 3) ∉ ([0] : List (Fin 3)) from by decide)
    show (gather_S4x15x31_S32x4x16x8x32x2_S4x32x4x16x8x32_0_12_n_n_12_5_411).start (ix6 h r n q w k) idx (1 : Fin 3) + 0 + (gather_S4x15x31_S32x4x16x8x32x2_S4x32x4x16x8x32_0_12_n_n_12_5_411).offCoord (ix6 h r n q w k) (1 : Fin 3) = A.val
    rw [h1, h2]; rfl
  | ⟨2, _⟩ =>
    have hm : (2 : Fin 3) ∈ (gather_S4x15x31_S32x4x16x8x32x2_S4x32x4x16x8x32_0_12_n_n_12_5_411).startIndexMap := show (2 : Fin 3) ∈ ([1, 2] : List (Fin 3)) from by decide
    have hsi : (gather_S4x15x31_S32x4x16x8x32x2_S4x32x4x16x8x32_0_12_n_n_12_5_411).siIdx (ix6 h r n q w k) ⟨List.idxOf (2 : Fin 3) (gather_S4x15x31_S32x4x16x8x32x2_S4x32x4x16x8x32_0_12_n_n_12_5_411).startIndexMap, List.idxOf_lt_length_iff.2 hm⟩ = ix6 r n q w k 1 := by
      funext c
      refine Fin.ext ?_
      match c with
      | ⟨0, _⟩ => rfl
      | ⟨1, _⟩ => rfl
      | ⟨2, _⟩ => rfl
      | ⟨3, _⟩ => rfl
      | ⟨4, _⟩ => rfl
      | ⟨5, _⟩ => rfl
    have h1 : (gather_S4x15x31_S32x4x16x8x32x2_S4x32x4x16x8x32_0_12_n_n_12_5_411).start (ix6 h r n q w k) idx (2 : Fin 3) = D.val := by
      unfold GatherDims.start
      rw [dif_pos hm, hsi, hsC]
      have hlt := D.isLt
      show min D.val (31 - 1) = D.val
      omega
    have h2 : (gather_S4x15x31_S32x4x16x8x32x2_S4x32x4x16x8x32_0_12_n_n_12_5_411).offCoord (ix6 h r n q w k) (2 : Fin 3) = 0 := by
      unfold GatherDims.offCoord
      exact dif_neg (show (2 : Fin 3) ∉ ([0] : List (Fin 3)) from by decide)
    show (gather_S4x15x31_S32x4x16x8x32x2_S4x32x4x16x8x32_0_12_n_n_12_5_411).start (ix6 h r n q w k) idx (2 : Fin 3) + 0 + (gather_S4x15x31_S32x4x16x8x32x2_S4x32x4x16x8x32_0_12_n_n_12_5_411).offCoord (ix6 h r n q w k) (2 : Fin 3) = D.val
    rw [h1, h2]; rfl

end Cert.Attn

end
-- ==== Proof.Attn.RefA.lean ====
/- The queries, keys and values of the reference, read at an index of the projected tokens. -/
module

public import proofs.«01_k».proof.Proof.Attn.RefIdx
public import proofs.«01_k».proof.Proof.Attn.Gather

@[expose] public section

set_option maxRecDepth 16384

noncomputable section

namespace Cert.Attn

open Cert.ReferenceIdeal Cert.ReferenceIdeal.Gen Cert.ReferenceIdeal.Value Idealize.ShloMosaic

variable (V : Valuation τ sig (Elt Ideal))

/-- The projected token `l` of sequence `b` at column `3072 + 512 t + 128 h + e`: queries, keys and values of head `h` for `t = 0, 1, 2`. -/
def tok (p : S16x2304x8192.Idx → EReal) (t : Fin 3) (h : Fin 4) (b : Fin 16) (l : Fin 2304) (e : Fin 128) : EReal :=
  p (ix3 b l ⟨3072 + 512 * t.val + 128 * h.val + e.val, by omega⟩)

theorem v2_at (b : Fin 16) (l : Fin 2304) (t : Fin 3) (h : Fin 4) (e : Fin 128) :
    res_main_v2 V (ix5 b l t h e) = tok (V (Proc.devRef .tc main_arg0)) t h b l e := by
  unfold res_main_v2
  clean_types
  pointwise [tok]
  exact congrArg (fun j => V (Proc.devRef .tc main_arg0) (ix3 b l j)) (Fin.ext (by show 3072 + (_ + _ + _) = 3072 + _ * _ + _ * _ + _; omega))

theorem v14_at (b : Fin 16) (x : Fin 256) (h : Fin 4) (e : Fin 128) :
    res_main_v14 V (ix4 b x h e) = tok (V (Proc.devRef .tc main_arg0)) 1 h b ⟨x.val, by omega⟩ e := by
  unfold res_main_v14 res_main_v4
  clean_types
  pointwise
  exact v2_at V b _ 1 h e

/-- The token at image row `r` and column `c`. -/
def img (r : Nat) (c : Nat) (hr : r < 32) (hc : c < 64) : Fin 2304 := ⟨256 + 64 * r + c, by omega⟩

theorem v74_at (b : Fin 16) (r : Fin 32) (n : Fin 4) (q : Fin 16) (h : Fin 4) (e : Fin 128) :
    res_main_v74 V (ix6 b r n q h e) = tok (V (Proc.devRef .tc main_arg0)) 0 h b (img r.val (16 * n.val + q.val) r.isLt (by omega)) e := by
  unfold res_main_v74 res_main_v3
  clean_types
  pointwise
  refine (v2_at V b _ 0 h e).trans ?_
  exact congrArg (fun l => tok (V (Proc.devRef .tc main_arg0)) 0 h b l e) (Fin.ext (by
    show 256 + (_ + _ + _) = 256 + _ * _ + (_ * _ + _); omega))

theorem v16_at (b : Fin 16) (x : Fin 256) (h : Fin 4) (e : Fin 128) :
    res_main_v16 V (ix4 b x h e) = tok (V (Proc.devRef .tc main_arg0)) 2 h b ⟨x.val, by omega⟩ e := by
  unfold res_main_v16 res_main_v4
  clean_types
  pointwise
  exact v2_at V b _ 2 h e

/-- The scale of the scores, the nearest single to `128 ^ (-1/2)`. -/
def scale : EReal := Ideal.ofBits FTy.f32 1035273459#32

/-- The score of query token `l` against key token `l'` in head `h`, as the reference forms it. -/
def score (p : S16x2304x8192.Idx → EReal) (h : Fin 4) (b : Fin 16) (l l' : Fin 2304) : EReal :=
  (∑ e : Fin 128, tok p 0 h b l e * tok p 1 h b l' e) * scale

/-- The key token of window place `(w, k)` for query row `r` and column block `n`. -/
def keyTok (r : Fin 32) (n : Fin 4) (w : Fin 8) (k : Fin 32) : Fin 2304 :=
  img (r0 r.val + w.val) (kc0 n.val + k.val) (by have := r0_le r.val; omega) (by have := kc0_le n.val; omega)

/-- The local score of the reference before the mask: the scaled product and the relative bias. -/
def refBias (rpb : S4x15x31.Idx → EReal) (h : Fin 4) (r : Fin 32) (n : Fin 4) (q : Fin 16) (w : Fin 8) (k : Fin 32) : EReal :=
  rpb (ix3 h ⟨r0 r.val + w.val + 7 - r.val, r0_rel_lt r w⟩ ⟨min (kc0 n.val + k.val + 15 - (16 * n.val + q.val)) 30, by omega⟩)

/-- Whether key column `kc0 n + k` lies in the window of query column `16 n + q`. -/
def colOk (n : Fin 4) (q : Fin 16) (k : Fin 32) : Prop :=
  c0 (16 * n.val + q.val) ≤ kc0 n.val + k.val ∧ kc0 n.val + k.val < c0 (16 * n.val + q.val) + 16

instance (n : Fin 4) (q : Fin 16) (k : Fin 32) : Decidable (colOk n q k) := by unfold colOk; infer_instance

theorem wrapRow (r : Fin 32) (w : Fin 8) : (Scalar.select (IntOp.cmpi CmpIPredicate.slt (BitVec.ofNat 32 (r0 r.val + w.val)) 0#32)
    (IntOp.addi (BitVec.ofNat 32 (r0 r.val + w.val)) 32#32) (BitVec.ofNat 32 (r0 r.val + w.val)) : BitVec 32) = BitVec.ofNat 32 (r0 r.val + w.val) := by
  revert r w; decide +kernel

theorem wrapCol (n : Fin 4) (k : Fin 32) : (Scalar.select (IntOp.cmpi CmpIPredicate.slt (BitVec.ofNat 32 (kc0 n.val + k.val)) 0#32)
    (IntOp.addi (BitVec.ofNat 32 (kc0 n.val + k.val)) 64#32) (BitVec.ofNat 32 (kc0 n.val + k.val)) : BitVec 32) = BitVec.ofNat 32 (kc0 n.val + k.val) := by
  revert n k; decide +kernel

theorem wrapRelRow (r : Fin 32) (w : Fin 8) : (Scalar.select (IntOp.cmpi CmpIPredicate.slt (BitVec.ofNat 32 (r0 r.val + w.val + 7 - r.val)) 0#32)
    (IntOp.addi (BitVec.ofNat 32 (r0 r.val + w.val + 7 - r.val)) 15#32) (BitVec.ofNat 32 (r0 r.val + w.val + 7 - r.val)) : BitVec 32) = BitVec.ofNat 32 (r0 r.val + w.val + 7 - r.val) := by
  revert r w; decide +kernel

theorem wrapRelCol (a : Fin 31) : (Scalar.select (IntOp.cmpi CmpIPredicate.slt (BitVec.ofNat 32 a.val) 0#32)
    (IntOp.addi (BitVec.ofNat 32 a.val) 31#32) (BitVec.ofNat 32 a.val) : BitVec 32) = BitVec.ofNat 32 a.val := by
  revert a; decide +kernel

theorem maskWord (n : Fin 4) (q : Fin 16) (k : Fin 32) :
    IntOp.andi (IntOp.cmpi CmpIPredicate.sge (BitVec.ofNat 32 (kc0 n.val + k.val)) (BitVec.ofNat 32 (c0 (16 * n.val + q.val))))
      (IntOp.cmpi CmpIPredicate.slt (BitVec.ofNat 32 (kc0 n.val + k.val)) (IntOp.addi (BitVec.ofNat 32 (c0 (16 * n.val + q.val))) 16#32))
    = if colOk n q k then 1#1 else 0#1 := by
  revert n q k; decide +kernel

/-- A masked scaled product plus a bias, with the queries, the keys and the bias replaced by equal ones. -/
theorem select_congr (c : BitVec 1) (f f' g g' : Fin 128 → EReal) (s B B' bot : EReal) (hf : ∀ e, f e = f' e) (hg : ∀ e, g e = g' e) (hB : B = B') :
    Scalar.select c ((∑ e, f e * g e) * s + B) bot = Scalar.select c ((∑ e, f' e * g' e) * s + B') bot := by
  rw [hB, funext hg, funext hf]

end Cert.Attn

end
-- ==== Proof.Attn.RefB.lean ====
/- The scores of the reference, read at an index. -/
module

public import proofs.«01_k».proof.Proof.Attn.RefA
public import proofs.«01_k».proof.Proof.Attn.Soft

@[expose] public section

set_option maxRecDepth 16384

noncomputable section

namespace Cert.Attn

open Cert.ReferenceIdeal Cert.ReferenceIdeal.Gen Cert.ReferenceIdeal.Value Idealize.ShloMosaic

variable (V : Valuation τ sig (Elt Ideal))

theorem v141_loc (b : Fin 16) (h : Fin 4) (r : Fin 32) (n : Fin 4) (q : Fin 16) (w : Fin 8) (k : Fin 32) :
    res_main_v141 V (ix6 b h r n q ⟨w.val * 32 + k.val, by omega⟩) =
      (if colOk n q k then
        score (V (Proc.devRef .tc main_arg0)) h b (img r.val (16 * n.val + q.val) r.isLt (by omega)) (keyTok r n w k)
          + refBias (V (Proc.devRef .tc main_arg1)) h r n q w k
      else (⊥ : EReal)) := by
  unfold res_main_v141
  clean_types
  pointwise
  rw [dif_pos (show w.val * 32 + k.val < 256 by omega), v30_at, v33_at]
  erw [maskWord]
  refine (select_congr _ _ (fun e => tok (V (Proc.devRef .tc main_arg0)) 0 h b (img r.val (16 * n.val + q.val) r.isLt (by omega)) e) _ (fun e => tok (V (Proc.devRef .tc main_arg0)) 1 h b (keyTok r n w k) e) _ _
    (refBias (V (Proc.devRef .tc main_arg1)) h r n q w k) _ (fun e => v74_at V b r n q h e) ?_ ?_).trans ?_
  · intro e
    refine (gather_rows_cols _ _ b r w n k h e ⟨r0 r.val + w.val, by have := r0_le r.val; omega⟩
      ⟨kc0 n.val + k.val, by have := kc0_le n.val; omega⟩ ?_ ?_).trans ?_
    · pointwise [res_main_v76]
      rw [v66_at]
      exact wrapRow r w
    · pointwise
      rw [v30_at]
      exact wrapCol n k
    · unfold res_main_v3
      pointwise
      refine (v2_at V b _ 1 h e).trans ?_
      exact congrArg (fun l => tok (V (Proc.devRef .tc main_arg0)) 1 h b l e) (Fin.ext (by
        show 256 + (_ * _ + _) = 256 + _ * _ + _; omega))
  · refine (gather_rel_bias _ _ h r n q w k ⟨r0 r.val + w.val + 7 - r.val, r0_rel_lt r w⟩
      ⟨min (kc0 n.val + k.val + 15 - (16 * n.val + q.val)) 30, by omega⟩ ?_ ?_).trans rfl
    · pointwise
      rw [v114_at]
      exact wrapRelRow r w
    · pointwise
      rw [v115_at]
      exact wrapRelCol ⟨min (kc0 n.val + k.val + 15 - (16 * n.val + q.val)) 30, by omega⟩
  · by_cases hc : colOk n q k
    · rw [if_pos hc, if_pos hc]; rfl
    · rw [if_neg hc, if_neg hc]
      exact ofBits_neg_inf

theorem v141_ctx (b : Fin 16) (h : Fin 4) (r : Fin 32) (n : Fin 4) (q : Fin 16) (x : Fin 256) :
    res_main_v141 V (ix6 b h r n q ⟨256 + x.val, by omega⟩) =
      score (V (Proc.devRef .tc main_arg0)) h b (img r.val (16 * n.val + q.val) r.isLt (by omega)) ⟨x.val, by omega⟩ := by
  unfold res_main_v141
  clean_types
  pointwise
  refine congrArg (fun z : EReal => z * scale) (Finset.sum_congr rfl fun e _ => ?_)
  rw [v74_at, v14_at]

end Cert.Attn

end
-- ==== Proof.Attn.RefS.lean ====
/- The softmax of the reference, read at an index: its maxima and its sums over the last axis. -/
module

public import proofs.«01_k».proof.Proof.Gen.ReferenceIdeal
public import Idealize.ShloMosaic.Lib.Pointwise
public import Idealize.ShloMosaic.Lib.IdealHost

@[expose] public section

set_option maxRecDepth 16384

noncomputable section

namespace Cert.Attn

open Cert.ReferenceIdeal Cert.ReferenceIdeal.Gen Idealize.ShloMosaic

/-- The source indices that drop to a result index when the last of four axes is reduced. -/
theorem fiber4 {n0 n1 n2 n3 : Nat} (h : (⟨4, ![n0, n1, n2, n3]⟩ : Shape).ReducesTo [3] ⟨3, ![n0, n1, n2]⟩)
    (a : Fin n0) (b : Fin n1) (c : Fin n2) (i : (⟨4, ![n0, n1, n2, n3]⟩ : Shape).Idx) :
    h.drop i = ix3 a b c ↔ ∃ k : Fin n3, ix4 a b c k = i := by
  constructor
  · intro e
    refine ⟨i 3, ?_⟩
    funext z; apply Fin.ext
    match z with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => rfl
  · rintro ⟨k, rfl⟩
    funext z
    apply Fin.ext
    match z with
    | ⟨0, _⟩ => rfl
    | ⟨1, _⟩ => rfl
    | ⟨2, _⟩ => rfl

/-- The same for the last of six axes. -/
theorem fiber6 {n0 n1 n2 n3 n4 n5 : Nat} (h : (⟨6, ![n0, n1, n2, n3, n4, n5]⟩ : Shape).ReducesTo [5] ⟨5, ![n0, n1, n2, n3, n4]⟩)
    (a : Fin n0) (b : Fin n1) (c : Fin n2) (d : Fin n3) (e : Fin n4) (i : (⟨6, ![n0, n1, n2, n3, n4, n5]⟩ : Shape).Idx) :
    h.drop i = ix5 a b c d e ↔ ∃ k : Fin n5, ix6 a b c d e k = i := by
  constructor
  · intro hh
    refine ⟨i 5, ?_⟩
    funext z; apply Fin.ext
    match z with
    | ⟨0, _⟩ => exact (congrArg Fin.val (congrFun hh 0)).symm
    | ⟨1, _⟩ => exact (congrArg Fin.val (congrFun hh 1)).symm
    | ⟨2, _⟩ => exact (congrArg Fin.val (congrFun hh 2)).symm
    | ⟨3, _⟩ => exact (congrArg Fin.val (congrFun hh 3)).symm
    | ⟨4, _⟩ => exact (congrArg Fin.val (congrFun hh 4)).symm
    | ⟨5, _⟩ => rfl
  · rintro ⟨k, rfl⟩
    funext z
    apply Fin.ext
    match z with
    | ⟨0, _⟩ => rfl
    | ⟨1, _⟩ => rfl
    | ⟨2, _⟩ => rfl
    | ⟨3, _⟩ => rfl
    | ⟨4, _⟩ => rfl

theorem max4 {n0 n1 n2 n3 : Nat} (h : (⟨4, ![n0, n1, n2, n3]⟩ : Shape).ReducesTo [3] ⟨3, ![n0, n1, n2]⟩) {u : Shape} (hu : 0 < u.numel)
    (a : Fin n0) (b : Fin n1) (c : Fin n2) (x : (⟨4, ![n0, n1, n2, n3]⟩ : Shape).Idx → EReal) (init : u.Idx → EReal) :
    Host.reduce (max : EReal → EReal → EReal) x init h hu (ix3 a b c)
      = (Finset.univ : Finset (Fin n3)).fold max (init (Shape.Idx.first hu)) (fun k => x (ix4 a b c k)) := by
  rw [Host.reduce_eq_fold]
  exact Finset.fold_filter_eq_fold_of_fiber _ _ (fun k : Fin n3 => ix4 a b c k) (fun _ _ e => congrFun e 3) (fiber4 h a b c) _ x

theorem max6 {n0 n1 n2 n3 n4 n5 : Nat} (h : (⟨6, ![n0, n1, n2, n3, n4, n5]⟩ : Shape).ReducesTo [5] ⟨5, ![n0, n1, n2, n3, n4]⟩) {u : Shape} (hu : 0 < u.numel)
    (a : Fin n0) (b : Fin n1) (c : Fin n2) (d : Fin n3) (e : Fin n4) (x : (⟨6, ![n0, n1, n2, n3, n4, n5]⟩ : Shape).Idx → EReal) (init : u.Idx → EReal) :
    Host.reduce (max : EReal → EReal → EReal) x init h hu (ix5 a b c d e)
      = (Finset.univ : Finset (Fin n5)).fold max (init (Shape.Idx.first hu)) (fun k => x (ix6 a b c d e k)) := by
  rw [Host.reduce_eq_fold]
  exact Finset.fold_filter_eq_fold_of_fiber _ _ (fun k : Fin n5 => ix6 a b c d e k) (fun _ _ e => congrFun e 5) (fiber6 h a b c d e) _ x

theorem sum4 {n0 n1 n2 n3 : Nat} (h : (⟨4, ![n0, n1, n2, n3]⟩ : Shape).ReducesTo [3] ⟨3, ![n0, n1, n2]⟩) {u : Shape} (hu : 0 < u.numel)
    (a : Fin n0) (b : Fin n1) (c : Fin n2) (x : (⟨4, ![n0, n1, n2, n3]⟩ : Shape).Idx → EReal) (init : FVec Ideal u .f32) :
    (Host.reduceAdd (F := Ideal) (φ := .f32) x init h hu) (ix3 a b c)
      = init (Shape.Idx.first hu) + ∑ k : Fin n3, x (ix4 a b c k) := by
  show Ideal.hostReduceAdd h x (init (Shape.Idx.first hu)) _ = _
  unfold Ideal.hostReduceAdd
  exact congrArg _ (Finset.sum_filter_eq_sum_of_fiber _ (fun k : Fin n3 => ix4 a b c k) (fun _ _ e => congrFun e 3) (fiber4 h a b c) x)

theorem sum6 {n0 n1 n2 n3 n4 n5 : Nat} (h : (⟨6, ![n0, n1, n2, n3, n4, n5]⟩ : Shape).ReducesTo [5] ⟨5, ![n0, n1, n2, n3, n4]⟩) {u : Shape} (hu : 0 < u.numel)
    (a : Fin n0) (b : Fin n1) (c : Fin n2) (d : Fin n3) (e : Fin n4) (x : (⟨6, ![n0, n1, n2, n3, n4, n5]⟩ : Shape).Idx → EReal) (init : FVec Ideal u .f32) :
    (Host.reduceAdd (F := Ideal) (φ := .f32) x init h hu) (ix5 a b c d e)
      = init (Shape.Idx.first hu) + ∑ k : Fin n5, x (ix6 a b c d e k) := by
  show Ideal.hostReduceAdd h x (init (Shape.Idx.first hu)) _ = _
  unfold Ideal.hostReduceAdd
  exact congrArg _ (Finset.sum_filter_eq_sum_of_fiber _ (fun k : Fin n5 => ix6 a b c d e k) (fun _ _ e => congrFun e 5) (fiber6 h a b c d e) x)

/-- The context's softmax: a numerator, from the row's maximum. -/
theorem numOf_ctx (S : FVec Ideal S16x4x256x256 .f32) (M : FVec Ideal S16x4x256 .f32) (b : Fin 16) (h : Fin 4) (l : Fin 256) (x : Fin 256) :
    (Host.exp (subf S (broadcastInDim S16x4x256x256 ![0, 1, 2, 3] bcast_S16x4x256x1_S16x4x256x256_0_1_2_3 (broadcastInDim S16x4x256x1 ![0, 1, 2] bcast_S16x4x256_S16x4x256x1_0_1_2 (maximumf (broadcastInDim S16x4x256 ![] bcast_S_S16x4x256 (constant S_ .f32 0xFF800000#32)) M)))))
      (ix4 b h l x) = Ideal.exp (S (ix4 b h l x) - max (Ideal.ofBits FTy.f32 4286578688#32) (M (ix3 b h l))) := by
  pointwise

/-- The context's softmax: a weight, from the row's sum. -/
theorem divOf_ctx (E : FVec Ideal S16x4x256x256 .f32) (M : FVec Ideal S16x4x256 .f32) (b : Fin 16) (h : Fin 4) (l : Fin 256) (x : Fin 256) :
    (Host.divf E (broadcastInDim S16x4x256x256 ![0, 1, 2, 3] bcast_S16x4x256x1_S16x4x256x256_0_1_2_3 (broadcastInDim S16x4x256x1 ![0, 1, 2] bcast_S16x4x256_S16x4x256x1_0_1_2 M)))
      (ix4 b h l x) = Ideal.div (E (ix4 b h l x)) (M (ix3 b h l)) := by
  pointwise

/-- The context's softmax: the row's maximum. -/
theorem rowMax_ctx (S : FVec Ideal S16x4x256x256 .f32) (b : Fin 16) (h : Fin 4) (l : Fin 256)  :
    (Host.reduce FloatOps.maximumf S (constant S_ .f32 0xFF800000#32) reducesTo_S16x4x256x256_S16x4x256_d3 h_S_) (ix3 b h l)
      = Finset.fold max (Ideal.ofBits FTy.f32 4286578688#32) (fun x => S (ix4 b h l x)) Finset.univ :=
  max4 reducesTo_S16x4x256x256_S16x4x256_d3 h_S_ b h l S (constant (F := Ideal) S_ .f32 0xFF800000#32)

/-- The context's softmax: the row's sum. -/
theorem rowSum_ctx (E : FVec Ideal S16x4x256x256 .f32) (b : Fin 16) (h : Fin 4) (l : Fin 256)  :
    (Host.reduceAdd E (constant S_ .f32 0x00000000#32) reducesTo_S16x4x256x256_S16x4x256_d3 h_S_) (ix3 b h l) = (∑ x, E (ix4 b h l x) : EReal) := by
  refine (sum4 reducesTo_S16x4x256x256_S16x4x256_d3 h_S_ b h l E (constant (F := Ideal) S_ .f32 0x00000000#32)).trans ?_
  exact (congrArg (fun z : EReal => z + _) Ideal.ofBits_zero_f32).trans (zero_add _)

/-- The image's softmax: a numerator, from the row's maximum. -/
theorem numOf_img (S : FVec Ideal S16x4x32x4x16x512 .f32) (M : FVec Ideal S16x4x32x4x16 .f32) (b : Fin 16) (h : Fin 4) (r : Fin 32) (n : Fin 4) (q : Fin 16) (x : Fin 512) :
    (Host.exp (subf S (broadcastInDim S16x4x32x4x16x512 ![0, 1, 2, 3, 4, 5] bcast_S16x4x32x4x16x1_S16x4x32x4x16x512_0_1_2_3_4_5 (broadcastInDim S16x4x32x4x16x1 ![0, 1, 2, 3, 4] bcast_S16x4x32x4x16_S16x4x32x4x16x1_0_1_2_3_4 (maximumf (broadcastInDim S16x4x32x4x16 ![] bcast_S_S16x4x32x4x16 (constant S_ .f32 0xFF800000#32)) M)))))
      (ix6 b h r n q x) = Ideal.exp (S (ix6 b h r n q x) - max (Ideal.ofBits FTy.f32 4286578688#32) (M (ix5 b h r n q))) := by
  pointwise

/-- The image's softmax: a weight, from the row's sum. -/
theorem divOf_img (E : FVec Ideal S16x4x32x4x16x512 .f32) (M : FVec Ideal S16x4x32x4x16 .f32) (b : Fin 16) (h : Fin 4) (r : Fin 32) (n : Fin 4) (q : Fin 16) (x : Fin 512) :
    (Host.divf E (broadcastInDim S16x4x32x4x16x512 ![0, 1, 2, 3, 4, 5] bcast_S16x4x32x4x16x1_S16x4x32x4x16x512_0_1_2_3_4_5 (broadcastInDim S16x4x32x4x16x1 ![0, 1, 2, 3, 4] bcast_S16x4x32x4x16_S16x4x32x4x16x1_0_1_2_3_4 M)))
      (ix6 b h r n q x) = Ideal.div (E (ix6 b h r n q x)) (M (ix5 b h r n q)) := by
  pointwise

/-- The image's softmax: the row's maximum. -/
theorem rowMax_img (S : FVec Ideal S16x4x32x4x16x512 .f32) (b : Fin 16) (h : Fin 4) (r : Fin 32) (n : Fin 4) (q : Fin 16)  :
    (Host.reduce FloatOps.maximumf S (constant S_ .f32 0xFF800000#32) reducesTo_S16x4x32x4x16x512_S16x4x32x4x16_d5 h_S_) (ix5 b h r n q)
      = Finset.fold max (Ideal.ofBits FTy.f32 4286578688#32) (fun x => S (ix6 b h r n q x)) Finset.univ :=
  max6 reducesTo_S16x4x32x4x16x512_S16x4x32x4x16_d5 h_S_ b h r n q S (constant (F := Ideal) S_ .f32 0xFF800000#32)

/-- The image's softmax: the row's sum. -/
theorem rowSum_img (E : FVec Ideal S16x4x32x4x16x512 .f32) (b : Fin 16) (h : Fin 4) (r : Fin 32) (n : Fin 4) (q : Fin 16)  :
    (Host.reduceAdd E (constant S_ .f32 0x00000000#32) reducesTo_S16x4x32x4x16x512_S16x4x32x4x16_d5 h_S_) (ix5 b h r n q) = (∑ x, E (ix6 b h r n q x) : EReal) := by
  refine (sum6 reducesTo_S16x4x32x4x16x512_S16x4x32x4x16_d5 h_S_ b h r n q E (constant (F := Ideal) S_ .f32 0x00000000#32)).trans ?_
  exact (congrArg (fun z : EReal => z + _) Ideal.ofBits_zero_f32).trans (zero_add _)

end Cert.Attn

end
-- ==== Proof.Attn.RefC.lean ====
/- The softmax weights of the reference, read at an index. -/
module

public import proofs.«01_k».proof.Proof.Attn.RefB
public import proofs.«01_k».proof.Proof.Attn.RefS

@[expose] public section

set_option maxRecDepth 16384

noncomputable section

namespace Cert.Attn

open Cert.ReferenceIdeal Cert.ReferenceIdeal.Gen Cert.ReferenceIdeal.Value Idealize.ShloMosaic

variable (V : Valuation τ sig (Elt Ideal))

theorem v148_at (b : Fin 16) (h : Fin 4) (r : Fin 32) (n : Fin 4) (q : Fin 16) (x : Fin 512) :
    res_main_v148 V (ix6 b h r n q x) = softE (fun x => res_main_v141 V (ix6 b h r n q x)) x := by
  unfold res_main_v148
  refine (numOf_img (res_main_v141 V) _ b h r n q x).trans ?_
  rw [rowMax_img]
  rfl

theorem v152_at (b : Fin 16) (h : Fin 4) (r : Fin 32) (n : Fin 4) (q : Fin 16) (x : Fin 512) :
    res_main_v152 V (ix6 b h r n q x) = softW (fun x => res_main_v141 V (ix6 b h r n q x)) x := by
  unfold res_main_v152
  refine (divOf_img (res_main_v148 V) _ b h r n q x).trans ?_
  rw [rowSum_img]
  exact congrArg₂ Ideal.div (v148_at V b h r n q x) (Finset.sum_congr rfl fun y _ => v148_at V b h r n q y)

theorem v163_at (b : Fin 16) (h : Fin 4) (l x : Fin 256) :
    res_main_v163 V (ix4 b h l x) = score (V (Proc.devRef .tc main_arg0)) h b ⟨l.val, by omega⟩ ⟨x.val, by omega⟩ := by
  unfold res_main_v163 res_main_v4
  clean_types
  pointwise
  refine congrArg (fun z : EReal => z * scale) (Finset.sum_congr rfl fun e _ => ?_)
  rw [v2_at, v14_at]

theorem v170_at (b : Fin 16) (h : Fin 4) (l x : Fin 256) :
    res_main_v170 V (ix4 b h l x) = softE (fun x => res_main_v163 V (ix4 b h l x)) x := by
  unfold res_main_v170
  refine (numOf_ctx (res_main_v163 V) _ b h l x).trans ?_
  rw [rowMax_ctx]
  rfl

end Cert.Attn

end
-- ==== Proof.Attn.RefD.lean ====
/- The result of the reference, read at an index. -/
module

public import proofs.«01_k».proof.Proof.Attn.RefC
public import proofs.«01_k».proof.Proof.Attn.RefS

@[expose] public section

set_option maxRecDepth 16384

noncomputable section

namespace Cert.Attn

open Cert.ReferenceIdeal Cert.ReferenceIdeal.Gen Cert.ReferenceIdeal.Value Idealize.ShloMosaic

section
variable {F : FTy → Type} [FloatOps F] (V : Valuation τ sig (Elt F))

/-- The weights of the context's own attention. -/
def refW : FVec F S16x4x256x256 .f32 :=
  Host.divf (res_main_v170 V) (broadcastInDim S16x4x256x256 ![0, 1, 2, 3] bcast_S16x4x256x1_S16x4x256x256_0_1_2_3 (broadcastInDim S16x4x256x1 ![0, 1, 2] bcast_S16x4x256_S16x4x256x1_0_1_2 (Host.reduceAdd (res_main_v170 V) (constant S_ .f32 0x00000000#32) reducesTo_S16x4x256x256_S16x4x256_d3 h_S_)))

/-- The result buffer of the reference after its run, as a term over the arguments. -/
def refOutG : (Proc.devRef .tc main_v179 : DevRef τ sig).ty.Contents (Elt F) :=
  shapeCast _ (concatenate S16x2304x4x128 1 [⟨S16x256x4x128, (transpose S16x256x4x128 [0, 3, 1, 2] (Host.dotGeneral dot_S16x256x4x128_S16x4x256x256_S16x4x128x256_1_3_3_2_02_01 none (res_main_v16 V) (refW V)) transposes_S16x4x128x256_S16x256x4x128_0_3_1_2)⟩, ⟨S16x2048x4x128, (shapeCast _ (addf (transpose S16x32x4x16x4x128 [0, 1, 2, 5, 3, 4] (Host.dotGeneral dot_S16x32x8x4x32x4x128_S16x4x32x4x16x8x32_S16x32x4x4x128x16_42_65_6_4_0135_0231 none (Host.gather gather_S16x32x64x4x128_S32x8x4x32x2_S16x32x8x4x32x4x128_056_12_n_n_12_4_16114128 (shapeCast _ (shapeCast _ (extractStridedSlice S16x2048x1x4x128 ![0, 0, 2, 0, 0] (res_main_v3 V) slices_S16x2048x3x4x128_S16x2048x1x4x128_0_0_2_0_0) shapeCasts_S16x2048x1x4x128_S16x2048x4x128) shapeCasts_S16x2048x4x128_S16x32x64x4x128) (concatenate S32x8x4x32x2 4 [⟨S32x8x4x32x1, (broadcastInDim S32x8x4x32x1 ![0, 1, 2, 3] bcast_S32x8x4x32_S32x8x4x32x1_0_1_2_3 (broadcastInDim S32x8x4x32 ![0, 1, 2, 3] bcast_S32x8x1x1_S32x8x4x32_0_1_2_3 (select (cmpi .slt (res_main_v94 V) (broadcastInDim S32x8x1x1 ![] bcast_S_S32x8x1x1 (constantI S_ 32 0#32))) (addi (res_main_v94 V) (broadcastInDim S32x8x1x1 ![] bcast_S_S32x8x1x1 (constantI S_ 32 32#32))) (res_main_v94 V))))⟩, ⟨S32x8x4x32x1, (broadcastInDim S32x8x4x32x1 ![0, 1, 2, 3] bcast_S32x8x4x32_S32x8x4x32x1_0_1_2_3 (broadcastInDim S32x8x4x32 ![2, 3] bcast_S4x32_S32x8x4x32_2_3 (select (cmpi .slt (res_main_v30 V) (broadcastInDim S4x32 ![] bcast_S_S4x32 (constantI S_ 32 0#32))) (addi (res_main_v30 V) (broadcastInDim S4x32 ![] bcast_S_S4x32 (constantI S_ 32 64#32))) (res_main_v30 V))))⟩] concatenates_S32x8x4x32x1_S32x8x4x32x1_S32x8x4x32x2_d4)) (shapeCast _ (extractStridedSlice S16x4x32x4x16x256 ![0, 0, 0, 0, 0, 0] (res_main_v152 V) slices_S16x4x32x4x16x512_S16x4x32x4x16x256_0_0_0_0_0_0) shapeCasts_S16x4x32x4x16x256_S16x4x32x4x16x8x32)) transposes_S16x32x4x4x128x16_S16x32x4x16x4x128_0_1_2_5_3_4) (transpose S16x32x4x16x4x128 [0, 3, 4, 5, 1, 2] (Host.dotGeneral dot_S16x256x4x128_S16x4x32x4x16x256_S16x4x128x32x4x16_1_5_3_234_02_01 none (res_main_v16 V) (extractStridedSlice S16x4x32x4x16x256 ![0, 0, 0, 0, 0, 256] (res_main_v152 V) slices_S16x4x32x4x16x512_S16x4x32x4x16x256_0_0_0_0_0_256)) transposes_S16x4x128x32x4x16_S16x32x4x16x4x128_0_3_4_5_1_2)) shapeCasts_S16x32x4x16x4x128_S16x2048x4x128)⟩] concatenates_S16x256x4x128_S16x2048x4x128_S16x2304x4x128_d1) shapeCasts_S16x2304x4x128_S16x2304x512

end

variable (V : Valuation τ sig (Elt Ideal))

/-- The weights of the context's own attention, at an index. -/
theorem refW_at (b : Fin 16) (h : Fin 4) (l x : Fin 256) : refW V (ix4 b h l x) = softW (fun x => res_main_v163 V (ix4 b h l x)) x := by
  unfold refW
  refine (divOf_ctx (res_main_v170 V) _ b h l x).trans ?_
  rw [rowSum_ctx]
  exact congrArg₂ Ideal.div (v170_at V b h l x) (Finset.sum_congr rfl fun y _ => v170_at V b h l y)

/-- A row of the context in the reference: the scores of context token `l`. -/
def rowC (p : S16x2304x8192.Idx → EReal) (b : Fin 16) (h : Fin 4) (l : Fin 256) (x : Fin 256) : EReal :=
  score p h b ⟨l.val, by omega⟩ ⟨x.val, by omega⟩

/-- A row of the image in the reference: the scores of the image token at row `r`, column `16 n + q`. -/
def rowI (b : Fin 16) (h : Fin 4) (r : Fin 32) (n : Fin 4) (q : Fin 16) (x : Fin 512) : EReal :=
  res_main_v141 V (ix6 b h r n q x)

/-- The reference's result at a token of the context. -/
theorem refOut_ctx (b : Fin 16) (h : Fin 4) (l : Fin 256) (d : Fin 128) :
    refOutG V (ix3 b ⟨l.val, by omega⟩ ⟨128 * h.val + d.val, by omega⟩) =
      (∑ x : Fin 256, tok (V (Proc.devRef .tc main_arg0)) 2 h b ⟨x.val, by omega⟩ d
        * softW (rowC (V (Proc.devRef .tc main_arg0)) b h l) x : EReal) := by
  unfold refOutG
  clean_types
  pointwise
  refine Finset.sum_congr rfl fun x _ => ?_
  rw [v16_at, refW_at]
  refine congrArg (fun S => _ * softW S x) (funext fun y => ?_)
  exact v163_at V b h l y

/-- The reference's result at a token of the image. -/
theorem refOut_img (b : Fin 16) (h : Fin 4) (r : Fin 32) (n : Fin 4) (q : Fin 16) (d : Fin 128) :
    refOutG V (ix3 b (img r.val (16 * n.val + q.val) r.isLt (by omega)) ⟨128 * h.val + d.val, by omega⟩) =
      ((∑ k : Fin 32, ∑ w : Fin 8, tok (V (Proc.devRef .tc main_arg0)) 2 h b (keyTok r n w k) d
          * softW (rowI V b h r n q) ⟨w.val * 32 + k.val, by omega⟩)
        + ∑ x : Fin 256, tok (V (Proc.devRef .tc main_arg0)) 2 h b ⟨x.val, by omega⟩ d
          * softW (rowI V b h r n q) ⟨256 + x.val, by omega⟩ : EReal) := by
  unfold refOutG img
  clean_types
  pointwise
  rw [dif_neg (by omega)]
  have e1 : (256 + 64 * r.val + (16 * n.val + q.val) - 256) / 64 = r.val := by omega
  have e2 : (256 + 64 * r.val + (16 * n.val + q.val) - 256) / 16 % 4 = n.val := by omega
  have e3 : (256 + 64 * r.val + (16 * n.val + q.val) - 256) % 16 = q.val := by omega
  simp only [e1, e2, e3, Fin.eta]
  refine congrArg₂ (fun a c : EReal => a + c) ?_ ?_
  · refine Finset.sum_congr rfl fun k _ => Finset.sum_congr rfl fun w _ => ?_
    refine congrArg₂ (fun a c : EReal => a * c) ?_ (v152_at V b h r n q _)
    refine (gather_rows_cols _ _ b r w n k h d ⟨r0 r.val + w.val, by have := r0_le r.val; omega⟩
      ⟨kc0 n.val + k.val, by have := kc0_le n.val; omega⟩ ?_ ?_).trans ?_
    · pointwise [res_main_v94]
      rw [v66_at]
      exact wrapRow r w
    · pointwise
      rw [v30_at]
      exact wrapCol n k
    · unfold res_main_v3
      pointwise
      refine (v2_at V b _ 2 h d).trans ?_
      exact congrArg (fun l => tok (V (Proc.devRef .tc main_arg0)) 2 h b l d) (Fin.ext (by
        show 256 + (_ * _ + _) = 256 + _ * _ + _; omega))
  · refine Finset.sum_congr rfl fun x _ => ?_
    exact congrArg₂ (fun a c : EReal => a * c) (v16_at V b x h d) (v152_at V b h r n q _)

end Cert.Attn

end
-- ==== Proof.Attn.Equal.lean ====
/- The kernel's attention at a token is the reference's result there. -/
module

public import proofs.«01_k».proof.Proof.Attn.Match
public import proofs.«01_k».proof.Proof.Attn.TabAt
public import proofs.«01_k».proof.Proof.Attn.ColsAt
public import proofs.«01_k».proof.Proof.Attn.RefD

@[expose] public section

set_option maxRecDepth 16384

noncomputable section

namespace Cert.Attn

open Idealize.ShloMosaic

/-- A score has one weight. -/
theorem HasW.unique {s : EReal} {w w' : ℝ} (h : HasW s w) (h' : HasW s w') : w = w' := by
  rcases h with ⟨hs, rfl⟩ | ⟨t, hs, rfl⟩ <;> rcases h' with ⟨hs', rfl⟩ | ⟨t', hs', rfl⟩
  · rfl
  · exact absurd (hs'.symm.trans hs) (EReal.coe_ne_bot _)
  · exact absurd (hs.symm.trans hs') (EReal.coe_ne_bot _)
  · exact congrArg Real.exp (EReal.coe_injective (hs.symm.trans hs'))

/-- The scale is a real number. -/
theorem scale_real : ∃ r : ℝ, scale = r := by
  refine ⟨(Ideal.ofBits FTy.f32 1035273459#32).toReal, (EReal.coe_toReal ?_ ?_).symm⟩ <;>
    simp [scale, Ideal.ofBits, Ideal.ieee, -EReal.coe_mul]

/-- The kernel's score, with the scale inside the product, is the reference's. -/
theorem kscore_eq (q k : Fin 128 → EReal) (a b : Fin 128 → ℝ) (s : ℝ) (hs : scale = s) (hq : ∀ e, q e = (a e : EReal)) (hk : ∀ e, k e = (b e : EReal)) :
    kscore q k = (((∑ e, a e * b e) * s : ℝ) : EReal) := by
  unfold kscore
  rw [Finset.sum_mul]
  refine sum_eq _ _ fun e => ?_
  rw [hq, hk, show Ideal.ofBits FTy.f32 1035273459#32 = (s : EReal) from hs, ← EReal.coe_mul, ← EReal.coe_mul]
  exact congrArg _ (by ring)

theorem score_eq (p : ReferenceIdeal.S16x2304x8192.Idx → EReal) (h : Fin 4) (b : Fin 16) (l l' : Fin 2304) (u v : Fin 128 → ℝ) (s : ℝ) (hs : scale = s)
    (hq : ∀ e, tok p 0 h b l e = (u e : EReal)) (hk : ∀ e, tok p 1 h b l' e = (v e : EReal)) :
    score p h b l l' = (((∑ e, u e * v e) * s : ℝ) : EReal) := by
  unfold score
  rw [hs, sum_eq _ (fun e => u e * v e) (fun e => by rw [hq, hk, ← EReal.coe_mul]), ← EReal.coe_mul]

theorem r0_split : ∀ (j : Fin 8) (a : Fin 4), r0 (4 * j.val + a.val) = 4 * (kt j.val - 1) + tabLo (var j) a := by decide
theorem off_split : ∀ (j : Fin 8) (a : Fin 4), tabOff (var j) a + (4 * j.val + a.val) = r0 (4 * j.val + a.val) + 7 := by decide
theorem tabLo_le : ∀ (v : Fin 3) (a : Fin 4), tabLo v a ≤ 4 := by decide

/-- The image row of place `a` of query tile `j`. -/
def row (j : Fin 8) (a : Fin 4) : Fin 32 := ⟨4 * j.val + a.val, by omega⟩
/-- The place in a query tile. -/
def place (a : Fin 4) (n : Fin 4) (q : Fin 16) : Fin 256 := ⟨64 * a.val + (16 * n.val + q.val), by omega⟩
/-- The place among the 768 keys of a tile of window place `(w, k)`. -/
def keyPl (j : Fin 8) (a : Fin 4) (n : Fin 4) (w : Fin 8) (k : Fin 32) : Fin 768 :=
  ⟨64 * (tabLo (var j) a + w.val) + (kc0 n.val + k.val), by have := tabLo_le (var j) a; have := kc0_le n.val; omega⟩

theorem qry_img (j : Fin 8) (a n : Fin 4) (q : Fin 16) :
    qryTk j (place a n q) = img (row j a).val (16 * n.val + q.val) (row j a).isLt (by omega) :=
  Fin.ext (by show 256 * (j.val + 1) + (64 * a.val + (16 * n.val + q.val)) = 256 + 64 * (4 * j.val + a.val) + (16 * n.val + q.val); omega)

theorem key_tok (j : Fin 8) (a n : Fin 4) (w : Fin 8) (k : Fin 32) : keyTk j (keyPl j a n w k) = keyTok (row j a) n w k :=
  Fin.ext (by
    show 256 * kt j.val + (64 * (tabLo (var j) a + w.val) + (kc0 n.val + k.val)) = 256 + 64 * (r0 (4 * j.val + a.val) + w.val) + (kc0 n.val + k.val)
    rw [r0_split]
    unfold kt
    omega)

section
variable (rpb : FVec Ideal KernelIdeal.S4x15x31 .f32)

/-- The bias the kernel reads, outside the window and inside. -/
theorem bias_at (v : Fin 3) (a : Fin 4) (h : Fin 4) (c : Fin 64) (x : Fin 768) :
    @Eq EReal (tab (F := Ideal) (cols rpb) (ix4 h v ⟨64 * a.val + c.val, by omega⟩ x))
      (if hx : (tabLo v a ≤ x.val / 64 ∧ x.val / 64 < tabLo v a + 8) ∧ (c0 c.val ≤ x.val % 64 ∧ x.val % 64 < c0 c.val + 16) then
        rpb (ix3 h ⟨x.val / 64 - tabLo v a + tabOff v a, by have := tabOff_le v a; omega⟩ ⟨min (x.val % 64 + 15 - c.val) 30, by omega⟩) else ⊥) := by
  have hx : x = ⟨64 * (⟨x.val / 64, by omega⟩ : Fin 12).val + (⟨x.val % 64, by omega⟩ : Fin 64).val, by show 64 * (x.val / 64) + x.val % 64 < 768; omega⟩ :=
    Fin.ext (by show x.val = 64 * (x.val / 64) + x.val % 64; omega)
  refine Eq.trans (congrArg (fun z => tab (F := Ideal) (cols rpb) (ix4 h v ⟨64 * a.val + c.val, by omega⟩ z)) hx) ?_
  refine (tabs_at (cols rpb) v a ⟨x.val / 64, by omega⟩ h c ⟨x.val % 64, by omega⟩).trans ?_
  by_cases h1 : tabLo v a ≤ x.val / 64 ∧ x.val / 64 < tabLo v a + 8
  · refine (sqAt_in _ v a ⟨x.val / 64, by omega⟩ h c ⟨x.val % 64, by omega⟩ h1).trans ?_
    refine (cols_at rpb h _ c ⟨x.val % 64, by omega⟩).trans ?_
    by_cases h2 : c0 c.val ≤ x.val % 64 ∧ x.val % 64 < c0 c.val + 16
    · rw [dif_pos ⟨h1, h2⟩]
      exact if_pos h2
    · rw [dif_neg fun hh => h2 hh.2]
      exact if_neg h2
  · rw [dif_neg fun hh => h1 hh.1]
    exact sqAt_out _ v a ⟨x.val / 64, by omega⟩ h c ⟨x.val % 64, by omega⟩ h1

/-- At a window place the kernel reads the reference's bias. -/
theorem bias_in (j : Fin 8) (a n : Fin 4) (q : Fin 16) (h : Fin 4) (w : Fin 8) (k : Fin 32) :
    @Eq EReal (tab (F := Ideal) (cols rpb) (ix4 h (var j) (place a n q) (keyPl j a n w k)))
      (if colOk n q k then refBias rpb h (row j a) n q w k else ⊥) := by
  refine (bias_at rpb (var j) a h ⟨16 * n.val + q.val, by omega⟩ (keyPl j a n w k)).trans ?_
  have hk := kc0_le n.val
  have hd : (keyPl j a n w k).val / 64 = tabLo (var j) a + w.val := by
    show (64 * (tabLo (var j) a + w.val) + (kc0 n.val + k.val)) / 64 = _; omega
  have hm : (keyPl j a n w k).val % 64 = kc0 n.val + k.val := by
    show (64 * (tabLo (var j) a + w.val) + (kc0 n.val + k.val)) % 64 = _; omega
  by_cases hc : colOk n q k
  · have hh : (tabLo (var j) a ≤ (keyPl j a n w k).val / 64 ∧ (keyPl j a n w k).val / 64 < tabLo (var j) a + 8)
        ∧ (c0 (16 * n.val + q.val) ≤ (keyPl j a n w k).val % 64 ∧ (keyPl j a n w k).val % 64 < c0 (16 * n.val + q.val) + 16) := by
      rw [hd, hm]; exact ⟨⟨by omega, by omega⟩, hc⟩
    refine (dif_pos hh).trans ((if_pos hc).symm ▸ ?_)
    unfold refBias
    refine congrArg₂ (fun x y => rpb (ix3 h x y)) (Fin.ext ?_) (Fin.ext ?_)
    · show (keyPl j a n w k).val / 64 - tabLo (var j) a + tabOff (var j) a = r0 (4 * j.val + a.val) + w.val + 7 - (4 * j.val + a.val)
      rw [hd]
      have := off_split j a
      omega
    · show min ((keyPl j a n w k).val % 64 + 15 - (16 * n.val + q.val)) 30 = min (kc0 n.val + k.val + 15 - (16 * n.val + q.val)) 30
      rw [hm]
  · rw [if_neg hc]
    refine dif_neg fun hh => hc ?_
    have h2 := hh.2
    rw [hm] at h2
    exact h2

end

end Cert.Attn

end
-- ==== Proof.Attn.Same.lean ====
/- At every token the kernel's attention and the reference's are one value, the arguments being real. -/
module

public import proofs.«01_k».proof.Proof.Attn.Equal

@[expose] public section

set_option maxRecDepth 16384

noncomputable section

namespace Cert.Attn

open Idealize.ShloMosaic

variable (V : Valuation ReferenceIdeal.τ ReferenceIdeal.sig (Elt Ideal)) (h : Fin 4) (b : Fin 16)
variable (x0 x1 x2 : Vec Ideal KernelIdeal.S1x2304x128 .bf16) (x3 : Vec Ideal KernelIdeal.S1x3x256x768 .f32)

/-- The context tokens. -/
theorem same_ctx (P : ReferenceIdeal.S16x2304x8192.Idx → ℝ) (hP : ∀ i, @Eq EReal (V (Proc.devRef .tc ReferenceIdeal.main_arg0) i) (P i)) (s : ℝ) (hs : scale = s)
    (h0 : ∀ T e, @Eq EReal (x0 (ix3 0 T e)) (tok (V (Proc.devRef .tc ReferenceIdeal.main_arg0)) 0 h b T e))
    (h1 : ∀ T e, @Eq EReal (x1 (ix3 0 T e)) (tok (V (Proc.devRef .tc ReferenceIdeal.main_arg0)) 1 h b T e))
    (h2 : ∀ T e, @Eq EReal (x2 (ix3 0 T e)) (tok (V (Proc.devRef .tc ReferenceIdeal.main_arg0)) 2 h b T e))
    (y : Fin 256) (d : Fin 128) :
    ctxV x0 x1 x2 y d = refOutG V (ix3 b (ctxTk y) ⟨128 * h.val + d.val, by omega⟩) := by
  have ht : ∀ t T e, tok (V (Proc.devRef .tc ReferenceIdeal.main_arg0)) t h b T e = (P (ix3 b T ⟨3072 + 512 * t.val + 128 * h.val + e.val, by omega⟩) : EReal) :=
    fun t T e => hP _
  refine Eq.trans ?_ (refOut_ctx V b h y d).symm
  unfold ctxV
  refine (attC_eq _ _ (fun x : Fin 256 => _) (fun x : Fin 256 => _)
    (fun x => kscore_eq _ _ _ _ s hs (fun e => (h0 _ e).trans (ht 0 _ e)) (fun e => (h1 _ e).trans (ht 1 _ e)))
    (fun x => (h2 _ d).trans (ht 2 _ d))).trans ?_
  exact (refC_eq _ _ (fun x : Fin 256 => _) (fun x : Fin 256 => _)
    (fun x => score_eq _ h b _ _ _ _ s hs (fun e => ht 0 _ e) (fun e => ht 1 _ e)) (fun x => ht 2 _ d)).symm

/-- The image tokens. -/
theorem same_img (P : ReferenceIdeal.S16x2304x8192.Idx → ℝ) (hP : ∀ i, @Eq EReal (V (Proc.devRef .tc ReferenceIdeal.main_arg0) i) (P i)) (s : ℝ) (hs : scale = s)
    (R : ReferenceIdeal.S4x15x31.Idx → ℝ) (hR : ∀ i, @Eq EReal (V (Proc.devRef .tc ReferenceIdeal.main_arg1) i) (R i))
    (h0 : ∀ T e, @Eq EReal (x0 (ix3 0 T e)) (tok (V (Proc.devRef .tc ReferenceIdeal.main_arg0)) 0 h b T e))
    (h1 : ∀ T e, @Eq EReal (x1 (ix3 0 T e)) (tok (V (Proc.devRef .tc ReferenceIdeal.main_arg0)) 1 h b T e))
    (h2 : ∀ T e, @Eq EReal (x2 (ix3 0 T e)) (tok (V (Proc.devRef .tc ReferenceIdeal.main_arg0)) 2 h b T e))
    (h3 : ∀ v y x, @Eq EReal (x3 (ix4 0 v y x)) (tab (F := Ideal) (cols (V (Proc.devRef .tc ReferenceIdeal.main_arg1))) (ix4 h v y x)))
    (j : Fin 8) (a n : Fin 4) (q : Fin 16) (d : Fin 128) :
    latV x0 x1 x2 x3 j (place a n q) d = refOutG V (ix3 b (qryTk j (place a n q)) ⟨128 * h.val + d.val, by omega⟩) := by
  have ht : ∀ t T e, tok (V (Proc.devRef .tc ReferenceIdeal.main_arg0)) t h b T e = (P (ix3 b T ⟨3072 + 512 * t.val + 128 * h.val + e.val, by omega⟩) : EReal) :=
    fun t T e => hP _
  -- the scores are real
  let S : Fin 2304 → Fin 2304 → ℝ := fun l l' => (∑ e : Fin 128, P (ix3 b l ⟨3072 + 512 * 0 + 128 * h.val + e.val, by omega⟩)
    * P (ix3 b l' ⟨3072 + 512 * 1 + 128 * h.val + e.val, by omega⟩)) * s
  have hk : ∀ l l', kscore (fun e => x0 (ix3 0 l e)) (fun e => x1 (ix3 0 l' e)) = (S l l' : EReal) := fun l l' =>
    kscore_eq _ _ _ _ s hs (fun e => (h0 _ e).trans (ht 0 _ e)) (fun e => (h1 _ e).trans (ht 1 _ e))
  have hr : ∀ l l', score (V (Proc.devRef .tc ReferenceIdeal.main_arg0)) h b l l' = (S l l' : EReal) := fun l l' =>
    score_eq _ h b _ _ _ _ s hs (fun e => ht 0 _ e) (fun e => ht 1 _ e)
  have hrb : ∀ w k, refBias (V (Proc.devRef .tc ReferenceIdeal.main_arg1)) h (row j a) n q w k = (R (ix3 h ⟨r0 (row j a).val + w.val + 7 - (row j a).val, r0_rel_lt (row j a) w⟩
      ⟨min (kc0 n.val + k.val + 15 - (16 * n.val + q.val)) 30, by omega⟩) : EReal) := fun w k => hR _
  -- the kernel's biases: real in the window, minus infinity outside
  let B : Fin 768 → EReal := fun x => x3 (ix4 0 (var j) (place a n q) x)
  have hB : ∀ x, (B x = ⊥ ∨ ∃ r : ℝ, B x = r) ∧ (B x ≠ ⊥ → (tabLo (var j) a ≤ x.val / 64 ∧ x.val / 64 < tabLo (var j) a + 8)
      ∧ (c0 (16 * n.val + q.val) ≤ x.val % 64 ∧ x.val % 64 < c0 (16 * n.val + q.val) + 16)) := by
    intro x
    have e := (h3 (var j) (place a n q) x).trans (bias_at (V (Proc.devRef .tc ReferenceIdeal.main_arg1)) (var j) a h ⟨16 * n.val + q.val, by omega⟩ x)
    by_cases hx : (tabLo (var j) a ≤ x.val / 64 ∧ x.val / 64 < tabLo (var j) a + 8)
      ∧ (c0 (16 * n.val + q.val) ≤ x.val % 64 ∧ x.val % 64 < c0 (16 * n.val + q.val) + 16)
    · exact ⟨Or.inr ⟨_, (e.trans (dif_pos hx)).trans (hR _)⟩, fun _ => hx⟩
    · have e' : B x = ⊥ := e.trans (dif_neg hx)
      exact ⟨Or.inl e', fun hn => absurd e' hn⟩
  have hBin : ∀ w k, B (keyPl j a n w k) = if colOk n q k then refBias (V (Proc.devRef .tc ReferenceIdeal.main_arg1)) h (row j a) n q w k else ⊥ := fun w k =>
    (h3 (var j) (place a n q) (keyPl j a n w k)).trans (bias_in (V (Proc.devRef .tc ReferenceIdeal.main_arg1)) j a n q h w k)
  -- the kernel's weights
  have hw : ∀ x : Fin 768, ∃ w : ℝ, HasW (kscore (fun e => x0 (ix3 0 (qryTk j (place a n q)) e)) (fun e => x1 (ix3 0 (keyTk j x) e)) + B x) w ∧ (B x = ⊥ → w = 0) := by
    intro x
    rcases (hB x).1 with hb | ⟨r, hb⟩
    · exact ⟨0, by rw [hb, EReal.add_bot]; exact hasW_bot, fun _ => rfl⟩
    · exact ⟨_, by rw [hb, hk, ← EReal.coe_add]; exact hasW_coe _, fun hn => absurd (hb.symm.trans hn) (EReal.coe_ne_bot _)⟩
  choose w1 hw1 hz using hw
  have hs0 : ∀ x : Fin 768, B x ≠ ⊥ → tabLo (var j) a ≤ x.val / 64 ∧ x.val / 64 < tabLo (var j) a + 8 ∧ kc0 n.val ≤ x.val % 64 ∧ x.val % 64 < kc0 n.val + 32 := by
    intro x hx
    have := (hB x).2 hx
    have e1 : kc0 n.val ≤ c0 (16 * n.val + q.val) := by unfold kc0 c0; omega
    have e2 : c0 (16 * n.val + q.val) + 16 ≤ kc0 n.val + 32 := by unfold kc0 c0; omega
    omega
  have hzz : ∀ x : Fin 768, w1 x ≠ 0 → B x ≠ ⊥ := fun x hx hb => hx (hz x hb)
  -- the reference's row
  have hrow : ∀ w k, HasW (rowI V b h (row j a) n q ⟨w.val * 32 + k.val, by omega⟩) (w1 (keyPl j a n w k)) := by
    intro w k
    have e := hw1 (keyPl j a n w k)
    rw [hBin, hk, key_tok, qry_img] at e
    unfold rowI
    rw [v141_loc]
    by_cases hc : colOk n q k
    · rw [if_pos hc] at e ⊢
      rw [hr]
      exact e
    · rw [if_neg hc] at e ⊢
      rwa [EReal.add_bot] at e
  rw [show refOutG V (ix3 b (qryTk j (place a n q)) ⟨128 * h.val + d.val, by omega⟩) = _ from
    (congrArg (fun T => refOutG V (ix3 b T ⟨128 * h.val + d.val, by omega⟩)) (qry_img j a n q)).trans (refOut_img V b h (row j a) n q d)]
  refine (att_eq _ _ _ _ w1 (fun x => P (ix3 b (keyTk j x) ⟨3072 + 512 * 2 + 128 * h.val + d.val, by omega⟩)) (fun x : Fin 256 => S (qryTk j (place a n q)) (ctxTk x))
    (fun x : Fin 256 => P (ix3 b (ctxTk x) ⟨3072 + 512 * 2 + 128 * h.val + d.val, by omega⟩)) hw1 (fun x => hk _ _) (fun x => (h2 _ d).trans (ht 2 _ d)) (fun x => (h2 _ d).trans (ht 2 _ d))).trans ?_
  refine Eq.trans ?_ (refI_eq (rowI V b h (row j a) n q) _ _ (fun w k => w1 (keyPl j a n w k)) (fun w k => P (ix3 b (keyTok (row j a) n w k) ⟨3072 + 512 * 2 + 128 * h.val + d.val, by omega⟩))
    (fun x : Fin 256 => S (qryTk j (place a n q)) (ctxTk x)) (fun x : Fin 256 => P (ix3 b (ctxTk x) ⟨3072 + 512 * 2 + 128 * h.val + d.val, by omega⟩)) hrow
    (fun x => ?_) (fun w k => ht 2 _ d) (fun x => ht 2 _ d)).symm
  · have t1 := sum_768 (tabLo (var j) a) (kc0 n.val) (tabLo_le _ _) (kc0_le _) w1 (fun x hx => hs0 x (hzz x hx))
    have t2 := sum_768 (tabLo (var j) a) (kc0 n.val) (tabLo_le _ _) (kc0_le _) (fun x => w1 x * P (ix3 b (keyTk j x) ⟨3072 + 512 * 2 + 128 * h.val + d.val, by omega⟩))
      (fun x hx => hs0 x (hzz x (left_ne_zero_of_mul hx)))
    rw [t1, t2]
    have t3 : ∀ (w : Fin 8) (k : Fin 32), P (ix3 b (keyTk j (keyPl j a n w k)) ⟨3072 + 512 * 2 + 128 * h.val + d.val, by omega⟩)
        = P (ix3 b (keyTok (row j a) n w k) ⟨3072 + 512 * 2 + 128 * h.val + d.val, by omega⟩) := fun w k => by rw [key_tok]
    refine congrArg (fun z : ℝ => ((z / _ : ℝ) : EReal)) (congrArg (fun z : ℝ => z + _) ?_)
    exact Finset.sum_congr rfl fun k _ => Finset.sum_congr rfl fun w _ => congrArg (fun z => w1 (keyPl j a n w k) * z) (t3 w k)
  · unfold rowI
    rw [v141_ctx, hr, ← qry_img]
    rfl

/-- The kernel's attention is the reference's result, at every token. -/
theorem same (hP : ∀ i, ∃ r : ℝ, @Eq EReal (V (Proc.devRef .tc ReferenceIdeal.main_arg0) i) r) (hR : ∀ i, ∃ r : ℝ, @Eq EReal (V (Proc.devRef .tc ReferenceIdeal.main_arg1) i) r)
    (h0 : ∀ T e, @Eq EReal (x0 (ix3 0 T e)) (tok (V (Proc.devRef .tc ReferenceIdeal.main_arg0)) 0 h b T e))
    (h1 : ∀ T e, @Eq EReal (x1 (ix3 0 T e)) (tok (V (Proc.devRef .tc ReferenceIdeal.main_arg0)) 1 h b T e))
    (h2 : ∀ T e, @Eq EReal (x2 (ix3 0 T e)) (tok (V (Proc.devRef .tc ReferenceIdeal.main_arg0)) 2 h b T e))
    (h3 : ∀ v y x, @Eq EReal (x3 (ix4 0 v y x)) (tab (F := Ideal) (cols (V (Proc.devRef .tc ReferenceIdeal.main_arg1))) (ix4 h v y x)))
    (T : Fin 2304) (d : Fin 128) :
    allV x0 x1 x2 x3 T d = refOutG V (ix3 b T ⟨128 * h.val + d.val, by omega⟩) := by
  choose P hP using hP
  choose R hR using hR
  obtain ⟨s, hs⟩ := scale_real
  by_cases hT : T.val < 256
  · obtain ⟨y, e⟩ : ∃ y : Fin 256, T = ctxTk y := ⟨⟨T.val, hT⟩, rfl⟩
    subst e
    exact (allV_ctx _ _ _ _ _ d).trans (same_ctx V h b x0 x1 x2 P hP s hs h0 h1 h2 _ d)
  · obtain ⟨j, a, n, q, e⟩ : ∃ (j : Fin 8) (a n : Fin 4) (q : Fin 16), T = qryTk j (place a n q) :=
      ⟨⟨(T.val - 256) / 256, by omega⟩, ⟨(T.val - 256) % 256 / 64, by omega⟩, ⟨T.val % 64 / 16, by omega⟩, ⟨T.val % 16, by omega⟩, Fin.ext (by
        show T.val = 256 * ((T.val - 256) / 256 + 1) + (64 * ((T.val - 256) % 256 / 64) + (16 * (T.val % 64 / 16) + T.val % 16))
        omega)⟩
    subst e
    exact (allV_lat _ _ _ _ j _ d).trans (same_img V h b x0 x1 x2 x3 P hP s hs R hR h0 h1 h2 h3 j a n q d)

end Cert.Attn

end
-- ==== Proof.Attn.HostRows.lean ====
/- The rows of the bias tables are what the host operations leave. -/
module

public import proofs.«01_k».proof.Proof.Attn.Tab
public import Idealize.ShloMosaic.Lib.StableHlo.RunRead

@[expose] public section

set_option maxRecDepth 16384

noncomputable section

namespace Cert.Attn

open Cert.KernelIdeal Cert.KernelIdeal.Gen Idealize.ShloMosaic Idealize.ShloMosaic.TcCoe

variable {F : FTy → Type} [FloatOps F] [∀ e, Nonempty (Elt F e)]

variable (σ : Valuation τ sig (Elt F))

theorem row00_eq : StableHlo.after (List.take 70 hostOps0_6) σ (Proc.devRef .tc main_v50) = tabRow (squares00 (σ (Proc.devRef .tc main_v32))) := by
  after_reads_simp
  rfl

theorem row01_eq : StableHlo.after (List.take 70 hostOps0_6) σ (Proc.devRef .tc main_v67) = tabRow (squares01 (σ (Proc.devRef .tc main_v32))) := by
  after_reads_simp
  rfl

theorem row02_eq : StableHlo.after (List.take 70 hostOps0_6) σ (Proc.devRef .tc main_v84) = tabRow (squares02 (σ (Proc.devRef .tc main_v32))) := by
  after_reads_simp
  rfl

theorem row03_eq : StableHlo.after (List.take 70 hostOps0_6) σ (Proc.devRef .tc main_v101) = tabRow (squares03 (σ (Proc.devRef .tc main_v32))) := by
  after_reads_simp
  rfl

theorem row10_eq : StableHlo.after (List.take 139 hostOps0_6) σ (Proc.devRef .tc main_v119) = tabRow (squares10 (σ (Proc.devRef .tc main_v32))) := by
  after_reads_simp
  rfl

theorem row11_eq : StableHlo.after (List.take 139 hostOps0_6) σ (Proc.devRef .tc main_v136) = tabRow (squares11 (σ (Proc.devRef .tc main_v32))) := by
  after_reads_simp
  rfl

theorem row12_eq : StableHlo.after (List.take 139 hostOps0_6) σ (Proc.devRef .tc main_v153) = tabRow (squares12 (σ (Proc.devRef .tc main_v32))) := by
  after_reads_simp
  rfl

theorem row13_eq : StableHlo.after (List.take 139 hostOps0_6) σ (Proc.devRef .tc main_v170) = tabRow (squares13 (σ (Proc.devRef .tc main_v32))) := by
  after_reads_simp
  rfl

theorem row20_eq : StableHlo.after (List.take 208 hostOps0_6) σ (Proc.devRef .tc main_v188) = tabRow (squares20 (σ (Proc.devRef .tc main_v32))) := by
  after_reads_simp
  rfl

theorem row21_eq : StableHlo.after (List.take 208 hostOps0_6) σ (Proc.devRef .tc main_v205) = tabRow (squares21 (σ (Proc.devRef .tc main_v32))) := by
  after_reads_simp
  rfl

theorem row22_eq : StableHlo.after (List.take 208 hostOps0_6) σ (Proc.devRef .tc main_v222) = tabRow (squares22 (σ (Proc.devRef .tc main_v32))) := by
  after_reads_simp
  rfl

theorem row23_eq : StableHlo.after (List.take 208 hostOps0_6) σ (Proc.devRef .tc main_v239) = tabRow (squares23 (σ (Proc.devRef .tc main_v32))) := by
  after_reads_simp
  rfl

end Cert.Attn

end
-- ==== Proof.Attn.HostTab.lean ====
/- The tables of the bias are what the host operations leave. -/
module

public import proofs.«01_k».proof.Proof.Attn.HostRows
public import Idealize.ShloMosaic.Lib.StableHlo.RunRead

@[expose] public section

set_option maxRecDepth 16384

noncomputable section

namespace Cert.Attn

open Cert.KernelIdeal Cert.KernelIdeal.Gen Idealize.ShloMosaic Idealize.ShloMosaic.TcCoe

variable {F : FTy → Type} [FloatOps F] [∀ e, Nonempty (Elt F e)]

variable (σ : Valuation τ sig (Elt F))

/-- A line of operations run in two stretches. -/
theorem after_split (ops : List (HloOp τ sig (Elt F))) (n : ℕ) (σ : Valuation τ sig (Elt F)) :
    StableHlo.after ops σ = StableHlo.after (ops.drop n) (StableHlo.after (ops.take n) σ) := by
  induction ops generalizing n σ with
  | nil => cases n <;> rfl
  | cons op l ih =>
    cases n with
    | zero => rfl
    | succ n => exact ih n _

/-- The rows of table 0, whatever the contents `σ'` that hold them. -/
theorem tab0_of (σ' : Valuation τ sig (Elt F)) : StableHlo.after (List.drop 70 hostOps0_6) σ' (Proc.devRef .tc main_v102)
    = tabRows ![σ' (Proc.devRef .tc main_v50), σ' (Proc.devRef .tc main_v67), σ' (Proc.devRef .tc main_v84), σ' (Proc.devRef .tc main_v101)] := by
  after_reads_simp
  rfl

theorem tab0_eq : StableHlo.after hostOps0_6 σ (Proc.devRef .tc main_v102)
    = tabRows ![tabRow (squares00 (σ (Proc.devRef .tc main_v32))), tabRow (squares01 (σ (Proc.devRef .tc main_v32))), tabRow (squares02 (σ (Proc.devRef .tc main_v32))), tabRow (squares03 (σ (Proc.devRef .tc main_v32)))] := by
  rw [after_split hostOps0_6 70 σ, tab0_of, row00_eq, row01_eq, row02_eq, row03_eq]

/-- The rows of table 1, whatever the contents `σ'` that hold them. -/
theorem tab1_of (σ' : Valuation τ sig (Elt F)) : StableHlo.after (List.drop 139 hostOps0_6) σ' (Proc.devRef .tc main_v171)
    = tabRows ![σ' (Proc.devRef .tc main_v119), σ' (Proc.devRef .tc main_v136), σ' (Proc.devRef .tc main_v153), σ' (Proc.devRef .tc main_v170)] := by
  after_reads_simp
  rfl

theorem tab1_eq : StableHlo.after hostOps0_6 σ (Proc.devRef .tc main_v171)
    = tabRows ![tabRow (squares10 (σ (Proc.devRef .tc main_v32))), tabRow (squares11 (σ (Proc.devRef .tc main_v32))), tabRow (squares12 (σ (Proc.devRef .tc main_v32))), tabRow (squares13 (σ (Proc.devRef .tc main_v32)))] := by
  rw [after_split hostOps0_6 139 σ, tab1_of, row10_eq, row11_eq, row12_eq, row13_eq]

/-- The rows of table 2, whatever the contents `σ'` that hold them. -/
theorem tab2_of (σ' : Valuation τ sig (Elt F)) : StableHlo.after (List.drop 208 hostOps0_6) σ' (Proc.devRef .tc main_v240)
    = tabRows ![σ' (Proc.devRef .tc main_v188), σ' (Proc.devRef .tc main_v205), σ' (Proc.devRef .tc main_v222), σ' (Proc.devRef .tc main_v239)] := by
  after_reads_simp
  rfl

theorem tab2_eq : StableHlo.after hostOps0_6 σ (Proc.devRef .tc main_v240)
    = tabRows ![tabRow (squares20 (σ (Proc.devRef .tc main_v32))), tabRow (squares21 (σ (Proc.devRef .tc main_v32))), tabRow (squares22 (σ (Proc.devRef .tc main_v32))), tabRow (squares23 (σ (Proc.devRef .tc main_v32)))] := by
  rw [after_split hostOps0_6 208 σ, tab2_of, row20_eq, row21_eq, row22_eq, row23_eq]

theorem tabs_of (σ' : Valuation τ sig (Elt F)) : StableHlo.after (List.drop 209 hostOps0_6) σ' (Proc.devRef .tc main_v244)
    = tabAll ![σ' (Proc.devRef .tc main_v102), σ' (Proc.devRef .tc main_v171), σ' (Proc.devRef .tc main_v240)] := by
  after_reads_simp
  rfl

theorem keep0 (σ' : Valuation τ sig (Elt F)) : StableHlo.after (List.drop 209 hostOps0_6) σ' (Proc.devRef .tc main_v102) = σ' (Proc.devRef .tc main_v102) := by
  after_reads_simp

theorem keep1 (σ' : Valuation τ sig (Elt F)) : StableHlo.after (List.drop 209 hostOps0_6) σ' (Proc.devRef .tc main_v171) = σ' (Proc.devRef .tc main_v171) := by
  after_reads_simp

theorem keep2 (σ' : Valuation τ sig (Elt F)) : StableHlo.after (List.drop 209 hostOps0_6) σ' (Proc.devRef .tc main_v240) = σ' (Proc.devRef .tc main_v240) := by
  after_reads_simp

/-- The last stretch of host operations makes the table of the biases before it. -/
theorem tab_eq : StableHlo.after hostOps0_6 σ (Proc.devRef .tc main_v244) = tab (σ (Proc.devRef .tc main_v32)) := by
  have h0 := tab0_eq σ
  have h1 := tab1_eq σ
  have h2 := tab2_eq σ
  rw [after_split hostOps0_6 209 σ] at h0 h1 h2 ⊢
  rw [keep0] at h0
  rw [keep1] at h1
  rw [keep2] at h2
  rw [tabs_of, h0, h1, h2]
  rfl

end Cert.Attn

end
-- ==== Proof.Attn.Tie.lean ====
/- The kernel's result array is the reference's result term. -/
module

public import proofs.«01_k».proof.Proof.Gen.KernelIdeal.Value
public import proofs.«01_k».proof.Proof.Attn.Same
public import proofs.«01_k».proof.Proof.Attn.HostTab
public import proofs.«01_k».proof.Defs
public import Idealize.ShloMosaic.Lib.Pipeline.ValueKit
public import Idealize.ShloMosaic.Lib.Pipeline.ValueKit.Point

@[expose] public section

set_option maxRecDepth 16384

noncomputable section

namespace Cert.Attn

open Cert.KernelIdeal Cert.KernelIdeal.Gen Idealize.ShloMosaic Idealize.ShloMosaic.TcCoe

variable (m : (ℓ : Loc nD τ sig) → Buf (Elt Ideal) ℓ)

/-- The head of a grid point. -/
def hh (t : Fin cfg0.grid.N) : Fin 4 := grid0.coords t 0
/-- The sequence of a grid point. -/
def bb (t : Fin cfg0.grid.N) : Fin 16 := grid0.coords t 1

theorem idx_all : ∀ t : Fin grid0.N, win0_0.index t = ![(bb t).val, 0, 24 + (hh t).val] ∧ win0_1.index t = ![(bb t).val, 0, 28 + (hh t).val]
    ∧ win0_2.index t = ![(bb t).val, 0, 32 + (hh t).val] ∧ win0_3.index t = ![(hh t).val, 0, 0, 0]
    ∧ win0_4.index t = ![(bb t).val, 0, (hh t).val] := by decide +kernel

theorem blkQ (c : Dev nD) (t : Fin cfg0.N) (T : Fin 2304) (e : Fin 128) :
    @Eq EReal (iblk m c 0 t (ix3 0 T e)) (tok (m ((c : Thread nD τ).loc main_arg0)) 0 (hh t) (bb t) T e) := by
  unfold tok
  blk_ext [iblk, V, idx_all t, bb, hh]

theorem blkK (c : Dev nD) (t : Fin cfg0.N) (T : Fin 2304) (e : Fin 128) :
    @Eq EReal (iblk m c 1 t (ix3 0 T e)) (tok (m ((c : Thread nD τ).loc main_arg0)) 1 (hh t) (bb t) T e) := by
  unfold tok
  blk_ext [iblk, V, idx_all t, bb, hh]

theorem blkV (c : Dev nD) (t : Fin cfg0.N) (T : Fin 2304) (e : Fin 128) :
    @Eq EReal (iblk m c 2 t (ix3 0 T e)) (tok (m ((c : Thread nD τ).loc main_arg0)) 2 (hh t) (bb t) T e) := by
  unfold tok
  blk_ext [iblk, V, idx_all t, bb, hh]

/-- The table the region reads is the one the host prepared. -/
theorem V_tab (c : Dev nD) : V m c main_v244 = tab (F := Ideal) (cols (m ((c : Thread nD τ).loc main_arg1))) := by
  have e : (List.flatten [hostOps0, hostOps0_1, hostOps0_2, hostOps0_3, hostOps0_4, hostOps0_5, hostOps0_6] : List (HloOp τ sig (Elt Ideal)))
      = List.flatten [hostOps0, hostOps0_1, hostOps0_2, hostOps0_3, hostOps0_4, hostOps0_5] ++ hostOps0_6 := by
    simp only [List.flatten_cons, List.flatten_nil, List.append_nil, List.append_assoc]
  show StableHlo.after (List.flatten [hostOps0, hostOps0_1, hostOps0_2, hostOps0_3, hostOps0_4, hostOps0_5, hostOps0_6]) (fun b => m (c, b)) (Proc.devRef .tc main_v244) = _
  rw [e, StableHlo.after_append]
  exact (tab_eq _).trans (congrArg (tab (F := Ideal)) (cols_eq _))

theorem blkB (c : Dev nD) (t : Fin cfg0.N) (v : Fin 3) (y : Fin 256) (x : Fin 768) :
    @Eq EReal (iblk m c 3 t (ix4 0 v y x)) (tab (F := Ideal) (cols (m ((c : Thread nD τ).loc main_arg1))) (ix4 (hh t) v y x)) := by
  have h : @Eq EReal (iblk m c 3 t (ix4 0 v y x)) (V m c main_v244 (ix4 (hh t) v y x)) := by
    blk_ext [iblk, idx_all t, bb, hh]
  rw [h, V_tab]

/-- Where a block's token lies in the result. -/
theorem emb4 (t : Fin cfg0.N) (T : Fin 2304) (d : Fin 128) :
    ((View.whole main_v245).slice (win0_4.rect t)).emb (ix3 0 T d) = ix3 (bb t) T ⟨128 * (hh t).val + d.val, by omega⟩ := by
  blk_ext [idx_all t, bb, hh]

/-- The kernel's result array, block by block. -/
theorem arr_eq (c : Dev nD) (Vr : Valuation ReferenceIdeal.τ ReferenceIdeal.sig (Elt Ideal))
    (e0 : Vr (Proc.devRef .tc ReferenceIdeal.main_arg0) = m ((c : Thread nD τ).loc main_arg0))
    (e1 : Vr (Proc.devRef .tc ReferenceIdeal.main_arg1) = m ((c : Thread nD τ).loc main_arg1))
    (hP : ∀ i, ∃ r : ℝ, @Eq EReal (m ((c : Thread nD τ).loc main_arg0) i) r) (hR : ∀ i, ∃ r : ℝ, @Eq EReal (m ((c : Thread nD τ).loc main_arg1) i) r) :
    (dats m 0 c).arrAt 4 cfg0.N = refOutG Vr := by
  refine (dats m 0 c).arrAt_eq_of_covers 4 _ (by decide +kernel) fun t hf y => ?_
  blk_simp
  rw [after0_4]
  obtain ⟨T, d, rfl⟩ : ∃ (T : Fin 2304) (d : Fin 128), y = ix3 0 T d := by
    refine ⟨y 1, y 2, ?_⟩
    blk_ext []
  refine (out_at _ _ _ _ T d).trans ?_
  rw [emb4]
  exact same Vr (hh t) (bb t) _ _ _ _ (fun i => e0 ▸ hP i) (fun i => e1 ▸ hR i) (fun T e => e0 ▸ blkQ m c t T e) (fun T e => e0 ▸ blkK m c t T e)
    (fun T e => e0 ▸ blkV m c t T e) (fun v y x => e1 ▸ blkB m c t v y x) T d

end Cert.Attn

end
-- ==== Proof.Finite.lean ====
/- An array whose absolute values are all below infinity holds real numbers. -/
module

public import Idealize.ShloMosaic.Lib.Pointwise
public import Idealize.ShloMosaic.Lib.ReduceAll
public import Idealize.ShloMosaic.Lib.Tactic.CleanTypes

@[expose] public section

noncomputable section

namespace Cert.Finite

open Idealize.ShloMosaic

theorem ofBits_inf : Ideal.ofBits FTy.f32 2139095040#32 = ⊤ := by
  simp [Ideal.ofBits, Ideal.ieee]

/-- A value whose absolute value compares below infinity is a real number. -/
theorem real_of_lt (x : EReal) (h : FloatOps.cmpf (F := Ideal) (φ := .f32) .olt (FloatOps.hostAbsf (F := Ideal) (φ := .f32) x) (Ideal.ofBits FTy.f32 2139095040#32) = 1#1) :
    ∃ r : ℝ, x = r := by
  rw [ofBits_inf] at h
  change Ideal.cmp .olt (max x (-x)) ⊤ = 1#1 at h
  induction x with
  | bot => simp [Ideal.cmp] at h
  | top => simp [Ideal.cmp] at h
  | coe r => exact ⟨r, rfl⟩

end Cert.Finite

end
-- ==== Proof.Attn.Claim.lean ====
/- The attention: the kernel and the reference end at the same result. -/
module

public import proofs.«01_k».proof.Proof.Attn.Tie
public import proofs.«01_k».proof.Proof.Finite
public import proofs.«01_k».proof.Proof.Gen.Pre_finite

@[expose] public section

set_option maxRecDepth 16384

noncomputable section

namespace Cert.Attn

open Idealize.ShloMosaic Idealize.ShloMosaic.TcCoe Idealize.SL.Sem

theorem and_one : ∀ a b : BitVec 1, IntOp.andi a b = 1#1 → a = 1#1 ∧ b = 1#1 := by decide

section
variable (m : (ℓ : Loc Cert.KernelIdeal.nD Cert.KernelIdeal.τ Cert.KernelIdeal.sig) → Buf (Elt Ideal) ℓ)

/-- Under the precondition every projected token is a real number. -/
theorem finite_p (h : Cert.Pre_KernelIdeal_finite m) (c : Dev Cert.KernelIdeal.nD)
    (i : ((c : Thread Cert.KernelIdeal.nD Cert.KernelIdeal.τ).loc Cert.KernelIdeal.main_arg0).ty.Idx) :
    ∃ y : ℝ, @Eq EReal (m ((c : Thread Cert.KernelIdeal.nD Cert.KernelIdeal.τ).loc Cert.KernelIdeal.main_arg0) i) y := by
  have h1 := congrFun (h c) (fun a => a.elim0)
  dsimp only [Cert.Pre_finite.fn] at h1
  exact Cert.Finite.real_of_lt _ (Host.reduce_andi_all _ _ _ _ _ (and_one _ _ h1).1 i)

/-- Under the precondition every relative bias is a real number. -/
theorem finite_r (h : Cert.Pre_KernelIdeal_finite m) (c : Dev Cert.KernelIdeal.nD)
    (i : ((c : Thread Cert.KernelIdeal.nD Cert.KernelIdeal.τ).loc Cert.KernelIdeal.main_arg1).ty.Idx) :
    ∃ y : ℝ, @Eq EReal (m ((c : Thread Cert.KernelIdeal.nD Cert.KernelIdeal.τ).loc Cert.KernelIdeal.main_arg1) i) y := by
  have h1 := congrFun (h c) (fun a => a.elim0)
  dsimp only [Cert.Pre_finite.fn] at h1
  exact Cert.Finite.real_of_lt _ (Host.reduce_andi_all _ _ _ _ _ (and_one _ _ h1).2 i)

end

/-- The kernel's and the reference's results are one array. -/
theorem algebraic : Cert.algebraic_KernelIdeal_ReferenceIdeal_pre_finite := by
  intro m ρ m' ρ' hpre hag
  refine ⟨fun c => refOutG (fun b => m' (c, b)), ?_, ?_⟩
  · exact (θ_run _ _ _).mono (fun _ h c => ⟨(h c).1.trans (arr_eq m c (fun b => m' (c, b)) (hag c).1 (hag c).2 (finite_p m hpre c) (finite_r m hpre c)), (h c).2⟩)
      (Cert.KernelIdeal.Value.run_blocks (F := Ideal) m ρ)
  · exact (θ_run _ _ _).mono (fun _ h c => ⟨(h c).1.trans rfl, (h c).2⟩) (Cert.ReferenceIdeal.Value.run (F := Ideal) m' ρ')

end Cert.Attn

end
-- ==== Proof.Merge.Spec.lean ====
/- The merge of the branches as functions of one token's rows, and the two spellings of the logistic function. -/
module

public import Idealize.ShloMosaic.Lib.Pointwise

@[expose] public section

noncomputable section

namespace Cert.Merge

open Idealize.ShloMosaic

/-- The logistic function. -/
def sg (x : EReal) : EReal := Ideal.div 1 (1 + Ideal.exp (-x))

/-- The gate `x * logistic x`. -/
def sl (x : EReal) : EReal := x * sg x

/-- The kernel's literal one half. -/
def half : EReal := Ideal.ofBits FTy.f32 1056964608#32

theorem half_eq : half = ((1 / 2 : ℝ) : EReal) := by
  simp [half, Ideal.ofBits, Ideal.ieee, -EReal.coe_mul]; norm_num

theorem sg_coe (x : ℝ) : sg x = ((1 / (1 + Real.exp (-x)) : ℝ) : EReal) := by
  have h : (1 + Real.exp (-x)) ≠ 0 := by positivity
  have hx : Ideal.exp (-(x : EReal)) = ((Real.exp (-x) : ℝ) : EReal) := rfl
  unfold sg Ideal.div
  rw [hx, ← EReal.coe_one, ← EReal.coe_add, if_neg (by exact_mod_cast h), ← EReal.coe_inv, ← EReal.coe_mul, one_div, one_mul]

theorem tanh_half (x : ℝ) : 1 / 2 * Real.tanh (1 / 2 * x) + 1 / 2 = 1 / (1 + Real.exp (-x)) := by
  rw [Real.tanh_eq_sinh_div_cosh, Real.sinh_eq, Real.cosh_eq]
  have e1 : Real.exp (-x) = Real.exp (-(1 / 2 * x)) * Real.exp (-(1 / 2 * x)) := by rw [← Real.exp_add]; ring_nf
  have e2 : Real.exp (1 / 2 * x) = (Real.exp (-(1 / 2 * x)))⁻¹ := by rw [← Real.exp_neg, neg_neg]
  rw [e1, e2]
  have h : Real.exp (-(1 / 2 * x)) ≠ 0 := (Real.exp_pos _).ne'
  generalize Real.exp (-(1 / 2 * x)) = a at h
  have : a⁻¹ + a ≠ 0 := by
    intro h0
    have : 1 + a * a = 0 := by field_simp at h0; nlinarith
    nlinarith [mul_self_nonneg a]
  have h2 : 1 + a * a ≠ 0 := by nlinarith [mul_self_nonneg a]
  field_simp
  ring

/-- One half of the hyperbolic tangent of half the argument, plus one half, is the logistic function. -/
theorem tanh_sg (x : EReal) : half * Ideal.tanh (half * x) + half = sg x := by
  rw [half_eq]
  induction x with
  | bot =>
    rw [EReal.coe_mul_bot_of_pos (by norm_num)]
    show ((1 / 2 : ℝ) : EReal) * (-1) + _ = Ideal.div 1 (1 + Ideal.exp (-⊥))
    rw [EReal.neg_bot]
    show _ = Ideal.div 1 (1 + ⊤)
    rw [show (1 : EReal) + ⊤ = ⊤ from EReal.add_top_of_ne_bot (by decide)]
    simp only [Ideal.div, EReal.inv_top, mul_zero, EReal.top_ne_zero, if_false]
    rw [← EReal.coe_one, ← EReal.coe_neg, ← EReal.coe_mul, ← EReal.coe_add]
    norm_num
  | top =>
    rw [EReal.coe_mul_top_of_pos (by norm_num)]
    show ((1 / 2 : ℝ) : EReal) * 1 + _ = Ideal.div 1 (1 + Ideal.exp (-⊤))
    rw [EReal.neg_top]
    show _ = Ideal.div 1 (1 + 0)
    simp only [Ideal.div, add_zero, one_ne_zero, if_false, mul_one, one_mul]
    rw [← EReal.coe_one, ← EReal.coe_inv, ← EReal.coe_add]
    norm_num
  | coe x =>
    rw [sg_coe, ← tanh_half x, ← EReal.coe_mul]
    show ((1 / 2 : ℝ) : EReal) * ((Real.tanh (1 / 2 * x) : ℝ) : EReal) + _ = _
    rw [← EReal.coe_mul, ← EReal.coe_add]

/-- At a finite argument the gate is the kernel's spelling of it. -/
theorem tanh_sl (x : EReal) (hx : ∃ r : ℝ, x = r) : half * x * Ideal.tanh (half * x) + half * x = sl x := by
  obtain ⟨x, rfl⟩ := hx
  unfold sl
  rw [half_eq, sg_coe, ← tanh_half x, ← EReal.coe_mul, ← EReal.coe_mul]
  show (((1 / 2 * x : ℝ)) : EReal) * ((Real.tanh (1 / 2 * x) : ℝ) : EReal) + _ = _
  rw [← EReal.coe_mul, ← EReal.coe_add]
  congr 1; ring

/-- The first branch of one token, each head of 128 divided by its root mean square and weighted. -/
def specA (o : Fin 512 → EReal) (g : Fin 128 → EReal) (e : Fin 512) : EReal :=
  o e * Ideal.rsqrt (Ideal.div (∑ x : Fin 128, o ⟨e.val / 128 * 128 + x.val, by omega⟩ * o ⟨e.val / 128 * 128 + x.val, by omega⟩)
    (Ideal.ofBits FTy.f32 1124073472#32) + Ideal.ofBits FTy.f32 897988541#32) * g ⟨e.val % 128, by omega⟩

/-- The gated sum of the three branches, each times its weights. -/
def specM (A B C : Fin 512 → EReal) (s0 s1 s2 : Fin 1024 → EReal) (w : Fin 3 → Fin 512 → Fin 1024 → EReal) (k : Fin 1024) : EReal :=
  s0 k * ∑ x, A x * w 0 x k + s1 k * ∑ x, B x * w 1 x k + s2 k * ∑ x, C x * w 2 x k

/-- The merged row times the output weights. -/
def specY (M : Fin 1024 → EReal) (w : Fin 1024 → Fin 1024 → EReal) (k : Fin 1024) : EReal := ∑ x, M x * w x k

/-- The output row divided by its root mean square and weighted. -/
def specN (Y : Fin 1024 → EReal) (g : Fin 1024 → EReal) (k : Fin 1024) : EReal :=
  Y k * Ideal.rsqrt (Ideal.div (∑ x, Y x * Y x) (Ideal.ofBits FTy.f32 1149239296#32) + Ideal.ofBits FTy.f32 897988541#32) * g k

end Cert.Merge

end
-- ==== Proof.Modul.Ref.lean ====
/- The modulation: the reference's result, read at an index. -/
module

public import proofs.«01_k».proof.Proof.Gen.ReferenceModIdeal.Run
public import proofs.«01_k».proof.Proof.Merge.Spec
public import Idealize.ShloMosaic.Lib.Claim
public import Idealize.ShloMosaic.Lib.Pointwise
public import Idealize.ShloMosaic.Lib.Tactic.CleanTypes

@[expose] public section

set_option maxRecDepth 16384

noncomputable section

namespace Cert.Modul

open Cert.ReferenceModIdeal Cert.ReferenceModIdeal.Gen Idealize.ShloMosaic Idealize.ShloMosaic.TcCoe Cert.Merge

section
variable {F : FTy → Type} [FloatOps F]
variable (c : FVec F S16x1024 .f32) (cc : FVec F S1024 .f32) (w : FVec F S4x1024x3072 .f32) (b : FVec F S4x3072 .f32)

/-- The reference's result, as a term over its arguments. -/
def refMod : FVec F S4x24x3072 .f32 :=
  (concatenate S4x24x3072 1 [⟨S4x16x3072, ((addf (transpose S4x16x3072 [0, 2, 1] (Host.dotGeneral dot_S4x1024x3072_S16x1024_S4x3072x16_1_1_02_0_n_n none w (mulf c (Host.divf (broadcastInDim S16x1024 ![] bcast_S_S16x1024 (constant S_ .f32 0x3F800000#32)) (addf (broadcastInDim S16x1024 ![] bcast_S_S16x1024 (constant S_ .f32 0x3F800000#32)) (Host.exp (Host.negf c)))))) transposes_S4x3072x16_S4x16x3072_0_2_1) (broadcastInDim S4x16x3072 ![0, 1, 2] bcast_S4x1x3072_S4x16x3072_0_1_2 (broadcastInDim S4x1x3072 ![0, 2] bcast_S4x3072_S4x1x3072_0_2 b))) : (⟨S4x16x3072, .f32⟩ : BufTy).Contents (Elt F))⟩, ⟨S4x1x3072, ((broadcastInDim S4x1x3072 ![0, 2] bcast_S4x3072_S4x1x3072_0_2 (addf (Host.dotGeneral dot_S1024_S4x1024x3072_S4x3072_0_1_n_02_n_n none (mulf cc (Host.divf (broadcastInDim S1024 ![] bcast_S_S1024 (constant S_ .f32 0x3F800000#32)) (addf (broadcastInDim S1024 ![] bcast_S_S1024 (constant S_ .f32 0x3F800000#32)) (Host.exp (Host.negf cc))))) w) b)) : (⟨S4x1x3072, .f32⟩ : BufTy).Contents (Elt F))⟩, ⟨S4x7x3072, ((broadcastInDim S4x7x3072 ![0, 1, 2] bcast_S4x1x3072_S4x7x3072_0_1_2 (broadcastInDim S4x1x3072 ![0, 2] bcast_S4x3072_S4x1x3072_0_2 b)) : (⟨S4x7x3072, .f32⟩ : BufTy).Contents (Elt F))⟩] concatenates_S4x16x3072_S4x1x3072_S4x7x3072_S4x24x3072_d1 : (⟨S4x24x3072, .f32⟩ : BufTy).Contents (Elt F))

end

variable (c : FVec Ideal S16x1024 .f32) (cc : FVec Ideal S1024 .f32) (w : FVec Ideal S4x1024x3072 .f32) (b : FVec Ideal S4x3072 .f32)

/-- Row `r` of the conditions: a sequence's, the context's, or zeros. -/
def cond (r : Fin 24) (d : Fin 1024) : EReal :=
  if h : r.val < 16 then c (ix2 ⟨r.val, h⟩ d) else if r.val < 17 then cc (ix1 d) else 0

/-- A row of conditions, each times its logistic, through a layer's weights and biases. -/
def modV (x : Fin 1024 → EReal) (l : Fin 4) (k : Fin 3072) : EReal := (∑ d, x d * w (ix3 l d k)) + b (ix2 l k)

theorem sl_zero : sl 0 = 0 := zero_mul _

theorem refMod_at (l : Fin 4) (r : Fin 24) (k : Fin 3072) :
    @Eq EReal (refMod c cc w b (ix3 l r k)) (modV w b (fun d => sl (cond c cc r d)) l k) := by
  unfold refMod modV cond
  clean_types
  pointwise
  by_cases h : r.val < 16
  · simp only [dif_pos h]
    refine congrArg (fun z : EReal => z + b (ix2 l k)) (Finset.sum_congr rfl fun d _ => ?_)
    rw [mul_comm]
    rfl
  · by_cases h2 : r.val < 17
    · simp only [dif_neg h, if_pos h2, dif_pos (show r.val - 16 < 1 by omega)]
      rfl
    · simp only [dif_neg h, if_neg h2, dif_neg (show ¬ r.val - 16 < 1 by omega), sl_zero, zero_mul, Finset.sum_const_zero, zero_add]

end Cert.Modul

end
-- ==== Proof.Modul.Tie.lean ====
/- The modulation: the kernel's result array is the reference's result term. -/
module

public import proofs.«01_k».proof.Proof.Gen.KernelModIdeal.Value
public import proofs.«01_k».proof.Proof.Modul.Ref
public import proofs.«01_k».proof.Defs
public import Idealize.ShloMosaic.Lib.Pipeline.ValueKit
public import Idealize.ShloMosaic.Lib.Pipeline.ValueKit.Point

@[expose] public section

set_option maxRecDepth 16384

noncomputable section

namespace Cert.Modul

open Cert.KernelModIdeal Cert.KernelModIdeal.Gen Idealize.ShloMosaic Idealize.ShloMosaic.TcCoe Cert.Merge

variable (m : (ℓ : Loc nD τ sig) → Buf (Elt Ideal) ℓ)

/-- The layer of a grid point. -/
def ll (t : Fin cfg0.grid.N) : Fin 4 := grid0.coords t 0
/-- The block of 768 columns of a grid point. -/
def jj (t : Fin cfg0.grid.N) : Fin 4 := grid0.coords t 1
/-- A column of a grid point's block. -/
def kk (t : Fin cfg0.grid.N) (k : Fin 768) : Fin 3072 := ⟨768 * (jj t).val + k.val, by have := (jj t).isLt; omega⟩

theorem idx_all : ∀ t : Fin grid0.N, win0_0.index t = ![0, 0] ∧ win0_1.index t = ![(ll t).val, 0, (jj t).val]
    ∧ win0_2.index t = ![(ll t).val, 0, (jj t).val] ∧ win0_3.index t = ![(ll t).val, 0, (jj t).val] := by decide +kernel

/-- The block's product, at an index. -/
theorem pay_at (x0 : Vec Ideal S24x1024 .f32) (x1 : Vec Ideal S1x1024x768 .f32) (x2 : Vec Ideal S1x1x768 .f32) (r : Fin 24) (k : Fin 768)
    (hx : ∀ d : Fin 1024, ∃ y : ℝ, @Eq EReal (x0 (ix2 r d)) y) :
    @Eq EReal (k0_pay1 (F := Ideal) x0 x1 x2 (ix3 0 r k)) ((∑ d : Fin 1024, sl (x0 (ix2 r d)) * x1 (ix3 0 d k)) + x2 (ix3 0 0 k)) := by
  pointwise [k0_pay1]
  refine congrArg (fun z : EReal => z + x2 (ix3 0 0 k)) (Finset.sum_congr rfl fun d _ => ?_)
  exact congrArg (fun z : EReal => z * x1 (ix3 0 d k)) (tanh_sl _ (hx d))

theorem V_main_v2 (c : Dev nD) : V m c main_v2 = concatenate S24x1024 0 [⟨S16x1024, m ((c : Thread nD τ).loc main_arg0)⟩,
    ⟨S1x1024, broadcastInDim S1x1024 ![1] bcast_S1024_S1x1024_1 (m ((c : Thread nD τ).loc main_arg1))⟩,
    ⟨S7x1024, broadcastInDim S7x1024 ![] bcast_S_S7x1024 (constant (F := Ideal) S_ .f32 0x00000000#32)⟩] concatenates_S16x1024_S1x1024_S7x1024_S24x1024_d0 := by
  show StableHlo.after hostOps0 (fun b => m (c, b)) (Proc.devRef .tc main_v2) = _
  after_results
  rfl

theorem V_main_v3 (c : Dev nD) : V m c main_v3 = shapeCast S4x1x3072 (m ((c : Thread nD τ).loc main_arg3)) shapeCasts_S4x3072_S4x1x3072 := by
  show StableHlo.after hostOps0 (fun b => m (c, b)) (Proc.devRef .tc main_v3) = _
  after_results
  rfl

theorem blk0 (c : Dev nD) (t : Fin cfg0.N) (r : Fin 24) (d : Fin 1024) :
    @Eq EReal (iblk m c 0 t (ix2 r d)) (cond (m ((c : Thread nD τ).loc main_arg0)) (m ((c : Thread nD τ).loc main_arg1)) r d) := by
  have h : @Eq EReal (iblk m c 0 t (ix2 r d)) (V m c main_v2 (ix2 r d)) := by
    blk_ext [iblk, idx_all t, ll, jj]
  rw [h, V_main_v2]
  unfold cond
  pointwise
  by_cases h : r.val < 16
  · rw [dif_pos h, dif_pos h]
  · by_cases h2 : r.val < 17
    · rw [dif_neg h, dif_neg h, if_pos h2, dif_pos (show r.val - 16 < 1 by omega)]
    · rw [dif_neg h, dif_neg h, if_neg h2, dif_neg (show ¬ r.val - 16 < 1 by omega)]

theorem blk1 (c : Dev nD) (t : Fin cfg0.N) (d : Fin 1024) (k : Fin 768) :
    @Eq EReal (iblk m c 1 t (ix3 0 d k)) (m ((c : Thread nD τ).loc main_arg2) (ix3 (ll t) d (kk t k))) := by
  blk_ext [iblk, V, idx_all t, ll, jj, kk]

theorem blk2 (c : Dev nD) (t : Fin cfg0.N) (k : Fin 768) :
    @Eq EReal (iblk m c 2 t (ix3 0 0 k)) (m ((c : Thread nD τ).loc main_arg3) (ix2 (ll t) (kk t k))) := by
  have h : @Eq EReal (iblk m c 2 t (ix3 0 0 k)) (V m c main_v3 (ix3 (ll t) 0 (kk t k))) := by
    blk_ext [iblk, idx_all t, ll, jj, kk]
  rw [h, V_main_v3]
  pointwise

/-- Where a block's entry lies in the result. -/
theorem emb3 (t : Fin cfg0.N) (r : Fin 24) (k : Fin 768) :
    ((View.whole main_v4).slice (win0_3.rect t)).emb (ix3 0 r k) = ix3 (ll t) r (kk t k) := by
  blk_ext [idx_all t, ll, jj, kk]

/-- The reference's result term over the kernel's arguments. -/
def G (c : Dev nD) : S4x24x3072.Idx → EReal :=
  refMod (F := Ideal) (m ((c : Thread nD τ).loc main_arg0)) (m ((c : Thread nD τ).loc main_arg1)) (m ((c : Thread nD τ).loc main_arg2)) (m ((c : Thread nD τ).loc main_arg3))

/-- The kernel's result array, block by block. -/
theorem arr_eq (c : Dev nD) (h0 : ∀ i, ∃ y : ℝ, @Eq EReal (m ((c : Thread nD τ).loc main_arg0) i) y)
    (h1 : ∀ i, ∃ y : ℝ, @Eq EReal (m ((c : Thread nD τ).loc main_arg1) i) y) : (dats m 0 c).arrAt 3 cfg0.N = G m c := by
  refine (dats m 0 c).arrAt_eq_of_covers 3 _ (by decide +kernel) fun t hf y => ?_
  blk_simp
  rw [after0_3]
  frame_out
  obtain ⟨r, k, rfl⟩ : ∃ (r : Fin 24) (k : Fin 768), y = ix3 0 r k := by
    refine ⟨y 1, y 2, ?_⟩
    blk_ext []
  refine (pay_at _ _ _ r k fun d => ?_).trans ?_
  · rw [blk0]
    unfold cond
    split_ifs
    · exact h0 _
    · exact h1 _
    · exact ⟨0, rfl⟩
  rw [emb3]
  refine Eq.trans ?_ (refMod_at _ _ _ _ _ _ _).symm
  unfold modV
  refine congrArg₂ (fun a b : EReal => a + b) (Finset.sum_congr rfl fun d _ => ?_) (blk2 m c t k)
  exact congrArg₂ (fun a b : EReal => a * b) (congrArg sl (blk0 m c t r d)) (blk1 m c t d k)

end Cert.Modul

end
-- ==== Proof.Modul.Claim.lean ====
/- The modulation: the kernel and the reference end at the same result. -/
module

public import proofs.«01_k».proof.Proof.Modul.Tie
public import proofs.«01_k».proof.Proof.Attn.Claim
public import proofs.«01_k».proof.Proof.Finite
public import proofs.«01_k».proof.Proof.Gen.Pre_finite_c

@[expose] public section

set_option maxRecDepth 16384

noncomputable section

namespace Cert.Modul

open Cert.KernelModIdeal Idealize.ShloMosaic Idealize.ShloMosaic.TcCoe Idealize.SL.Sem

section
variable (m : (ℓ : Loc nD τ sig) → Buf (Elt Ideal) ℓ)

/-- Under the precondition every sequence's condition is real. -/
theorem finite_c0 (h : Cert.Pre_KernelModIdeal_finite_c m) (c : Dev nD) (i : ((c : Thread nD τ).loc main_arg0).ty.Idx) :
    ∃ y : ℝ, @Eq EReal (m ((c : Thread nD τ).loc main_arg0) i) y := by
  have h1 := congrFun (h c) (fun a => a.elim0)
  dsimp only [Cert.Pre_finite_c.fn] at h1
  exact Cert.Finite.real_of_lt _ (Host.reduce_andi_all _ _ _ _ _ (Cert.Attn.and_one _ _ h1).1 i)

/-- Under the precondition the context's condition is real. -/
theorem finite_c1 (h : Cert.Pre_KernelModIdeal_finite_c m) (c : Dev nD) (i : ((c : Thread nD τ).loc main_arg1).ty.Idx) :
    ∃ y : ℝ, @Eq EReal (m ((c : Thread nD τ).loc main_arg1) i) y := by
  have h1 := congrFun (h c) (fun a => a.elim0)
  dsimp only [Cert.Pre_finite_c.fn] at h1
  exact Cert.Finite.real_of_lt _ (Host.reduce_andi_all _ _ _ _ _ (Cert.Attn.and_one _ _ h1).2 i)

end

/-- The kernel's and the reference's results are one array. -/
theorem algebraic : Cert.algebraic_KernelModIdeal_ReferenceModIdeal_pre_finite_c := by
  intro m ρ m' ρ' hpre hag
  refine ⟨fun c => G m c, ?_, ?_⟩
  · exact (θ_run _ _ _).mono (fun _ h c => ⟨(h c).1.trans (arr_eq m c (finite_c0 m hpre c) (finite_c1 m hpre c)), (h c).2⟩)
      (Cert.KernelModIdeal.Value.run_blocks (F := Ideal) m ρ)
  · refine (θ_run _ _ _).mono (fun _ h c => ⟨(h c).1.trans ?_, (h c).2⟩) (Cert.ReferenceModIdeal.Value.run (F := Ideal) m' ρ')
    obtain ⟨e0, e1, e2, e3⟩ := hag c
    unfold G
    rw [e0, e1, e2, e3]
    rfl

end Cert.Modul

end
-- ==== Proof.Gates.Ref.lean ====
/- The gates: the reference's result, as named steps, and a running sum read at an index. -/
module

public import proofs.«01_k».proof.Proof.Gen.ReferenceGatesIdeal.Run
public import Idealize.ShloMosaic.Lib.Pointwise
public import Idealize.ShloMosaic.Lib.Tactic.CleanTypes

@[expose] public section

set_option maxRecDepth 16384

noncomputable section

namespace Cert.Gates

open Cert.ReferenceGatesIdeal Cert.ReferenceGatesIdeal.Gen Cert.ReferenceGatesIdeal.Value Idealize.ShloMosaic Idealize.ShloMosaic.TcCoe

section
variable {F : FTy → Type} [FloatOps F]
variable (x0 : FVec F S16x2304x128 .f32) (x1 x2 : FVec F S2x4 .f32) (G : FVec F S16x2304x120 .f32)

/-- The softplus's argument. -/
def refZ : FVec F S16x2304x120 .f32 :=
  (addf (extractStridedSlice S16x2304x120 ![0, 0, 8] x0 slices_S16x2304x128_S16x2304x120_0_0_8) (broadcastInDim S16x2304x120 ![0, 1, 2] bcast_S1x1x120_S16x2304x120_0_1_2 (broadcastInDim S1x1x120 ![2] bcast_S120_S1x1x120_2 (concatenate S120 0 [⟨S8, (shapeCast _ x2 shapeCasts_S2x4_S8)⟩, ⟨S112, (broadcastInDim S112 ![] bcast_S_S112 (constant S_ .f32 0x00000000#32))⟩] concatenates_S8_S112_S120_d0))))

/-- The log decays. -/
def refG : FVec F S16x2304x120 .f32 :=
  (mulf (broadcastInDim S16x2304x120 ![0, 1, 2] bcast_S1x1x120_S16x2304x120_0_1_2 (broadcastInDim S1x1x120 ![2] bcast_S120_S1x1x120_2 (Host.negf (Host.exp (concatenate S120 0 [⟨S8, (shapeCast _ x1 shapeCasts_S2x4_S8)⟩, ⟨S112, (broadcastInDim S112 ![] bcast_S_S112 (constant S_ .f32 0x00000000#32))⟩] concatenates_S8_S112_S120_d0))))) (select (cmpf .une (subf (refZ x0 x2) (broadcastInDim S16x2304x120 ![] bcast_S_S16x2304x120 (constant S_ .f32 0x00000000#32))) (subf (refZ x0 x2) (broadcastInDim S16x2304x120 ![] bcast_S_S16x2304x120 (constant S_ .f32 0x00000000#32)))) (addf (refZ x0 x2) (broadcastInDim S16x2304x120 ![] bcast_S_S16x2304x120 (constant S_ .f32 0x00000000#32))) (addf (maximumf (refZ x0 x2) (broadcastInDim S16x2304x120 ![] bcast_S_S16x2304x120 (constant S_ .f32 0x00000000#32))) (Host.log1p (Host.exp (Host.negf (Host.absf (subf (refZ x0 x2) (broadcastInDim S16x2304x120 ![] bcast_S_S16x2304x120 (constant S_ .f32 0x00000000#32))))))))))

/-- The sums towards the earlier rows, of the context. -/
def fA : FVec F S16x256x4 .f32 :=
  (shapeCast _ (transpose S16x4x64x4 [1, 0, 3, 2] (Host.reduceWindowAdd ![1, 1, 1, 64] ![1, 1, 1, 1] ![0, 0, 0, 63] ![0, 0, 0, 0] (transpose S4x16x4x64 [1, 0, 3, 2] (shapeCast _ (extractStridedSlice S16x256x4 ![0, 0, 0] G slices_S16x2304x120_S16x256x4_0_0_0) shapeCasts_S16x256x4_S16x4x64x4) transposes_S16x4x64x4_S4x16x4x64_1_0_3_2) (broadcastInDim S_ ![] bcast_S_S_ (constant S_ .f32 0x00000000#32)) reduceWindows_S4x16x4x64_S4x16x4x64_w1s1p0_0_w1s1p0_0_w1s1p0_0_w64s1p63_0 h_S_) transposes_S4x16x4x64_S16x4x64x4_1_0_3_2) shapeCasts_S16x4x64x4_S16x256x4)

/-- The sums towards the earlier rows, of the latent tokens. -/
def fB : FVec F S16x2048x4 .f32 :=
  (shapeCast _ (transpose S16x32x64x4 [1, 0, 3, 2] (Host.reduceWindowAdd ![1, 1, 1, 64] ![1, 1, 1, 1] ![0, 0, 0, 63] ![0, 0, 0, 0] (transpose S32x16x4x64 [1, 0, 3, 2] (shapeCast _ (extractStridedSlice S16x2048x4 ![0, 256, 0] G slices_S16x2304x120_S16x2048x4_0_256_0) shapeCasts_S16x2048x4_S16x32x64x4) transposes_S16x32x64x4_S32x16x4x64_1_0_3_2) (broadcastInDim S_ ![] bcast_S_S_ (constant S_ .f32 0x00000000#32)) reduceWindows_S32x16x4x64_S32x16x4x64_w1s1p0_0_w1s1p0_0_w1s1p0_0_w64s1p63_0 h_S_) transposes_S32x16x4x64_S16x32x64x4_1_0_3_2) shapeCasts_S16x32x64x4_S16x2048x4)

/-- The sums towards the later rows, of the context. -/
def rA : FVec F S16x256x116 .f32 :=
  (Host.reverse [1] (shapeCast _ (transpose S16x4x64x116 [1, 0, 3, 2] (Host.reduceWindowAdd ![1, 1, 1, 64] ![1, 1, 1, 1] ![0, 0, 0, 63] ![0, 0, 0, 0] (transpose S4x16x116x64 [1, 0, 3, 2] (shapeCast _ (Host.reverse [1] (extractStridedSlice S16x256x116 ![0, 0, 4] G slices_S16x2304x120_S16x256x116_0_0_4)) shapeCasts_S16x256x116_S16x4x64x116) transposes_S16x4x64x116_S4x16x116x64_1_0_3_2) (broadcastInDim S_ ![] bcast_S_S_ (constant S_ .f32 0x00000000#32)) reduceWindows_S4x16x116x64_S4x16x116x64_w1s1p0_0_w1s1p0_0_w1s1p0_0_w64s1p63_0 h_S_) transposes_S4x16x116x64_S16x4x64x116_1_0_3_2) shapeCasts_S16x4x64x116_S16x256x116))

/-- The sums towards the later rows, of the latent tokens. -/
def rB : FVec F S16x2048x116 .f32 :=
  (Host.reverse [1] (shapeCast _ (transpose S16x32x64x116 [1, 0, 3, 2] (Host.reduceWindowAdd ![1, 1, 1, 64] ![1, 1, 1, 1] ![0, 0, 0, 63] ![0, 0, 0, 0] (transpose S32x16x116x64 [1, 0, 3, 2] (shapeCast _ (Host.reverse [1] (extractStridedSlice S16x2048x116 ![0, 256, 4] G slices_S16x2304x120_S16x2048x116_0_256_4)) shapeCasts_S16x2048x116_S16x32x64x116) transposes_S16x32x64x116_S32x16x116x64_1_0_3_2) (broadcastInDim S_ ![] bcast_S_S_ (constant S_ .f32 0x00000000#32)) reduceWindows_S32x16x116x64_S32x16x116x64_w1s1p0_0_w1s1p0_0_w1s1p0_0_w64s1p63_0 h_S_) transposes_S32x16x116x64_S16x32x64x116_1_0_3_2) shapeCasts_S16x32x64x116_S16x2048x116))

/-- The reference's result, as a term over its arguments. -/
def refGates : FVec F S16x2304x128 .f32 :=
  (concatenate S16x2304x128 2 [⟨S16x2304x8, ((Host.divf (broadcastInDim S16x2304x8 ![] bcast_S_S16x2304x8 (constant S_ .f32 0x3F800000#32)) (addf (broadcastInDim S16x2304x8 ![] bcast_S_S16x2304x8 (constant S_ .f32 0x3F800000#32)) (Host.exp (Host.negf (extractStridedSlice S16x2304x8 ![0, 0, 0] x0 slices_S16x2304x128_S16x2304x8_0_0_0))))) : (⟨S16x2304x8, .f32⟩ : BufTy).Contents (Elt F))⟩, ⟨S16x2304x4, ((concatenate S16x2304x4 1 [⟨S16x256x4, (fA (refG x0 x1 x2))⟩, ⟨S16x2048x4, (fB (refG x0 x1 x2))⟩] concatenates_S16x256x4_S16x2048x4_S16x2304x4_d1) : (⟨S16x2304x4, .f32⟩ : BufTy).Contents (Elt F))⟩, ⟨S16x2304x116, ((concatenate S16x2304x116 1 [⟨S16x256x116, (rA (refG x0 x1 x2))⟩, ⟨S16x2048x116, (rB (refG x0 x1 x2))⟩] concatenates_S16x256x116_S16x2048x116_S16x2304x116_d1) : (⟨S16x2304x116, .f32⟩ : BufTy).Contents (Elt F))⟩] concatenates_S16x2304x8_S16x2304x4_S16x2304x116_S16x2304x128_d2 : (⟨S16x2304x128, .f32⟩ : BufTy).Contents (Elt F))

/-- The reference's result buffer is these steps of its arguments. -/
theorem res_eq (m : (ℓ : Loc nD τ sig) → Buf (Elt F) ℓ) (c : Dev nD) :
    res_main_v53 m c = refGates (m ((c.tc : Thread nD τ).loc main_arg0)) (m ((c.tc : Thread nD τ).loc main_arg1)) (m ((c.tc : Thread nD τ).loc main_arg2)) := rfl

end

/-- A fold of sums is the sum. -/
theorem foldl_sum {α : Type} (e : α → EReal) (l : List α) (v : EReal) : l.foldl (fun r n => r + e n) v = v + (l.map e).sum := by
  induction l generalizing v with
  | nil => simp
  | cons a l ih => rw [List.foldl_cons, ih, List.map_cons, List.sum_cons, add_assoc]

/-- The place of a window of one row of 64. -/
theorem win_symm (n : Fin (⟨4, ![1, 1, 1, 64]⟩ : Shape).numel) : (((⟨4, ![1, 1, 1, 64]⟩ : Shape).rowMajor.symm n) 3).val = n.val := by
  revert n
  decide +kernel

/-- A running sum along the last axis, read at an index. -/
theorem win_at {A B C : Nat} (x : FVec Ideal ⟨4, ![A, B, C, 64]⟩ .f32) {u : Shape} (init : FVec Ideal u .f32) (hi : ∀ i, @Eq EReal (init i) 0)
    (h : (⟨4, ![A, B, C, 64]⟩ : Shape).ReduceWindows ![1, 1, 1, 64] ![1, 1, 1, 1] ![0, 0, 0, 63] ![0, 0, 0, 0] ⟨4, ![A, B, C, 64]⟩) (hu : 0 < u.numel)
    (a : Fin A) (b : Fin B) (c : Fin C) (j : Fin 64) :
    @Eq EReal (Host.reduceWindowAdd ![1, 1, 1, 64] ![1, 1, 1, 1] ![0, 0, 0, 63] ![0, 0, 0, 0] x init h hu (ix4 a b c j))
      (∑ k ∈ Finset.range 64, if k ≤ j.val then x (ix4 a b c ⟨j.val - k, by omega⟩) else 0) := by
  refine (show _ = Host.reduceWindow (α := EReal) (s := ⟨4, ![A, B, C, 64]⟩) (u := ⟨0, ![]⟩) (t := ⟨4, ![A, B, C, 64]⟩) (· + ·) ![1, 1, 1, 64] ![1, 1, 1, 1] ![0, 0, 0, 63] ![0, 0, 0, 0] x
    (fun _ => init (Shape.Idx.first hu)) h (by decide) (ix4 a b c j) from rfl).trans ?_
  unfold Host.reduceWindow
  dsimp only
  rw [hi]
  refine (foldl_sum _ _ _).trans ?_
  rw [zero_add, ← Fin.sum_univ_def, ← Finset.sum_range_reflect, Finset.sum_range]
  refine Fintype.sum_equiv (finCongr (show (⟨4, ![1, 1, 1, 64]⟩ : Shape).numel = 64 by decide)) _ _ fun n => ?_
  have hn : n.val < 64 := (finCongr (show (⟨4, ![1, 1, 1, 64]⟩ : Shape).numel = 64 by decide) n).isLt
  have e3 := win_symm n
  have e0 : ((⟨4, ![1, 1, 1, 64]⟩ : Shape).rowMajor.symm n 0).val = 0 := Nat.lt_one_iff.mp ((⟨4, ![1, 1, 1, 64]⟩ : Shape).rowMajor.symm n 0).isLt
  have e1 : ((⟨4, ![1, 1, 1, 64]⟩ : Shape).rowMajor.symm n 1).val = 0 := Nat.lt_one_iff.mp ((⟨4, ![1, 1, 1, 64]⟩ : Shape).rowMajor.symm n 1).isLt
  have e2 : ((⟨4, ![1, 1, 1, 64]⟩ : Shape).rowMajor.symm n 2).val = 0 := Nat.lt_one_iff.mp ((⟨4, ![1, 1, 1, 64]⟩ : Shape).rowMajor.symm n 2).isLt
  show _ = if 64 - 1 - n.val ≤ j.val then x (ix4 a b c ⟨j.val - (64 - 1 - n.val), _⟩) else 0
  have hj := j.isLt
  split
  · next hin =>
    have h3 := hin 3
    change 63 ≤ j.val * 1 + ((⟨4, ![1, 1, 1, 64]⟩ : Shape).rowMajor.symm n 3).val ∧ _ at h3
    rw [e3] at h3
    rw [if_pos (by omega)]
    refine congrArg x (funext fun d => Fin.ext ?_)
    match d with
    | ⟨0, _⟩ =>
      show a.val * 1 + ((⟨4, ![1, 1, 1, 64]⟩ : Shape).rowMajor.symm n 0).val - 0 = a.val
      rw [e0]; omega
    | ⟨1, _⟩ =>
      show b.val * 1 + ((⟨4, ![1, 1, 1, 64]⟩ : Shape).rowMajor.symm n 1).val - 0 = b.val
      rw [e1]; omega
    | ⟨2, _⟩ =>
      show c.val * 1 + ((⟨4, ![1, 1, 1, 64]⟩ : Shape).rowMajor.symm n 2).val - 0 = c.val
      rw [e2]; omega
    | ⟨3, _⟩ =>
      show j.val * 1 + ((⟨4, ![1, 1, 1, 64]⟩ : Shape).rowMajor.symm n 3).val - 63 = j.val - (64 - 1 - n.val)
      rw [e3]; omega
  · next hin =>
    refine (if_neg fun hle => hin fun d => ?_).symm
    have ha := a.isLt
    have hb := b.isLt
    have hc := c.isLt
    match d with
    | ⟨0, _⟩ =>
      show 0 ≤ a.val * 1 + ((⟨4, ![1, 1, 1, 64]⟩ : Shape).rowMajor.symm n 0).val ∧ a.val * 1 + ((⟨4, ![1, 1, 1, 64]⟩ : Shape).rowMajor.symm n 0).val - 0 < A
      rw [e0]; omega
    | ⟨1, _⟩ =>
      show 0 ≤ b.val * 1 + ((⟨4, ![1, 1, 1, 64]⟩ : Shape).rowMajor.symm n 1).val ∧ b.val * 1 + ((⟨4, ![1, 1, 1, 64]⟩ : Shape).rowMajor.symm n 1).val - 0 < B
      rw [e1]; omega
    | ⟨2, _⟩ =>
      show 0 ≤ c.val * 1 + ((⟨4, ![1, 1, 1, 64]⟩ : Shape).rowMajor.symm n 2).val ∧ c.val * 1 + ((⟨4, ![1, 1, 1, 64]⟩ : Shape).rowMajor.symm n 2).val - 0 < C
      rw [e2]; omega
    | ⟨3, _⟩ =>
      show 63 ≤ j.val * 1 + ((⟨4, ![1, 1, 1, 64]⟩ : Shape).rowMajor.symm n 3).val ∧ j.val * 1 + ((⟨4, ![1, 1, 1, 64]⟩ : Shape).rowMajor.symm n 3).val - 63 < 64
      rw [e3]; omega

end Cert.Gates

end
-- ==== Proof.Gates.Step.lean ====
/- The gates: sums over the rows of a chunk by doubling steps, as functions of a row, and the kernel's steps. -/
module

public import proofs.«01_k».proof.Proof.Gen.KernelGatesIdeal.Value
public import proofs.«01_k».proof.Proof.Merge.Spec
public import Idealize.ShloMosaic.Lib.Pointwise

@[expose] public section

set_option maxRecDepth 16384

noncomputable section

namespace Cert.Gates

open Cert.KernelGatesIdeal Cert.KernelGatesIdeal.Gen Idealize.ShloMosaic Idealize.ShloMosaic.TcCoe

/-- The sum of the last `s` rows up to row `t`, those of its chunk of 64. -/
def pF (s : Nat) (g : Nat → EReal) (t : Nat) : EReal := ∑ u ∈ Finset.range s, if u ≤ t % 64 then g (t - u) else 0

/-- The sum of the next `s` rows from row `t`, those of its chunk of 64. -/
def pB (s : Nat) (g : Nat → EReal) (t : Nat) : EReal := ∑ u ∈ Finset.range s, if u + t % 64 < 64 then g (t + u) else 0

theorem pF_one (g : Nat → EReal) (t : Nat) : pF 1 g t = g t := by simp [pF]

theorem pB_one (g : Nat → EReal) (t : Nat) : pB 1 g t = g t := by
  simp [pB, Nat.mod_lt]

theorem pF_double (s : Nat) (g : Nat → EReal) (t : Nat) :
    pF s g t + (if s ≤ t % 64 then pF s g (t - s) else 0) = pF (s + s) g t := by
  unfold pF
  rw [Finset.sum_range_add]
  congr 1
  split_ifs with h
  · refine Finset.sum_congr rfl fun u _ => ?_
    have e : (t - s) % 64 = t % 64 - s := by omega
    by_cases hu : u ≤ (t - s) % 64
    · rw [if_pos hu, if_pos (by omega), Nat.sub_sub]
    · rw [if_neg hu, if_neg (by omega)]
  · exact (Finset.sum_eq_zero fun u _ => if_neg (by omega)).symm

theorem pB_double (s : Nat) (g : Nat → EReal) (t : Nat) :
    pB s g t + (if t % 64 < 64 - s then pB s g (t + s) else 0) = pB (s + s) g t := by
  unfold pB
  rw [Finset.sum_range_add]
  congr 1
  split_ifs with h
  · refine Finset.sum_congr rfl fun u _ => ?_
    have e : (t + s) % 64 = t % 64 + s := by omega
    by_cases hu : u + (t + s) % 64 < 64
    · rw [if_pos hu, if_pos (by omega), Nat.add_assoc]
    · rw [if_neg hu, if_neg (by omega)]
  · exact (Finset.sum_eq_zero fun u _ => if_neg (by omega)).symm

/-- A row's place in its chunk, as the kernel computes it. -/
theorem pay4_at (r : Fin 2304) : k0_pay4 (ix2 r 0) = BitVec.ofNat 32 (r.val % 64) := by
  revert r
  decide +kernel

/-- The kernel's step towards the earlier rows. -/
def stF (s : BitVec 32) (X : FVec Ideal S2304x128 .f32) : FVec Ideal S2304x128 .f32 :=
  addf X (select (broadcastTo S2304x128 (shapeCast S2304x1 (cmpi .sge k0_pay4 (broadcast S2304x1 s)) shapeCasts_S2304x1_S2304x1) broadcasts_S2304x1_S2304x128)
    (dynamicRotate 0 s none X rotates_S2304x128_d0) (broadcast S2304x128 (Scalar.ofBits .f32 0x00000000#32)))

/-- The kernel's step towards the later rows. -/
def stB (s e : BitVec 32) (X : FVec Ideal S2304x128 .f32) : FVec Ideal S2304x128 .f32 :=
  addf X (select (broadcastTo S2304x128 (shapeCast S2304x1 (cmpi .slt k0_pay4 (broadcast S2304x1 e)) shapeCasts_S2304x1_S2304x1) broadcasts_S2304x1_S2304x128)
    (dynamicRotate 0 s none X rotates_S2304x128_d0) (broadcast S2304x128 (Scalar.ofBits .f32 0x00000000#32)))

theorem sge_at (s m : Nat) (hs : s < 64) (hm : m < 64) {α : Type} (x y : α) :
    Scalar.select (IntOp.cmpi CmpIPredicate.sge (BitVec.ofNat 32 m) (BitVec.ofNat 32 s)) x y = if s ≤ m then x else y := by
  have h : ∀ s m : Fin 64, IntOp.cmpi CmpIPredicate.sge (BitVec.ofNat 32 m.val) (BitVec.ofNat 32 s.val) = if s.val ≤ m.val then 1#1 else 0#1 := by
    decide +kernel
  rw [h ⟨s, hs⟩ ⟨m, hm⟩]
  by_cases hsm : s ≤ m
  · rw [if_pos hsm, if_pos hsm]; rfl
  · rw [if_neg hsm, if_neg hsm]; rfl

theorem slt_at (e m : Nat) (he : e < 129) (hm : m < 128) {α : Type} (x y : α) :
    Scalar.select (IntOp.cmpi CmpIPredicate.slt (BitVec.ofNat 32 m) (BitVec.ofNat 32 e)) x y = if m < e then x else y := by
  have h : ∀ (e : Fin 129) (m : Fin 128), IntOp.cmpi CmpIPredicate.slt (BitVec.ofNat 32 m.val) (BitVec.ofNat 32 e.val) = if m.val < e.val then 1#1 else 0#1 := by
    decide +kernel
  rw [h ⟨e, he⟩ ⟨m, hm⟩]
  by_cases hsm : m < e
  · rw [if_pos hsm, if_pos hsm]; rfl
  · rw [if_neg hsm, if_neg hsm]; rfl

theorem stF_at (s : Nat) (hs : s < 64) (X : FVec Ideal S2304x128 .f32) (g : Nat → EReal) (l : Fin 128)
    (hX : ∀ r : Fin 2304, @Eq EReal (X (ix2 r l)) (pF s g r.val)) (r : Fin 2304) :
    @Eq EReal (stF (BitVec.ofNat 32 s) X (ix2 r l)) (pF (s + s) g r.val) := by
  rw [← pF_double]
  pointwise [stF]
  rw [pay4_at, sge_at s _ hs (by omega), hX]
  congr 1
  split_ifs with h
  · rw [hX]
    congr 1
    have := r.isLt
    have e : (BitVec.ofNat 32 s).toNat = s := by rw [BitVec.toNat_ofNat]; exact Nat.mod_eq_of_lt (by omega)
    show (r.val + 2304 - (BitVec.ofNat 32 s).toNat % 2304) % 2304 = _
    rw [e]
    omega
  · rfl

theorem stB_at (s n e : Nat) (hs : s < 64) (hn : n + s = 2304) (he : e + s = 64) (X : FVec Ideal S2304x128 .f32) (g : Nat → EReal) (l : Fin 128)
    (hX : ∀ r : Fin 2304, @Eq EReal (X (ix2 r l)) (pB s g r.val)) (r : Fin 2304) :
    @Eq EReal (stB (BitVec.ofNat 32 n) (BitVec.ofNat 32 e) X (ix2 r l)) (pB (s + s) g r.val) := by
  rw [← pB_double]
  pointwise [stB]
  rw [pay4_at, slt_at e _ (by omega) (by omega), hX, show 64 - s = e by omega]
  congr 1
  split_ifs with h
  · rw [hX]
    congr 1
    have := r.isLt
    have e : (BitVec.ofNat 32 n).toNat = n := by rw [BitVec.toNat_ofNat]; exact Nat.mod_eq_of_lt (by omega)
    show (r.val + 2304 - (BitVec.ofNat 32 n).toNat % 2304) % 2304 = _
    rw [e]
    omega
  · rfl

/-- Six steps towards the earlier rows sum the rows of a chunk up to a row. -/
theorem six_F (X : FVec Ideal S2304x128 .f32) (g : Nat → EReal) (l : Fin 128) (hX : ∀ r : Fin 2304, @Eq EReal (X (ix2 r l)) (g r.val)) (r : Fin 2304) :
    @Eq EReal (stF 32#32 (stF 16#32 (stF 8#32 (stF 4#32 (stF 2#32 (stF 1#32 X))))) (ix2 r l)) (pF 64 g r.val) :=
  stF_at 32 (by decide) _ g l (stF_at 16 (by decide) _ g l (stF_at 8 (by decide) _ g l (stF_at 4 (by decide) _ g l
    (stF_at 2 (by decide) _ g l (stF_at 1 (by decide) _ g l fun r => (hX r).trans (pF_one _ _).symm))))) r

/-- Six steps towards the later rows sum the rows of a chunk from a row. -/
theorem six_B (X : FVec Ideal S2304x128 .f32) (g : Nat → EReal) (l : Fin 128) (hX : ∀ r : Fin 2304, @Eq EReal (X (ix2 r l)) (g r.val)) (r : Fin 2304) :
    @Eq EReal (stB 2272#32 32#32 (stB 2288#32 48#32 (stB 2296#32 56#32 (stB 2300#32 60#32 (stB 2302#32 62#32 (stB 2303#32 63#32 X))))) (ix2 r l)) (pB 64 g r.val) :=
  stB_at 32 2272 32 (by decide) rfl rfl _ g l (stB_at 16 2288 48 (by decide) rfl rfl _ g l (stB_at 8 2296 56 (by decide) rfl rfl _ g l
    (stB_at 4 2300 60 (by decide) rfl rfl _ g l (stB_at 2 2302 62 (by decide) rfl rfl _ g l
    (stB_at 1 2303 63 (by decide) rfl rfl _ g l fun r => (hX r).trans (pB_one _ _).symm))))) r

/-- The kernel's sums towards the earlier rows are those six steps. -/
theorem sumF_eq (X : FVec Ideal S2304x128 .f32) : k0_pay12 k0_pay4 (k0_pay7 X k0_pay4 k0_pay5 1#32)
    = stF 32#32 (stF 16#32 (stF 8#32 (stF 4#32 (stF 2#32 (stF 1#32 X))))) := rfl

/-- The kernel's first five steps towards the later rows. -/
theorem sumB_eq (X : FVec Ideal S2304x128 .f32) : k0_pay11 k0_pay4 (k0_pay6 X k0_pay4) (k0_pay8 X k0_pay4) (k0_pay9 k0_pay4) (k0_pay10 (F := Ideal))
    = stB 2288#32 48#32 (stB 2296#32 56#32 (stB 2300#32 60#32 (stB 2302#32 62#32 (stB 2303#32 63#32 X)))) := rfl

/-- The kernel's block, from its inputs. -/
def payK (x0 : Vec Ideal S1x2304x128 .f32) (x1 x2 : Vec Ideal S1x128 .f32) : FVec Ideal S1x2304x128 .f32 :=
  k0_pay1 (k0_pay2 x0) (iota .tc S1x128 32 [1] iota_S1x128_d1_w32)
    (k0_pay11 k0_pay4 (k0_pay6 (k0_pay3 x0 x1 x2) k0_pay4) (k0_pay8 (k0_pay3 x0 x1 x2) k0_pay4) (k0_pay9 k0_pay4) (k0_pay10 (F := Ideal)))
    (k0_pay12 k0_pay4 (k0_pay7 (k0_pay3 x0 x1 x2) k0_pay4 k0_pay5 1#32)) (k0_pay13 k0_pay4)

/-- The last step and the choice of the columns. -/
theorem pay1_eq (v1 : FVec Ideal S2304x128 .f32) (v118 v126 : FVec Ideal S2304x128 .f32) (r : Fin 2304) (l : Fin 128) :
    @Eq EReal (k0_pay1 v1 (iota .tc S1x128 32 [1] iota_S1x128_d1_w32) v118 v126 (k0_pay13 k0_pay4) (ix3 0 r l))
      (if l.val < 8 then Cert.Merge.half * Ideal.tanh (Cert.Merge.half * v1 (ix2 r l)) + Cert.Merge.half
        else if l.val < 12 then v126 (ix2 r l) else stB 2272#32 32#32 v118 (ix2 r l)) := by
  pointwise [k0_pay1, k0_pay13, stB]
  rw [slt_at 8 _ (by decide) l.isLt, slt_at 12 _ (by decide) l.isLt]
  rfl

/-- A log decay: minus an exponential, times the softplus of a sum. -/
def gV (x d a : EReal) : EReal :=
  -Ideal.exp a * (max (x + d) 0 + Ideal.log1p (Ideal.exp (-(FloatOps.absf (F := Ideal) (φ := .f32) (x + d) : EReal))))

theorem pay3_at (x0 : Vec Ideal S1x2304x128 .f32) (x1 x2 : Vec Ideal S1x128 .f32) (r : Fin 2304) (l : Fin 128) :
    @Eq EReal (k0_pay3 x0 x1 x2 (ix2 r l)) (gV (x0 (ix3 0 r l)) (x2 (ix2 0 l)) (x1 (ix2 0 l))) := by
  pointwise [k0_pay3, k0_pay2]
  unfold gV
  have z : ∀ x : EReal, 0 - x = -x := fun x => by rw [sub_eq_add_neg, zero_add]
  rw [z, z]

/-- The log decays of a column, as a function of a row. -/
def gRow (x : Fin 2304 → EReal) (d a : EReal) (t : Nat) : EReal := if h : t < 2304 then gV (x ⟨t, h⟩) d a else 0

/-- An entry of the gates: a logistic, a sum up to a row or a sum from a row, by its column. -/
def gate (x : Fin 2304 → EReal) (d a : EReal) (r : Fin 2304) (l : Fin 128) : EReal :=
  if l.val < 8 then Cert.Merge.sg (x r) else if l.val < 12 then pF 64 (gRow x d a) r.val else pB 64 (gRow x d a) r.val

theorem payK_at (x0 : Vec Ideal S1x2304x128 .f32) (x1 x2 : Vec Ideal S1x128 .f32) (r : Fin 2304) (l : Fin 128) :
    @Eq EReal (payK x0 x1 x2 (ix3 0 r l)) (gate (fun t => x0 (ix3 0 t l)) (x2 (ix2 0 l)) (x1 (ix2 0 l)) r l) := by
  refine (pay1_eq _ _ _ r l).trans ?_
  have hX : ∀ r : Fin 2304, @Eq EReal (k0_pay3 x0 x1 x2 (ix2 r l)) (gRow (fun t => x0 (ix3 0 t l)) (x2 (ix2 0 l)) (x1 (ix2 0 l)) r.val) := fun r => by
    rw [pay3_at]
    unfold gRow
    rw [dif_pos r.isLt]
  unfold gate
  rw [Cert.Merge.tanh_sg, sumF_eq, sumB_eq, six_F _ _ l hX, six_B _ _ l hX]
  congr 2
  pointwise [k0_pay2]

end Cert.Gates

end
-- ==== Proof.Gates.RefAt.lean ====
/- The gates: the reference's result, read at an index. -/
module

public import proofs.«01_k».proof.Proof.Gates.Ref
public import proofs.«01_k».proof.Proof.Gates.Step

@[expose] public section

set_option maxRecDepth 16384

noncomputable section

namespace Cert.Gates

open Cert.ReferenceGatesIdeal Cert.ReferenceGatesIdeal.Gen Idealize.ShloMosaic Idealize.ShloMosaic.TcCoe

variable (x0 : FVec Ideal S16x2304x128 .f32) (x1 x2 : FVec Ideal S2x4 .f32) (G : FVec Ideal S16x2304x120 .f32)

/-- A parameter of a column: of a direction and a head, or zero. -/
def par (x : FVec Ideal S2x4 .f32) (h : Nat) : EReal :=
  if hh : h < 8 then x (ix2 ⟨h / 4, by omega⟩ ⟨h % 4, by omega⟩) else 0

theorem refG_at (b : Fin 16) (t : Fin 2304) (h : Fin 120) :
    @Eq EReal (refG x0 x1 x2 (ix3 b t h)) (gV (x0 (ix3 b t ⟨8 + h.val, by omega⟩)) (par x2 h.val) (par x1 h.val)) := by
  unfold refG refZ
  clean_types
  pointwise
  rw [if_neg (fun hne => hne rfl)]
  rfl

/-- A column of the log decays, as a function of a row. -/
def colG (b : Fin 16) (h : Fin 120) (t : Nat) : EReal := if ht : t < 2304 then G (ix3 b ⟨t, ht⟩ h) else 0

theorem colG_refG (b : Fin 16) (h : Fin 120) :
    colG (refG x0 x1 x2) b h = gRow (fun t => x0 (ix3 b t ⟨8 + h.val, by omega⟩)) (par x2 h.val) (par x1 h.val) := by
  funext t
  unfold colG gRow
  split_ifs
  · exact refG_at _ _ _ _ _ _
  · rfl

theorem zero_init (i : S_.Idx) : @Eq EReal (broadcastInDim S_ ![] bcast_S_S_ (constant (F := Ideal) S_ FTy.f32 0#32) i) 0 := by
  pointwise

theorem fA_at (b : Fin 16) (t : Fin 256) (h : Fin 4) :
    @Eq EReal (fA G (ix3 b t h)) (pF 64 (colG G b ⟨h.val, by omega⟩) t.val) := by
  unfold fA
  clean_types
  pointwise
  refine (win_at _ _ zero_init _ _ _ _ _ _).trans ?_
  unfold pF
  have ht := t.isLt
  refine Finset.sum_congr rfl fun k _ => ?_
  dsimp only
  split_ifs with hk
  · unfold colG
    rw [dif_pos (by omega)]
    pointwise
    refine congrArg G (funext fun d => Fin.ext ?_)
    match d with
    | ⟨0, _⟩ => rfl
    | ⟨1, _⟩ => show t.val / 64 * 64 + (t.val % 64 - k) = t.val - k; omega
    | ⟨2, _⟩ => rfl
  · rfl

theorem fB_at (b : Fin 16) (t : Fin 2048) (h : Fin 4) :
    @Eq EReal (fB G (ix3 b t h)) (pF 64 (colG G b ⟨h.val, by omega⟩) (256 + t.val)) := by
  unfold fB
  clean_types
  pointwise
  refine (win_at _ _ zero_init _ _ _ _ _ _).trans ?_
  unfold pF
  have ht := t.isLt
  refine Finset.sum_congr rfl fun k _ => ?_
  dsimp only
  rw [show (256 + t.val) % 64 = t.val % 64 by omega]
  split_ifs with hk
  · unfold colG
    rw [dif_pos (by omega)]
    pointwise
    refine congrArg G (funext fun d => Fin.ext ?_)
    match d with
    | ⟨0, _⟩ => rfl
    | ⟨1, _⟩ => show 256 + (t.val / 64 * 64 + (t.val % 64 - k)) = 256 + t.val - k; omega
    | ⟨2, _⟩ => rfl
  · rfl

theorem rA_at (b : Fin 16) (t : Fin 256) (h : Fin 116) :
    @Eq EReal (rA G (ix3 b t h)) (pB 64 (colG G b ⟨4 + h.val, by omega⟩) t.val) := by
  unfold rA
  clean_types
  pointwise
  refine (win_at _ _ zero_init _ _ _ _ _ _).trans ?_
  unfold pB
  have ht := t.isLt
  have hr : (t.rev).val = 255 - t.val := by rw [Fin.val_rev]; omega
  refine Finset.sum_congr rfl fun k _ => ?_
  refine Eq.trans (b := if k ≤ t.rev.val % 64 then _ else 0) rfl ?_
  by_cases hk : k + t.val % 64 < 64
  · rw [if_pos hk, if_pos (by omega)]
    unfold colG
    rw [dif_pos (by omega)]
    pointwise
    refine congrArg G (funext fun d => Fin.ext ?_)
    match d with
    | ⟨0, _⟩ => rfl
    | ⟨1, _⟩ =>
      show (256 - (t.rev.val / 64 * 64 + (t.rev.val % 64 - k) + 1)) = t.val + k
      omega
    | ⟨2, _⟩ => rfl
  · rw [if_neg hk, if_neg (by omega)]

theorem rB_at (b : Fin 16) (t : Fin 2048) (h : Fin 116) :
    @Eq EReal (rB G (ix3 b t h)) (pB 64 (colG G b ⟨4 + h.val, by omega⟩) (256 + t.val)) := by
  unfold rB
  clean_types
  pointwise
  refine (win_at _ _ zero_init _ _ _ _ _ _).trans ?_
  unfold pB
  have ht := t.isLt
  have hr : (t.rev).val = 2047 - t.val := by rw [Fin.val_rev]; omega
  refine Finset.sum_congr rfl fun k _ => ?_
  rw [show (256 + t.val) % 64 = t.val % 64 by omega]
  refine Eq.trans (b := if k ≤ t.rev.val % 64 then _ else 0) rfl ?_
  by_cases hk : k + t.val % 64 < 64
  · rw [if_pos hk, if_pos (by omega)]
    unfold colG
    rw [dif_pos (by omega)]
    pointwise
    refine congrArg G (funext fun d => Fin.ext ?_)
    match d with
    | ⟨0, _⟩ => rfl
    | ⟨1, _⟩ =>
      show 256 + (2048 - (t.rev.val / 64 * 64 + (t.rev.val % 64 - k) + 1)) = 256 + t.val + k
      omega
    | ⟨2, _⟩ => rfl
  · rw [if_neg hk, if_neg (by omega)]

/-- The column of the log decays that a column of the result sums. -/
theorem col_eq (b : Fin 16) (l : Fin 128) (h : Fin 120) (e : 8 + h.val = l.val) :
    colG (refG x0 x1 x2) b h = gRow (fun t => x0 (ix3 b t l)) (par x2 (l.val - 8)) (par x1 (l.val - 8)) := by
  rw [colG_refG, show l.val - 8 = h.val by omega]
  congr 1
  funext t
  exact congrArg (fun l => x0 (ix3 b t l)) (Fin.ext e)

/-- The reference's result at an index is the gate of its column. -/
theorem refGates_at (b : Fin 16) (r : Fin 2304) (l : Fin 128) :
    @Eq EReal (refGates x0 x1 x2 (ix3 b r l)) (gate (fun t => x0 (ix3 b t l)) (par x2 (l.val - 8)) (par x1 (l.val - 8)) r l) := by
  unfold refGates gate
  clean_types
  pointwise
  have hl := l.isLt
  have hr := r.isLt
  by_cases h8 : l.val < 8
  · rw [dif_pos h8, if_pos h8]
    rfl
  rw [dif_neg h8, if_neg h8]
  by_cases h12 : l.val < 12
  · rw [dif_pos (by omega), if_pos h12]
    by_cases h : r.val < 256
    · rw [dif_pos h]
      exact (fA_at _ _ _ _).trans (congrArg (fun g => pF 64 g r.val) (col_eq x0 x1 x2 b l _ (show 8 + (l.val - 8) = l.val by omega)))
    · rw [dif_neg h]
      refine (fB_at _ _ _ _).trans ?_
      rw [show 256 + (r.val - 256) = r.val by omega]
      exact congrArg (fun g => pF 64 g r.val) (col_eq x0 x1 x2 b l _ (show 8 + (l.val - 8) = l.val by omega))
  · rw [dif_neg (by omega), if_neg h12]
    by_cases h : r.val < 256
    · rw [dif_pos h]
      exact (rA_at _ _ _ _).trans (congrArg (fun g => pB 64 g r.val) (col_eq x0 x1 x2 b l _ (show 8 + (4 + (l.val - 8 - 4)) = l.val by omega)))
    · rw [dif_neg h]
      refine (rB_at _ _ _ _).trans ?_
      rw [show 256 + (r.val - 256) = r.val by omega]
      exact congrArg (fun g => pB 64 g r.val) (col_eq x0 x1 x2 b l _ (show 8 + (4 + (l.val - 8 - 4)) = l.val by omega))

end Cert.Gates

end
-- ==== Proof.Gates.Tie.lean ====
/- The gates: the kernel's result array is the reference's result term. -/
module

public import proofs.«01_k».proof.Proof.Gates.RefAt
public import Idealize.ShloMosaic.Lib.Pipeline.ValueKit
public import Idealize.ShloMosaic.Lib.Pipeline.ValueKit.Point

@[expose] public section

set_option maxRecDepth 16384

noncomputable section

namespace Cert.Gates

open Cert.KernelGatesIdeal Cert.KernelGatesIdeal.Gen Idealize.ShloMosaic Idealize.ShloMosaic.TcCoe

variable (m : (ℓ : Loc nD τ sig) → Buf (Elt Ideal) ℓ)

/-- The sequence of a grid point. -/
def bb (t : Fin cfg0.grid.N) : Fin 16 := grid0.coords t 0

theorem idx_all : ∀ t : Fin grid0.N, win0_0.index t = ![(bb t).val, 0, 0] ∧ win0_1.index t = ![0, 0]
    ∧ win0_2.index t = ![0, 0] ∧ win0_3.index t = ![(bb t).val, 0, 0] := by decide +kernel

theorem V_main_v1 (c : Dev nD) : V m c main_v1 = pad S1x128 ![0, 8] ![0, 112] ![0, 0]
    (shapeCast S1x8 (m ((c : Thread nD τ).loc main_arg1)) shapeCasts_S2x4_S1x8) (sitofp (F := Ideal) .f32 (constantI S_ 32 0#32)) pads_S1x8_S1x128_000_81120 h_S_ := by
  simp only [V, hostOps0, hostOps0_1, hostOps0_2, hostOps0_3, List.flatten_cons, List.flatten_nil, List.append_nil, List.cons_append, List.nil_append]
  after_results
  rfl

theorem V_main_v3 (c : Dev nD) : V m c main_v3 = pad S1x128 ![0, 8] ![0, 112] ![0, 0]
    (shapeCast S1x8 (m ((c : Thread nD τ).loc main_arg2)) shapeCasts_S2x4_S1x8) (sitofp (F := Ideal) .f32 (constantI S_ 32 0#32)) pads_S1x8_S1x128_000_81120 h_S_ := by
  simp only [V, hostOps0, hostOps0_1, hostOps0_2, hostOps0_3, List.flatten_cons, List.flatten_nil, List.append_nil, List.cons_append, List.nil_append]
  after_results
  rfl

/-- A padded parameter, at a column. -/
theorem pad_at (x : FVec Ideal S2x4 .f32) (l : Fin 128) (h8 : 8 ≤ l.val) :
    @Eq EReal (pad S1x128 ![0, 8] ![0, 112] ![0, 0] (shapeCast S1x8 x shapeCasts_S2x4_S1x8)
      (sitofp (F := Ideal) .f32 (constantI S_ 32 0#32)) pads_S1x8_S1x128_000_81120 h_S_ (ix2 0 l)) (par x (l.val - 8)) := by
  unfold par
  pointwise
  have z : @Eq EReal (FloatOps.sitofp (F := Ideal) (w := 32) FTy.f32 0#32) 0 := by
    show (((0#32 : BitVec 32).toInt : ℝ) : EReal) = 0
    simp
  split_ifs with h1 h2 h2
  · rfl
  · exact absurd h1.2 h2
  · exact absurd ⟨h8, h2⟩ h1
  · exact z

theorem blk0 (c : Dev nD) (t : Fin cfg0.N) (r : Fin 2304) (l : Fin 128) :
    @Eq EReal (iblk m c 0 t (ix3 0 r l)) (m ((c : Thread nD τ).loc main_arg0) (ix3 (bb t) r l)) := by
  blk_ext [iblk, V, idx_all t, bb]

theorem blk1 (c : Dev nD) (t : Fin cfg0.N) (l : Fin 128) (h8 : 8 ≤ l.val) :
    @Eq EReal (iblk m c 1 t (ix2 0 l)) (par (m ((c : Thread nD τ).loc main_arg1)) (l.val - 8)) := by
  have h : @Eq EReal (iblk m c 1 t (ix2 0 l)) (V m c main_v1 (ix2 0 l)) := by
    blk_ext [iblk, idx_all t, bb]
  rw [h, V_main_v1]
  exact pad_at _ l h8

theorem blk2 (c : Dev nD) (t : Fin cfg0.N) (l : Fin 128) (h8 : 8 ≤ l.val) :
    @Eq EReal (iblk m c 2 t (ix2 0 l)) (par (m ((c : Thread nD τ).loc main_arg2)) (l.val - 8)) := by
  have h : @Eq EReal (iblk m c 2 t (ix2 0 l)) (V m c main_v3 (ix2 0 l)) := by
    blk_ext [iblk, idx_all t, bb]
  rw [h, V_main_v3]
  exact pad_at _ l h8

/-- Where a block's entry lies in the result. -/
theorem emb3 (t : Fin cfg0.N) (r : Fin 2304) (l : Fin 128) :
    ((View.whole main_v4).slice (win0_3.rect t)).emb (ix3 0 r l) = ix3 (bb t) r l := by
  blk_ext [idx_all t, bb]

/-- The reference's result term over the kernel's arguments. -/
def G (c : Dev nD) : S16x2304x128.Idx → EReal :=
  refGates (F := Ideal) (m ((c : Thread nD τ).loc main_arg0)) (m ((c : Thread nD τ).loc main_arg1)) (m ((c : Thread nD τ).loc main_arg2))

/-- In the first eight columns the parameters do not matter. -/
theorem gate_congr (x y : Fin 2304 → EReal) (hx : x = y) (d a d' a' : EReal) (r : Fin 2304) (l : Fin 128)
    (hd : 8 ≤ l.val → d = d') (ha : 8 ≤ l.val → a = a') : gate x d a r l = gate y d' a' r l := by
  subst hx
  unfold gate
  by_cases h8 : l.val < 8
  · rw [if_pos h8, if_pos h8]
  · rw [hd (by omega), ha (by omega)]

/-- The log decays the steps start from are those of the whole blocks. -/
theorem pay14_eq (x0 : Vec Ideal S1x2304x128 .f32) (x1 x2 : Vec Ideal S1x128 .f32) : k0_pay14 x0 x1 x2 = k0_pay3 x0 x1 x2 := by
  unfold k0_pay14
  rw [show View.ld x0 r0_0 = x0 from View.ld_unit_lit (S := S1x2304x128) inb_S1x2304x128_S1x2304x128_0_0_0 x0 (by decide),
    show View.ld x1 r0_1 = x1 from View.ld_unit_lit (S := S1x128) inb_S1x128_S1x128_0_0 x1 (by decide),
    show View.ld x2 r0_1 = x2 from View.ld_unit_lit (S := S1x128) inb_S1x128_S1x128_0_0 x2 (by decide)]

/-- The kernel's result array, block by block. -/
theorem arr_eq (c : Dev nD) : (dats m 0 c).arrAt 3 cfg0.N = G m c := by
  refine (dats m 0 c).arrAt_eq_of_covers 3 _ (by decide +kernel) fun t hf y => ?_
  blk_simp
  rw [after0_3]
  frame_out
  obtain ⟨r, l, rfl⟩ : ∃ (r : Fin 2304) (l : Fin 128), y = ix3 0 r l := by
    refine ⟨y 1, y 2, ?_⟩
    blk_ext []
  rw [pay14_eq]
  refine (payK_at (iblk m c 0 t) (iblk m c 1 t) (iblk m c 2 t) r l).trans ?_
  rw [emb3]
  refine Eq.trans ?_ (refGates_at _ _ _ _ _ _).symm
  exact gate_congr _ _ (funext fun t' => blk0 m c t t' l) _ _ _ _ r l (fun h => blk2 m c t l h) (fun h => blk1 m c t l h)

end Cert.Gates

end
-- ==== Proof.Gates.Claim.lean ====
/- The gates: the kernel and the reference end at the same result. -/
module

public import proofs.«01_k».proof.Proof.Gates.Tie
public import proofs.«01_k».proof.Defs

@[expose] public section

set_option maxRecDepth 16384

noncomputable section

namespace Cert.Gates

open Cert.KernelGatesIdeal Idealize.ShloMosaic Idealize.ShloMosaic.TcCoe Idealize.SL.Sem

/-- The kernel's and the reference's results are one array. -/
theorem algebraic : Cert.algebraic_KernelGatesIdeal_ReferenceGatesIdeal := by
  intro m ρ m' ρ' _ hag
  refine ⟨fun c => G m c, ?_, ?_⟩
  · exact (θ_run _ _ _).mono (fun _ h c => ⟨(h c).1.trans (arr_eq m c), (h c).2⟩)
      (Cert.KernelGatesIdeal.Value.run_blocks (F := Ideal) m ρ)
  · refine (θ_run _ _ _).mono (fun _ h c => ⟨(h c).1.trans ?_, (h c).2⟩) (Cert.ReferenceGatesIdeal.Value.run (F := Ideal) m' ρ')
    obtain ⟨e0, e1, e2⟩ := hag c
    refine (res_eq m' c).trans ?_
    unfold G
    rw [e0, e1, e2]

end Cert.Gates

end
-- ==== Proof.Prep.Spec.lean ====
/- The preparation of the gated delta rule's queries, keys and values, as functions of one column or one row. -/
module

public import proofs.«01_k».proof.Proof.Merge.Spec

@[expose] public section

noncomputable section

namespace Cert.Prep

open Idealize.ShloMosaic

/-- The row a tap of the convolution reads, zero outside the row's own segment: the first 256 rows or the rest. -/
def tp (g : Fin 2304 → EReal) (r : Fin 2304) (k : Nat) (hk : k < 4) : EReal :=
  if h : (2 ≤ r.val + k ∧ r.val + k < 258 ∧ r.val < 256) ∨ (258 ≤ r.val + k ∧ r.val + k < 2306 ∧ 256 ≤ r.val) then
    g ⟨r.val + k - 2, by omega⟩ else 0

/-- The centred convolution of four taps along the rows. -/
def cv (g : Fin 2304 → EReal) (w : Fin 4 → EReal) (r : Fin 2304) : EReal :=
  tp g r 0 (by decide) * w 0 + tp g r 1 (by decide) * w 1 + tp g r 2 (by decide) * w 2 + tp g r 3 (by decide) * w 3

/-- A row divided by its norm. -/
def nm (y : Fin 128 → EReal) (d : Fin 128) : EReal :=
  y d * Ideal.rsqrt ((∑ x : Fin 128, y x * y x) + Ideal.ofBits FTy.f32 0x358637BD#32)

/-- The rotation of a row by its token's two angles; the first 256 rows stay as they are. -/
def rope (R C : Fin 2048 → Fin 32 → EReal) (n : Fin 128 → EReal) (r : Fin 2304) (d : Fin 128) : EReal :=
  if hr : r.val < 256 then n d
  else if h0 : d.val < 32 then n d * Ideal.cos (R ⟨r.val - 256, by omega⟩ ⟨d.val, by omega⟩)
    - n ⟨d.val + 32, by omega⟩ * Ideal.sin (R ⟨r.val - 256, by omega⟩ ⟨d.val, by omega⟩)
  else if h1 : d.val < 64 then n d * Ideal.cos (R ⟨r.val - 256, by omega⟩ ⟨d.val - 32, by omega⟩)
    + n ⟨d.val - 32, by omega⟩ * Ideal.sin (R ⟨r.val - 256, by omega⟩ ⟨d.val - 32, by omega⟩)
  else if h2 : d.val < 96 then n d * Ideal.cos (C ⟨r.val - 256, by omega⟩ ⟨d.val - 64, by omega⟩)
    - n ⟨d.val + 32, by omega⟩ * Ideal.sin (C ⟨r.val - 256, by omega⟩ ⟨d.val - 64, by omega⟩)
  else n d * Ideal.cos (C ⟨r.val - 256, by omega⟩ ⟨d.val - 96, by omega⟩)
    + n ⟨d.val - 32, by omega⟩ * Ideal.sin (C ⟨r.val - 256, by omega⟩ ⟨d.val - 96, by omega⟩)

/-- The gated convolution of one row of a head. -/
def row (p : Fin 2304 → Fin 128 → EReal) (w : Fin 4 → Fin 128 → EReal) (r : Fin 2304) (d : Fin 128) : EReal :=
  Cert.Merge.sl (cv (fun r => p r d) (fun k => w k d) r)

/-- The convolution of real numbers is a real number. -/
theorem cv_real (g : Fin 2304 → EReal) (w : Fin 4 → EReal) (hg : ∀ r, ∃ a : ℝ, g r = a) (hw : ∀ k, ∃ a : ℝ, w k = a) (r : Fin 2304) :
    ∃ a : ℝ, cv g w r = a := by
  have ht : ∀ k hk, ∃ a : ℝ, tp g r k hk = a := by
    intro k hk
    unfold tp
    split
    · exact hg _
    · exact ⟨0, by simp⟩
  obtain ⟨a0, h0⟩ := ht 0 (by decide)
  obtain ⟨a1, h1⟩ := ht 1 (by decide)
  obtain ⟨a2, h2⟩ := ht 2 (by decide)
  obtain ⟨a3, h3⟩ := ht 3 (by decide)
  obtain ⟨b0, k0⟩ := hw 0
  obtain ⟨b1, k1⟩ := hw 1
  obtain ⟨b2, k2⟩ := hw 2
  obtain ⟨b3, k3⟩ := hw 3
  refine ⟨a0 * b0 + a1 * b1 + a2 * b2 + a3 * b3, ?_⟩
  unfold cv
  rw [h0, h1, h2, h3, k0, k1, k2, k3]
  push_cast
  rfl

end Cert.Prep

end
-- ==== Proof.Prep.Kern.lean ====
/- The preparation: the kernel's steps as named vectors. -/
module

public import proofs.«01_k».proof.Proof.Prep.Spec
public import proofs.«01_k».proof.Proof.Gen.KernelPrepIdeal.Value
public import Idealize.ShloMosaic.Lib.Pointwise
public import Idealize.ShloMosaic.Lib.Tactic.CleanTypes

@[expose] public section

set_option maxRecDepth 16384

noncomputable section

namespace Cert.Prep

open Cert.KernelPrepIdeal Cert.KernelPrepIdeal.Gen Idealize.ShloMosaic Idealize.ShloMosaic.TcCoe

section
variable {F : FTy → Type} [FloatOps F]

/-- A shifted block under its mask. -/
def shK (p : IVec S2304x1 32) (s : BitVec 32) (X : FVec F S2304x128 .f32) : FVec F S2304x128 .f32 :=
  select (broadcastTo S2304x128 (shapeCast S2304x1 (cmpi .sge p (broadcast S2304x1 s)) shapeCasts_S2304x1_S2304x1) broadcasts_S2304x1_S2304x128)
    X (broadcast S2304x128 (Scalar.ofBits .f32 0x00000000#32))

/-- The kernel's convolution of one head. -/
def cvK (X : FVec F S2304x128 .f32) (w : Vec F S4x128 .f32) : FVec F S2304x128 .f32 :=
  addf (addf (addf (mulf X (broadcastTo S2304x128 (extractStridedSlice S1x128 ![2, 0] w slices_S4x128_o2_0_S1x128) broadcasts_S1x128_S2304x128))
    (mulf (shK k0_pay4 2#32 (dynamicRotate 0 2#32 none X rotates_S2304x128_d0)) (broadcastTo S2304x128 (extractStridedSlice S1x128 ![0, 0] w slices_S4x128_o0_0_S1x128) broadcasts_S1x128_S2304x128)))
    (mulf (shK k0_pay4 1#32 (dynamicRotate 0 1#32 none X rotates_S2304x128_d0)) (broadcastTo S2304x128 (extractStridedSlice S1x128 ![1, 0] w slices_S4x128_o1_0_S1x128) broadcasts_S1x128_S2304x128)))
    (mulf (shK k0_pay5 1#32 (dynamicRotate 0 2303#32 none X rotates_S2304x128_d0)) (broadcastTo S2304x128 (extractStridedSlice S1x128 ![3, 0] w slices_S4x128_o3_0_S1x128) broadcasts_S1x128_S2304x128))

/-- The kernel's gate. -/
def slK (Y : FVec F S2304x128 .f32) : FVec F S2304x128 .f32 :=
  addf (mulf (mulf (broadcast S2304x128 (Scalar.ofBits .f32 0x3F000000#32)) Y) (tanh (mulf (broadcast S2304x128 (Scalar.ofBits .f32 0x3F000000#32)) Y)))
    (mulf (broadcast S2304x128 (Scalar.ofBits .f32 0x3F000000#32)) Y)

/-- The kernel's normalised rows. -/
def nmK (Y : FVec F S2304x128 .f32) : FVec F S2304x128 .f32 :=
  mulf Y (broadcastTo S2304x128 (rsqrt (addf (shapeCast S2304x1 (multiReduction .add [1] S2304 (mulf Y Y) 0x00000000#32 reduces_S2304x128_S2304 (.inl rfl) rfl) shapeCasts_S2304_S2304x1)
    (broadcast S2304x1 (Scalar.ofBits .f32 0x358637BD#32)))) broadcasts_S2304x1_S2304x128)

/-- The kernel's rotation. -/
def rpK (N : FVec F S2304x128 .f32) (c s : Vec F S2304x128 .f32) : FVec F S2304x128 .f32 :=
  addf (mulf N (shapeCast S2304x128 c shapeCasts_S2304x128_S2304x128))
    (mulf (select (broadcastTo S2304x128 (shapeCast S1x128 k0_pay2 shapeCasts_S1x128_S1x128) broadcasts_S1x128_S2304x128)
      (dynamicRotate 1 96#32 none N rotates_S2304x128_d1) (dynamicRotate 1 32#32 none N rotates_S2304x128_d1))
      (shapeCast S2304x128 s shapeCasts_S2304x128_S2304x128))

variable (x : Vec F S1x2304x128 .bf16) (w : Vec F S4x128 .f32) (c s : Vec F S2304x128 .f32)

theorem q_eq : k0_pay11 k0_pay2 (k0_pay8 (k0_pay3 x) w k0_pay4 k0_pay5 (k0_pay6 x w) (k0_pay7 x))
    (k0_pay9 (k0_pay3 x) w k0_pay4 k0_pay5 (k0_pay6 x w) (k0_pay7 x)) (k0_pay10 (k0_pay3 x) w k0_pay4 k0_pay5 (k0_pay6 x w) (k0_pay7 x)) c s
    = shapeCast S1x2304x128 (truncf .bf16 (mulf (rpK (nmK (slK (cvK (k0_pay3 x) w))) c s) (broadcast S2304x128 (Scalar.ofBits .f32 0x3DB504F3#32))) bitsLt_bf16_f32) shapeCasts_S2304x128_S1x2304x128 := rfl

theorem k_eq : k0_pay20 (k0_pay18 (k0_pay12 x) w k0_pay13 k0_pay14 (k0_pay15 x w) (k0_pay16 x) k0_pay17)
    (k0_pay19 k0_pay2 (k0_pay12 x) w k0_pay13 k0_pay14 (k0_pay15 x w) (k0_pay16 x) k0_pay17) c s
    = shapeCast S1x2304x128 (truncf .bf16 (rpK (nmK (slK (cvK (k0_pay3 x) w))) c s) bitsLt_bf16_f32) shapeCasts_S2304x128_S1x2304x128 := rfl

theorem v_eq : k0_pay1 (k0_pay21 x) w k0_pay22 k0_pay23 (k0_pay24 x w) (k0_pay25 x) (k0_pay26 w)
    = shapeCast S1x2304x128 (truncf .bf16 (slK (cvK (k0_pay3 x) w)) bitsLt_bf16_f32) shapeCasts_S2304x128_S1x2304x128 := rfl

end

/-- The rows a mask keeps. -/
theorem mask_at {α : Type} (r : Fin 2304) (a b : α) :
    Scalar.select (IntOp.cmpi .sge (Scalar.select (IntOp.cmpi .slt (BitVec.ofNat 32 r.val) 256#32) (BitVec.ofNat 32 r.val) (IntOp.subi (BitVec.ofNat 32 r.val) 256#32)) 2#32) a b
      = (if (2 ≤ r.val ∧ r.val < 256) ∨ 258 ≤ r.val then a else b)
    ∧ Scalar.select (IntOp.cmpi .sge (Scalar.select (IntOp.cmpi .slt (BitVec.ofNat 32 r.val) 256#32) (BitVec.ofNat 32 r.val) (IntOp.subi (BitVec.ofNat 32 r.val) 256#32)) 1#32) a b
      = (if (1 ≤ r.val ∧ r.val < 256) ∨ 257 ≤ r.val then a else b)
    ∧ Scalar.select (IntOp.cmpi .sge (Scalar.select (IntOp.cmpi .slt (BitVec.ofNat 32 r.val) 256#32) (IntOp.subi 255#32 (BitVec.ofNat 32 r.val)) (IntOp.subi 2303#32 (BitVec.ofNat 32 r.val))) 1#32) a b
      = (if r.val < 255 ∨ (256 ≤ r.val ∧ r.val < 2303) then a else b) := by
  have h : ∀ r : Fin 2304,
    IntOp.cmpi .sge (Scalar.select (IntOp.cmpi .slt (BitVec.ofNat 32 r.val) 256#32) (BitVec.ofNat 32 r.val) (IntOp.subi (BitVec.ofNat 32 r.val) 256#32)) 2#32
      = (if (2 ≤ r.val ∧ r.val < 256) ∨ 258 ≤ r.val then 1#1 else 0#1)
    ∧ IntOp.cmpi .sge (Scalar.select (IntOp.cmpi .slt (BitVec.ofNat 32 r.val) 256#32) (BitVec.ofNat 32 r.val) (IntOp.subi (BitVec.ofNat 32 r.val) 256#32)) 1#32
      = (if (1 ≤ r.val ∧ r.val < 256) ∨ 257 ≤ r.val then 1#1 else 0#1)
    ∧ IntOp.cmpi .sge (Scalar.select (IntOp.cmpi .slt (BitVec.ofNat 32 r.val) 256#32) (IntOp.subi 255#32 (BitVec.ofNat 32 r.val)) (IntOp.subi 2303#32 (BitVec.ofNat 32 r.val))) 1#32
      = (if r.val < 255 ∨ (256 ≤ r.val ∧ r.val < 2303) then 1#1 else 0#1) := by decide +kernel
  obtain ⟨h0, h1, h2⟩ := h r
  rw [h0, h1, h2]
  refine ⟨?_, ?_, ?_⟩ <;> split <;> rfl

/-- A tap times its weight, under the kernel's mask. -/
theorem tp_mul (g : Fin 2304 → EReal) (r : Fin 2304) (k : Nat) (hk : k < 4) (w : EReal) (P : Prop) [Decidable P] (i : Fin 2304)
    (hP : P ↔ (2 ≤ r.val + k ∧ r.val + k < 258 ∧ r.val < 256) ∨ (258 ≤ r.val + k ∧ r.val + k < 2306 ∧ 256 ≤ r.val))
    (hi : P → i.val = r.val + k - 2) : (if P then g i * w else 0) = tp g r k hk * w := by
  unfold tp
  by_cases h : P
  · rw [if_pos h, dif_pos (hP.mp h)]
    exact congrArg (fun i => g i * w) (Fin.ext (hi h))
  · rw [if_neg h, dif_neg (fun h' => h (hP.mpr h')), zero_mul]

/-- The lanes that take their partner from the right. -/
theorem lane_at {α : Type} (d : Fin 128) (a b : α) : Scalar.select
          (IntOp.cmpi CmpIPredicate.slt
            (Scalar.select
              (IntOp.andi
                (IntOp.xori
                  (IntOp.cmpi CmpIPredicate.slt
                    (IntOp.remsi ArithUnit.vector (BitVec.ofNat 32 d.val)
                      (Scalar.select (Scalar.cmpi CmpIPredicate.eq 64#32 0#32) 1#32 64#32))
                    0#32)
                  (Scalar.cmpi CmpIPredicate.slt (Scalar.select (Scalar.cmpi CmpIPredicate.eq 64#32 0#32) 1#32 64#32)
                    0#32))
                (IntOp.cmpi CmpIPredicate.ne
                  (IntOp.remsi ArithUnit.vector (BitVec.ofNat 32 d.val)
                    (Scalar.select (Scalar.cmpi CmpIPredicate.eq 64#32 0#32) 1#32 64#32))
                  0#32))
              (IntOp.addi
                (IntOp.remsi ArithUnit.vector (BitVec.ofNat 32 d.val)
                  (Scalar.select (Scalar.cmpi CmpIPredicate.eq 64#32 0#32) 1#32 64#32))
                (Scalar.select (Scalar.cmpi CmpIPredicate.eq 64#32 0#32) 1#32 64#32))
              (IntOp.remsi ArithUnit.vector (BitVec.ofNat 32 d.val)
                (Scalar.select (Scalar.cmpi CmpIPredicate.eq 64#32 0#32) 1#32 64#32)))
            32#32) a b = if d.val % 64 < 32 then a else b := by
  have h : ∀ d : Fin 128, (IntOp.cmpi CmpIPredicate.slt
            (Scalar.select
              (IntOp.andi
                (IntOp.xori
                  (IntOp.cmpi CmpIPredicate.slt
                    (IntOp.remsi ArithUnit.vector (BitVec.ofNat 32 d.val)
                      (Scalar.select (Scalar.cmpi CmpIPredicate.eq 64#32 0#32) 1#32 64#32))
                    0#32)
                  (Scalar.cmpi CmpIPredicate.slt (Scalar.select (Scalar.cmpi CmpIPredicate.eq 64#32 0#32) 1#32 64#32)
                    0#32))
                (IntOp.cmpi CmpIPredicate.ne
                  (IntOp.remsi ArithUnit.vector (BitVec.ofNat 32 d.val)
                    (Scalar.select (Scalar.cmpi CmpIPredicate.eq 64#32 0#32) 1#32 64#32))
                  0#32))
              (IntOp.addi
                (IntOp.remsi ArithUnit.vector (BitVec.ofNat 32 d.val)
                  (Scalar.select (Scalar.cmpi CmpIPredicate.eq 64#32 0#32) 1#32 64#32))
                (Scalar.select (Scalar.cmpi CmpIPredicate.eq 64#32 0#32) 1#32 64#32))
              (IntOp.remsi ArithUnit.vector (BitVec.ofNat 32 d.val)
                (Scalar.select (Scalar.cmpi CmpIPredicate.eq 64#32 0#32) 1#32 64#32)))
            32#32) = if d.val % 64 < 32 then 1#1 else 0#1 := by decide +kernel
  rw [h d]
  split <;> rfl

theorem cvK_at (X : FVec Ideal S2304x128 .f32) (w : Vec Ideal S4x128 .f32) (r : Fin 2304) (d : Fin 128) :
    @Eq EReal (cvK X w (ix2 r d)) (cv (fun r => X (ix2 r d)) (fun k => w (ix2 k d)) r) := by
  clean_types
  pointwise [cvK, shK, k0_pay4, k0_pay5]
  rw [(mask_at r _ _).1, (mask_at r _ _).2.1, (mask_at r _ _).2.2,
    tp_mul (fun r => X (ix2 r d)) r 0 (by decide) (w (ix2 0 d)) _ ⟨(r.val + 2304 - 2) % 2304, by omega⟩ (by omega) (fun _ => by show (r.val + 2304 - 2) % 2304 = _; omega),
    tp_mul (fun r => X (ix2 r d)) r 1 (by decide) (w (ix2 1 d)) _ ⟨(r.val + 2304 - 1) % 2304, by omega⟩ (by omega) (fun _ => by show (r.val + 2304 - 1) % 2304 = _; omega),
    tp_mul (fun r => X (ix2 r d)) r 3 (by decide) (w (ix2 3 d)) _ ⟨(r.val + 2304 - 2303) % 2304, by omega⟩ (by omega) (fun _ => by show (r.val + 2304 - 2303) % 2304 = _; omega)]
  have h2 : tp (fun r => X (ix2 r d)) r 2 (by decide) = X (ix2 r d) := by
    unfold tp
    rw [dif_pos (by omega)]
    rfl
  unfold cv
  rw [h2, add_comm (X (ix2 r d) * w (ix2 2 d)), add_right_comm (tp (fun r => X (ix2 r d)) r 0 (by decide) * w (ix2 0 d))]

theorem slK_at (Y : FVec Ideal S2304x128 .f32) (r : Fin 2304) (d : Fin 128) (h : ∃ a : ℝ, @Eq EReal (Y (ix2 r d)) a) :
    @Eq EReal (slK Y (ix2 r d)) (Cert.Merge.sl (Y (ix2 r d))) := by
  refine Eq.trans ?_ (Cert.Merge.tanh_sl _ h)
  pointwise [slK, Cert.Merge.half]

theorem nmK_at (Y : FVec Ideal S2304x128 .f32) (r : Fin 2304) (d : Fin 128) :
    @Eq EReal (nmK Y (ix2 r d)) (nm (fun d => Y (ix2 r d)) d) := by
  pointwise [nmK, nm]

theorem rpK_at (N : FVec Ideal S2304x128 .f32) (c s : Vec Ideal S2304x128 .f32) (r : Fin 2304) (d : Fin 128) :
    @Eq EReal (rpK N c s (ix2 r d)) (N (ix2 r d) * c (ix2 r d) + (if h : d.val % 64 < 32 then N (ix2 r ⟨d.val + 32, by omega⟩) else N (ix2 r ⟨d.val - 32, by omega⟩)) * s (ix2 r d)) := by
  clean_types
  pointwise [rpK, k0_pay2]
  rw [lane_at]
  refine congrArg (fun y : EReal => N (ix2 r d) * c (ix2 r d) + y * s (ix2 r d)) ?_
  by_cases h : d.val % 64 < 32
  · rw [if_pos h, dif_pos h]
    exact congrArg (fun i => N (ix2 r i)) (Fin.ext (by show (d.val + 128 - 96) % 128 = d.val + 32; omega))
  · rw [if_neg h, dif_neg h]
    exact congrArg (fun i => N (ix2 r i)) (Fin.ext (by show (d.val + 128 - 32) % 128 = d.val - 32; omega))

end Cert.Prep

end
-- ==== Proof.Prep.Steps.lean ====
/- The preparation: the reference's steps as named vectors. -/
module

public import proofs.«01_k».proof.Proof.Gen.ReferencePrepIdeal
public import Idealize.ShloMosaic.Lib.Pointwise
public import Idealize.ShloMosaic.Lib.Tactic.CleanTypes

@[expose] public section

set_option maxRecDepth 16384

noncomputable section

namespace Cert.Prep

open Cert.ReferencePrepIdeal Cert.ReferencePrepIdeal.Gen Idealize.ShloMosaic Idealize.ShloMosaic.TcCoe

section
variable {F : FTy → Type} [FloatOps F]

/-- The row of a token. -/
def rowI : IVec S2048 32 :=
  (select (andi (cmpi .ne (signi (iotaInDim S2048 32 0)) (broadcastInDim S2048 ![] bcast_S_S2048 (signi (id (constantI S_ 32 64#32))))) (cmpi .ne (Host.remsi (iotaInDim S2048 32 0) (broadcastInDim S2048 ![] bcast_S_S2048 (id (constantI S_ 32 64#32)))) (broadcastInDim S2048 ![] bcast_S_S2048 (constantI S_ 32 0#32)))) (subi (Host.divsi (iotaInDim S2048 32 0) (broadcastInDim S2048 ![] bcast_S_S2048 (id (constantI S_ 32 64#32)))) (broadcastInDim S2048 ![] bcast_S_S2048 (constantI S_ 32 1#32))) (Host.divsi (iotaInDim S2048 32 0) (broadcastInDim S2048 ![] bcast_S_S2048 (id (constantI S_ 32 64#32)))) : IVec S2048 32)

/-- The column of a token. -/
def colI : IVec S2048 32 :=
  (select (andi (cmpi .ne (cmpi .slt (Host.remsi (iotaInDim S2048 32 0) (broadcastInDim S2048 ![] bcast_S_S2048 (select (cmpi .eq (id (constantI S_ 32 64#32)) (constantI S_ 32 0#32)) (constantI S_ 32 1#32) (id (constantI S_ 32 64#32))))) (broadcastInDim S2048 ![] bcast_S_S2048 (constantI S_ 32 0#32))) (broadcastInDim S2048 ![] bcast_S_S2048 (cmpi .slt (select (cmpi .eq (id (constantI S_ 32 64#32)) (constantI S_ 32 0#32)) (constantI S_ 32 1#32) (id (constantI S_ 32 64#32))) (constantI S_ 32 0#32)))) (cmpi .ne (Host.remsi (iotaInDim S2048 32 0) (broadcastInDim S2048 ![] bcast_S_S2048 (select (cmpi .eq (id (constantI S_ 32 64#32)) (constantI S_ 32 0#32)) (constantI S_ 32 1#32) (id (constantI S_ 32 64#32))))) (broadcastInDim S2048 ![] bcast_S_S2048 (constantI S_ 32 0#32)))) (addi (Host.remsi (iotaInDim S2048 32 0) (broadcastInDim S2048 ![] bcast_S_S2048 (select (cmpi .eq (id (constantI S_ 32 64#32)) (constantI S_ 32 0#32)) (constantI S_ 32 1#32) (id (constantI S_ 32 64#32))))) (broadcastInDim S2048 ![] bcast_S_S2048 (select (cmpi .eq (id (constantI S_ 32 64#32)) (constantI S_ 32 0#32)) (constantI S_ 32 1#32) (id (constantI S_ 32 64#32))))) (Host.remsi (iotaInDim S2048 32 0) (broadcastInDim S2048 ![] bcast_S_S2048 (select (cmpi .eq (id (constantI S_ 32 64#32)) (constantI S_ 32 0#32)) (constantI S_ 32 1#32) (id (constantI S_ 32 64#32))))) : IVec S2048 32)

/-- The frequencies. -/
def invF : FVec F S32 .f32 :=
  (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))) : FVec F S32 .f32)

/-- The angles of a coordinate. -/
def angOf (i : IVec S2048 32) : FVec F S2048x32 .f32 :=
  (mulf (broadcastInDim S2048x32 ![0, 1] bcast_S2048x1_S2048x32_0_1 (broadcastInDim S2048x1 ![0] bcast_S2048_S2048x1_0 (sitofp .f32 i))) (broadcastInDim S2048x32 ![0, 1] bcast_S1x32_S2048x32_0_1 (broadcastInDim S1x32 ![1] bcast_S32_S1x32_1 invF)) : FVec F S2048x32 .f32)

/-- The convolution of the first 256 rows. -/
def cvA (x : FVec F S16x2304x8192 .bf16) (w : FVec F S4x1536 .f32) : FVec F S16x256x1536 .f32 :=
  (addf (addf (addf (addf (broadcastInDim S16x256x1536 ![] bcast_S_S16x256x1536 (constant S_ .f32 0x00000000#32)) (mulf (extractStridedSlice S16x256x1536 ![0, 0, 0] (pad S16x259x1536 ![0, 2, 0] ![0, 1, 0] ![0, 0, 0] (extf .f32 (extractStridedSlice S16x256x1536 ![0, 0, 0] x slices_S16x2304x8192_S16x256x1536_0_0_0) bitsLt_bf16_f32) (sitofp .f32 (constantI S_ 32 0#32)) pads_S16x256x1536_S16x259x1536_000_210_000 h_S_) slices_S16x259x1536_S16x256x1536_0_0_0) (broadcastInDim S16x256x1536 ![0, 1, 2] bcast_S1x1x1536_S16x256x1536_0_1_2 (broadcastInDim S1x1x1536 ![2] bcast_S1536_S1x1x1536_2 (shapeCast _ (extractStridedSlice S1x1536 ![0, 0] w slices_S4x1536_S1x1536_0_0) shapeCasts_S1x1536_S1536))))) (mulf (extractStridedSlice S16x256x1536 ![0, 1, 0] (pad S16x259x1536 ![0, 2, 0] ![0, 1, 0] ![0, 0, 0] (extf .f32 (extractStridedSlice S16x256x1536 ![0, 0, 0] x slices_S16x2304x8192_S16x256x1536_0_0_0) bitsLt_bf16_f32) (sitofp .f32 (constantI S_ 32 0#32)) pads_S16x256x1536_S16x259x1536_000_210_000 h_S_) slices_S16x259x1536_S16x256x1536_0_1_0) (broadcastInDim S16x256x1536 ![0, 1, 2] bcast_S1x1x1536_S16x256x1536_0_1_2 (broadcastInDim S1x1x1536 ![2] bcast_S1536_S1x1x1536_2 (shapeCast _ (extractStridedSlice S1x1536 ![1, 0] w slices_S4x1536_S1x1536_1_0) shapeCasts_S1x1536_S1536))))) (mulf (extractStridedSlice S16x256x1536 ![0, 2, 0] (pad S16x259x1536 ![0, 2, 0] ![0, 1, 0] ![0, 0, 0] (extf .f32 (extractStridedSlice S16x256x1536 ![0, 0, 0] x slices_S16x2304x8192_S16x256x1536_0_0_0) bitsLt_bf16_f32) (sitofp .f32 (constantI S_ 32 0#32)) pads_S16x256x1536_S16x259x1536_000_210_000 h_S_) slices_S16x259x1536_S16x256x1536_0_2_0) (broadcastInDim S16x256x1536 ![0, 1, 2] bcast_S1x1x1536_S16x256x1536_0_1_2 (broadcastInDim S1x1x1536 ![2] bcast_S1536_S1x1x1536_2 (shapeCast _ (extractStridedSlice S1x1536 ![2, 0] w slices_S4x1536_S1x1536_2_0) shapeCasts_S1x1536_S1536))))) (mulf (extractStridedSlice S16x256x1536 ![0, 3, 0] (pad S16x259x1536 ![0, 2, 0] ![0, 1, 0] ![0, 0, 0] (extf .f32 (extractStridedSlice S16x256x1536 ![0, 0, 0] x slices_S16x2304x8192_S16x256x1536_0_0_0) bitsLt_bf16_f32) (sitofp .f32 (constantI S_ 32 0#32)) pads_S16x256x1536_S16x259x1536_000_210_000 h_S_) slices_S16x259x1536_S16x256x1536_0_3_0) (broadcastInDim S16x256x1536 ![0, 1, 2] bcast_S1x1x1536_S16x256x1536_0_1_2 (broadcastInDim S1x1x1536 ![2] bcast_S1536_S1x1x1536_2 (shapeCast _ (extractStridedSlice S1x1536 ![3, 0] w slices_S4x1536_S1x1536_3_0) shapeCasts_S1x1536_S1536)))) : FVec F S16x256x1536 .f32)

/-- The convolution of the other rows. -/
def cvB (x : FVec F S16x2304x8192 .bf16) (w : FVec F S4x1536 .f32) : FVec F S16x2048x1536 .f32 :=
  (addf (addf (addf (addf (broadcastInDim S16x2048x1536 ![] bcast_S_S16x2048x1536 (constant S_ .f32 0x00000000#32)) (mulf (extractStridedSlice S16x2048x1536 ![0, 0, 0] (pad S16x2051x1536 ![0, 2, 0] ![0, 1, 0] ![0, 0, 0] (extf .f32 (extractStridedSlice S16x2048x1536 ![0, 256, 0] x slices_S16x2304x8192_S16x2048x1536_0_256_0) bitsLt_bf16_f32) (sitofp .f32 (constantI S_ 32 0#32)) pads_S16x2048x1536_S16x2051x1536_000_210_000 h_S_) slices_S16x2051x1536_S16x2048x1536_0_0_0) (broadcastInDim S16x2048x1536 ![0, 1, 2] bcast_S1x1x1536_S16x2048x1536_0_1_2 (broadcastInDim S1x1x1536 ![2] bcast_S1536_S1x1x1536_2 (shapeCast _ (extractStridedSlice S1x1536 ![0, 0] w slices_S4x1536_S1x1536_0_0) shapeCasts_S1x1536_S1536))))) (mulf (extractStridedSlice S16x2048x1536 ![0, 1, 0] (pad S16x2051x1536 ![0, 2, 0] ![0, 1, 0] ![0, 0, 0] (extf .f32 (extractStridedSlice S16x2048x1536 ![0, 256, 0] x slices_S16x2304x8192_S16x2048x1536_0_256_0) bitsLt_bf16_f32) (sitofp .f32 (constantI S_ 32 0#32)) pads_S16x2048x1536_S16x2051x1536_000_210_000 h_S_) slices_S16x2051x1536_S16x2048x1536_0_1_0) (broadcastInDim S16x2048x1536 ![0, 1, 2] bcast_S1x1x1536_S16x2048x1536_0_1_2 (broadcastInDim S1x1x1536 ![2] bcast_S1536_S1x1x1536_2 (shapeCast _ (extractStridedSlice S1x1536 ![1, 0] w slices_S4x1536_S1x1536_1_0) shapeCasts_S1x1536_S1536))))) (mulf (extractStridedSlice S16x2048x1536 ![0, 2, 0] (pad S16x2051x1536 ![0, 2, 0] ![0, 1, 0] ![0, 0, 0] (extf .f32 (extractStridedSlice S16x2048x1536 ![0, 256, 0] x slices_S16x2304x8192_S16x2048x1536_0_256_0) bitsLt_bf16_f32) (sitofp .f32 (constantI S_ 32 0#32)) pads_S16x2048x1536_S16x2051x1536_000_210_000 h_S_) slices_S16x2051x1536_S16x2048x1536_0_2_0) (broadcastInDim S16x2048x1536 ![0, 1, 2] bcast_S1x1x1536_S16x2048x1536_0_1_2 (broadcastInDim S1x1x1536 ![2] bcast_S1536_S1x1x1536_2 (shapeCast _ (extractStridedSlice S1x1536 ![2, 0] w slices_S4x1536_S1x1536_2_0) shapeCasts_S1x1536_S1536))))) (mulf (extractStridedSlice S16x2048x1536 ![0, 3, 0] (pad S16x2051x1536 ![0, 2, 0] ![0, 1, 0] ![0, 0, 0] (extf .f32 (extractStridedSlice S16x2048x1536 ![0, 256, 0] x slices_S16x2304x8192_S16x2048x1536_0_256_0) bitsLt_bf16_f32) (sitofp .f32 (constantI S_ 32 0#32)) pads_S16x2048x1536_S16x2051x1536_000_210_000 h_S_) slices_S16x2051x1536_S16x2048x1536_0_3_0) (broadcastInDim S16x2048x1536 ![0, 1, 2] bcast_S1x1x1536_S16x2048x1536_0_1_2 (broadcastInDim S1x1x1536 ![2] bcast_S1536_S1x1x1536_2 (shapeCast _ (extractStridedSlice S1x1536 ![3, 0] w slices_S4x1536_S1x1536_3_0) shapeCasts_S1x1536_S1536)))) : FVec F S16x2048x1536 .f32)

/-- The gate, the columns split into heads. -/
def slA (y : FVec F S16x256x1536 .f32) : FVec F S16x256x3x4x128 .f32 :=
  (shapeCast _ (mulf y (Host.divf (broadcastInDim S16x256x1536 ![] bcast_S_S16x256x1536 (constant S_ .f32 0x3F800000#32)) (addf (broadcastInDim S16x256x1536 ![] bcast_S_S16x256x1536 (constant S_ .f32 0x3F800000#32)) (Host.exp (Host.negf y))))) shapeCasts_S16x256x1536_S16x256x3x4x128 : FVec F S16x256x3x4x128 .f32)

/-- The gate, the columns split into heads. -/
def slB (y : FVec F S16x2048x1536 .f32) : FVec F S16x2048x3x4x128 .f32 :=
  (shapeCast _ (mulf y (Host.divf (broadcastInDim S16x2048x1536 ![] bcast_S_S16x2048x1536 (constant S_ .f32 0x3F800000#32)) (addf (broadcastInDim S16x2048x1536 ![] bcast_S_S16x2048x1536 (constant S_ .f32 0x3F800000#32)) (Host.exp (Host.negf y))))) shapeCasts_S16x2048x1536_S16x2048x3x4x128 : FVec F S16x2048x3x4x128 .f32)

/-- One of the three groups of heads. -/
def h0A (y : FVec F S16x256x3x4x128 .f32) : FVec F S16x256x4x128 .f32 :=
  (shapeCast _ (extractStridedSlice S16x256x1x4x128 ![0, 0, 0, 0, 0] y slices_S16x256x3x4x128_S16x256x1x4x128_0_0_0_0_0) shapeCasts_S16x256x1x4x128_S16x256x4x128 : FVec F S16x256x4x128 .f32)

/-- One of the three groups of heads. -/
def h0B (y : FVec F S16x2048x3x4x128 .f32) : FVec F S16x2048x4x128 .f32 :=
  (shapeCast _ (extractStridedSlice S16x2048x1x4x128 ![0, 0, 0, 0, 0] y slices_S16x2048x3x4x128_S16x2048x1x4x128_0_0_0_0_0) shapeCasts_S16x2048x1x4x128_S16x2048x4x128 : FVec F S16x2048x4x128 .f32)

/-- One of the three groups of heads. -/
def h1A (y : FVec F S16x256x3x4x128 .f32) : FVec F S16x256x4x128 .f32 :=
  (shapeCast _ (extractStridedSlice S16x256x1x4x128 ![0, 0, 1, 0, 0] y slices_S16x256x3x4x128_S16x256x1x4x128_0_0_1_0_0) shapeCasts_S16x256x1x4x128_S16x256x4x128 : FVec F S16x256x4x128 .f32)

/-- One of the three groups of heads. -/
def h1B (y : FVec F S16x2048x3x4x128 .f32) : FVec F S16x2048x4x128 .f32 :=
  (shapeCast _ (extractStridedSlice S16x2048x1x4x128 ![0, 0, 1, 0, 0] y slices_S16x2048x3x4x128_S16x2048x1x4x128_0_0_1_0_0) shapeCasts_S16x2048x1x4x128_S16x2048x4x128 : FVec F S16x2048x4x128 .f32)

/-- One of the three groups of heads. -/
def h2A (y : FVec F S16x256x3x4x128 .f32) : FVec F S16x256x4x128 .f32 :=
  (shapeCast _ (extractStridedSlice S16x256x1x4x128 ![0, 0, 2, 0, 0] y slices_S16x256x3x4x128_S16x256x1x4x128_0_0_2_0_0) shapeCasts_S16x256x1x4x128_S16x256x4x128 : FVec F S16x256x4x128 .f32)

/-- One of the three groups of heads. -/
def h2B (y : FVec F S16x2048x3x4x128 .f32) : FVec F S16x2048x4x128 .f32 :=
  (shapeCast _ (extractStridedSlice S16x2048x1x4x128 ![0, 0, 2, 0, 0] y slices_S16x2048x3x4x128_S16x2048x1x4x128_0_0_2_0_0) shapeCasts_S16x2048x1x4x128_S16x2048x4x128 : FVec F S16x2048x4x128 .f32)

/-- The heads divided by their norms. -/
def nmA (y : FVec F S16x256x4x128 .f32) : FVec F S16x256x4x128 .f32 :=
  ((mulf y (broadcastInDim S16x256x4x128 ![0, 1, 2, 3] bcast_S16x256x4x1_S16x256x4x128_0_1_2_3 (Host.rsqrt (addf (broadcastInDim S16x256x4x1 ![0, 1, 2] bcast_S16x256x4_S16x256x4x1_0_1_2 (Host.reduceAdd (mulf y y) (constant S_ .f32 0x00000000#32) reducesTo_S16x256x4x128_S16x256x4_d3 h_S_)) (broadcastInDim S16x256x4x1 ![] bcast_S_S16x256x4x1 (constant S_ .f32 0x358637BD#32)))))) : FVec F S16x256x4x128 .f32)

/-- The heads divided by their norms. -/
def nmB (y : FVec F S16x2048x4x128 .f32) : FVec F S16x2048x4x128 .f32 :=
  (mulf y (broadcastInDim S16x2048x4x128 ![0, 1, 2, 3] bcast_S16x2048x4x1_S16x2048x4x128_0_1_2_3 (Host.rsqrt (addf (broadcastInDim S16x2048x4x1 ![0, 1, 2] bcast_S16x2048x4_S16x2048x4x1_0_1_2 (Host.reduceAdd (mulf y y) (constant S_ .f32 0x00000000#32) reducesTo_S16x2048x4x128_S16x2048x4_d3 h_S_)) (broadcastInDim S16x2048x4x1 ![] bcast_S_S16x2048x4x1 (constant S_ .f32 0x358637BD#32))))) : FVec F S16x2048x4x128 .f32)

/-- The rotation by the two angles. -/
def rpB (n : FVec F S16x2048x4x128 .f32) (R C : FVec F S2048x32 .f32) : FVec F S16x2048x4x128 .f32 :=
  ((concatenate S16x2048x4x128 3 [⟨S16x2048x4x64, (concatenate S16x2048x4x64 3 [⟨S16x2048x4x32, (subf (mulf (extractStridedSlice S16x2048x4x32 ![0, 0, 0, 0] (extractStridedSlice S16x2048x4x64 ![0, 0, 0, 0] n slices_S16x2048x4x128_S16x2048x4x64_0_0_0_0) slices_S16x2048x4x64_S16x2048x4x32_0_0_0_0) (broadcastInDim S16x2048x4x32 ![0, 1, 2, 3] bcast_S1x2048x1x32_S16x2048x4x32_0_1_2_3 (broadcastInDim S1x2048x1x32 ![1, 3] bcast_S2048x32_S1x2048x1x32_1_3 (Host.cos R)))) (mulf (extractStridedSlice S16x2048x4x32 ![0, 0, 0, 32] (extractStridedSlice S16x2048x4x64 ![0, 0, 0, 0] n slices_S16x2048x4x128_S16x2048x4x64_0_0_0_0) slices_S16x2048x4x64_S16x2048x4x32_0_0_0_32) (broadcastInDim S16x2048x4x32 ![0, 1, 2, 3] bcast_S1x2048x1x32_S16x2048x4x32_0_1_2_3 (broadcastInDim S1x2048x1x32 ![1, 3] bcast_S2048x32_S1x2048x1x32_1_3 (Host.sin R)))))⟩, ⟨S16x2048x4x32, (addf (mulf (extractStridedSlice S16x2048x4x32 ![0, 0, 0, 32] (extractStridedSlice S16x2048x4x64 ![0, 0, 0, 0] n slices_S16x2048x4x128_S16x2048x4x64_0_0_0_0) slices_S16x2048x4x64_S16x2048x4x32_0_0_0_32) (broadcastInDim S16x2048x4x32 ![0, 1, 2, 3] bcast_S1x2048x1x32_S16x2048x4x32_0_1_2_3 (broadcastInDim S1x2048x1x32 ![1, 3] bcast_S2048x32_S1x2048x1x32_1_3 (Host.cos R)))) (mulf (extractStridedSlice S16x2048x4x32 ![0, 0, 0, 0] (extractStridedSlice S16x2048x4x64 ![0, 0, 0, 0] n slices_S16x2048x4x128_S16x2048x4x64_0_0_0_0) slices_S16x2048x4x64_S16x2048x4x32_0_0_0_0) (broadcastInDim S16x2048x4x32 ![0, 1, 2, 3] bcast_S1x2048x1x32_S16x2048x4x32_0_1_2_3 (broadcastInDim S1x2048x1x32 ![1, 3] bcast_S2048x32_S1x2048x1x32_1_3 (Host.sin R)))))⟩] concatenates_S16x2048x4x32_S16x2048x4x32_S16x2048x4x64_d3)⟩, ⟨S16x2048x4x64, (concatenate S16x2048x4x64 3 [⟨S16x2048x4x32, (subf (mulf (extractStridedSlice S16x2048x4x32 ![0, 0, 0, 0] (extractStridedSlice S16x2048x4x64 ![0, 0, 0, 64] n slices_S16x2048x4x128_S16x2048x4x64_0_0_0_64) slices_S16x2048x4x64_S16x2048x4x32_0_0_0_0) (broadcastInDim S16x2048x4x32 ![0, 1, 2, 3] bcast_S1x2048x1x32_S16x2048x4x32_0_1_2_3 (broadcastInDim S1x2048x1x32 ![1, 3] bcast_S2048x32_S1x2048x1x32_1_3 (Host.cos C)))) (mulf (extractStridedSlice S16x2048x4x32 ![0, 0, 0, 32] (extractStridedSlice S16x2048x4x64 ![0, 0, 0, 64] n slices_S16x2048x4x128_S16x2048x4x64_0_0_0_64) slices_S16x2048x4x64_S16x2048x4x32_0_0_0_32) (broadcastInDim S16x2048x4x32 ![0, 1, 2, 3] bcast_S1x2048x1x32_S16x2048x4x32_0_1_2_3 (broadcastInDim S1x2048x1x32 ![1, 3] bcast_S2048x32_S1x2048x1x32_1_3 (Host.sin C)))))⟩, ⟨S16x2048x4x32, (addf (mulf (extractStridedSlice S16x2048x4x32 ![0, 0, 0, 32] (extractStridedSlice S16x2048x4x64 ![0, 0, 0, 64] n slices_S16x2048x4x128_S16x2048x4x64_0_0_0_64) slices_S16x2048x4x64_S16x2048x4x32_0_0_0_32) (broadcastInDim S16x2048x4x32 ![0, 1, 2, 3] bcast_S1x2048x1x32_S16x2048x4x32_0_1_2_3 (broadcastInDim S1x2048x1x32 ![1, 3] bcast_S2048x32_S1x2048x1x32_1_3 (Host.cos C)))) (mulf (extractStridedSlice S16x2048x4x32 ![0, 0, 0, 0] (extractStridedSlice S16x2048x4x64 ![0, 0, 0, 64] n slices_S16x2048x4x128_S16x2048x4x64_0_0_0_64) slices_S16x2048x4x64_S16x2048x4x32_0_0_0_0) (broadcastInDim S16x2048x4x32 ![0, 1, 2, 3] bcast_S1x2048x1x32_S16x2048x4x32_0_1_2_3 (broadcastInDim S1x2048x1x32 ![1, 3] bcast_S2048x32_S1x2048x1x32_1_3 (Host.sin C)))))⟩] concatenates_S16x2048x4x32_S16x2048x4x32_S16x2048x4x64_d3)⟩] concatenates_S16x2048x4x64_S16x2048x4x64_S16x2048x4x128_d3) : FVec F S16x2048x4x128 .f32)

/-- The queries are scaled. -/
def scA (n : FVec F S16x256x4x128 .f32) : FVec F S16x256x4x128 .f32 :=
  (mulf n (broadcastInDim S16x256x4x128 ![] bcast_S_S16x256x4x128 (constant S_ .f32 0x3DB504F3#32)) : FVec F S16x256x4x128 .f32)

/-- The queries are scaled. -/
def scB (n : FVec F S16x2048x4x128 .f32) : FVec F S16x2048x4x128 .f32 :=
  (mulf n (broadcastInDim S16x2048x4x128 ![] bcast_S_S16x2048x4x128 (constant S_ .f32 0x3DB504F3#32)) : FVec F S16x2048x4x128 .f32)

/-- The two segments joined, the heads side by side. -/
def outP (a : FVec F S16x256x4x128 .f32) (b : FVec F S16x2048x4x128 .f32) : FVec F S16x2304x512 .bf16 :=
  (truncf .bf16 (shapeCast _ (concatenate S16x2304x4x128 1 [⟨S16x256x4x128, a⟩, ⟨S16x2048x4x128, b⟩] concatenates_S16x256x4x128_S16x2048x4x128_S16x2304x4x128_d1) shapeCasts_S16x2304x4x128_S16x2304x512) bitsLt_bf16_f32 : FVec F S16x2304x512 .bf16)

/-- The queries. -/
def refQ (x : FVec F S16x2304x8192 .bf16) (w : FVec F S4x1536 .f32) : FVec F S16x2304x512 .bf16 :=
  (outP (scA (nmA (h0A (slA (cvA x w))))) (scB (rpB (nmB (h0B (slB (cvB x w)))) (angOf rowI) (angOf colI))) : FVec F S16x2304x512 .bf16)

/-- The keys. -/
def refK (x : FVec F S16x2304x8192 .bf16) (w : FVec F S4x1536 .f32) : FVec F S16x2304x512 .bf16 :=
  (outP (nmA (h1A (slA (cvA x w)))) (rpB (nmB (h1B (slB (cvB x w)))) (angOf rowI) (angOf colI)) : FVec F S16x2304x512 .bf16)

/-- The values. -/
def refV (x : FVec F S16x2304x8192 .bf16) (w : FVec F S4x1536 .f32) : FVec F S16x2304x512 .bf16 :=
  (outP (h2A (slA (cvA x w))) (h2B (slB (cvB x w))) : FVec F S16x2304x512 .bf16)

end

end Cert.Prep

end
-- ==== Proof.Prep.Tab.lean ====
/- The preparation: the tables of cosines and sines that the kernel is given. -/
module

public import proofs.«01_k».proof.Proof.Prep.Steps
public import proofs.«01_k».proof.Proof.Gen.KernelPrepIdeal.Value
public import Idealize.ShloMosaic.Lib.Pipeline.ValueKit

@[expose] public section

set_option maxRecDepth 16384

noncomputable section

namespace Cert.Prep

open Cert.KernelPrepIdeal Cert.KernelPrepIdeal.Gen Idealize.ShloMosaic Idealize.ShloMosaic.TcCoe

variable (m : (ℓ : Loc nD τ sig) → Buf (Elt Ideal) ℓ)

/-- The cosines of the angles, ones in the first 256 rows. -/
def cosT (R C : FVec Ideal S2048x32 .f32) : FVec Ideal S2304x128 .f32 :=
  concatenate S2304x128 0 [⟨S256x128, (broadcastInDim S256x128 ![] bcast_S_S256x128 (constant (F := Ideal) S_ .f32 0x3F800000#32) : FVec Ideal S256x128 .f32)⟩,
    ⟨S2048x128, (concatenate S2048x128 1 [⟨S2048x32, (Host.cos R : FVec Ideal S2048x32 .f32)⟩, ⟨S2048x32, (Host.cos R : FVec Ideal S2048x32 .f32)⟩, ⟨S2048x32, (Host.cos C : FVec Ideal S2048x32 .f32)⟩, ⟨S2048x32, (Host.cos C : FVec Ideal S2048x32 .f32)⟩] concatenates_S2048x32_S2048x32_S2048x32_S2048x32_S2048x128_d1 : FVec Ideal S2048x128 .f32)⟩] concatenates_S256x128_S2048x128_S2304x128_d0

/-- The signed sines of the angles, zeros in the first 256 rows. -/
def sinT (R C : FVec Ideal S2048x32 .f32) : FVec Ideal S2304x128 .f32 :=
  concatenate S2304x128 0 [⟨S256x128, (broadcastInDim S256x128 ![] bcast_S_S256x128 (constant (F := Ideal) S_ .f32 0x00000000#32) : FVec Ideal S256x128 .f32)⟩,
    ⟨S2048x128, (concatenate S2048x128 1 [⟨S2048x32, (Host.negf (Host.sin R) : FVec Ideal S2048x32 .f32)⟩, ⟨S2048x32, (Host.sin R : FVec Ideal S2048x32 .f32)⟩, ⟨S2048x32, (Host.negf (Host.sin C) : FVec Ideal S2048x32 .f32)⟩, ⟨S2048x32, (Host.sin C : FVec Ideal S2048x32 .f32)⟩] concatenates_S2048x32_S2048x32_S2048x32_S2048x32_S2048x128_d1 : FVec Ideal S2048x128 .f32)⟩] concatenates_S256x128_S2048x128_S2304x128_d0

set_option maxHeartbeats 4000000 in
theorem V_main_v32 (c : Dev nD) : V m c main_v32 = cosT (angOf rowI) (angOf colI) := by
  simp only [V, hostOps0, hostOps0_1, hostOps0_2, hostOps0_3, hostOps0_4, List.flatten_cons, List.flatten_nil, List.append_nil, List.cons_append, List.nil_append]
  after_results
  rfl

set_option maxHeartbeats 4000000 in
theorem V_main_v34 (c : Dev nD) : V m c main_v34 = sinT (angOf rowI) (angOf colI) := by
  simp only [V, hostOps0, hostOps0_1, hostOps0_2, hostOps0_3, hostOps0_4, List.flatten_cons, List.flatten_nil, List.append_nil, List.cons_append, List.nil_append]
  after_results
  rfl

end Cert.Prep

end
-- ==== Proof.Prep.Rope.lean ====
/- The preparation: the reference's rotation, read at an index. -/
module

public import proofs.«01_k».proof.Proof.Prep.Spec
public import proofs.«01_k».proof.Proof.Prep.Steps

@[expose] public section

set_option maxRecDepth 16384

noncomputable section

namespace Cert.Prep

open Cert.ReferencePrepIdeal Cert.ReferencePrepIdeal.Gen Idealize.ShloMosaic Idealize.ShloMosaic.TcCoe

/-- A partner's index. -/
theorem ix_eq {n : Nat} (f : Fin n → EReal) (a b : Fin n) (h : a.val = b.val) : f a = f b := congrArg f (Fin.ext h)

theorem rpB_at (n : FVec Ideal S16x2048x4x128 .f32) (R C : FVec Ideal S2048x32 .f32) (b : Fin 16) (t : Fin 2048) (h : Fin 4) (d : Fin 128) :
    @Eq EReal (rpB n R C (ix4 b t h d)) (rope (fun t i => R (ix2 t i)) (fun t i => C (ix2 t i)) (fun d => n (ix4 b t h d)) ⟨256 + t.val, by omega⟩ d) := by
  unfold rpB
  clean_types
  pointwise
  unfold rope
  rw [dif_neg (show ¬ 256 + t.val < 256 by omega)]
  have et : ∀ hb, (⟨256 + t.val - 256, hb⟩ : Fin 2048) = t := fun _ => Fin.ext (Nat.add_sub_cancel_left ..)
  simp only [et]
  by_cases h0 : d.val < 32
  · rw [dif_pos (show d.val < 64 by omega), dif_pos h0, dif_pos h0]
    refine congrArg₂ (fun a b : EReal => a - b) (congrArg₂ (fun a b : EReal => a * b) (ix_eq (fun i => n (ix4 b t h i)) _ _ ?_) (ix_eq (fun i => Ideal.cos (R (ix2 t i))) _ _ ?_))
      (congrArg₂ (fun a b : EReal => a * b) (ix_eq (fun i => n (ix4 b t h i)) _ _ ?_) (ix_eq (fun i => Ideal.sin (R (ix2 t i))) _ _ ?_)) <;> dsimp only <;> omega
  by_cases h1 : d.val < 64
  · rw [dif_pos h1, dif_neg h0, dif_neg h0, dif_pos h1]
    refine congrArg₂ (fun a b : EReal => a + b) (congrArg₂ (fun a b : EReal => a * b) (ix_eq (fun i => n (ix4 b t h i)) _ _ ?_) (ix_eq (fun i => Ideal.cos (R (ix2 t i))) _ _ ?_))
      (congrArg₂ (fun a b : EReal => a * b) (ix_eq (fun i => n (ix4 b t h i)) _ _ ?_) (ix_eq (fun i => Ideal.sin (R (ix2 t i))) _ _ ?_)) <;> dsimp only <;> omega
  by_cases h2 : d.val < 96
  · rw [dif_neg h1, dif_pos (show d.val - 64 < 32 by omega), dif_neg h0, dif_neg h1, dif_pos h2]
    refine congrArg₂ (fun a b : EReal => a - b) (congrArg₂ (fun a b : EReal => a * b) (ix_eq (fun i => n (ix4 b t h i)) _ _ ?_) (ix_eq (fun i => Ideal.cos (C (ix2 t i))) _ _ ?_))
      (congrArg₂ (fun a b : EReal => a * b) (ix_eq (fun i => n (ix4 b t h i)) _ _ ?_) (ix_eq (fun i => Ideal.sin (C (ix2 t i))) _ _ ?_)) <;> dsimp only <;> omega
  · rw [dif_neg h1, dif_neg (show ¬ d.val - 64 < 32 by omega), dif_neg h0, dif_neg h1, dif_neg h2]
    refine congrArg₂ (fun a b : EReal => a + b) (congrArg₂ (fun a b : EReal => a * b) (ix_eq (fun i => n (ix4 b t h i)) _ _ ?_) (ix_eq (fun i => Ideal.cos (C (ix2 t i))) _ _ ?_))
      (congrArg₂ (fun a b : EReal => a * b) (ix_eq (fun i => n (ix4 b t h i)) _ _ ?_) (ix_eq (fun i => Ideal.sin (C (ix2 t i))) _ _ ?_)) <;> dsimp only <;> omega

end Cert.Prep

end
-- ==== Proof.Prep.TabAt.lean ====
/- The preparation: the kernel's rotation by its tables is the rotation by the angles. -/
module

public import proofs.«01_k».proof.Proof.Prep.Tab
public import proofs.«01_k».proof.Proof.Prep.Rope

@[expose] public section

set_option maxRecDepth 16384

noncomputable section

namespace Cert.Prep

open Cert.KernelPrepIdeal Cert.KernelPrepIdeal.Gen Idealize.ShloMosaic Idealize.ShloMosaic.TcCoe

theorem rot_eq (R C : FVec Ideal S2048x32 .f32) (N : Fin 128 → EReal) (r : Fin 2304) (d : Fin 128) :
    @Eq EReal (N d * cosT R C (ix2 r d) + (if h : d.val % 64 < 32 then N ⟨d.val + 32, by omega⟩ else N ⟨d.val - 32, by omega⟩) * sinT R C (ix2 r d))
      (rope (fun t i => R (ix2 t i)) (fun t i => C (ix2 t i)) N r d) := by
  unfold cosT sinT
  clean_types
  pointwise
  unfold rope
  by_cases hr : r.val < 256
  · rw [dif_pos hr]
    simp only [hr, dif_pos, if_pos, mul_one, mul_zero, add_zero]
  rw [dif_neg hr, dif_neg hr, dif_neg hr]
  by_cases h0 : d.val < 32
  · rw [dif_pos h0, dif_pos h0, dif_pos h0, dif_pos (show d.val % 64 < 32 by omega), mul_neg, sub_eq_add_neg]
  rw [dif_neg h0, dif_neg h0, dif_neg h0]
  by_cases h1 : d.val < 64
  · rw [dif_pos (show d.val - 32 < 32 by omega), dif_pos (show d.val - 32 < 32 by omega), dif_pos h1, dif_neg (show ¬ d.val % 64 < 32 by omega)]
  rw [dif_neg (show ¬ d.val - 32 < 32 by omega), dif_neg (show ¬ d.val - 32 < 32 by omega), dif_neg h1]
  by_cases h2 : d.val < 96
  · rw [dif_pos (show d.val - 32 - 32 < 32 by omega), dif_pos (show d.val - 32 - 32 < 32 by omega), dif_pos h2, dif_pos (show d.val % 64 < 32 by omega),
      mul_neg, sub_eq_add_neg]
    simp only [Nat.sub_sub, Nat.reduceAdd]
  · rw [dif_neg (show ¬ d.val - 32 - 32 < 32 by omega), dif_neg (show ¬ d.val - 32 - 32 < 32 by omega), dif_neg h2, dif_neg (show ¬ d.val % 64 < 32 by omega)]
    simp only [Nat.sub_sub, Nat.reduceAdd]

end Cert.Prep

end
-- ==== Proof.Prep.RefAt.lean ====
/- The preparation: the reference's steps, read at an index. -/
module

public import proofs.«01_k».proof.Proof.Prep.Spec
public import proofs.«01_k».proof.Proof.Prep.Steps

@[expose] public section

set_option maxRecDepth 16384

noncomputable section

namespace Cert.Prep

open Cert.ReferencePrepIdeal Cert.ReferencePrepIdeal.Gen Idealize.ShloMosaic Idealize.ShloMosaic.TcCoe

/-- The gated convolution of one head: the projected columns `512 j + 128 h` and the 127 after them. -/
def hd (x : FVec Ideal S16x2304x8192 .bf16) (w : FVec Ideal S4x1536 .f32) (j : Fin 3) (b : Fin 16) (h : Fin 4) (r : Fin 2304) (d : Fin 128) : EReal :=
  row (fun r d => x (ix3 b r ⟨512 * j.val + (128 * h.val + d.val), by omega⟩)) (fun k d => w (ix2 k ⟨512 * j.val + (128 * h.val + d.val), by omega⟩)) r d

variable (x : FVec Ideal S16x2304x8192 .bf16) (w : FVec Ideal S4x1536 .f32)

theorem z0 : @Eq EReal (FloatOps.sitofp (F := Ideal) (w := 32) FTy.f32 0#32) 0 := by
  show (((0#32 : BitVec 32).toInt : ℝ) : EReal) = 0
  simp

/-- A tap read through its bounds check. -/
theorem tp_of (g : Fin 2304 → EReal) (r : Fin 2304) (k : Nat) (hk : k < 4) (P : Prop) [Decidable P] (i : P → Fin 2304) (z : EReal) (hz : z = 0)
    (hP : P ↔ (2 ≤ r.val + k ∧ r.val + k < 258 ∧ r.val < 256) ∨ (258 ≤ r.val + k ∧ r.val + k < 2306 ∧ 256 ≤ r.val))
    (hi : ∀ h, (i h).val = r.val + k - 2) : (if h : P then g (i h) else z) = tp g r k hk := by
  unfold tp
  by_cases h : P
  · rw [dif_pos h, dif_pos (hP.mp h)]
    exact congrArg g (Fin.ext (hi h))
  · rw [dif_neg h, dif_neg (fun h' => h (hP.mpr h')), hz]

theorem cvA_at (b : Fin 16) (r : Fin 256) (e : Fin 1536) :
    @Eq EReal (cvA x w (ix3 b r e)) (cv (fun r => x (ix3 b r ⟨e.val, by omega⟩)) (fun k => w (ix2 k e)) ⟨r.val, by omega⟩) := by
  unfold cvA
  clean_types
  pointwise
  have h2 : tp (fun r => x (ix3 b r ⟨e.val, by omega⟩)) ⟨r.val, by omega⟩ 2 (by decide) = x (ix3 b ⟨r.val, by omega⟩ ⟨e.val, by omega⟩) := by
    unfold tp
    rw [dif_pos (by show (2 ≤ r.val + 2 ∧ r.val + 2 < 258 ∧ r.val < 256) ∨ _; omega)]
    rfl
  unfold cv
  rw [h2]
  refine congrArg₂ (fun a b : EReal => a + b) (congrArg₂ (fun a b : EReal => a + b) (congrArg₂ (fun a b : EReal => a + b) ?_ ?_) rfl) ?_
  · refine congrArg (fun y : EReal => y * w (ix2 0 e)) ?_
    exact tp_of (fun r => x (ix3 b r ⟨e.val, by omega⟩)) ⟨r.val, by omega⟩ 0 _ _ _ _ z0 (by show _ ↔ (2 ≤ r.val + 0 ∧ r.val + 0 < 258 ∧ r.val < 256) ∨ (258 ≤ r.val + 0 ∧ r.val + 0 < 2306 ∧ 256 ≤ r.val); omega) (fun h => by show r.val - 2 = r.val + 0 - 2; omega)
  · refine congrArg (fun y : EReal => y * w (ix2 1 e)) ?_
    exact tp_of (fun r => x (ix3 b r ⟨e.val, by omega⟩)) ⟨r.val, by omega⟩ 1 _ _ _ _ z0 (by show _ ↔ (2 ≤ r.val + 1 ∧ r.val + 1 < 258 ∧ r.val < 256) ∨ (258 ≤ r.val + 1 ∧ r.val + 1 < 2306 ∧ 256 ≤ r.val); omega) (fun h => by show 1 + r.val - 2 = r.val + 1 - 2; omega)
  · refine congrArg (fun y : EReal => y * w (ix2 3 e)) ?_
    exact tp_of (fun r => x (ix3 b r ⟨e.val, by omega⟩)) ⟨r.val, by omega⟩ 3 _ _ _ _ z0 (by show _ ↔ (2 ≤ r.val + 3 ∧ r.val + 3 < 258 ∧ r.val < 256) ∨ (258 ≤ r.val + 3 ∧ r.val + 3 < 2306 ∧ 256 ≤ r.val); omega) (fun h => by show 3 + r.val - 2 = r.val + 3 - 2; omega)

theorem cvB_at (b : Fin 16) (r : Fin 2048) (e : Fin 1536) :
    @Eq EReal (cvB x w (ix3 b r e)) (cv (fun r => x (ix3 b r ⟨e.val, by omega⟩)) (fun k => w (ix2 k e)) ⟨256 + r.val, by omega⟩) := by
  unfold cvB
  clean_types
  pointwise
  have h2 : tp (fun r => x (ix3 b r ⟨e.val, by omega⟩)) ⟨256 + r.val, by omega⟩ 2 (by decide) = x (ix3 b ⟨256 + r.val, by omega⟩ ⟨e.val, by omega⟩) := by
    unfold tp
    rw [dif_pos (by show _ ∨ (258 ≤ 256 + r.val + 2 ∧ 256 + r.val + 2 < 2306 ∧ 256 ≤ 256 + r.val); omega)]
    rfl
  unfold cv
  rw [h2]
  refine congrArg₂ (fun a b : EReal => a + b) (congrArg₂ (fun a b : EReal => a + b) (congrArg₂ (fun a b : EReal => a + b) ?_ ?_) rfl) ?_
  · refine congrArg (fun y : EReal => y * w (ix2 0 e)) ?_
    exact tp_of (fun r => x (ix3 b r ⟨e.val, by omega⟩)) ⟨256 + r.val, by omega⟩ 0 _ _ _ _ z0 (by show _ ↔ (2 ≤ 256 + r.val + 0 ∧ 256 + r.val + 0 < 258 ∧ 256 + r.val < 256) ∨ (258 ≤ 256 + r.val + 0 ∧ 256 + r.val + 0 < 2306 ∧ 256 ≤ 256 + r.val); omega) (fun h => by show 256 + (r.val - 2) = 256 + r.val + 0 - 2; omega)
  · refine congrArg (fun y : EReal => y * w (ix2 1 e)) ?_
    exact tp_of (fun r => x (ix3 b r ⟨e.val, by omega⟩)) ⟨256 + r.val, by omega⟩ 1 _ _ _ _ z0 (by show _ ↔ (2 ≤ 256 + r.val + 1 ∧ 256 + r.val + 1 < 258 ∧ 256 + r.val < 256) ∨ (258 ≤ 256 + r.val + 1 ∧ 256 + r.val + 1 < 2306 ∧ 256 ≤ 256 + r.val); omega) (fun h => by show 256 + (1 + r.val - 2) = 256 + r.val + 1 - 2; omega)
  · refine congrArg (fun y : EReal => y * w (ix2 3 e)) ?_
    exact tp_of (fun r => x (ix3 b r ⟨e.val, by omega⟩)) ⟨256 + r.val, by omega⟩ 3 _ _ _ _ z0 (by show _ ↔ (2 ≤ 256 + r.val + 3 ∧ 256 + r.val + 3 < 258 ∧ 256 + r.val < 256) ∨ (258 ≤ 256 + r.val + 3 ∧ 256 + r.val + 3 < 2306 ∧ 256 ≤ 256 + r.val); omega) (fun h => by show 256 + (3 + r.val - 2) = 256 + r.val + 3 - 2; omega)

/-- A head's entry, from its column. -/
theorem hd_of (j : Fin 3) (b : Fin 16) (h : Fin 4) (r : Fin 2304) (d : Fin 128) (e : Fin 1536) (he : e.val = 512 * j.val + (128 * h.val + d.val)) (y : EReal)
    (hy : y = cv (fun r => x (ix3 b r ⟨e.val, by omega⟩)) (fun k => w (ix2 k e)) r) :
    y * Ideal.div 1 (1 + Ideal.exp (-y)) = hd x w j b h r d := by
  obtain ⟨e, hlt⟩ := e
  obtain rfl : e = 512 * j.val + (128 * h.val + d.val) := he
  subst hy
  rfl

theorem h0A_at (b : Fin 16) (r : Fin 256) (h : Fin 4) (d : Fin 128) :
    @Eq EReal (h0A (slA (cvA x w)) (ix4 b r h d)) (hd x w 0 b h ⟨r.val, by omega⟩ d) := by
  unfold h0A slA
  clean_types
  pointwise
  exact hd_of x w 0 b h _ d _ (by show h.val * 128 + d.val = 512 * 0 + (128 * h.val + d.val); omega) _ (cvA_at x w b r _)

theorem h1A_at (b : Fin 16) (r : Fin 256) (h : Fin 4) (d : Fin 128) :
    @Eq EReal (h1A (slA (cvA x w)) (ix4 b r h d)) (hd x w 1 b h ⟨r.val, by omega⟩ d) := by
  unfold h1A slA
  clean_types
  pointwise
  exact hd_of x w 1 b h _ d _ (by show 512 + h.val * 128 + d.val = 512 * 1 + (128 * h.val + d.val); omega) _ (cvA_at x w b r _)

theorem h2A_at (b : Fin 16) (r : Fin 256) (h : Fin 4) (d : Fin 128) :
    @Eq EReal (h2A (slA (cvA x w)) (ix4 b r h d)) (hd x w 2 b h ⟨r.val, by omega⟩ d) := by
  unfold h2A slA
  clean_types
  pointwise
  exact hd_of x w 2 b h _ d _ (by show 1024 + h.val * 128 + d.val = 512 * 2 + (128 * h.val + d.val); omega) _ (cvA_at x w b r _)

theorem h0B_at (b : Fin 16) (r : Fin 2048) (h : Fin 4) (d : Fin 128) :
    @Eq EReal (h0B (slB (cvB x w)) (ix4 b r h d)) (hd x w 0 b h ⟨256 + r.val, by omega⟩ d) := by
  unfold h0B slB
  clean_types
  pointwise
  exact hd_of x w 0 b h _ d _ (by show h.val * 128 + d.val = 512 * 0 + (128 * h.val + d.val); omega) _ (cvB_at x w b r _)

theorem h1B_at (b : Fin 16) (r : Fin 2048) (h : Fin 4) (d : Fin 128) :
    @Eq EReal (h1B (slB (cvB x w)) (ix4 b r h d)) (hd x w 1 b h ⟨256 + r.val, by omega⟩ d) := by
  unfold h1B slB
  clean_types
  pointwise
  exact hd_of x w 1 b h _ d _ (by show 512 + h.val * 128 + d.val = 512 * 1 + (128 * h.val + d.val); omega) _ (cvB_at x w b r _)

theorem h2B_at (b : Fin 16) (r : Fin 2048) (h : Fin 4) (d : Fin 128) :
    @Eq EReal (h2B (slB (cvB x w)) (ix4 b r h d)) (hd x w 2 b h ⟨256 + r.val, by omega⟩ d) := by
  unfold h2B slB
  clean_types
  pointwise
  exact hd_of x w 2 b h _ d _ (by show 1024 + h.val * 128 + d.val = 512 * 2 + (128 * h.val + d.val); omega) _ (cvB_at x w b r _)

theorem nmA_at (y : FVec Ideal S16x256x4x128 .f32) (b : Fin 16) (r : Fin 256) (h : Fin 4) (d : Fin 128) :
    @Eq EReal (nmA y (ix4 b r h d)) (nm (fun d => y (ix4 b r h d)) d) := by
  unfold nmA
  clean_types
  pointwise
  rfl

theorem nmB_at (y : FVec Ideal S16x2048x4x128 .f32) (b : Fin 16) (r : Fin 2048) (h : Fin 4) (d : Fin 128) :
    @Eq EReal (nmB y (ix4 b r h d)) (nm (fun d => y (ix4 b r h d)) d) := by
  unfold nmB
  clean_types
  pointwise
  rfl

/-- The scale of the queries. -/
def qs : EReal := Ideal.ofBits FTy.f32 0x3DB504F3#32

theorem scA_at (y : FVec Ideal S16x256x4x128 .f32) (b : Fin 16) (r : Fin 256) (h : Fin 4) (d : Fin 128) :
    @Eq EReal (scA y (ix4 b r h d)) (y (ix4 b r h d) * qs) := by
  pointwise [scA, qs]

theorem scB_at (y : FVec Ideal S16x2048x4x128 .f32) (b : Fin 16) (r : Fin 2048) (h : Fin 4) (d : Fin 128) :
    @Eq EReal (scB y (ix4 b r h d)) (y (ix4 b r h d) * qs) := by
  pointwise [scB, qs]

theorem outP_at (A : FVec Ideal S16x256x4x128 .f32) (B : FVec Ideal S16x2048x4x128 .f32) (b : Fin 16) (r : Fin 2304) (h : Fin 4) (d : Fin 128) :
    @Eq EReal (outP A B (ix3 b r ⟨128 * h.val + d.val, by omega⟩))
      (if hr : r.val < 256 then A (ix4 b ⟨r.val, hr⟩ h d) else B (ix4 b ⟨r.val - 256, by omega⟩ h d)) := by
  unfold outP
  clean_types
  pointwise

end Cert.Prep

end
-- ==== Proof.Prep.RefQ.lean ====
/- The preparation: the reference's queries, keys and values, read at an index. -/
module

public import proofs.«01_k».proof.Proof.Prep.RefAt
public import proofs.«01_k».proof.Proof.Prep.Rope

@[expose] public section

set_option maxRecDepth 16384

noncomputable section

namespace Cert.Prep

open Cert.ReferencePrepIdeal Cert.ReferencePrepIdeal.Gen Idealize.ShloMosaic Idealize.ShloMosaic.TcCoe

variable (x : FVec Ideal S16x2304x8192 .bf16) (w : FVec Ideal S4x1536 .f32)

/-- The angle of a token's row, at a frequency. -/
def aR (t : Fin 2048) (i : Fin 32) : EReal := angOf (F := Ideal) rowI (ix2 t i)

/-- The angle of a token's column, at a frequency. -/
def aC (t : Fin 2048) (i : Fin 32) : EReal := angOf (F := Ideal) colI (ix2 t i)

/-- A head's rotated, normalised row. -/
def rn (j : Fin 3) (b : Fin 16) (h : Fin 4) (r : Fin 2304) (d : Fin 128) : EReal :=
  rope aR aC (nm (hd x w j b h r)) r d

/-- The first 256 rows are not rotated. -/
theorem rope_lt (R C : Fin 2048 → Fin 32 → EReal) (n : Fin 128 → EReal) (r : Fin 2304) (d : Fin 128) (hr : r.val < 256) : rope R C n r d = n d := by
  unfold rope
  rw [dif_pos hr]

/-- A row after the first 256, by its place among the rest. -/
theorem row_eq (r : Fin 2304) (hr : ¬ r.val < 256) : (⟨256 + (⟨r.val - 256, by omega⟩ : Fin 2048).val, by have := r.isLt; show 256 + (r.val - 256) < 2304; omega⟩ : Fin 2304) = r :=
  Fin.ext (by show 256 + (r.val - 256) = r.val; omega)

theorem refQ_at (b : Fin 16) (r : Fin 2304) (h : Fin 4) (d : Fin 128) :
    @Eq EReal (refQ x w (ix3 b r ⟨128 * h.val + d.val, by omega⟩)) (rn x w 0 b h r d * qs) := by
  unfold refQ
  refine (outP_at _ _ b r h d).trans ?_
  unfold rn
  by_cases hr : r.val < 256
  · rw [dif_pos hr, rope_lt _ _ _ _ _ hr]
    refine (scA_at _ b _ h d).trans (congrArg (fun y : EReal => y * qs) ?_)
    refine (nmA_at _ b _ h d).trans (congrArg (fun y => nm y d) (funext fun d => h0A_at x w b _ h d))
  · rw [dif_neg hr]
    refine (scB_at _ b _ h d).trans (congrArg (fun y : EReal => y * qs) ?_)
    refine (rpB_at _ _ _ b _ h d).trans ?_
    rw [row_eq r hr]
    refine congrArg (fun y => rope aR aC y r d) (funext fun d => ?_)
    refine (nmB_at _ b _ h d).trans (congrArg (fun y => nm y d) (funext fun d => (h0B_at x w b _ h d).trans ?_))
    rw [row_eq r hr]

theorem refK_at (b : Fin 16) (r : Fin 2304) (h : Fin 4) (d : Fin 128) :
    @Eq EReal (refK x w (ix3 b r ⟨128 * h.val + d.val, by omega⟩)) (rn x w 1 b h r d) := by
  unfold refK
  refine (outP_at _ _ b r h d).trans ?_
  unfold rn
  by_cases hr : r.val < 256
  · rw [dif_pos hr, rope_lt _ _ _ _ _ hr]
    refine (nmA_at _ b _ h d).trans (congrArg (fun y => nm y d) (funext fun d => h1A_at x w b _ h d))
  · rw [dif_neg hr]
    refine (rpB_at _ _ _ b _ h d).trans ?_
    rw [row_eq r hr]
    refine congrArg (fun y => rope aR aC y r d) (funext fun d => ?_)
    refine (nmB_at _ b _ h d).trans (congrArg (fun y => nm y d) (funext fun d => (h1B_at x w b _ h d).trans ?_))
    rw [row_eq r hr]

theorem refV_at (b : Fin 16) (r : Fin 2304) (h : Fin 4) (d : Fin 128) :
    @Eq EReal (refV x w (ix3 b r ⟨128 * h.val + d.val, by omega⟩)) (hd x w 2 b h r d) := by
  unfold refV
  refine (outP_at _ _ b r h d).trans ?_
  by_cases hr : r.val < 256
  · rw [dif_pos hr]
    exact h2A_at x w b _ h d
  · rw [dif_neg hr]
    refine (h2B_at x w b _ h d).trans ?_
    rw [row_eq r hr]

end Cert.Prep

end
-- ==== Proof.Prep.Pay.lean ====
/- The preparation: what the kernel's blocks hold, read at an index. -/
module

public import proofs.«01_k».proof.Proof.Prep.Kern
public import proofs.«01_k».proof.Proof.Prep.TabAt
public import proofs.«01_k».proof.Proof.Prep.RefQ

@[expose] public section

set_option maxRecDepth 16384

noncomputable section

namespace Cert.Prep

open Cert.KernelPrepIdeal Cert.KernelPrepIdeal.Gen Idealize.ShloMosaic Idealize.ShloMosaic.TcCoe

section
variable {F : FTy → Type} [FloatOps F]
variable (x0 x1 x2 : Vec F S1x2304x128 .bf16) (x3 x4 x5 : Vec F S4x128 .f32) (x6 x7 : Vec F S2304x128 .f32)

theorem ld0 (x : Vec F S1x2304x128 .bf16) : View.ld x r0_0 = x := View.ld_unit_lit (S := S1x2304x128) inb_S1x2304x128_S1x2304x128_0_0_0 x (by decide)
theorem ld1 (x : Vec F S4x128 .f32) : View.ld x r0_1 = x := View.ld_unit_lit (S := S4x128) inb_S4x128_S4x128_0_0 x (by decide)

theorem p28 : k0_pay28 x0 x1 x2 x3 x4 x5 x6 x7 = k0_pay3 x0 := by unfold k0_pay28; rw [ld0]
theorem p31 : k0_pay31 x0 x1 x2 x3 x4 x5 x6 x7 = k0_pay6 x0 x3 := by unfold k0_pay31; rw [ld0, ld1]
theorem p32 : k0_pay32 x0 x1 x2 x3 x4 x5 x6 x7 = k0_pay7 x0 := by unfold k0_pay32; rw [ld0]
theorem p33 : k0_pay33 x0 x1 x2 x3 x4 x5 x6 x7 = k0_pay12 x1 := by unfold k0_pay33; rw [ld0]
theorem p36 : k0_pay36 x0 x1 x2 x3 x4 x5 x6 x7 = k0_pay15 x1 x4 := by unfold k0_pay36; rw [ld0, ld1]
theorem p37 : k0_pay37 x0 x1 x2 x3 x4 x5 x6 x7 = k0_pay16 x1 := by unfold k0_pay37; rw [ld0]
theorem p27 : k0_pay27 x0 x1 x2 x3 x4 x5 x6 x7 = k0_pay2 := rfl
theorem p29 : k0_pay29 x0 x1 x2 x3 x4 x5 x6 x7 = k0_pay4 := rfl
theorem p30 : k0_pay30 x0 x1 x2 x3 x4 x5 x6 x7 = k0_pay5 := rfl
theorem p34 : k0_pay34 x0 x1 x2 x3 x4 x5 x6 x7 = k0_pay13 := rfl
theorem p35 : k0_pay35 x0 x1 x2 x3 x4 x5 x6 x7 = k0_pay14 := rfl
theorem p38 : k0_pay38 x0 x1 x2 x3 x4 x5 x6 x7 = k0_pay17 := rfl

end

theorem pay3_at (x : Vec Ideal S1x2304x128 .bf16) (r : Fin 2304) (d : Fin 128) : @Eq EReal (k0_pay3 x (ix2 r d)) (x (ix3 0 r d)) := by
  pointwise [k0_pay3]

variable (x : Vec Ideal S1x2304x128 .bf16) (w : Vec Ideal S4x128 .f32) (R C : FVec Ideal S2048x32 .f32)
variable (hx : ∀ r d, ∃ a : ℝ, @Eq EReal (x (ix3 0 r d)) a) (hw : ∀ k d, ∃ a : ℝ, @Eq EReal (w (ix2 k d)) a)

include hx hw in
/-- The kernel's gated convolution. -/
theorem sc_at (r : Fin 2304) (d : Fin 128) :
    @Eq EReal (slK (cvK (k0_pay3 x) w) (ix2 r d)) (row (fun r d => x (ix3 0 r d)) (fun k d => w (ix2 k d)) r d) := by
  have e : @Eq EReal (cvK (k0_pay3 x) w (ix2 r d)) (cv (fun r => x (ix3 0 r d)) (fun k => w (ix2 k d)) r) :=
    (cvK_at _ w r d).trans (congrArg (fun g => cv g (fun k => w (ix2 k d)) r) (funext fun r => pay3_at x r d))
  have h := cv_real (fun r => (x (ix3 0 r d) : EReal)) (fun k => (w (ix2 k d) : EReal)) (fun r => hx r d) (fun k => hw k d) r
  refine (slK_at _ r d ?_).trans ?_
  · obtain ⟨a, ha⟩ := h
    exact ⟨a, e.trans ha⟩
  · exact congrArg Cert.Merge.sl e

include hx hw in
/-- The kernel's normalised rows, rotated. -/
theorem rn_at (r : Fin 2304) (d : Fin 128) :
    @Eq EReal (rpK (nmK (slK (cvK (k0_pay3 x) w))) (cosT R C) (sinT R C) (ix2 r d))
      (rope (fun t i => R (ix2 t i)) (fun t i => C (ix2 t i)) (nm (row (fun r d => x (ix3 0 r d)) (fun k d => w (ix2 k d)) r)) r d) := by
  refine (rpK_at _ _ _ r d).trans ?_
  have e : (fun d => (nmK (slK (cvK (k0_pay3 x) w)) (ix2 r d) : EReal)) = nm (row (fun r d => x (ix3 0 r d)) (fun k d => w (ix2 k d)) r) :=
    funext fun d => (nmK_at _ r d).trans (congrArg (fun y => nm y d) (funext fun d => sc_at x w hx hw r d))
  refine (rot_eq R C (fun d => (nmK (slK (cvK (k0_pay3 x) w)) (ix2 r d) : EReal)) r d).trans ?_
  rw [e]

include hx hw in
theorem payQ_at (r : Fin 2304) (d : Fin 128) :
    @Eq EReal (k0_pay11 k0_pay2 (k0_pay8 (k0_pay3 x) w k0_pay4 k0_pay5 (k0_pay6 x w) (k0_pay7 x))
      (k0_pay9 (k0_pay3 x) w k0_pay4 k0_pay5 (k0_pay6 x w) (k0_pay7 x)) (k0_pay10 (k0_pay3 x) w k0_pay4 k0_pay5 (k0_pay6 x w) (k0_pay7 x)) (cosT R C) (sinT R C) (ix3 0 r d))
      (rope (fun t i => R (ix2 t i)) (fun t i => C (ix2 t i)) (nm (row (fun r d => x (ix3 0 r d)) (fun k d => w (ix2 k d)) r)) r d * qs) := by
  rw [q_eq]
  refine Eq.trans ?_ (congrArg (fun y : EReal => y * qs) (rn_at x w R C hx hw r d))
  generalize rpK (nmK (slK (cvK (k0_pay3 x) w))) (cosT R C) (sinT R C) = Z
  pointwise [qs]

include hx hw in
theorem payK_at (r : Fin 2304) (d : Fin 128) :
    @Eq EReal (k0_pay20 (k0_pay18 (k0_pay12 x) w k0_pay13 k0_pay14 (k0_pay15 x w) (k0_pay16 x) k0_pay17)
      (k0_pay19 k0_pay2 (k0_pay12 x) w k0_pay13 k0_pay14 (k0_pay15 x w) (k0_pay16 x) k0_pay17) (cosT R C) (sinT R C) (ix3 0 r d))
      (rope (fun t i => R (ix2 t i)) (fun t i => C (ix2 t i)) (nm (row (fun r d => x (ix3 0 r d)) (fun k d => w (ix2 k d)) r)) r d) := by
  rw [k_eq]
  refine Eq.trans ?_ (rn_at x w R C hx hw r d)
  generalize rpK (nmK (slK (cvK (k0_pay3 x) w))) (cosT R C) (sinT R C) = Z
  pointwise

include hx hw in
theorem payV_at (r : Fin 2304) (d : Fin 128) :
    @Eq EReal (k0_pay1 (k0_pay21 x) w k0_pay22 k0_pay23 (k0_pay24 x w) (k0_pay25 x) (k0_pay26 w) (ix3 0 r d))
      (row (fun r d => x (ix3 0 r d)) (fun k d => w (ix2 k d)) r d) := by
  rw [v_eq]
  refine Eq.trans ?_ (sc_at x w hx hw r d)
  generalize slK (cvK (k0_pay3 x) w) = Z
  pointwise

end Cert.Prep

end
-- ==== Proof.Prep.Tie.lean ====
/- The preparation: the kernel's three result arrays are the reference's. -/
module

public import proofs.«01_k».proof.Proof.Prep.Pay
public import Idealize.ShloMosaic.Lib.Pipeline.ValueKit
public import Idealize.ShloMosaic.Lib.Pipeline.ValueKit.Point

@[expose] public section

set_option maxRecDepth 16384

noncomputable section

namespace Cert.Prep

open Cert.KernelPrepIdeal Cert.KernelPrepIdeal.Gen Idealize.ShloMosaic Idealize.ShloMosaic.TcCoe

variable (m : (ℓ : Loc nD τ sig) → Buf (Elt Ideal) ℓ)

/-- The sequence of a grid point. -/
def bb (t : Fin cfg0.grid.N) : Fin 16 := grid0.coords t 0

/-- The head of a grid point. -/
def hh (t : Fin cfg0.grid.N) : Fin 4 := grid0.coords t 1

theorem idx_all : ∀ t : Fin grid0.N, win0_0.index t = ![(bb t).val, 0, (hh t).val] ∧ win0_1.index t = ![(bb t).val, 0, 4 + (hh t).val]
    ∧ win0_2.index t = ![(bb t).val, 0, 8 + (hh t).val] ∧ win0_3.index t = ![0, (hh t).val] ∧ win0_4.index t = ![0, 4 + (hh t).val]
    ∧ win0_5.index t = ![0, 8 + (hh t).val] ∧ win0_6.index t = ![0, 0] ∧ win0_7.index t = ![0, 0]
    ∧ win0_8.index t = ![(bb t).val, 0, (hh t).val] ∧ win0_9.index t = ![(bb t).val, 0, (hh t).val]
    ∧ win0_10.index t = ![(bb t).val, 0, (hh t).val] := by decide +kernel

/-- The projected tokens. -/
def X (c : Dev nD) : FVec Ideal S16x2304x8192 .bf16 := m ((c : Thread nD τ).loc main_arg0)

/-- The convolution's weights. -/
def W (c : Dev nD) : FVec Ideal S4x1536 .f32 := m ((c : Thread nD τ).loc main_arg1)

theorem blk0 (c : Dev nD) (t : Fin cfg0.N) (r : Fin 2304) (d : Fin 128) :
    @Eq EReal (iblk m c 0 t (ix3 0 r d)) (X m c (ix3 (bb t) r ⟨512 * (0 : Fin 3).val + (128 * (hh t).val + d.val), by have := (hh t).isLt; have := d.isLt; show 512 * 0 + _ < 8192; omega⟩)) := by
  have h : @Eq EReal (iblk m c 0 t (ix3 0 r d)) (V m c main_arg0 (ix3 (bb t) r ⟨128 * (hh t).val + d.val, by have := (hh t).isLt; have := d.isLt; omega⟩)) := by
    blk_ext [iblk, idx_all t, bb, hh]
  rw [h, V_main_arg0]
  exact congrArg (fun i => X m c (ix3 (bb t) r i)) (Fin.ext (by show 128 * (hh t).val + d.val = 512 * 0 + (128 * (hh t).val + d.val); omega))

theorem blk1 (c : Dev nD) (t : Fin cfg0.N) (r : Fin 2304) (d : Fin 128) :
    @Eq EReal (iblk m c 1 t (ix3 0 r d)) (X m c (ix3 (bb t) r ⟨512 * (1 : Fin 3).val + (128 * (hh t).val + d.val), by have := (hh t).isLt; have := d.isLt; show 512 * 1 + _ < 8192; omega⟩)) := by
  have h : @Eq EReal (iblk m c 1 t (ix3 0 r d)) (V m c main_arg0 (ix3 (bb t) r ⟨512 + (128 * (hh t).val + d.val), by have := (hh t).isLt; have := d.isLt; omega⟩)) := by
    blk_ext [iblk, idx_all t, bb, hh]
  rw [h, V_main_arg0]
  exact congrArg (fun i => X m c (ix3 (bb t) r i)) (Fin.ext (by show 512 + (128 * (hh t).val + d.val) = 512 * 1 + (128 * (hh t).val + d.val); omega))

theorem blk2 (c : Dev nD) (t : Fin cfg0.N) (r : Fin 2304) (d : Fin 128) :
    @Eq EReal (iblk m c 2 t (ix3 0 r d)) (X m c (ix3 (bb t) r ⟨512 * (2 : Fin 3).val + (128 * (hh t).val + d.val), by have := (hh t).isLt; have := d.isLt; show 512 * 2 + _ < 8192; omega⟩)) := by
  have h : @Eq EReal (iblk m c 2 t (ix3 0 r d)) (V m c main_arg0 (ix3 (bb t) r ⟨1024 + (128 * (hh t).val + d.val), by have := (hh t).isLt; have := d.isLt; omega⟩)) := by
    blk_ext [iblk, idx_all t, bb, hh]
  rw [h, V_main_arg0]
  exact congrArg (fun i => X m c (ix3 (bb t) r i)) (Fin.ext (by show 1024 + (128 * (hh t).val + d.val) = 512 * 2 + (128 * (hh t).val + d.val); omega))

theorem blk3 (c : Dev nD) (t : Fin cfg0.N) (k : Fin 4) (d : Fin 128) :
    @Eq EReal (iblk m c 3 t (ix2 k d)) (W m c (ix2 k ⟨512 * (0 : Fin 3).val + (128 * (hh t).val + d.val), by have := (hh t).isLt; have := d.isLt; show 512 * 0 + _ < 1536; omega⟩)) := by
  have h : @Eq EReal (iblk m c 3 t (ix2 k d)) (V m c main_arg1 (ix2 k ⟨128 * (hh t).val + d.val, by have := (hh t).isLt; have := d.isLt; omega⟩)) := by
    blk_ext [iblk, idx_all t, bb, hh]
  rw [h, V_main_arg1]
  exact congrArg (fun i => W m c (ix2 k i)) (Fin.ext (by show 128 * (hh t).val + d.val = 512 * 0 + (128 * (hh t).val + d.val); omega))

theorem blk4 (c : Dev nD) (t : Fin cfg0.N) (k : Fin 4) (d : Fin 128) :
    @Eq EReal (iblk m c 4 t (ix2 k d)) (W m c (ix2 k ⟨512 * (1 : Fin 3).val + (128 * (hh t).val + d.val), by have := (hh t).isLt; have := d.isLt; show 512 * 1 + _ < 1536; omega⟩)) := by
  have h : @Eq EReal (iblk m c 4 t (ix2 k d)) (V m c main_arg1 (ix2 k ⟨512 + (128 * (hh t).val + d.val), by have := (hh t).isLt; have := d.isLt; omega⟩)) := by
    blk_ext [iblk, idx_all t, bb, hh]
  rw [h, V_main_arg1]
  exact congrArg (fun i => W m c (ix2 k i)) (Fin.ext (by show 512 + (128 * (hh t).val + d.val) = 512 * 1 + (128 * (hh t).val + d.val); omega))

theorem blk5 (c : Dev nD) (t : Fin cfg0.N) (k : Fin 4) (d : Fin 128) :
    @Eq EReal (iblk m c 5 t (ix2 k d)) (W m c (ix2 k ⟨512 * (2 : Fin 3).val + (128 * (hh t).val + d.val), by have := (hh t).isLt; have := d.isLt; show 512 * 2 + _ < 1536; omega⟩)) := by
  have h : @Eq EReal (iblk m c 5 t (ix2 k d)) (V m c main_arg1 (ix2 k ⟨1024 + (128 * (hh t).val + d.val), by have := (hh t).isLt; have := d.isLt; omega⟩)) := by
    blk_ext [iblk, idx_all t, bb, hh]
  rw [h, V_main_arg1]
  exact congrArg (fun i => W m c (ix2 k i)) (Fin.ext (by show 1024 + (128 * (hh t).val + d.val) = 512 * 2 + (128 * (hh t).val + d.val); omega))

theorem blk6 (c : Dev nD) (t : Fin cfg0.N) : @Eq (FVec Ideal S2304x128 .f32) (iblk m c 6 t) (cosT (angOf rowI) (angOf colI)) := by
  rw [← V_main_v32 m c]
  funext i
  obtain ⟨r, d, rfl⟩ : ∃ (r : Fin 2304) (d : Fin 128), i = ix2 r d := by
    refine ⟨i 0, i 1, ?_⟩
    blk_ext []
  blk_ext [iblk, idx_all t]

theorem blk7 (c : Dev nD) (t : Fin cfg0.N) : @Eq (FVec Ideal S2304x128 .f32) (iblk m c 7 t) (sinT (angOf rowI) (angOf colI)) := by
  rw [← V_main_v34 m c]
  funext i
  obtain ⟨r, d, rfl⟩ : ∃ (r : Fin 2304) (d : Fin 128), i = ix2 r d := by
    refine ⟨i 0, i 1, ?_⟩
    blk_ext []
  blk_ext [iblk, idx_all t]

/-- Where a block's entry lies in the queries. -/
theorem emb8 (t : Fin cfg0.N) (r : Fin 2304) (d : Fin 128) :
    ((View.whole main_v35_0).slice (win0_8.rect t)).emb (ix3 0 r d) = ix3 (bb t) r ⟨128 * (hh t).val + d.val, by have := (hh t).isLt; have := d.isLt; omega⟩ := by
  blk_ext [idx_all t, bb, hh]

/-- Where a block's entry lies in the keys. -/
theorem emb9 (t : Fin cfg0.N) (r : Fin 2304) (d : Fin 128) :
    ((View.whole main_v35_1).slice (win0_9.rect t)).emb (ix3 0 r d) = ix3 (bb t) r ⟨128 * (hh t).val + d.val, by have := (hh t).isLt; have := d.isLt; omega⟩ := by
  blk_ext [idx_all t, bb, hh]

/-- Where a block's entry lies in the values. -/
theorem emb10 (t : Fin cfg0.N) (r : Fin 2304) (d : Fin 128) :
    ((View.whole main_v35_2).slice (win0_10.rect t)).emb (ix3 0 r d) = ix3 (bb t) r ⟨128 * (hh t).val + d.val, by have := (hh t).isLt; have := d.isLt; omega⟩ := by
  blk_ext [idx_all t, bb, hh]

variable (c : Dev nD) (hx : ∀ i, ∃ a : ℝ, @Eq EReal (X m c i) a) (hw : ∀ i, ∃ a : ℝ, @Eq EReal (W m c i) a)

include hx hw in
/-- The kernel's queries, block by block. -/
theorem arr8_eq : (dats m 0 c).arrAt 8 cfg0.N = refQ (F := Ideal) (X m c) (W m c) := by
  refine (dats m 0 c).arrAt_eq_of_covers 8 _ (by decide +kernel) fun t hf y => ?_
  blk_simp
  rw [after0_8]
  frame_out
  obtain ⟨r, d, rfl⟩ : ∃ (r : Fin 2304) (d : Fin 128), y = ix3 0 r d := by
    refine ⟨y 1, y 2, ?_⟩
    blk_ext []
  rw [p27, p28, p29, p30, p31, p32, blk6, blk7]
  refine (payQ_at (iblk m c 0 t) (iblk m c 3 t) (angOf rowI) (angOf colI) (fun r d => by rw [blk0]; exact hx _) (fun k d => by rw [blk3]; exact hw _) r d).trans ?_
  rw [emb8]
  refine Eq.trans ?_ (refQ_at _ _ _ _ _ _).symm
  refine congrArg (fun y => rope aR aC (nm y) r d * qs) (funext fun d => ?_)
  exact congrArg₂ (fun f g => row f g r d) (funext fun r => funext fun d => blk0 m c t r d) (funext fun k => funext fun d => blk3 m c t k d)

include hx hw in
/-- The kernel's keys, block by block. -/
theorem arr9_eq : (dats m 0 c).arrAt 9 cfg0.N = refK (F := Ideal) (X m c) (W m c) := by
  refine (dats m 0 c).arrAt_eq_of_covers 9 _ (by decide +kernel) fun t hf y => ?_
  blk_simp
  rw [after0_9]
  frame_out
  obtain ⟨r, d, rfl⟩ : ∃ (r : Fin 2304) (d : Fin 128), y = ix3 0 r d := by
    refine ⟨y 1, y 2, ?_⟩
    blk_ext []
  rw [p27, p33, p34, p35, p36, p37, p38, blk6, blk7]
  refine (payK_at (iblk m c 1 t) (iblk m c 4 t) (angOf rowI) (angOf colI) (fun r d => by rw [blk1]; exact hx _) (fun k d => by rw [blk4]; exact hw _) r d).trans ?_
  rw [emb9]
  refine Eq.trans ?_ (refK_at _ _ _ _ _ _).symm
  refine congrArg (fun y => rope aR aC (nm y) r d) (funext fun d => ?_)
  exact congrArg₂ (fun f g => row f g r d) (funext fun r => funext fun d => blk1 m c t r d) (funext fun k => funext fun d => blk4 m c t k d)

include hx hw in
/-- The kernel's values, block by block. -/
theorem arr10_eq : (dats m 0 c).arrAt 10 cfg0.N = refV (F := Ideal) (X m c) (W m c) := by
  refine (dats m 0 c).arrAt_eq_of_covers 10 _ (by decide +kernel) fun t hf y => ?_
  blk_simp
  rw [after0_10]
  frame_out
  obtain ⟨r, d, rfl⟩ : ∃ (r : Fin 2304) (d : Fin 128), y = ix3 0 r d := by
    refine ⟨y 1, y 2, ?_⟩
    blk_ext []
  refine (payV_at (iblk m c 2 t) (iblk m c 5 t) (fun r d => by rw [blk2]; exact hx _) (fun k d => by rw [blk5]; exact hw _) r d).trans ?_
  rw [emb10]
  refine Eq.trans ?_ (refV_at _ _ _ _ _ _).symm
  exact congrArg₂ (fun f g => row f g r d) (funext fun r => funext fun d => blk2 m c t r d) (funext fun k => funext fun d => blk5 m c t k d)

end Cert.Prep

end
-- ==== Proof.Prep.Res.lean ====
/- The preparation: the reference's result buffers hold the named steps. -/
module

public import proofs.«01_k».proof.Proof.Prep.Steps
public import proofs.«01_k».proof.Proof.Gen.ReferencePrepIdeal.Run
public import Idealize.ShloMosaic.Lib.Pointwise
public import Idealize.ShloMosaic.Lib.Tactic.CleanTypes

@[expose] public section

set_option maxRecDepth 16384

noncomputable section

namespace Cert.Prep

open Cert.ReferencePrepIdeal Cert.ReferencePrepIdeal.Gen Cert.ReferencePrepIdeal.Value Idealize.ShloMosaic Idealize.ShloMosaic.TcCoe

section
variable {F : FTy → Type} [FloatOps F]

/-- The reference's result is these steps of its arguments. -/
theorem resQ (V0 : Valuation τ sig (Elt F)) : truncf .bf16 (shapeCast _ (concatenate S16x2304x4x128 1 [⟨S16x256x4x128, (mulf (mulf (res_main_v38 V0) (broadcastInDim S16x256x4x128 ![0, 1, 2, 3] bcast_S16x256x4x1_S16x256x4x128_0_1_2_3 (Host.rsqrt (addf (broadcastInDim S16x256x4x1 ![0, 1, 2] bcast_S16x256x4_S16x256x4x1_0_1_2 (Host.reduceAdd (mulf (res_main_v38 V0) (res_main_v38 V0)) (constant S_ .f32 0x00000000#32) reducesTo_S16x256x4x128_S16x256x4_d3 h_S_)) (broadcastInDim S16x256x4x1 ![] bcast_S_S16x256x4x1 (constant S_ .f32 0x358637BD#32)))))) (broadcastInDim S16x256x4x128 ![] bcast_S_S16x256x4x128 (constant S_ .f32 0x3DB504F3#32)))⟩, ⟨S16x2048x4x128, (mulf (concatenate S16x2048x4x128 3 [⟨S16x2048x4x64, (concatenate S16x2048x4x64 3 [⟨S16x2048x4x32, (subf (mulf (res_main_v134 V0) (broadcastInDim S16x2048x4x32 ![0, 1, 2, 3] bcast_S1x2048x1x32_S16x2048x4x32_0_1_2_3 (res_main_v131 V0))) (mulf (res_main_v135 V0) (broadcastInDim S16x2048x4x32 ![0, 1, 2, 3] bcast_S1x2048x1x32_S16x2048x4x32_0_1_2_3 (res_main_v133 V0))))⟩, ⟨S16x2048x4x32, (addf (mulf (res_main_v135 V0) (broadcastInDim S16x2048x4x32 ![0, 1, 2, 3] bcast_S1x2048x1x32_S16x2048x4x32_0_1_2_3 (res_main_v131 V0))) (mulf (res_main_v134 V0) (broadcastInDim S16x2048x4x32 ![0, 1, 2, 3] bcast_S1x2048x1x32_S16x2048x4x32_0_1_2_3 (res_main_v133 V0))))⟩] concatenates_S16x2048x4x32_S16x2048x4x32_S16x2048x4x64_d3)⟩, ⟨S16x2048x4x64, (concatenate S16x2048x4x64 3 [⟨S16x2048x4x32, (subf (mulf (res_main_v158 V0) (broadcastInDim S16x2048x4x32 ![0, 1, 2, 3] bcast_S1x2048x1x32_S16x2048x4x32_0_1_2_3 (res_main_v155 V0))) (mulf (res_main_v159 V0) (broadcastInDim S16x2048x4x32 ![0, 1, 2, 3] bcast_S1x2048x1x32_S16x2048x4x32_0_1_2_3 (res_main_v157 V0))))⟩, ⟨S16x2048x4x32, (addf (mulf (res_main_v159 V0) (broadcastInDim S16x2048x4x32 ![0, 1, 2, 3] bcast_S1x2048x1x32_S16x2048x4x32_0_1_2_3 (res_main_v155 V0))) (mulf (res_main_v158 V0) (broadcastInDim S16x2048x4x32 ![0, 1, 2, 3] bcast_S1x2048x1x32_S16x2048x4x32_0_1_2_3 (res_main_v157 V0))))⟩] concatenates_S16x2048x4x32_S16x2048x4x32_S16x2048x4x64_d3)⟩] concatenates_S16x2048x4x64_S16x2048x4x64_S16x2048x4x128_d3) (broadcastInDim S16x2048x4x128 ![] bcast_S_S16x2048x4x128 (constant S_ .f32 0x3DB504F3#32)))⟩] concatenates_S16x256x4x128_S16x2048x4x128_S16x2304x4x128_d1) shapeCasts_S16x2304x4x128_S16x2304x512) bitsLt_bf16_f32 = refQ (V0 (Proc.devRef .tc main_arg0)) (V0 (Proc.devRef .tc main_arg1)) := rfl

/-- The reference's result is these steps of its arguments. -/
theorem resK (V0 : Valuation τ sig (Elt F)) : truncf .bf16 (shapeCast _ (concatenate S16x2304x4x128 1 [⟨S16x256x4x128, (mulf (res_main_v48 V0) (broadcastInDim S16x256x4x128 ![0, 1, 2, 3] bcast_S16x256x4x1_S16x256x4x128_0_1_2_3 (Host.rsqrt (addf (broadcastInDim S16x256x4x1 ![0, 1, 2] bcast_S16x256x4_S16x256x4x1_0_1_2 (Host.reduceAdd (mulf (res_main_v48 V0) (res_main_v48 V0)) (constant S_ .f32 0x00000000#32) reducesTo_S16x256x4x128_S16x256x4_d3 h_S_)) (broadcastInDim S16x256x4x1 ![] bcast_S_S16x256x4x1 (constant S_ .f32 0x358637BD#32))))))⟩, ⟨S16x2048x4x128, (concatenate S16x2048x4x128 3 [⟨S16x2048x4x64, (concatenate S16x2048x4x64 3 [⟨S16x2048x4x32, (subf (mulf (res_main_v189 V0) (broadcastInDim S16x2048x4x32 ![0, 1, 2, 3] bcast_S1x2048x1x32_S16x2048x4x32_0_1_2_3 (res_main_v186 V0))) (mulf (res_main_v190 V0) (broadcastInDim S16x2048x4x32 ![0, 1, 2, 3] bcast_S1x2048x1x32_S16x2048x4x32_0_1_2_3 (res_main_v188 V0))))⟩, ⟨S16x2048x4x32, (addf (mulf (res_main_v190 V0) (broadcastInDim S16x2048x4x32 ![0, 1, 2, 3] bcast_S1x2048x1x32_S16x2048x4x32_0_1_2_3 (res_main_v186 V0))) (mulf (res_main_v189 V0) (broadcastInDim S16x2048x4x32 ![0, 1, 2, 3] bcast_S1x2048x1x32_S16x2048x4x32_0_1_2_3 (res_main_v188 V0))))⟩] concatenates_S16x2048x4x32_S16x2048x4x32_S16x2048x4x64_d3)⟩, ⟨S16x2048x4x64, (concatenate S16x2048x4x64 3 [⟨S16x2048x4x32, (subf (mulf (res_main_v213 V0) (broadcastInDim S16x2048x4x32 ![0, 1, 2, 3] bcast_S1x2048x1x32_S16x2048x4x32_0_1_2_3 (res_main_v210 V0))) (mulf (res_main_v214 V0) (broadcastInDim S16x2048x4x32 ![0, 1, 2, 3] bcast_S1x2048x1x32_S16x2048x4x32_0_1_2_3 (res_main_v212 V0))))⟩, ⟨S16x2048x4x32, (addf (mulf (res_main_v214 V0) (broadcastInDim S16x2048x4x32 ![0, 1, 2, 3] bcast_S1x2048x1x32_S16x2048x4x32_0_1_2_3 (res_main_v210 V0))) (mulf (res_main_v213 V0) (broadcastInDim S16x2048x4x32 ![0, 1, 2, 3] bcast_S1x2048x1x32_S16x2048x4x32_0_1_2_3 (res_main_v212 V0))))⟩] concatenates_S16x2048x4x32_S16x2048x4x32_S16x2048x4x64_d3)⟩] concatenates_S16x2048x4x64_S16x2048x4x64_S16x2048x4x128_d3)⟩] concatenates_S16x256x4x128_S16x2048x4x128_S16x2304x4x128_d1) shapeCasts_S16x2304x4x128_S16x2304x512) bitsLt_bf16_f32 = refK (V0 (Proc.devRef .tc main_arg0)) (V0 (Proc.devRef .tc main_arg1)) := rfl

/-- The reference's result is these steps of its arguments. -/
theorem resV (V0 : Valuation τ sig (Elt F)) : truncf .bf16 (shapeCast _ (concatenate S16x2304x4x128 1 [⟨S16x256x4x128, (shapeCast _ (extractStridedSlice S16x256x1x4x128 ![0, 0, 2, 0, 0] (res_main_v36 V0) slices_S16x256x3x4x128_S16x256x1x4x128_0_0_2_0_0) shapeCasts_S16x256x1x4x128_S16x256x4x128)⟩, ⟨S16x2048x4x128, (shapeCast _ (extractStridedSlice S16x2048x1x4x128 ![0, 0, 2, 0, 0] (res_main_v94 V0) slices_S16x2048x3x4x128_S16x2048x1x4x128_0_0_2_0_0) shapeCasts_S16x2048x1x4x128_S16x2048x4x128)⟩] concatenates_S16x256x4x128_S16x2048x4x128_S16x2304x4x128_d1) shapeCasts_S16x2304x4x128_S16x2304x512) bitsLt_bf16_f32 = refV (V0 (Proc.devRef .tc main_arg0)) (V0 (Proc.devRef .tc main_arg1)) := rfl

end

end Cert.Prep

end
-- ==== Proof.Prep.Claim.lean ====
/- The preparation: the kernel and the reference end at the same three results. -/
module

public import proofs.«01_k».proof.Proof.Prep.Tie
public import proofs.«01_k».proof.Proof.Prep.Res
public import proofs.«01_k».proof.Proof.Attn.Claim
public import proofs.«01_k».proof.Proof.Finite
public import proofs.«01_k».proof.Proof.Gen.Pre_finite_conv

@[expose] public section

set_option maxRecDepth 16384

noncomputable section

namespace Cert.Prep

open Cert.KernelPrepIdeal Idealize.ShloMosaic Idealize.ShloMosaic.TcCoe Idealize.SL.Sem

section
variable (m : (ℓ : Loc nD τ sig) → Buf (Elt Ideal) ℓ)

/-- Under the precondition every projected token is a real number. -/
theorem finite_x (h : Cert.Pre_KernelPrepIdeal_finite_conv m) (c : Dev nD) (i : S16x2304x8192.Idx) : ∃ y : ℝ, @Eq EReal (X m c i) y := by
  have h1 := congrFun (h c) (fun a => a.elim0)
  dsimp only [Cert.Pre_finite_conv.fn] at h1
  exact Cert.Finite.real_of_lt _ (Host.reduce_andi_all _ _ _ _ _ (Cert.Attn.and_one _ _ h1).1 i)

/-- Under the precondition every weight of the convolution is a real number. -/
theorem finite_w (h : Cert.Pre_KernelPrepIdeal_finite_conv m) (c : Dev nD) (i : S4x1536.Idx) : ∃ y : ℝ, @Eq EReal (W m c i) y := by
  have h1 := congrFun (h c) (fun a => a.elim0)
  dsimp only [Cert.Pre_finite_conv.fn] at h1
  exact Cert.Finite.real_of_lt _ (Host.reduce_andi_all _ _ _ _ _ (Cert.Attn.and_one _ _ h1).2 i)

end

/-- The kernel's and the reference's queries, keys and values are the same arrays. -/
theorem algebraic : Cert.algebraic_KernelPrepIdeal_ReferencePrepIdeal_pre_finite_conv := by
  intro m ρ m' ρ' hpre hag
  refine ⟨fun c => refQ (F := Ideal) (X m c) (W m c), fun c => refK (F := Ideal) (X m c) (W m c), fun c => refV (F := Ideal) (X m c) (W m c), ?_, ?_⟩
  · exact (θ_run _ _ _).mono (fun _ h c => ⟨(h c).1.trans (arr8_eq m c (finite_x m hpre c) (finite_w m hpre c)),
        (h c).2.1.trans (arr9_eq m c (finite_x m hpre c) (finite_w m hpre c)),
        (h c).2.2.1.trans (arr10_eq m c (finite_x m hpre c) (finite_w m hpre c)), (h c).2.2.2⟩)
      (Cert.KernelPrepIdeal.Value.run_blocks (F := Ideal) m ρ)
  · refine (θ_run _ _ _).mono (fun _ h c => ⟨(h c).1.trans ?_, (h c).2.1.trans ?_, (h c).2.2.1.trans ?_, (h c).2.2.2⟩)
      (Cert.ReferencePrepIdeal.Value.run (F := Ideal) m' ρ')
    · obtain ⟨e0, e1⟩ := hag c
      refine (resQ _).trans ?_
      exact congrArg₂ (fun x w => refQ (F := Ideal) x w) e0 e1
    · obtain ⟨e0, e1⟩ := hag c
      refine (resK _).trans ?_
      exact congrArg₂ (fun x w => refK (F := Ideal) x w) e0 e1
    · obtain ⟨e0, e1⟩ := hag c
      refine (resV _).trans ?_
      exact congrArg₂ (fun x w => refV (F := Ideal) x w) e0 e1

end Cert.Prep

end
-- ==== Proof.Merge.Kern.lean ====
/- What one block of the merge's kernel stores, read at a token of the block. -/
module

public import proofs.«01_k».proof.Proof.Gen.KernelMergeIdeal.Value
public import proofs.«01_k».proof.Proof.Merge.Spec
public import Idealize.ShloMosaic.Lib.Tactic.CleanTypes

@[expose] public section

set_option maxRecDepth 16384

noncomputable section

namespace Cert.Merge

open Cert.KernelMergeIdeal Cert.KernelMergeIdeal.Gen Idealize.ShloMosaic

/-- A head's normalised entry, its columns given by any index that runs over the head. -/
theorem specA_of (o : Fin 512 → EReal) (g : Fin 128 → EReal) (e e' : Fin 512) (q : Fin 128) (f : Fin 128 → Fin 512) (he : e'.val = e.val)
    (hq : q.val = e.val % 128) (hf : ∀ x, (f x).val = e.val / 128 * 128 + x.val) :
    o e' * Ideal.rsqrt (Ideal.div (∑ x : Fin 128, o (f x) * o (f x)) (Ideal.ofBits FTy.f32 1124073472#32)
      + Ideal.ofBits FTy.f32 897988541#32) * g q = specA o g e := by
  obtain rfl : e' = e := Fin.ext he
  have e1 : q = ⟨e'.val % 128, by omega⟩ := Fin.ext hq
  have e2 : f = fun x => ⟨e'.val / 128 * 128 + x.val, by omega⟩ := funext fun x => Fin.ext (hf x)
  rw [e1, e2]
  rfl

/-- The first branch's row: the normalised heads times the kernel's spelling of the gate. -/
theorem pay7_at (x0 : Vec Ideal S1x256x512 .f32) (x9 : Vec Ideal S1x128 .f32) (x3 : Vec Ideal S1x256x512 .bf16) (r : Fin 256) (e : Fin 512)
    (hx : ∃ y : ℝ, (x3 (ix3 0 r e) : EReal) = y) :
    k0_pay7 (F := Ideal) (k0_pay2 x0) (k0_pay3 x0 x9) (k0_pay4 x0 x9) (k0_pay5 x0) (k0_pay6 x0) x9 x9 x3 (ix2 r e)
      = specA (fun e => x0 (ix3 0 r e)) (fun e => x9 (ix2 0 e)) e * sl (x3 (ix3 0 r e)) := by
  pointwise [k0_pay7, k0_pay2, k0_pay3, k0_pay4, k0_pay5, k0_pay6]
  refine congrArg₂ (fun a c : EReal => a * c) ?_ (tanh_sl _ hx)
  by_cases h1 : e.val < 128
  · rw [dif_pos h1]
    exact specA_of (fun e => x0 (ix3 0 r e)) (fun e => x9 (ix2 0 e)) e e ⟨e.val, h1⟩ (fun x => ⟨x.val, by omega⟩) rfl
      (by show e.val = _; omega) (fun x => by show x.val = _; omega)
  rw [dif_neg h1]
  by_cases h2 : e.val - 128 < 128
  · rw [dif_pos h2]
    exact specA_of (fun e => x0 (ix3 0 r e)) (fun e => x9 (ix2 0 e)) e ⟨128 + (e.val - 128), by omega⟩ ⟨e.val - 128, h2⟩
      (fun x => ⟨128 + x.val, by omega⟩) (by show 128 + (e.val - 128) = _; omega) (by show e.val - 128 = _; omega)
      (fun x => by show 128 + x.val = _; omega)
  rw [dif_neg h2]
  by_cases h3 : e.val - 128 - 128 < 128
  · rw [dif_pos h3]
    exact specA_of (fun e => x0 (ix3 0 r e)) (fun e => x9 (ix2 0 e)) e ⟨256 + (e.val - 128 - 128), by omega⟩ ⟨e.val - 128 - 128, h3⟩
      (fun x => ⟨256 + x.val, by omega⟩) (by show 256 + (e.val - 128 - 128) = _; omega) (by show e.val - 128 - 128 = _; omega)
      (fun x => by show 256 + x.val = _; omega)
  · rw [dif_neg h3]
    exact specA_of (fun e => x0 (ix3 0 r e)) (fun e => x9 (ix2 0 e)) e ⟨384 + (e.val - 128 - 128 - 128), by omega⟩
      ⟨e.val - 128 - 128 - 128, by omega⟩ (fun x => ⟨384 + x.val, by omega⟩) (by show 384 + (e.val - 128 - 128 - 128) = _; omega)
      (by show e.val - 128 - 128 - 128 = _; omega) (fun x => by show 384 + x.val = _; omega)

theorem pay8_at (x : Vec Ideal S1x256x512 .f32) (y : Vec Ideal S1x256x512 .bf16) (r : Fin 256) (e : Fin 512)
    (hy : ∃ z : ℝ, (y (ix3 0 r e) : EReal) = z) :
    k0_pay8 (F := Ideal) x y (ix2 r e) = (x (ix3 0 r e) * sl (y (ix3 0 r e)) : EReal) := by
  pointwise [k0_pay8]
  exact congrArg (fun a : EReal => x (ix3 0 r e) * a) (tanh_sl _ hy)

theorem pay9_at (x : Vec Ideal S1x256x512 .f32) (y : Vec Ideal S1x256x512 .bf16) (r : Fin 256) (e : Fin 512)
    (hy : ∃ z : ℝ, (y (ix3 0 r e) : EReal) = z) :
    k0_pay9 (F := Ideal) x y (ix2 r e) = (x (ix3 0 r e) * sl (y (ix3 0 r e)) : EReal) := by
  pointwise [k0_pay9]
  exact congrArg (fun a : EReal => x (ix3 0 r e) * a) (tanh_sl _ hy)

/-- The normalised output row of a block's token, from the three branches' rows. -/
theorem pay13_at (v93 v71 v82 : FVec Ideal S256x512 .f32) (x6 x7 x8 : Vec Ideal S1x256x1024 .bf16) (w0 w1 w2 : Vec Ideal S1x512x1024 .bf16)
    (x11 : Vec Ideal S1024x1024 .bf16) (x13 : Vec Ideal S1x1024 .f32) (r : Fin 256) (k : Fin 1024) :
    k0_pay13 (F := Ideal) v93 (k0_pay10 v71 x6 w0) (k0_pay11 x7) (k0_pay12 v82) w1 x8 w2 x11 x13 (ix2 r k)
      = specN (specY (specM (fun x => v71 (ix2 r x)) (fun x => v82 (ix2 r x)) (fun x => v93 (ix2 r x))
          (fun k => sg (x6 (ix3 0 r k))) (fun k => sg (x7 (ix3 0 r k))) (fun k => sg (x8 (ix3 0 r k)))
          ![fun x k => w0 (ix3 0 x k), fun x k => w1 (ix3 0 x k), fun x k => w2 (ix3 0 x k)]) (fun x k => x11 (ix2 x k)))
          (fun k => x13 (ix2 0 k)) k := by
  simp only [← tanh_sg]
  pointwise [k0_pay13, k0_pay10, k0_pay11, k0_pay12]
  rfl

theorem pay1_at (w : BitVec 32) (v : FVec Ideal S256x1024 .f32) (a : Vec Ideal S1x1024 .f32) (b : Vec Ideal S1x1x1024 .f32)
    (x : Vec Ideal S1x256x1024 .f32) (r : Fin 256) (k : Fin 1024) :
    k0_pay1 (F := Ideal) w v a b x (ix3 0 r k)
      = (x (ix3 0 r k) + Scalar.select (Scalar.cmpi CmpIPredicate.slt (Scalar.addi w 0#32) 1#32) (a (ix2 0 k) : EReal) (b (ix3 0 0 k))
          * v (ix2 r k) : EReal) := by
  pointwise [k0_pay1]

end Cert.Merge

end
-- ==== Proof.Merge.Ref.lean ====
/- The reference of the merge, as named steps of its result term. -/
module

public import proofs.«01_k».proof.Proof.Gen.ReferenceMergeIdeal.Run
public import Idealize.ShloMosaic.Lib.Pointwise
public import Idealize.ShloMosaic.Lib.Tactic.CleanTypes

@[expose] public section

set_option maxRecDepth 16384

noncomputable section

namespace Cert.Merge

open Cert.ReferenceMergeIdeal Cert.ReferenceMergeIdeal.Gen Cert.ReferenceMergeIdeal.Value Idealize.ShloMosaic
open Idealize.ShloMosaic.TcCoe

section
variable {F : FTy → Type} [FloatOps F]
variable (x0 x1 x2 : FVec F S16x2304x512 .f32) (x3 : FVec F S16x2304x8192 .bf16) (x4 : FVec F S128 .f32)
  (x5 : FVec F S3x512x1024 .f32) (x6 : FVec F S1024x1024 .f32) (x7 : FVec F S16x2304x1024 .f32) (x8 : FVec F S1024 .f32)
  (x9 : FVec F S16x3072 .f32) (x10 : FVec F S1x3072 .f32)

/-- The normalised heads of the first branch. -/
def refA : FVec F S16x2304x512 .f32 :=
  (shapeCast _ (mulf (mulf (shapeCast _ x0 shapeCasts_S16x2304x512_S16x2304x4x128) (broadcastInDim S16x2304x4x128 ![0, 1, 2, 3] bcast_S16x2304x4x1_S16x2304x4x128_0_1_2_3 (Host.rsqrt (addf (Host.divf (broadcastInDim S16x2304x4x1 ![0, 1, 2] bcast_S16x2304x4_S16x2304x4x1_0_1_2 (Host.reduceAdd (mulf (shapeCast _ x0 shapeCasts_S16x2304x512_S16x2304x4x128) (shapeCast _ x0 shapeCasts_S16x2304x512_S16x2304x4x128)) (constant S_ .f32 0x00000000#32) reducesTo_S16x2304x4x128_S16x2304x4_d3 h_S_)) (broadcastInDim S16x2304x4x1 ![] bcast_S_S16x2304x4x1 (constant S_ .f32 0x43000000#32))) (broadcastInDim S16x2304x4x1 ![] bcast_S_S16x2304x4x1 (constant S_ .f32 0x358637BD#32)))))) (broadcastInDim S16x2304x4x128 ![0, 1, 2, 3] bcast_S1x1x1x128_S16x2304x4x128_0_1_2_3 (broadcastInDim S1x1x1x128 ![3] bcast_S128_S1x1x1x128_3 x4))) shapeCasts_S16x2304x4x128_S16x2304x512)

/-- The gates of the branches. -/
def refGates : FVec F S16x2304x3x1024 .f32 :=
  (Host.divf (broadcastInDim S16x2304x3x1024 ![] bcast_S_S16x2304x3x1024 (constant S_ .f32 0x3F800000#32)) (addf (broadcastInDim S16x2304x3x1024 ![] bcast_S_S16x2304x3x1024 (constant S_ .f32 0x3F800000#32)) (Host.exp (Host.negf (shapeCast _ (extractStridedSlice S16x2304x3072 ![0, 0, 5120] (extf .f32 x3 bitsLt_bf16_f32) slices_S16x2304x8192_S16x2304x3072_0_0_5120) shapeCasts_S16x2304x3072_S16x2304x3x1024)))))

/-- The gated sum of the branches, the first branch's normalised heads given. -/
def refMerged (A : FVec F S16x2304x512 .f32) : FVec F S16x2304x1024 .f32 :=
  (addf (addf (mulf (shapeCast _ (extractStridedSlice S16x2304x1x1024 ![0, 0, 0, 0] (refGates x3) slices_S16x2304x3x1024_S16x2304x1x1024_0_0_0_0) shapeCasts_S16x2304x1x1024_S16x2304x1024) (Host.dotGeneral dot_S16x2304x512_S512x1024_S16x2304x1024_2_0_01_1_n_n none (mulf A (mulf (extractStridedSlice S16x2304x512 ![0, 0, 1536] (extf .f32 x3 bitsLt_bf16_f32) slices_S16x2304x8192_S16x2304x512_0_0_1536) (Host.divf (broadcastInDim S16x2304x512 ![] bcast_S_S16x2304x512 (constant S_ .f32 0x3F800000#32)) (addf (broadcastInDim S16x2304x512 ![] bcast_S_S16x2304x512 (constant S_ .f32 0x3F800000#32)) (Host.exp (Host.negf (extractStridedSlice S16x2304x512 ![0, 0, 1536] (extf .f32 x3 bitsLt_bf16_f32) slices_S16x2304x8192_S16x2304x512_0_0_1536))))))) (shapeCast _ (extractStridedSlice S1x512x1024 ![0, 0, 0] x5 slices_S3x512x1024_S1x512x1024_0_0_0) shapeCasts_S1x512x1024_S512x1024))) (mulf (shapeCast _ (extractStridedSlice S16x2304x1x1024 ![0, 0, 1, 0] (refGates x3) slices_S16x2304x3x1024_S16x2304x1x1024_0_0_1_0) shapeCasts_S16x2304x1x1024_S16x2304x1024) (Host.dotGeneral dot_S16x2304x512_S512x1024_S16x2304x1024_2_0_01_1_n_n none (mulf x1 (mulf (extractStridedSlice S16x2304x512 ![0, 0, 2560] (extf .f32 x3 bitsLt_bf16_f32) slices_S16x2304x8192_S16x2304x512_0_0_2560) (Host.divf (broadcastInDim S16x2304x512 ![] bcast_S_S16x2304x512 (constant S_ .f32 0x3F800000#32)) (addf (broadcastInDim S16x2304x512 ![] bcast_S_S16x2304x512 (constant S_ .f32 0x3F800000#32)) (Host.exp (Host.negf (extractStridedSlice S16x2304x512 ![0, 0, 2560] (extf .f32 x3 bitsLt_bf16_f32) slices_S16x2304x8192_S16x2304x512_0_0_2560))))))) (shapeCast _ (extractStridedSlice S1x512x1024 ![1, 0, 0] x5 slices_S3x512x1024_S1x512x1024_1_0_0) shapeCasts_S1x512x1024_S512x1024)))) (mulf (shapeCast _ (extractStridedSlice S16x2304x1x1024 ![0, 0, 2, 0] (refGates x3) slices_S16x2304x3x1024_S16x2304x1x1024_0_0_2_0) shapeCasts_S16x2304x1x1024_S16x2304x1024) (Host.dotGeneral dot_S16x2304x512_S512x1024_S16x2304x1024_2_0_01_1_n_n none (mulf x2 (mulf (extractStridedSlice S16x2304x512 ![0, 0, 4608] (extf .f32 x3 bitsLt_bf16_f32) slices_S16x2304x8192_S16x2304x512_0_0_4608) (Host.divf (broadcastInDim S16x2304x512 ![] bcast_S_S16x2304x512 (constant S_ .f32 0x3F800000#32)) (addf (broadcastInDim S16x2304x512 ![] bcast_S_S16x2304x512 (constant S_ .f32 0x3F800000#32)) (Host.exp (Host.negf (extractStridedSlice S16x2304x512 ![0, 0, 4608] (extf .f32 x3 bitsLt_bf16_f32) slices_S16x2304x8192_S16x2304x512_0_0_4608))))))) (shapeCast _ (extractStridedSlice S1x512x1024 ![2, 0, 0] x5 slices_S3x512x1024_S1x512x1024_2_0_0) shapeCasts_S1x512x1024_S512x1024))))

/-- The merged branches times the output weights. -/
def refY : FVec F S16x2304x1024 .f32 :=
  Host.dotGeneral dot_S16x2304x1024_S1024x1024_S16x2304x1024_2_0_01_1_n_n none (refMerged x1 x2 x3 x5 (refA x0 x4)) x6

/-- The normalised output of given rows. -/
def refNorm (Y : FVec F S16x2304x1024 .f32) : FVec F S16x2304x1024 .f32 :=
  (mulf (mulf Y (broadcastInDim S16x2304x1024 ![0, 1, 2] bcast_S16x2304x1_S16x2304x1024_0_1_2 (Host.rsqrt (addf (Host.divf (broadcastInDim S16x2304x1 ![0, 1] bcast_S16x2304_S16x2304x1_0_1 (Host.reduceAdd (mulf Y Y) (constant S_ .f32 0x00000000#32) reducesTo_S16x2304x1024_S16x2304_d2 h_S_)) (broadcastInDim S16x2304x1 ![] bcast_S_S16x2304x1 (constant S_ .f32 0x44800000#32))) (broadcastInDim S16x2304x1 ![] bcast_S_S16x2304x1 (constant S_ .f32 0x358637BD#32)))))) (broadcastInDim S16x2304x1024 ![0, 1, 2] bcast_S1x1x1024_S16x2304x1024_0_1_2 (broadcastInDim S1x1x1024 ![2] bcast_S1024_S1x1x1024_2 x8)))

/-- The result, the normalised output given. -/
def refOut (N : FVec F S16x2304x1024 .f32) : FVec F S16x2304x1024 .f32 :=
  concatenate S16x2304x1024 1 [⟨S16x256x1024, (addf (extractStridedSlice S16x256x1024 ![0, 0, 0] x7 slices_S16x2304x1024_S16x256x1024_0_0_0) (mulf (broadcastInDim S16x256x1024 ![0, 1, 2] bcast_S1x1x1024_S16x256x1024_0_1_2 (broadcastInDim S1x1x1024 ![2] bcast_S1024_S1x1x1024_2 (shapeCast _ (extractStridedSlice S1x1024 ![0, 2048] x10 slices_S1x3072_S1x1024_0_2048) shapeCasts_S1x1024_S1024))) (extractStridedSlice S16x256x1024 ![0, 0, 0] N slices_S16x2304x1024_S16x256x1024_0_0_0)))⟩, ⟨S16x2048x1024, (addf (extractStridedSlice S16x2048x1024 ![0, 256, 0] x7 slices_S16x2304x1024_S16x2048x1024_0_256_0) (mulf (broadcastInDim S16x2048x1024 ![0, 1, 2] bcast_S16x1x1024_S16x2048x1024_0_1_2 (broadcastInDim S16x1x1024 ![0, 2] bcast_S16x1024_S16x1x1024_0_2 (extractStridedSlice S16x1024 ![0, 2048] x9 slices_S16x3072_S16x1024_0_2048))) (extractStridedSlice S16x2048x1024 ![0, 256, 0] N slices_S16x2304x1024_S16x2048x1024_0_256_0)))⟩] concatenates_S16x256x1024_S16x2048x1024_S16x2304x1024_d1

/-- The reference's result buffer is these steps of its arguments. -/
theorem res_eq (m : (ℓ : Loc nD τ sig) → Buf (Elt F) ℓ) (c : Dev nD) :
    res_main_v82 m c = refOut (m ((c.tc : Thread nD τ).loc main_arg7)) (m ((c.tc : Thread nD τ).loc main_arg9)) (m ((c.tc : Thread nD τ).loc main_arg10)) (refNorm (m ((c.tc : Thread nD τ).loc main_arg8)) (refY (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))) := rfl

end

end Cert.Merge

end
-- ==== Proof.Merge.RefAt.lean ====
/- The reference of the merge, read at a token. -/
module

public import proofs.«01_k».proof.Proof.Merge.Ref
public import proofs.«01_k».proof.Proof.Merge.Spec

@[expose] public section

set_option maxRecDepth 16384

noncomputable section

namespace Cert.Merge

open Cert.ReferenceMergeIdeal Cert.ReferenceMergeIdeal.Gen Cert.ReferenceMergeIdeal.Value Idealize.ShloMosaic
open Idealize.ShloMosaic.TcCoe

variable (x0 x1 x2 : FVec Ideal S16x2304x512 .f32) (x3 : FVec Ideal S16x2304x8192 .bf16) (x4 : FVec Ideal S128 .f32)
  (x5 : FVec Ideal S3x512x1024 .f32) (x6 : FVec Ideal S1024x1024 .f32) (x7 : FVec Ideal S16x2304x1024 .f32) (x8 : FVec Ideal S1024 .f32)
  (x9 : FVec Ideal S16x3072 .f32) (x10 : FVec Ideal S1x3072 .f32)

theorem refA_at (b : Fin 16) (l : Fin 2304) (e : Fin 512) :
    refA x0 x4 (ix3 b l e) = specA (fun e => x0 (ix3 b l e)) (fun e => x4 (ix1 e)) e := by
  unfold refA
  clean_types
  pointwise
  rfl

/-- The merged row of token `l`, the first branch being `A`. -/
def mRow (A : Fin 512 → EReal) (b : Fin 16) (l : Fin 2304) : Fin 1024 → EReal :=
  specM (fun x => A x * sl (x3 (ix3 b l ⟨1536 + x.val, by omega⟩)))
    (fun x => x1 (ix3 b l x) * sl (x3 (ix3 b l ⟨2560 + x.val, by omega⟩)))
    (fun x => x2 (ix3 b l x) * sl (x3 (ix3 b l ⟨4608 + x.val, by omega⟩)))
    (fun k => sg (x3 (ix3 b l ⟨5120 + k.val, by omega⟩))) (fun k => sg (x3 (ix3 b l ⟨6144 + k.val, by omega⟩)))
    (fun k => sg (x3 (ix3 b l ⟨7168 + k.val, by omega⟩))) (fun t x k => x5 (ix3 t x k))

theorem refMerged_at (A : FVec Ideal S16x2304x512 .f32) (b : Fin 16) (l : Fin 2304) (e : Fin 1024) :
    refMerged x1 x2 x3 x5 A (ix3 b l e) = mRow x1 x2 x3 x5 (fun x => A (ix3 b l x)) b l e := by
  unfold refMerged
  clean_types
  pointwise [refGates]
  have e1 : 5120 + (1024 + e.val) = 6144 + e.val := by omega
  have e2 : 5120 + (2048 + e.val) = 7168 + e.val := by omega
  simp only [e1, e2]
  rfl

theorem refNorm_at (Y : FVec Ideal S16x2304x1024 .f32) (b : Fin 16) (l : Fin 2304) (e : Fin 1024) :
    refNorm x8 Y (ix3 b l e) = specN (fun k => Y (ix3 b l k)) (fun k => x8 (ix1 k)) e := by
  unfold refNorm
  clean_types
  pointwise
  rfl

theorem refY_at (b : Fin 16) (l : Fin 2304) (e : Fin 1024) :
    refY x0 x1 x2 x3 x4 x5 x6 (ix3 b l e)
      = specY (mRow x1 x2 x3 x5 (specA (fun e => x0 (ix3 b l e)) (fun e => x4 (ix1 e))) b l) (fun x k => x6 (ix2 x k)) e := by
  unfold refY
  pointwise
  unfold specY
  refine Finset.sum_congr rfl fun x _ => ?_
  rw [refMerged_at]
  simp only [refA_at]

/-- The result row of token `l`, without the residual and its gate. -/
def nRow (b : Fin 16) (l : Fin 2304) : Fin 1024 → EReal :=
  specN (specY (mRow x1 x2 x3 x5 (specA (fun e => x0 (ix3 b l e)) (fun e => x4 (ix1 e))) b l) (fun x k => x6 (ix2 x k)))
    (fun k => x8 (ix1 k))

/-- The reference's result at a token: the residual plus the gate of its kind of token times the normalised row. -/
theorem ref_at (b : Fin 16) (l : Fin 2304) (k : Fin 1024) :
    refOut x7 x9 x10 (refNorm x8 (refY x0 x1 x2 x3 x4 x5 x6)) (ix3 b l k)
      = x7 (ix3 b l k) + (if l.val < 256 then x10 (ix2 0 ⟨2048 + k.val, by omega⟩) else x9 (ix2 b ⟨2048 + k.val, by omega⟩))
          * nRow x0 x1 x2 x3 x4 x5 x6 x8 b l k := by
  have hN : ∀ l, refNorm x8 (refY x0 x1 x2 x3 x4 x5 x6) (ix3 b l k) = nRow x0 x1 x2 x3 x4 x5 x6 x8 b l k := fun l => by
    rw [refNorm_at]
    simp only [refY_at]
    rfl
  unfold refOut
  clean_types
  pointwise
  by_cases h : l.val < 256
  · rw [dif_pos h, if_pos h, hN]
  · have e : (⟨256 + (l.val - 256), by omega⟩ : Fin 2304) = l := Fin.ext (by show 256 + (l.val - 256) = l.val; omega)
    rw [dif_neg h, if_neg h, e, hN]

end Cert.Merge

end
-- ==== Proof.Merge.Tie.lean ====
/- The kernel's result array is the reference's result term. -/
module

public import proofs.«01_k».proof.Proof.Merge.Kern
public import proofs.«01_k».proof.Proof.Merge.RefAt
public import proofs.«01_k».proof.Defs
public import Idealize.ShloMosaic.Lib.Pipeline.ValueKit
public import Idealize.ShloMosaic.Lib.Pipeline.ValueKit.Point

@[expose] public section

set_option maxRecDepth 16384

noncomputable section

namespace Cert.Merge

open Cert.KernelMergeIdeal Cert.KernelMergeIdeal.Gen Cert.KernelMergeIdeal.Value Idealize.ShloMosaic Idealize.ShloMosaic.TcCoe

variable (m : (ℓ : Loc nD τ sig) → Buf (Elt Ideal) ℓ)

/-- The sequence of a grid point. -/
def bb (t : Fin cfg0.grid.N) : Fin 16 := grid0.coords t 0
/-- The tile of 256 tokens of a grid point. -/
def jj (t : Fin cfg0.grid.N) : Fin 9 := grid0.coords t 1
/-- The token at row `r` of a grid point's tile. -/
def ll (t : Fin cfg0.grid.N) (r : Fin 256) : Fin 2304 := ⟨256 * (jj t).val + r.val, by have := (jj t).isLt; omega⟩

theorem idx_tok : ∀ t : Fin grid0.N, win0_0.index t = ![(bb t).val, (jj t).val, 0] ∧ win0_1.index t = ![(bb t).val, (jj t).val, 0]
    ∧ win0_2.index t = ![(bb t).val, (jj t).val, 0] ∧ win0_3.index t = ![(bb t).val, (jj t).val, 3]
    ∧ win0_4.index t = ![(bb t).val, (jj t).val, 5] ∧ win0_5.index t = ![(bb t).val, (jj t).val, 9]
    ∧ win0_6.index t = ![(bb t).val, (jj t).val, 5] ∧ win0_7.index t = ![(bb t).val, (jj t).val, 6]
    ∧ win0_8.index t = ![(bb t).val, (jj t).val, 7] ∧ win0_12.index t = ![(bb t).val, (jj t).val, 0]
    ∧ win0_16.index t = ![(bb t).val, (jj t).val, 0] ∧ win0_14.index t = ![(bb t).val, 0, 0] := by decide +kernel

theorem idx_const : ∀ t : Fin grid0.N, win0_9.index t = ![0, 0] ∧ win0_10.index t = ![0, 0, 0] ∧ win0_11.index t = ![0, 0]
    ∧ win0_13.index t = ![0, 0] ∧ win0_15.index t = ![0, 0] := by decide +kernel

theorem blk0 (c : Dev nD) (t : Fin cfg0.N) (r : Fin 256) (e : Fin 512) :
    iblk m c 0 t (ix3 0 r e) = m ((c : Thread nD τ).loc main_arg0) (ix3 (bb t) (ll t r) e) := by
  blk_ext [iblk, V, idx_tok t, bb, jj, ll]

theorem blk1 (c : Dev nD) (t : Fin cfg0.N) (r : Fin 256) (e : Fin 512) :
    iblk m c 1 t (ix3 0 r e) = m ((c : Thread nD τ).loc main_arg1) (ix3 (bb t) (ll t r) e) := by
  blk_ext [iblk, V, idx_tok t, bb, jj, ll]

theorem blk2 (c : Dev nD) (t : Fin cfg0.N) (r : Fin 256) (e : Fin 512) :
    iblk m c 2 t (ix3 0 r e) = m ((c : Thread nD τ).loc main_arg2) (ix3 (bb t) (ll t r) e) := by
  blk_ext [iblk, V, idx_tok t, bb, jj, ll]

theorem blk3 (c : Dev nD) (t : Fin cfg0.N) (r : Fin 256) (e : Fin 512) :
    iblk m c 3 t (ix3 0 r e) = m ((c : Thread nD τ).loc main_arg3) (ix3 (bb t) (ll t r) ⟨1536 + e.val, by omega⟩) := by
  blk_ext [iblk, V, idx_tok t, bb, jj, ll]

theorem blk4 (c : Dev nD) (t : Fin cfg0.N) (r : Fin 256) (e : Fin 512) :
    iblk m c 4 t (ix3 0 r e) = m ((c : Thread nD τ).loc main_arg3) (ix3 (bb t) (ll t r) ⟨2560 + e.val, by omega⟩) := by
  blk_ext [iblk, V, idx_tok t, bb, jj, ll]

theorem blk5 (c : Dev nD) (t : Fin cfg0.N) (r : Fin 256) (e : Fin 512) :
    iblk m c 5 t (ix3 0 r e) = m ((c : Thread nD τ).loc main_arg3) (ix3 (bb t) (ll t r) ⟨4608 + e.val, by omega⟩) := by
  blk_ext [iblk, V, idx_tok t, bb, jj, ll]

theorem blk6 (c : Dev nD) (t : Fin cfg0.N) (r : Fin 256) (e : Fin 1024) :
    iblk m c 6 t (ix3 0 r e) = m ((c : Thread nD τ).loc main_arg3) (ix3 (bb t) (ll t r) ⟨5120 + e.val, by omega⟩) := by
  blk_ext [iblk, V, idx_tok t, bb, jj, ll]

theorem blk7 (c : Dev nD) (t : Fin cfg0.N) (r : Fin 256) (e : Fin 1024) :
    iblk m c 7 t (ix3 0 r e) = m ((c : Thread nD τ).loc main_arg3) (ix3 (bb t) (ll t r) ⟨6144 + e.val, by omega⟩) := by
  blk_ext [iblk, V, idx_tok t, bb, jj, ll]

theorem blk8 (c : Dev nD) (t : Fin cfg0.N) (r : Fin 256) (e : Fin 1024) :
    iblk m c 8 t (ix3 0 r e) = m ((c : Thread nD τ).loc main_arg3) (ix3 (bb t) (ll t r) ⟨7168 + e.val, by omega⟩) := by
  blk_ext [iblk, V, idx_tok t, bb, jj, ll]

theorem blk12 (c : Dev nD) (t : Fin cfg0.N) (r : Fin 256) (e : Fin 1024) :
    iblk m c 12 t (ix3 0 r e) = m ((c : Thread nD τ).loc main_arg7) (ix3 (bb t) (ll t r) e) := by
  blk_ext [iblk, V, idx_tok t, bb, jj, ll]

theorem blk9 (c : Dev nD) (t : Fin cfg0.N) (e : Fin 128) :
    iblk m c 9 t (ix2 0 e) = m ((c : Thread nD τ).loc main_arg4) (ix1 e) := by
  blk_ext! [iblk, V, idx_const t, bb, jj, ll]

theorem blk10 (c : Dev nD) (t : Fin cfg0.N) (x : Fin 3) (e : Fin 512) (k : Fin 1024) :
    iblk m c 10 t (ix3 x e k) = m ((c : Thread nD τ).loc main_arg5) (ix3 x e k) := by
  blk_ext! [iblk, V, idx_const t, bb, jj, ll]

theorem blk11 (c : Dev nD) (t : Fin cfg0.N) (e : Fin 1024) (k : Fin 1024) :
    iblk m c 11 t (ix2 e k) = m ((c : Thread nD τ).loc main_arg6) (ix2 e k) := by
  blk_ext! [iblk, V, idx_const t, bb, jj, ll]

theorem blk13 (c : Dev nD) (t : Fin cfg0.N) (k : Fin 1024) :
    iblk m c 13 t (ix2 0 k) = m ((c : Thread nD τ).loc main_arg8) (ix1 k) := by
  blk_ext! [iblk, V, idx_const t, bb, jj, ll]

theorem blk14 (c : Dev nD) (t : Fin cfg0.N) (k : Fin 1024) :
    iblk m c 14 t (ix3 0 0 k) = m ((c : Thread nD τ).loc main_arg9) (ix2 (bb t) ⟨2048 + k.val, by omega⟩) := by
  blk_ext! [iblk, V, idx_tok t, bb, jj, ll]

theorem blk15 (c : Dev nD) (t : Fin cfg0.N) (k : Fin 1024) :
    iblk m c 15 t (ix2 0 k) = m ((c : Thread nD τ).loc main_arg10) (ix2 0 ⟨2048 + k.val, by omega⟩) := by
  blk_ext! [iblk, V, idx_const t, bb, jj, ll]

/-- Where a block's token lies in the result. -/
theorem emb16 (t : Fin cfg0.N) (r : Fin 256) (k : Fin 1024) :
    ((View.whole main_v7).slice (win0_16.rect t)).emb (ix3 0 r k) = ix3 (bb t) (ll t r) k := by
  blk_ext [idx_tok t, bb, jj, ll]

/-- The kernel's test for a tile of the context. -/
theorem sel_ctx : ∀ j : Fin 9, Scalar.cmpi CmpIPredicate.slt (Scalar.addi (BitVec.ofNat 32 j.val) 0#32) 1#32 = if j.val = 0 then 1#1 else 0#1 := by
  decide +kernel

theorem ld3 (c : Dev nD) (t : Fin cfg0.N) (e : Fin 512) (k : Fin 1024) :
    View.ld (iblk m c 10 t) r0_3 (ix3 0 e k) = m ((c : Thread nD τ).loc main_arg5) (ix3 0 e k) := by
  refine Eq.trans ?_ (blk10 m c t 0 e k)
  pointwise
theorem ld4 (c : Dev nD) (t : Fin cfg0.N) (e : Fin 512) (k : Fin 1024) :
    View.ld (iblk m c 10 t) r0_4 (ix3 0 e k) = m ((c : Thread nD τ).loc main_arg5) (ix3 1 e k) := by
  refine Eq.trans ?_ (blk10 m c t 1 e k)
  pointwise
theorem ld5 (c : Dev nD) (t : Fin cfg0.N) (e : Fin 512) (k : Fin 1024) :
    View.ld (iblk m c 10 t) r0_5 (ix3 0 e k) = m ((c : Thread nD τ).loc main_arg5) (ix3 2 e k) := by
  refine Eq.trans ?_ (blk10 m c t 2 e k)
  pointwise

/-- The merged row depends on its parts alone. -/
theorem specM_congr {A B C A' B' C' : Fin 512 → EReal} {a b d a' b' d' : Fin 1024 → EReal} {w w' : Fin 3 → Fin 512 → Fin 1024 → EReal}
    (h1 : ∀ x, A x = A' x) (h2 : ∀ x, B x = B' x) (h3 : ∀ x, C x = C' x) (h4 : ∀ x, a x = a' x) (h5 : ∀ x, b x = b' x) (h6 : ∀ x, d x = d' x)
    (h7 : ∀ x k, w 0 x k = w' 0 x k) (h8 : ∀ x k, w 1 x k = w' 1 x k) (h9 : ∀ x k, w 2 x k = w' 2 x k) :
    specM A B C a b d w = specM A' B' C' a' b' d' w' := by
  funext k
  simp only [specM, h1, h2, h3, h4, h5, h6, h7, h8, h9]

/-- The reference's result term over the kernel's arguments. -/
def G (c : Dev nD) : S16x2304x1024.Idx → EReal :=
  refOut (F := Ideal) (m ((c : Thread nD τ).loc main_arg7)) (m ((c : Thread nD τ).loc main_arg9)) (m ((c : Thread nD τ).loc main_arg10))
    (refNorm (m ((c : Thread nD τ).loc main_arg8)) (refY (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6))))

/-- The kernel's result array, block by block. -/
theorem arr_eq (c : Dev nD) (hp : ∀ (c : Dev nD) i, ∃ y : ℝ, @Eq EReal (m ((c : Thread nD τ).loc main_arg3) i) y) :
    (dats m 0 c).arrAt 16 cfg0.N = G m c := by
  refine (dats m 0 c).arrAt_eq_of_covers 16 _ (by decide +kernel) fun t hf y => ?_
  blk_simp
  rw [after0_16]
  frame_out
  obtain ⟨r, k, rfl⟩ : ∃ (r : Fin 256) (k : Fin 1024), y = ix3 0 r k := by
    refine ⟨y 1, y 2, ?_⟩
    blk_ext []
  refine (pay1_at _ _ _ _ _ r k).trans ?_
  rw [emb16]
  refine Eq.trans ?_ (ref_at _ _ _ _ _ _ _ _ _ _ _ _ _ _).symm
  refine congrArg₂ (fun a b : EReal => a + b) (blk12 m c t r k) (congrArg₂ (fun a b : EReal => a * b) ?_ ?_)
  · rw [show BitVec.ofNat 32 (grid0.coords t 1).val = BitVec.ofNat 32 (jj t).val from rfl, sel_ctx (jj t)]
    by_cases h : (jj t).val = 0
    · rw [if_pos h, if_pos (by show 256 * (jj t).val + r.val < 256; omega)]
      exact blk15 m c t k
    · rw [if_neg h, if_neg (by show ¬ 256 * (jj t).val + r.val < 256; omega)]
      exact blk14 m c t k
  · refine (pay13_at _ _ _ _ _ _ _ _ _ _ _ r k).trans ?_
    unfold nRow mRow
    refine congrArg₂ (fun Y g => specN Y g k) (congrArg₂ (fun M w => specY M w) (specM_congr (fun x => ?_) (fun x => ?_) (fun x => ?_)
      (fun x => congrArg sg (blk6 m c t r x)) (fun x => congrArg sg (blk7 m c t r x)) (fun x => congrArg sg (blk8 m c t r x))
      (fun x k => ld3 m c t x k) (fun x k => ld4 m c t x k) (fun x k => ld5 m c t x k)) (funext fun x => funext fun k => blk11 m c t x k))
      (funext fun k => blk13 m c t k)
    · refine (pay7_at _ _ _ r x ?_).trans ?_
      · rw [blk3]; exact hp c _
      · refine congrArg₂ (fun a b : EReal => a * b) ?_ (congrArg sl (blk3 m c t r x))
        exact congrArg₂ (fun o g => specA o g x) (funext fun e => blk0 m c t r e) (funext fun e => blk9 m c t e)
    · refine (pay8_at _ _ r x ?_).trans ?_
      · rw [blk4]; exact hp c _
      · exact congrArg₂ (fun a b : EReal => a * b) (blk1 m c t r x) (congrArg sl (blk4 m c t r x))
    · refine (pay9_at _ _ r x ?_).trans ?_
      · rw [blk5]; exact hp c _
      · exact congrArg₂ (fun a b : EReal => a * b) (blk2 m c t r x) (congrArg sl (blk5 m c t r x))

end Cert.Merge

end
-- ==== Proof.Merge.Claim.lean ====
/- The merge: the kernel and the reference end at the same result. -/
module

public import proofs.«01_k».proof.Proof.Merge.Tie
public import proofs.«01_k».proof.Proof.Finite
public import proofs.«01_k».proof.Proof.Gen.Pre_finite_gates

@[expose] public section

set_option maxRecDepth 16384

noncomputable section

namespace Cert.Merge

open Idealize.ShloMosaic Idealize.ShloMosaic.TcCoe Idealize.SL.Sem

/-- Under the precondition every projected token is a real number. -/
theorem finite_p (m : (ℓ : Loc Cert.KernelMergeIdeal.nD Cert.KernelMergeIdeal.τ Cert.KernelMergeIdeal.sig) → Buf (Elt Ideal) ℓ)
    (h : Cert.Pre_KernelMergeIdeal_finite_gates m) (c : Dev Cert.KernelMergeIdeal.nD)
    (i : ((c : Thread Cert.KernelMergeIdeal.nD Cert.KernelMergeIdeal.τ).loc Cert.KernelMergeIdeal.main_arg3).ty.Idx) :
    ∃ y : ℝ, @Eq EReal (m ((c : Thread Cert.KernelMergeIdeal.nD Cert.KernelMergeIdeal.τ).loc Cert.KernelMergeIdeal.main_arg3) i) y := by
  have h1 := congrFun (h c) (fun a => a.elim0)
  dsimp only [Cert.Pre_finite_gates.fn] at h1
  exact Cert.Finite.real_of_lt _ (Host.reduce_andi_all _ _ _ _ _ h1 i)

/-- The kernel's and the reference's results are one array. -/
theorem algebraic : Cert.algebraic_KernelMergeIdeal_ReferenceMergeIdeal_pre_finite_gates := by
  intro m ρ m' ρ' hpre hag
  refine ⟨fun c => G m c, ?_, ?_⟩
  · exact (θ_run _ _ _).mono (fun _ h c => ⟨(h c).1.trans (arr_eq m c (finite_p m hpre)), (h c).2⟩)
      (Cert.KernelMergeIdeal.Value.run_blocks (F := Ideal) m ρ)
  · refine (θ_run _ _ _).mono (fun _ h c => ⟨(h c).1.trans ?_, (h c).2⟩) (Cert.ReferenceMergeIdeal.Value.run (F := Ideal) m' ρ')
    obtain ⟨e0, e1, e2, e3, e4, e5, e6, e7, e8, e9, e10⟩ := hag c
    refine (res_eq m' c).trans ?_
    unfold G
    rw [e0, e1, e2, e3, e4, e5, e6, e7, e8, e9, e10]

end Cert.Merge

end
-- ==== Proof.Proj.Base.lean ====
/- What the two runs of the input projection (idealized) share: the condition of the body's one conditional in closed form
   over the grid points, where the windows are idle, and the memrefs the body is called with. -/
module

public import proofs.«01_k».proof.Proof.Gen.KernelProjIdeal.Frame
public import proofs.«01_k».proof.Proof.Gen.KernelProjIdeal.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelProjIdeal.Body

open Cert.KernelProjIdeal Cert.KernelProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's condition: the column block is the first of its batch row. -/
abbrev first (i : grid0.Coords) : Prop := k0_cond1 i = 1#1

/-- It holds at the points divisible by 8. -/
theorem first_iff : ∀ t : Fin cfg0.N, first (grid0.coords t) ↔ t.val % 8 = 0 :=
  (fun t => by
    have ht : t.val < 128 := Nat.lt_of_lt_of_eq t.isLt N_0
    have e0 : (grid0.coords t 0).val = t.val / 8 % 16 := Pipeline.Grid.coords_val t 0 (by decide) rfl
    have e1 : (grid0.coords t 1).val = t.val / 1 % 8 := Pipeline.Grid.coords_val t 1 (by decide) rfl
    simp only [first, k0_cond1, e0, e1]
    word_cmp
   : ∀ t : Fin grid0.N, first (grid0.coords t) ↔ t.val % 8 = 0)

/-! ## Where the windows are idle: only the small result, away from the first column block -/

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
theorem live5 : ∀ t : Fin cfg0.N, cfg0.idle 5 (grid0.coords t) = false := fun _ => rfl
theorem live6 : ∀ t : Fin cfg0.N, cfg0.idle 6 (grid0.coords t) = false := fun _ => rfl
theorem live7 : ∀ t : Fin cfg0.N, first (grid0.coords t) → cfg0.idle 7 (grid0.coords t) = false := by decide +kernel
theorem idle7 : ∀ t : Fin cfg0.N, ¬first (grid0.coords t) → cfg0.idle 7 (grid0.coords t) = true := by decide +kernel

/-- Whether the small result's buffer holds nothing the body stored, position by position: at the points divisible by 8. -/
def fresh7 (n : ℕ) : Bool := n % 8 == 0
theorem fresh7_step : ∀ t : Fin cfg0.N,
    fresh7 (t.val + 1) = ((cfg0.win 7).flush t || (cfg0.idle 7 (cfg0.grid.coords t) && fresh7 t.val)) := by decide +kernel
theorem fresh7_eq (t : Fin cfg0.N) : cfg0.fresh 7 t.val = fresh7 t.val :=
  Pipeline.Cfg.fresh_tab cfg0 7 fresh7 rfl fresh7_step t.val (Nat.le_of_lt t.isLt)

/-! ## The memrefs of the body -/

/-- A staging buffer of each result, through which its contents are stated. -/
abbrev VO6 : View sig .tc .vmem S1x2304x1024 .bf16 := (Memref.whole cc0_stg6_0 : Memref sig .tc .vmem S1x2304x1024 .bf16).view
abbrev VO7 : View sig .tc .vmem S1x2304x128 .f32 := (Memref.whole cc0_stg7_0 : Memref sig .tc .vmem S1x2304x128 .f32).view
/-- The staging memref of window 0 at point `t`, and that it is a whole buffer. -/
abbrev ms0 (t : Fin cfg0.N) : Memref sig .tc .vmem S1x2304x1024 .f32 := win0_0.stage (cfg0.slots t 0)
abbrev hs0 (t : Fin cfg0.N) : (ms0 t).IsWhole := hstage0_0 ((cfg0.slots t 0).cast nbuf0_0)
/-- The staging memref of window 1 at point `t`, and that it is a whole buffer. -/
abbrev ms1 (t : Fin cfg0.N) : Memref sig .tc .vmem S1x1x3072 .f32 := win0_1.stage (cfg0.slots t 1)
abbrev hs1 (t : Fin cfg0.N) : (ms1 t).IsWhole := hstage0_1 ((cfg0.slots t 1).cast nbuf0_1)
/-- The staging memref of window 2 at point `t`, and that it is a whole buffer. -/
abbrev ms2 (t : Fin cfg0.N) : Memref sig .tc .vmem S1x3072 .f32 := win0_2.stage (cfg0.slots t 2)
abbrev hs2 (t : Fin cfg0.N) : (ms2 t).IsWhole := hstage0_2 ((cfg0.slots t 2).cast nbuf0_2)
/-- The staging memref of window 3 at point `t`, and that it is a whole buffer. -/
abbrev ms3 (t : Fin cfg0.N) : Memref sig .tc .vmem S1x1024 .f32 := win0_3.stage (cfg0.slots t 3)
abbrev hs3 (t : Fin cfg0.N) : (ms3 t).IsWhole := hstage0_3 ((cfg0.slots t 3).cast nbuf0_3)
/-- The staging memref of window 4 at point `t`, and that it is a whole buffer. -/
abbrev ms4 (t : Fin cfg0.N) : Memref sig .tc .vmem S1024x1024 .bf16 := win0_4.stage (cfg0.slots t 4)
abbrev hs4 (t : Fin cfg0.N) : (ms4 t).IsWhole := hstage0_4 ((cfg0.slots t 4).cast nbuf0_4)
/-- The staging memref of window 5 at point `t`, and that it is a whole buffer. -/
abbrev ms5 (t : Fin cfg0.N) : Memref sig .tc .vmem S1024x128 .bf16 := win0_5.stage (cfg0.slots t 5)
abbrev hs5 (t : Fin cfg0.N) : (ms5 t).IsWhole := hstage0_5 ((cfg0.slots t 5).cast nbuf0_5)
/-- The staging memref of window 6 at point `t`, and that it is a whole buffer. -/
abbrev ms6 (t : Fin cfg0.N) : Memref sig .tc .vmem S1x2304x1024 .bf16 := win0_6.stage (cfg0.slots t 6)
abbrev hs6 (t : Fin cfg0.N) : (ms6 t).IsWhole := hstage0_6 ((cfg0.slots t 6).cast nbuf0_6)
/-- The staging memref of window 7 at point `t`, and that it is a whole buffer. -/
abbrev ms7 (t : Fin cfg0.N) : Memref sig .tc .vmem S1x2304x128 .f32 := win0_7.stage (cfg0.slots t 7)
abbrev hs7 (t : Fin cfg0.N) : (ms7 t).IsWhole := hstage0_7 ((cfg0.slots t 7).cast nbuf0_7)
/-- The scratch that carries the normalised tokens along the row, and its view. -/
abbrev scM : Memref sig .tc .vmem S2304x1024 .bf16 := Memref.whole cc0_scratch0
abbrev VS : View sig .tc .vmem S2304x1024 .bf16 := scM.view

/-- The region's invariant at its entry: the scratch at anything and the generator register at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelProjIdeal.Body

end
-- ==== Proof.Proj.First.lean ====
/- The body of the input projection (idealized) at the first column block of a batch row: it normalises the tokens into the
   scratch, stores the small result and the first block of the large one. -/
module

public import proofs.«01_k».proof.Proof.Proj.Base

@[expose] public section

set_option maxRecDepth 16384

noncomputable section

namespace Cert.KernelProjIdeal.Body

open Cert.KernelProjIdeal Cert.KernelProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a point where the condition holds, on whole memrefs: it leaves its inputs as they were and its pieces
    written in the two results and in the scratch. The pieces are found by the run. -/
noncomputable def runFirst (c : Dev nD) (i : grid0.Coords) (arg2 : Memref sig .tc .vmem S1x2304x1024 .f32) (harg2 : arg2.IsWhole) (arg3 : Memref sig .tc .vmem S1x1x3072 .f32) (harg3 : arg3.IsWhole) (arg4 : Memref sig .tc .vmem S1x3072 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x128 .bf16) (harg7 : arg7.IsWhole) (arg8 : Memref sig .tc .vmem S1x2304x1024 .bf16) (harg8 : arg8.IsWhole) (arg9 : Memref sig .tc .vmem S1x2304x128 .f32) (harg9 : arg9.IsWhole) (arg10 : Memref sig .tc .vmem S2304x1024 .bf16) (harg10 : arg10.IsWhole) (hc0 : first i)
    (x0 : Vec F S1x2304x1024 .f32) (x1 : Vec F S1x1x3072 .f32) (x2 : Vec F S1x3072 .f32) (x3 : Vec F S1x1024 .f32) (x4 : Vec F S1024x1024 .bf16) (x5 : Vec F S1024x128 .bf16) :
    Σ' (L6 : List (View.Piece (Elt F) S1x2304x1024 .bf16)), Σ' (L7 : List (View.Piece (Elt F) S1x2304x128 .f32)), { LS : List (View.Piece (Elt F) S2304x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS)) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10) K } := by
  refine ⟨?_, ?_, ?_, fun E K => ?run⟩
  case run =>
    simp only [cc0_in_proj_eq_skeleton]; unfold cc0_in_proj_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexists _; iexact HS0

end Cert.KernelProjIdeal.Body

end
-- ==== Proof.Proj.Later.lean ====
/- The body of the input projection (idealized) at the other column blocks of a batch row: it reads the scratch and stores one
   block of the large result. -/
module

public import proofs.«01_k».proof.Proof.Proj.First

@[expose] public section

set_option maxRecDepth 16384

noncomputable section

namespace Cert.KernelProjIdeal.Body

open Cert.KernelProjIdeal Cert.KernelProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a point where the condition fails, on whole memrefs, the scratch at `xs` and the small result's buffer
    at `xo`: both stay, and the large result's buffer ends with the pieces the run finds. -/
noncomputable def runLater (c : Dev nD) (i : grid0.Coords) (arg2 : Memref sig .tc .vmem S1x2304x1024 .f32) (harg2 : arg2.IsWhole) (arg3 : Memref sig .tc .vmem S1x1x3072 .f32) (harg3 : arg3.IsWhole) (arg4 : Memref sig .tc .vmem S1x3072 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x128 .bf16) (harg7 : arg7.IsWhole) (arg8 : Memref sig .tc .vmem S1x2304x1024 .bf16) (harg8 : arg8.IsWhole) (arg9 : Memref sig .tc .vmem S1x2304x128 .f32) (harg9 : arg9.IsWhole) (arg10 : Memref sig .tc .vmem S2304x1024 .bf16) (harg10 : arg10.IsWhole) (hc0 : ¬first i)
    (x0 : Vec F S1x2304x1024 .f32) (x1 : Vec F S1x1x3072 .f32) (x2 : Vec F S1x3072 .f32) (x3 : Vec F S1x1024 .f32) (x4 : Vec F S1024x1024 .bf16) (x5 : Vec F S1024x128 .bf16) (xs : Vec F S2304x1024 .bf16) :
    { L6 : List (View.Piece (Elt F) S1x2304x1024 .bf16) //
      ∀ (xo : Vec F S1x2304x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xo ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xo ∗ owns (c : Thread nD τ) arg10 fullShare xs) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10) K } := by
  refine ⟨?_, fun xo E K => ?run⟩
  case run =>
    simp only [cc0_in_proj_eq_skeleton]; unfold cc0_in_proj_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hfs0
    sl_exec (disch := sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    iexists _; isplitr; · ipureintro; exact harg10.read_unread _
    iexact HS0

end Cert.KernelProjIdeal.Body

end
-- ==== Proof.Proj.Frame.lean ====
/- The frame of the input projection (idealized): what the results' buffers and the scratch hold point by point, the body's
   obligation at a generic point, the run, and that it leaves the arguments as they were. -/
module

public import proofs.«01_k».proof.Proof.Proj.Later
public import Idealize.ShloMosaic.Lib.Claim

@[expose] public section

set_option maxRecDepth 16384

noncomputable section

namespace Cert.KernelProjIdeal.Body

open Cert.KernelProjIdeal Cert.KernelProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run of the body at a point divisible by 8, on the point's memrefs and input blocks. -/
abbrev firstAt (c : Dev nD) (t : Fin cfg0.N) (h : t.val % 8 = 0) :=
  runFirst (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) ((first_iff t).mpr h) (iblk m c 0 t) (iblk m c 1 t) (iblk m c 2 t) (iblk m c 3 t) (iblk m c 4 t) (iblk m c 5 t)

/-- The run of the body at any other point, with the scratch at `xs`. -/
abbrev laterAt (c : Dev nD) (t : Fin cfg0.N) (h : ¬t.val % 8 = 0) (xs : Vec F S2304x1024 .bf16) :=
  runLater (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (fun hc => h ((first_iff t).mp hc)) (iblk m c 0 t) (iblk m c 1 t) (iblk m c 2 t) (iblk m c 3 t) (iblk m c 4 t) (iblk m c 5 t) xs

/-! ## The stores cover the blocks -/

theorem cover6_first (c : Dev nD) (t : Fin cfg0.N) (h : t.val % 8 = 0) (y : S1x2304x1024.Idx) :
    ∃ pc ∈ (firstAt m c t h).1, y ∈ pc.1.set :=
  View.cover_of_tiledL (firstAt m c t h).1 S1x2304x1024.size (by sl_kernel_rfl) y
theorem cover7_first (c : Dev nD) (t : Fin cfg0.N) (h : t.val % 8 = 0) (y : S1x2304x128.Idx) :
    ∃ pc ∈ (firstAt m c t h).2.1, y ∈ pc.1.set :=
  View.cover_of_tiledL (firstAt m c t h).2.1 S1x2304x128.size (by sl_kernel_rfl) y
theorem coverS_first (c : Dev nD) (t : Fin cfg0.N) (h : t.val % 8 = 0) (y : S2304x1024.Idx) :
    ∃ pc ∈ (firstAt m c t h).2.2.1, y ∈ pc.1.set :=
  View.cover_of_tiledBy (firstAt m c t h).2.2.1 ![256, 1024] (by sl_kernel_rfl) y
theorem cover6_later (c : Dev nD) (t : Fin cfg0.N) (h : ¬t.val % 8 = 0) (xs : Vec F S2304x1024 .bf16) (y : S1x2304x1024.Idx) :
    ∃ pc ∈ (laterAt m c t h xs).1, y ∈ pc.1.set :=
  View.cover_of_tiledL (laterAt m c t h xs).1 S1x2304x1024.size (by sl_kernel_rfl) y

/-! ## What the buffers hold after each point -/

/-- The first point of `t`'s batch row. -/
def t0 (t : Fin cfg0.N) : Fin cfg0.N := ⟨t.val / 8 * 8, by have := t.isLt; omega⟩
theorem t0_mod (t : Fin cfg0.N) : (t0 t).val % 8 = 0 := by show t.val / 8 * 8 % 8 = 0; omega
theorem t0_self (t : Fin cfg0.N) (h : t.val % 8 = 0) : t0 t = t := Fin.ext (by show t.val / 8 * 8 = t.val; omega)
theorem t0_pred (t : Fin cfg0.N) (h : ¬t.val % 8 = 0) : t0 ⟨t.val - 1, by have := t.isLt; omega⟩ = t0 t :=
  Fin.ext (by show (t.val - 1) / 8 * 8 = t.val / 8 * 8; omega)

/-- The scratch after the first point of a row. -/
def scrAt (c : Dev nD) (t : Fin cfg0.N) (h : t.val % 8 = 0) : Vec F S2304x1024 .bf16 :=
  VS.read (Elt F) (VS.writes (Elt F) VS.junk (firstAt m c t h).2.2.1)
/-- The small result's buffer after the first point of a row. -/
def smallAt (c : Dev nD) (t : Fin cfg0.N) (h : t.val % 8 = 0) : Vec F S1x2304x128 .f32 :=
  VO7.read (Elt F) (VO7.writes (Elt F) VO7.junk (firstAt m c t h).2.1)
/-- The scratch after point `t`: what the row's first point left. -/
def scr (c : Dev nD) (t : Fin cfg0.N) : Vec F S2304x1024 .bf16 := scrAt m c (t0 t) (t0_mod t)
/-- The small result's buffer after point `t`: what the row's first point left. -/
def small (c : Dev nD) (t : Fin cfg0.N) : Vec F S1x2304x128 .f32 := smallAt m c (t0 t) (t0_mod t)
/-- The large result's buffer after point `t`. -/
def big (c : Dev nD) (t : Fin cfg0.N) : Vec F S1x2304x1024 .bf16 :=
  if h : t.val % 8 = 0 then VO6.read (Elt F) (VO6.writes (Elt F) VO6.junk (firstAt m c t h).1)
  else VO6.read (Elt F) (VO6.writes (Elt F) VO6.junk (laterAt m c t h (scr m c t)).1)

theorem scrAt_congr (c : Dev nD) {s t : Fin cfg0.N} (e : s = t) (hs : s.val % 8 = 0) (ht : t.val % 8 = 0) :
    scrAt m c s hs = scrAt m c t ht := by subst e; rfl
theorem smallAt_congr (c : Dev nD) {s t : Fin cfg0.N} (e : s = t) (hs : s.val % 8 = 0) (ht : t.val % 8 = 0) :
    smallAt m c s hs = smallAt m c t ht := by subst e; rfl
theorem scr_first (c : Dev nD) (t : Fin cfg0.N) (h : t.val % 8 = 0) : scr m c t = scrAt m c t h :=
  scrAt_congr m c (t0_self t h) _ _
theorem small_first (c : Dev nD) (t : Fin cfg0.N) (h : t.val % 8 = 0) : small m c t = smallAt m c t h :=
  smallAt_congr m c (t0_self t h) _ _
theorem scr_pred (c : Dev nD) (t : Fin cfg0.N) (h : ¬t.val % 8 = 0) : scr m c ⟨t.val - 1, by have := t.isLt; omega⟩ = scr m c t :=
  scrAt_congr m c (t0_pred t h) _ _
theorem small_pred (c : Dev nD) (t : Fin cfg0.N) (h : ¬t.val % 8 = 0) : small m c ⟨t.val - 1, by have := t.isLt; omega⟩ = small m c t :=
  smallAt_congr m c (t0_pred t h) _ _

/-- The region's invariant before position `n`: before the first point the launch's, afterwards the scratch at what the
    point before left. -/
def Phi (c : Dev nD) : (n : ℕ) → n ≤ cfg0.N → sProp 𝕄
  | 0, _ => Pipeline.ΦA spec0 c
  | n + 1, hn => iprop(iprop(owns (c : Thread nD τ) scM fullShare (scr m c ⟨n, hn⟩)) ∗ (∃ r, prngReg c r))

theorem Phi_zero (c : Dev nD) (n : ℕ) (h : n ≤ cfg0.N) (hz : n = 0) : Phi m c n h = Pipeline.ΦA spec0 c := by
  subst hz; rfl
theorem Phi_succ (c : Dev nD) (n : ℕ) (hn : n < cfg0.N) :
    Phi m c (n + 1) hn = iprop(iprop(owns (c : Thread nD τ) scM fullShare (scr m c ⟨n, hn⟩)) ∗ (∃ r, prngReg c r)) := rfl
theorem Phi_pos (c : Dev nD) (n : ℕ) (h : n ≤ cfg0.N) (hz : n ≠ 0) :
    Phi m c n h = iprop(iprop(owns (c : Thread nD τ) scM fullShare (scr m c ⟨n - 1, by omega⟩)) ∗ (∃ r, prngReg c r)) := by
  cases n with
  | zero => exact absurd rfl hz
  | succ n => rfl

/-- The proof data of the pipeline: the arrays as the region finds them, each input's buffer at its block after every
    point, the results' at `big` and `small`, the invariant `Phi`, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => big m c t
    | ⟨7, _⟩ => small m c t
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]
theorem Phi_castSucc (c : Dev nD) (t : Fin cfg0.N) :
    (dats m 0 c).Φ t.castSucc = Phi m c t.val (Nat.le_of_lt t.isLt) := by
  dsimp only [dats]; exact Pipeline.Dat.Φ_castSucc (Phi m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = big m c t := by dsimp only [dats]
theorem after7 (c : Dev nD) (t : Fin cfg0.N) : (dats m 0 c).after 7 t = small m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- Where the small result's buffer is idle it keeps what the point before left. -/
theorem carry7 (c : Dev nD) : ∀ (t : Fin cfg0.N) (_ : t.val ≠ 0), cfg0.idle 7 (grid0.coords t) = true → cfg0.fresh 7 t.val = false →
    (dats m 0 c).after 7 t = (dats m 0 c).after 7 ⟨t.val - 1, by omega⟩ := by
  intro t _ hi _
  rw [after7, after7]
  by_cases h0 : t.val % 8 = 0
  · rw [live7 t ((first_iff t).mpr h0)] at hi
    exact absurd hi Bool.false_ne_true
  · exact (small_pred m c t h0).symm

theorem before7_later (c : Dev nD) (t : Fin cfg0.N) (h0 : ¬t.val % 8 = 0) (d) :
    (dats m 0 c).before 7 t d = small m c t := by
  rw [Dat.before_out_traj _ 7 rfl (fun _ _ => rfl) (carry7 m c) t.val t rfl d,
    if_neg (by rw [fresh7_eq]; unfold fresh7; simpa using h0)]
  rw [after7]; exact small_pred m c t h0

/-! ## The body's obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

/-- What is asked of the small result's buffer at a point that leaves it idle: that it holds what it held. -/
theorem leaves7_later (c : Dev nD) (t : Fin cfg0.N) (h0 : ¬t.val % 8 = 0) :
    owns (c : Thread nD τ) (ms7 t) fullShare (small m c t) ⊢ ((dats m 0 c).leavesExact 7 t : sProp 𝕄) := by
  unfold Dat.leavesExact
  rw [idle7 t (fun hc => h0 ((first_iff t).mp hc))]
  cases hf : (cfg0.win 7).flush t
  · dsimp only
    iintro H
    iexists (small m c t)
    rw [before7_later m c t h0]
    iexact H
  · dsimp only
    rw [after7]
    try exact Idealize.SL.BI.Entails.refl _

set_option maxHeartbeats 6400000 in
/-- The body at any point: its inputs' buffers hold their blocks; whether the point is the first of its row says which
    run applies; the scratch is handed over at what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = Phi m c (t.val + 1) t.isLt from rfl, Phi_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  rw [show (dats m 0 c).leavesExact 6 t = owns (c : Thread nD τ) (ms6 t) fullShare ((dats m 0 c).after 6 t) from by
    unfold Dat.leavesExact; rw [live6 t], after6]
  by_cases h0 : t.val % 8 = 0
  · rw [show (dats m 0 c).leavesExact 7 t = owns (c : Thread nD τ) (ms7 t) fullShare ((dats m 0 c).after 7 t) from by
      unfold Dat.leavesExact; rw [live7 t ((first_iff t).mpr h0)], after7]
    rw [show (⟨t.val, t.isLt⟩ : Fin cfg0.N) = t from rfl, scr_first m c t h0, small_first m c t h0]
    unfold big scrAt smallAt
    rw [dif_pos h0]
    by_cases hz : t.val = 0
    · rw [Phi_castSucc m c t, Phi_zero m c _ _ hz, PhiA_eq]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((firstAt m c t h0).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      iintro ⟨H0, H1, H2, H3, H4, H5, ⟨%e6, H6⟩, ⟨%e7, H7⟩, ⟨%es0, HS0⟩⟩
      isplitl [HS0 Hg]
      · isplitl [HS0]
        · unfold owns; iexists _; isplitr
          swap; · iexact HS0
          ipureintro; exact View.read_writes_of_cover _ _ _ _ _ (coverS_first m c t h0)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover6_first m c t h0)
      unfold owns; iexists _; isplitr
      swap; · iexact H7
      ipureintro; exact View.read_writes_of_cover _ _ _ _ _ (cover7_first m c t h0)
    · rw [Phi_castSucc m c t, Phi_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((firstAt m c t h0).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexists _; iexact HS0
      iintro ⟨H0, H1, H2, H3, H4, H5, ⟨%e6, H6⟩, ⟨%e7, H7⟩, ⟨%es0, HS0⟩⟩
      isplitl [HS0 Hg]
      · isplitl [HS0]
        · unfold owns; iexists _; isplitr
          swap; · iexact HS0
          ipureintro; exact View.read_writes_of_cover _ _ _ _ _ (coverS_first m c t h0)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover6_first m c t h0)
      unfold owns; iexists _; isplitr
      swap; · iexact H7
      ipureintro; exact View.read_writes_of_cover _ _ _ _ _ (cover7_first m c t h0)
  · have hz : t.val ≠ 0 := fun e => h0 (by rw [e])
    rw [Phi_castSucc m c t, Phi_pos m c _ _ hz, scr_pred m c t h0]
    rw [show (⟨t.val, t.isLt⟩ : Fin cfg0.N) = t from rfl]
    simp only [before7_later m c t h0]
    unfold big
    rw [dif_neg h0]
    · iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((laterAt m c t h0 (scr m c t)).2 (small m c t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS0]; · iexact HS0
      iintro ⟨H0, H1, H2, H3, H4, H5, ⟨%e6, H6⟩, H7, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover6_later m c t h0 (scr m c t))
      iapply (leaves7_later m c t h0)
      iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point, -/
theorem hin (c : Dev nD) : Pipeline.ΦA spec0 c ⊢ (dats m 0 c).Φ 0 := by
  rw [show (dats m 0 c).Φ 0 = Phi m c 0 (Nat.zero_le _) from rfl, Phi_zero m c 0 _ rfl]
  try exact Idealize.SL.BI.Entails.refl _

/-- and the invariant after the last gives it back. -/
theorem hout (c : Dev nD) : (dats m 0 c).Φ (Fin.last cfg0.N) ⊢ Pipeline.ΦA spec0 c := by
  have ht : (Fin.last cfg0.N).val ≠ 0 := by rw [Fin.val_last]; have : cfg0.N = 128 := N_0; omega
  rw [show (dats m 0 c).Φ (Fin.last cfg0.N) = Phi m c (Fin.last cfg0.N).val (Nat.le_of_lt_succ (Fin.last cfg0.N).isLt) from rfl, Phi_pos m c _ _ ht, PhiA_eq]
  iintro ⟨HS0, Hg⟩
  isplitl [HS0]
  · iexists _; iexact HS0
  iexact Hg

/-! ## The run and the frame -/

set_option backward.isDefEq.respectTransparency.types false in
/-- Every run of the program ends with the pipeline's arrays at what the proof data says and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.KernelProjIdeal.Body

end
-- ==== Proof.Proj.Kern.lean ====
/- The input projection's block values as terms over the input blocks. -/
module

public import proofs.«01_k».proof.Proof.Proj.Frame
public import Idealize.ShloMosaic.Lib.Pipeline.ValueKit
public import Idealize.ShloMosaic.Lib.Pipeline.ValueKit.Point
public import Idealize.ShloMosaic.Lib.Pipeline.ReadBack

@[expose] public section

set_option maxRecDepth 16384

noncomputable section

namespace Cert.KernelProjIdeal.Body

open Cert.KernelProjIdeal Cert.KernelProjIdeal.Gen
open Idealize.ShloMosaic Idealize.ShloMosaic.TcCoe Idealize.ShloMosaic.Tactic

variable (m : (ℓ : Loc nD τ sig) → Buf (Elt Ideal) ℓ)

/-- A load of the whole scratch after writes reads what they left. -/
theorem readCov_whole (L : List (View.Piece (Elt Ideal) S2304x1024 .bf16)) :
    (View.whole cc0_scratch0).readCov L (Rect.unit ![0, 0] ![2304, 1024] inb_S2304x1024_S2304x1024_0_0).toLoadRect = View.canon L := by
  rw [View.readCov_eq_canon']
  exact View.ld_unit_lit (S := S2304x1024) inb_S2304x1024_S2304x1024_0_0 (View.canon L) (by decide)

/-- The rows of the image's tokens of the first window. -/
def latLd (c : Dev nD) (t : Fin cfg0.N) : Vec Ideal S1x2048x1024 .f32 :=
  View.ld (iblk m c 0 t) (Rect.unit ![0, 256, 0] ![1, 2048, 1024] inb_S1x2304x1024_S1x2048x1024_0_256_0)
/-- The rows of the context's tokens of the first window. -/
def ctxLd (c : Dev nD) (t : Fin cfg0.N) : Vec Ideal S1x256x1024 .f32 :=
  View.ld (iblk m c 0 t) (Rect.unit ![0, 0, 0] ![1, 256, 1024] inb_S1x2304x1024_S1x256x1024_0_0_0)

/-- The two stores to the scratch. -/
def scrL (c : Dev nD) (t : Fin cfg0.N) : List (View.Piece (Elt Ideal) S2304x1024 .bf16) :=
  [⟨Rect.unit ![256, 0] ![2048, 1024] inb_S2304x1024_S2048x1024_256_0,
      k0_pay1 (k0_pay4 (iblk m c 3 t)) (k0_pay6 (latLd m c t)) (k0_pay7 (iblk m c 1 t)) (k0_pay8 (latLd m c t))⟩,
    ⟨Rect.unit ![0, 0] ![256, 1024] inb_S2304x1024_S256x1024_0_0, k0_pay5 (iblk m c 3 t) (ctxLd m c t) (iblk m c 2 t)⟩]

theorem scrAt_eq (c : Dev nD) (t : Fin cfg0.N) (h : t.val % 8 = 0) : scrAt m c t h = View.canon (scrL m c t) := by
  unfold scrAt
  rw [View.read_writes_eq_canon _ _ _ (coverS_first m c t h)]
  unfold firstAt runFirst
  frame_out
  rfl

theorem smallAt_eq (c : Dev nD) (t : Fin cfg0.N) (h : t.val % 8 = 0) :
    smallAt m c t h = k0_pay2 (View.canon (scrL m c t)) (iblk m c 5 t) := by
  unfold smallAt
  rw [View.read_writes_eq_canon _ _ _ (cover7_first m c t h)]
  unfold firstAt runFirst
  frame_out
  rw [readCov_whole]
  rfl

theorem small_eq (c : Dev nD) (t : Fin cfg0.N) : small m c t = k0_pay2 (scr m c t) (iblk m c 5 (t0 t)) := by
  unfold small scr
  rw [smallAt_eq, scrAt_eq]

theorem big_eq (c : Dev nD) (t : Fin cfg0.N) : big m c t = k0_pay3 (scr m c t) (iblk m c 4 t) := by
  by_cases h : t.val % 8 = 0
  · rw [scr_first m c t h, scrAt_eq]
    unfold big
    rw [dif_pos h, View.read_writes_eq_canon _ _ _ (cover6_first m c t h)]
    unfold firstAt runFirst
    frame_out
    rw [readCov_whole]
    rfl
  · unfold big
    rw [dif_neg h, View.read_writes_eq_canon _ _ _ (cover6_later m c t h _)]
    unfold laterAt runLater
    frame_out
    simp only [read_unread_whole]

end Cert.KernelProjIdeal.Body

end
-- ==== Proof.Proj.Spec.lean ====
/- What the input projection computes, over the extended reals: one row of normalised and modulated tokens. -/
module

public import Idealize.ShloMosaic.Lib.Pointwise

@[expose] public section

noncomputable section

namespace Cert.Proj

open Idealize.ShloMosaic

/-- A token `x` over the root of its mean square, times the weights `g`, scaled by `1 + sc` and shifted by `sh`. -/
def specH (x g sc sh : Fin 1024 → EReal) (k : Fin 1024) : EReal :=
  x k * Ideal.rsqrt (Ideal.div (∑ e : Fin 1024, x e * x e) (Ideal.ofBits FTy.f32 1149239296#32)
    + Ideal.ofBits FTy.f32 897988541#32) * g k * (1 + sc k) + sh k

end Cert.Proj

end
-- ==== Proof.Proj.Block.lean ====
/- The input projection's payloads read at a row. -/
module

public import proofs.«01_k».proof.Proof.Gen.KernelProjIdeal.Skeleton
public import proofs.«01_k».proof.Proof.Proj.Spec
public import Idealize.ShloMosaic.Lib.Tactic.CleanTypes

@[expose] public section

set_option maxRecDepth 16384

noncomputable section

namespace Cert.Proj

open Cert.KernelProjIdeal Cert.KernelProjIdeal.Gen Idealize.ShloMosaic

/-- The context's rows of the scratch. -/
theorem pay5_at (g : Vec Ideal S1x1024 .f32) (x : Vec Ideal S1x256x1024 .f32) (v : Vec Ideal S1x3072 .f32) (r : Fin 256) (e : Fin 1024) :
    k0_pay5 (F := Ideal) g x v (ix2 r e) = specH (fun e => x (ix3 0 r e)) (fun e => g (ix2 0 e)) (fun e => v (ix2 0 ⟨1024 + e.val, by omega⟩))
      (fun e => v (ix2 0 ⟨e.val, by omega⟩)) e := by
  pointwise [k0_pay5, k0_pay4]
  rfl

/-- The image's rows of the scratch. -/
theorem pay1_at (g : Vec Ideal S1x1024 .f32) (x : Vec Ideal S1x2048x1024 .f32) (v : Vec Ideal S1x1x3072 .f32) (r : Fin 2048) (e : Fin 1024) :
    k0_pay1 (F := Ideal) (k0_pay4 g) (k0_pay6 x) (k0_pay7 v) (k0_pay8 x) (ix2 r e)
      = specH (fun e => x (ix3 0 r e)) (fun e => g (ix2 0 e)) (fun e => v (ix3 0 0 ⟨1024 + e.val, by omega⟩))
      (fun e => v (ix3 0 0 ⟨e.val, by omega⟩)) e := by
  pointwise [k0_pay1, k0_pay4, k0_pay6, k0_pay7, k0_pay8]
  rfl

theorem pay2_at (h : Vec Ideal S2304x1024 .bf16) (w : Vec Ideal S1024x128 .bf16) (r : Fin 2304) (k : Fin 128) :
    k0_pay2 (F := Ideal) h w (ix3 0 r k) = (∑ e : Fin 1024, h (ix2 r e) * w (ix2 e k) : EReal) := by
  pointwise [k0_pay2]

theorem pay3_at (h : Vec Ideal S2304x1024 .bf16) (w : Vec Ideal S1024x1024 .bf16) (r : Fin 2304) (k : Fin 1024) :
    k0_pay3 (F := Ideal) h w (ix3 0 r k) = (∑ e : Fin 1024, h (ix2 r e) * w (ix2 e k) : EReal) := by
  pointwise [k0_pay3]

end Cert.Proj

end
-- ==== Proof.Proj.Host.lean ====
/- What the host prepares for the input projection's call. -/
module

public import proofs.«01_k».proof.Proof.Gen.KernelProjIdeal.Frame
public import Idealize.ShloMosaic.Lib.Claim

@[expose] public section

set_option maxRecDepth 16384

noncomputable section

namespace Cert.Proj

open Cert.KernelProjIdeal Cert.KernelProjIdeal.Gen Idealize.ShloMosaic Idealize.ShloMosaic.TcCoe

variable {F : FTy → Type} [FloatOps F] [∀ e, Nonempty (Elt F e)]
variable (m : (ℓ : Loc nD τ sig) → Buf (Elt F) ℓ)

/-- The weights of the large result: the columns before and after the sixteen small ones. -/
def hostW (w : FVec F S1024x8208 .f32) : FVec F S1024x8192 .bf16 :=
  truncf .bf16 (concatenate S1024x8192 1 [⟨S1024x2048, extractStridedSlice S1024x2048 ![0, 0] w slices_S1024x8208_S1024x2048_0_0⟩,
    ⟨S1024x6144, extractStridedSlice S1024x6144 ![0, 2064] w slices_S1024x8208_S1024x6144_0_2064⟩]
    concatenates_S1024x2048_S1024x6144_S1024x8192_d1) bitsLt_bf16_f32

/-- The weights of the small result: sixteen columns, padded by zeros. -/
def hostWs (w : FVec F S1024x8208 .f32) : FVec F S1024x128 .bf16 :=
  truncf .bf16 (pad S1024x128 ![0, 0] ![0, 112] ![0, 0] (extractStridedSlice S1024x16 ![0, 2048] w slices_S1024x8208_S1024x16_0_2048)
    (sitofp .f32 (constantI S_ 32 0#32)) pads_S1024x16_S1024x128_000_01120 h_S_) bitsLt_bf16_f32

theorem V_v7 (c : Dev nD) :
    V m c main_v7 = broadcastInDim S16x1x3072 ![0, 2] bcast_S16x3072_S16x1x3072_0_2 (m ((c : Thread nD τ).loc main_arg1)) := by
  simp only [V, hostOps0, hostOps0_1, hostOps0_2, List.flatten_cons, List.flatten_nil, List.append_nil, List.cons_append, List.nil_append]
  after_results
theorem V_v8 (c : Dev nD) :
    V m c main_v8 = broadcastInDim S1x1024 ![1] bcast_S1024_S1x1024_1 (m ((c : Thread nD τ).loc main_arg3)) := by
  simp only [V, hostOps0, hostOps0_1, hostOps0_2, List.flatten_cons, List.flatten_nil, List.append_nil, List.cons_append, List.nil_append]
  after_results
theorem V_v3 (c : Dev nD) : V m c main_v3 = hostW (m ((c : Thread nD τ).loc main_arg4)) := by
  simp only [V, hostOps0, hostOps0_1, hostOps0_2, List.flatten_cons, List.flatten_nil, List.append_nil, List.cons_append, List.nil_append]
  after_results
  rfl
theorem V_v6 (c : Dev nD) : V m c main_v6 = hostWs (m ((c : Thread nD τ).loc main_arg4)) := by
  simp only [V, hostOps0, hostOps0_1, hostOps0_2, List.flatten_cons, List.flatten_nil, List.append_nil, List.cons_append, List.nil_append]
  after_results
  rfl

end Cert.Proj

end
-- ==== Proof.Proj.Ref.lean ====
/- The reference of the input projection, as named steps of its result terms. -/
module

public import proofs.«01_k».proof.Proof.Gen.ReferenceProjIdeal.Run
public import Idealize.ShloMosaic.Lib.Pointwise
public import Idealize.ShloMosaic.Lib.Tactic.CleanTypes

@[expose] public section

set_option maxRecDepth 16384

noncomputable section

namespace Cert.Proj

open Cert.ReferenceProjIdeal Cert.ReferenceProjIdeal.Gen Cert.ReferenceProjIdeal.Value Idealize.ShloMosaic
open Idealize.ShloMosaic.TcCoe Idealize.SL.Sem

section
variable {F : FTy → Type} [FloatOps F]
variable (x0 : FVec F S16x2304x1024 .f32) (x1 : FVec F S16x3072 .f32) (x2 : FVec F S1x3072 .f32) (x3 : FVec F S1024 .f32)
  (x4 : FVec F S1024x8208 .f32)

/-- The context's tokens, normalised and modulated. -/
def refCtx : FVec F S16x256x1024 .f32 :=
  (addf (mulf (mulf (mulf (extractStridedSlice S16x256x1024 ![0, 0, 0] x0 slices_S16x2304x1024_S16x256x1024_0_0_0) (broadcastInDim S16x256x1024 ![0, 1, 2] bcast_S16x256x1_S16x256x1024_0_1_2 (Host.rsqrt (addf (Host.divf (broadcastInDim S16x256x1 ![0, 1] bcast_S16x256_S16x256x1_0_1 (Host.reduceAdd (mulf (extractStridedSlice S16x256x1024 ![0, 0, 0] x0 slices_S16x2304x1024_S16x256x1024_0_0_0) (extractStridedSlice S16x256x1024 ![0, 0, 0] x0 slices_S16x2304x1024_S16x256x1024_0_0_0)) (constant S_ .f32 0x00000000#32) reducesTo_S16x256x1024_S16x256_d2 h_S_)) (broadcastInDim S16x256x1 ![] bcast_S_S16x256x1 (constant S_ .f32 0x44800000#32))) (broadcastInDim S16x256x1 ![] bcast_S_S16x256x1 (constant S_ .f32 0x358637BD#32)))))) (broadcastInDim S16x256x1024 ![0, 1, 2] bcast_S1x1x1024_S16x256x1024_0_1_2 (broadcastInDim S1x1x1024 ![2] bcast_S1024_S1x1x1024_2 x3))) (broadcastInDim S16x256x1024 ![0, 1, 2] bcast_S1x1x1024_S16x256x1024_0_1_2 (broadcastInDim S1x1x1024 ![2] bcast_S1024_S1x1x1024_2 (addf (broadcastInDim S1024 ![] bcast_S_S1024 (constant S_ .f32 0x3F800000#32)) (extractStridedSlice S1024 ![1024] (shapeCast _ x2 shapeCasts_S1x3072_S3072) slices_S3072_S1024_1024))))) (broadcastInDim S16x256x1024 ![0, 1, 2] bcast_S1x1x1024_S16x256x1024_0_1_2 (broadcastInDim S1x1x1024 ![2] bcast_S1024_S1x1x1024_2 (extractStridedSlice S1024 ![0] (shapeCast _ x2 shapeCasts_S1x3072_S3072) slices_S3072_S1024_0))))

/-- The image's tokens, normalised and modulated. -/
def refLat : FVec F S16x2048x1024 .f32 :=
  (addf (mulf (mulf (mulf (extractStridedSlice S16x2048x1024 ![0, 256, 0] x0 slices_S16x2304x1024_S16x2048x1024_0_256_0) (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf (extractStridedSlice S16x2048x1024 ![0, 256, 0] x0 slices_S16x2304x1024_S16x2048x1024_0_256_0) (extractStridedSlice S16x2048x1024 ![0, 256, 0] x0 slices_S16x2304x1024_S16x2048x1024_0_256_0)) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 x3))) (broadcastInDim S16x2048x1024 ![0, 1, 2] bcast_S16x1x1024_S16x2048x1024_0_1_2 (addf (broadcastInDim S16x1x1024 ![] bcast_S_S16x1x1024 (constant S_ .f32 0x3F800000#32)) (broadcastInDim S16x1x1024 ![0, 2] bcast_S16x1024_S16x1x1024_0_2 (extractStridedSlice S16x1024 ![0, 1024] x1 slices_S16x3072_S16x1024_0_1024))))) (broadcastInDim S16x2048x1024 ![0, 1, 2] bcast_S16x1x1024_S16x2048x1024_0_1_2 (broadcastInDim S16x1x1024 ![0, 2] bcast_S16x1024_S16x1x1024_0_2 (extractStridedSlice S16x1024 ![0, 0] x1 slices_S16x3072_S16x1024_0_0))))

/-- All tokens times the input weights. -/
def refPr : FVec F S16x2304x8208 .f32 :=
  (concatenate S16x2304x8208 1 [⟨S16x256x8208, (Host.dotGeneral dot_S16x256x1024_S1024x8208_S16x256x8208_2_0_01_1_n_n none (refCtx x0 x2 x3) x4)⟩, ⟨S16x2048x8208, (Host.dotGeneral dot_S16x2048x1024_S1024x8208_S16x2048x8208_2_0_01_1_n_n none (refLat x0 x1 x3) x4)⟩] concatenates_S16x256x8208_S16x2048x8208_S16x2304x8208_d1)

/-- The large result. -/
def refMain : FVec F S16x2304x8192 .bf16 :=
  truncf .bf16 (concatenate S16x2304x8192 2 [⟨S16x2304x2048, (extractStridedSlice S16x2304x2048 ![0, 0, 0] (refPr x0 x1 x2 x3 x4) slices_S16x2304x8208_S16x2304x2048_0_0_0)⟩, ⟨S16x2304x6144, (extractStridedSlice S16x2304x6144 ![0, 0, 2064] (refPr x0 x1 x2 x3 x4) slices_S16x2304x8208_S16x2304x6144_0_0_2064)⟩] concatenates_S16x2304x2048_S16x2304x6144_S16x2304x8192_d2) bitsLt_bf16_f32

/-- The small result. -/
def refSmall : FVec F S16x2304x128 .f32 :=
  pad S16x2304x128 ![0, 0, 0] ![0, 0, 112] ![0, 0, 0] (extractStridedSlice S16x2304x16 ![0, 0, 2048] (refPr x0 x1 x2 x3 x4) slices_S16x2304x8208_S16x2304x16_0_0_2048) (sitofp .f32 (constantI S_ 32 0#32)) pads_S16x2304x16_S16x2304x128_000_000_01120 h_S_

/-- The reference's large result buffer is these steps of its arguments. -/
theorem res_eq (m : (ℓ : Loc nD τ sig) → Buf (Elt F) ℓ) (c : Dev nD) :
    res_main_v57 m c = refMain (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

/-- The reference's small result is these steps of its arguments. -/
theorem res_small_eq (m : (ℓ : Loc nD τ sig) → Buf (Elt F) ℓ) (c : Dev nD) :
    pad S16x2304x128 ![0, 0, 0] ![0, 0, 112] ![0, 0, 0] (extractStridedSlice S16x2304x16 ![0, 0, 2048] (concatenate S16x2304x8208 1 [⟨S16x256x8208, (Host.dotGeneral dot_S16x256x1024_S1024x8208_S16x256x8208_2_0_01_1_n_n none (addf (mulf (mulf (mulf (extractStridedSlice S16x256x1024 ![0, 0, 0] (m ((c.tc : Thread nD τ).loc main_arg0)) slices_S16x2304x1024_S16x256x1024_0_0_0) (broadcastInDim S16x256x1024 ![0, 1, 2] bcast_S16x256x1_S16x256x1024_0_1_2 (Host.rsqrt (addf (Host.divf (broadcastInDim S16x256x1 ![0, 1] bcast_S16x256_S16x256x1_0_1 (Host.reduceAdd (mulf (extractStridedSlice S16x256x1024 ![0, 0, 0] (m ((c.tc : Thread nD τ).loc main_arg0)) slices_S16x2304x1024_S16x256x1024_0_0_0) (extractStridedSlice S16x256x1024 ![0, 0, 0] (m ((c.tc : Thread nD τ).loc main_arg0)) slices_S16x2304x1024_S16x256x1024_0_0_0)) (constant S_ .f32 0x00000000#32) reducesTo_S16x256x1024_S16x256_d2 h_S_)) (broadcastInDim S16x256x1 ![] bcast_S_S16x256x1 (constant S_ .f32 0x44800000#32))) (broadcastInDim S16x256x1 ![] bcast_S_S16x256x1 (constant S_ .f32 0x358637BD#32)))))) (broadcastInDim S16x256x1024 ![0, 1, 2] bcast_S1x1x1024_S16x256x1024_0_1_2 (broadcastInDim S1x1x1024 ![2] bcast_S1024_S1x1x1024_2 (m ((c.tc : Thread nD τ).loc main_arg3))))) (broadcastInDim S16x256x1024 ![0, 1, 2] bcast_S1x1x1024_S16x256x1024_0_1_2 (broadcastInDim S1x1x1024 ![2] bcast_S1024_S1x1x1024_2 (addf (broadcastInDim S1024 ![] bcast_S_S1024 (constant S_ .f32 0x3F800000#32)) (extractStridedSlice S1024 ![1024] (shapeCast _ (m ((c.tc : Thread nD τ).loc main_arg2)) shapeCasts_S1x3072_S3072) slices_S3072_S1024_1024))))) (broadcastInDim S16x256x1024 ![0, 1, 2] bcast_S1x1x1024_S16x256x1024_0_1_2 (broadcastInDim S1x1x1024 ![2] bcast_S1024_S1x1x1024_2 (extractStridedSlice S1024 ![0] (shapeCast _ (m ((c.tc : Thread nD τ).loc main_arg2)) shapeCasts_S1x3072_S3072) slices_S3072_S1024_0)))) (m ((c.tc : Thread nD τ).loc main_arg4)))⟩, ⟨S16x2048x8208, (Host.dotGeneral dot_S16x2048x1024_S1024x8208_S16x2048x8208_2_0_01_1_n_n none (addf (mulf (mulf (mulf (extractStridedSlice S16x2048x1024 ![0, 256, 0] (m ((c.tc : Thread nD τ).loc main_arg0)) slices_S16x2304x1024_S16x2048x1024_0_256_0) (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf (extractStridedSlice S16x2048x1024 ![0, 256, 0] (m ((c.tc : Thread nD τ).loc main_arg0)) slices_S16x2304x1024_S16x2048x1024_0_256_0) (extractStridedSlice S16x2048x1024 ![0, 256, 0] (m ((c.tc : Thread nD τ).loc main_arg0)) slices_S16x2304x1024_S16x2048x1024_0_256_0)) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 (m ((c.tc : Thread nD τ).loc main_arg3))))) (broadcastInDim S16x2048x1024 ![0, 1, 2] bcast_S16x1x1024_S16x2048x1024_0_1_2 (addf (broadcastInDim S16x1x1024 ![] bcast_S_S16x1x1024 (constant S_ .f32 0x3F800000#32)) (broadcastInDim S16x1x1024 ![0, 2] bcast_S16x1024_S16x1x1024_0_2 (extractStridedSlice S16x1024 ![0, 1024] (m ((c.tc : Thread nD τ).loc main_arg1)) slices_S16x3072_S16x1024_0_1024))))) (broadcastInDim S16x2048x1024 ![0, 1, 2] bcast_S16x1x1024_S16x2048x1024_0_1_2 (broadcastInDim S16x1x1024 ![0, 2] bcast_S16x1024_S16x1x1024_0_2 (extractStridedSlice S16x1024 ![0, 0] (m ((c.tc : Thread nD τ).loc main_arg1)) slices_S16x3072_S16x1024_0_0)))) (m ((c.tc : Thread nD τ).loc main_arg4)))⟩] concatenates_S16x256x8208_S16x2048x8208_S16x2304x8208_d1) slices_S16x2304x8208_S16x2304x16_0_0_2048) (sitofp .f32 (constantI S_ 32 0#32)) pads_S16x2304x16_S16x2304x128_000_000_01120 h_S_ = refSmall (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

end

end Cert.Proj

end
-- ==== Proof.Proj.RefAt.lean ====
/- The reference of the input projection, read at a token. -/
module

public import proofs.«01_k».proof.Proof.Proj.Ref
public import proofs.«01_k».proof.Proof.Proj.Spec

@[expose] public section

set_option maxRecDepth 16384

noncomputable section

namespace Cert.Proj

open Cert.ReferenceProjIdeal Cert.ReferenceProjIdeal.Gen Cert.ReferenceProjIdeal.Value Idealize.ShloMosaic
open Idealize.ShloMosaic.TcCoe

variable (x0 : FVec Ideal S16x2304x1024 .f32) (x1 : FVec Ideal S16x3072 .f32) (x2 : FVec Ideal S1x3072 .f32) (x3 : FVec Ideal S1024 .f32)
  (x4 : FVec Ideal S1024x8208 .f32)

/-- Row `l` of batch `b`, normalised and modulated: by the context's vectors for the first 256 tokens, by the batch's for
    the others. -/
def hRow (b : Fin 16) (l : Fin 2304) : Fin 1024 → EReal :=
  if l.val < 256 then
    specH (fun e => x0 (ix3 b l e)) (fun e => x3 (ix1 e)) (fun e => x2 (ix2 0 ⟨1024 + e.val, by omega⟩)) (fun e => x2 (ix2 0 ⟨e.val, by omega⟩))
  else
    specH (fun e => x0 (ix3 b l e)) (fun e => x3 (ix1 e)) (fun e => x1 (ix2 b ⟨1024 + e.val, by omega⟩)) (fun e => x1 (ix2 b ⟨e.val, by omega⟩))

theorem refCtx_at (b : Fin 16) (r : Fin 256) (e : Fin 1024) :
    refCtx x0 x2 x3 (ix3 b r e) = hRow x0 x1 x2 x3 b ⟨r.val, by omega⟩ e := by
  unfold hRow
  rw [if_pos (show r.val < 256 from r.isLt)]
  unfold refCtx
  clean_types
  pointwise
  rfl

theorem refLat_at (b : Fin 16) (r : Fin 2048) (e : Fin 1024) :
    refLat x0 x1 x3 (ix3 b r e) = hRow x0 x1 x2 x3 b ⟨256 + r.val, by omega⟩ e := by
  unfold hRow
  rw [if_neg (show ¬ (256 + r.val < 256) by omega)]
  unfold refLat
  clean_types
  pointwise
  rfl

theorem refPr_at (b : Fin 16) (l : Fin 2304) (k : Fin 8208) :
    refPr x0 x1 x2 x3 x4 (ix3 b l k) = (∑ e : Fin 1024, hRow x0 x1 x2 x3 b l e * x4 (ix2 e k) : EReal) := by
  unfold refPr
  clean_types
  pointwise
  by_cases h : l.val < 256
  · rw [dif_pos h]
    refine Finset.sum_congr rfl fun e _ => ?_
    exact congrArg (fun a : EReal => a * _) (refCtx_at x0 x1 x2 x3 b ⟨l.val, h⟩ e)
  · rw [dif_neg h]
    refine Finset.sum_congr rfl fun e _ => ?_
    refine congrArg (fun a : EReal => a * _) ((refLat_at x0 x1 x2 x3 b ⟨l.val - 256, by omega⟩ e).trans ?_)
    exact congrArg (fun l => hRow x0 x1 x2 x3 b l e) (Fin.ext (by show 256 + (l.val - 256) = l.val; omega))

/-- Column `k` of the large result is column `k`, or `k + 16` past the sixteen small columns, of the product. -/
def colOf (k : Fin 8192) : Fin 8208 := if k.val < 2048 then ⟨k.val, by omega⟩ else ⟨k.val + 16, by omega⟩

theorem refMain_at (b : Fin 16) (l : Fin 2304) (k : Fin 8192) :
    refMain x0 x1 x2 x3 x4 (ix3 b l k) = (∑ e : Fin 1024, hRow x0 x1 x2 x3 b l e * x4 (ix2 e (colOf k)) : EReal) := by
  unfold refMain colOf
  clean_types
  pointwise
  by_cases h : k.val < 2048
  · rw [dif_pos h, if_pos h]
    exact refPr_at x0 x1 x2 x3 x4 b l _
  · rw [dif_neg h, if_neg h]
    refine (refPr_at x0 x1 x2 x3 x4 b l _).trans ?_
    refine Finset.sum_congr rfl fun e _ => ?_
    exact congrArg (fun k => hRow x0 x1 x2 x3 b l e * x4 (ix2 e k)) (Fin.ext (by show 2064 + (k.val - 2048) = k.val + 16; omega))

theorem refSmall_at (b : Fin 16) (l : Fin 2304) (k : Fin 128) :
    refSmall x0 x1 x2 x3 x4 (ix3 b l k)
      = if h : k.val < 16 then (∑ e : Fin 1024, hRow x0 x1 x2 x3 b l e * x4 (ix2 e ⟨2048 + k.val, by omega⟩) : EReal) else 0 := by
  unfold refSmall
  clean_types
  pointwise
  by_cases h : k.val < 16
  · rw [dif_pos h, dif_pos h]
    exact refPr_at x0 x1 x2 x3 x4 b l _
  · rw [dif_neg h, dif_neg h]
    show (((0#32 : BitVec 32).toInt : ℝ) : EReal) = 0
    simp

end Cert.Proj

end
-- ==== Proof.Proj.Tie.lean ====
/- The kernel's result arrays are the reference's result terms. -/
module

public import proofs.«01_k».proof.Proof.Proj.Kern
public import proofs.«01_k».proof.Proof.Proj.Block
public import proofs.«01_k».proof.Proof.Proj.Host
public import proofs.«01_k».proof.Proof.Proj.RefAt
public import proofs.«01_k».proof.Defs
public import Idealize.ShloMosaic.Lib.Pipeline.ValueKit
public import Idealize.ShloMosaic.Lib.Pipeline.ValueKit.Point

@[expose] public section

set_option maxRecDepth 16384

noncomputable section

namespace Cert.Proj

open Cert.KernelProjIdeal Cert.KernelProjIdeal.Gen Cert.KernelProjIdeal.Body Idealize.ShloMosaic Idealize.ShloMosaic.TcCoe

variable (m : (ℓ : Loc nD τ sig) → Buf (Elt Ideal) ℓ)

/-- The sequence of a grid point. -/
def bb (t : Fin cfg0.grid.N) : Fin 16 := grid0.coords t 0
/-- The block of 1024 columns of a grid point. -/
def jj (t : Fin cfg0.grid.N) : Fin 8 := grid0.coords t 1
/-- The column at place `k` of a grid point's block. -/
def kk (t : Fin cfg0.grid.N) (k : Fin 1024) : Fin 8192 := ⟨1024 * (jj t).val + k.val, by have := (jj t).isLt; omega⟩

theorem idx_all : ∀ t : Fin grid0.N, win0_0.index t = ![(bb t).val, 0, 0] ∧ win0_1.index t = ![(bb t).val, 0, 0]
    ∧ win0_2.index t = ![0, 0] ∧ win0_3.index t = ![0, 0] ∧ win0_4.index t = ![0, (jj t).val] ∧ win0_5.index t = ![0, 0]
    ∧ win0_6.index t = ![(bb t).val, 0, (jj t).val] ∧ win0_7.index t = ![(bb t).val, 0, 0] := by decide +kernel

theorem bb_t0 : ∀ t : Fin grid0.N, bb (t0 t) = bb t := by decide +kernel

theorem blk0 (c : Dev nD) (t : Fin cfg0.N) (r : Fin 2304) (e : Fin 1024) :
    iblk m c 0 t (ix3 0 r e) = m ((c : Thread nD τ).loc main_arg0) (ix3 (bb t) r e) := by
  blk_ext [iblk, V, idx_all t, bb, jj]

theorem blk1 (c : Dev nD) (t : Fin cfg0.N) (e : Fin 3072) :
    iblk m c 1 t (ix3 0 0 e) = m ((c : Thread nD τ).loc main_arg1) (ix2 (bb t) e) := by
  have h : iblk m c 1 t (ix3 0 0 e) = V m c main_v7 (ix3 (bb t) 0 e) := by
    blk_ext [iblk, idx_all t, bb, jj]
  rw [h, V_v7]
  pointwise

theorem blk2 (c : Dev nD) (t : Fin cfg0.N) (e : Fin 3072) :
    iblk m c 2 t (ix2 0 e) = m ((c : Thread nD τ).loc main_arg2) (ix2 0 e) := by
  blk_ext [iblk, V, idx_all t, bb, jj]

theorem blk3 (c : Dev nD) (t : Fin cfg0.N) (e : Fin 1024) :
    iblk m c 3 t (ix2 0 e) = m ((c : Thread nD τ).loc main_arg3) (ix1 e) := by
  have h : iblk m c 3 t (ix2 0 e) = V m c main_v8 (ix2 0 e) := by
    blk_ext [iblk, idx_all t, bb, jj]
  rw [h, V_v8]
  pointwise

theorem hostW_at (w : FVec Ideal S1024x8208 .f32) (e : Fin 1024) (k : Fin 8192) : hostW w (ix2 e k) = w (ix2 e (colOf k)) := by
  unfold hostW colOf
  pointwise
  by_cases h : k.val < 2048
  · rw [dif_pos h, if_pos h]
  · rw [dif_neg h, if_neg h]
    exact congrArg (fun k => w (ix2 e k)) (Fin.ext (by show 2064 + (k.val - 2048) = k.val + 16; omega))

theorem hostWs_at (w : FVec Ideal S1024x8208 .f32) (e : Fin 1024) (k : Fin 128) :
    @Eq EReal (hostWs w (ix2 e k)) (if h : k.val < 16 then w (ix2 e ⟨2048 + k.val, by omega⟩) else (0 : EReal)) := by
  unfold hostWs
  pointwise
  by_cases h : k.val < 16
  · rw [dif_pos h, dif_pos h]
  · rw [dif_neg h, dif_neg h]
    show (((0#32 : BitVec 32).toInt : ℝ) : EReal) = 0
    simp

theorem blk4 (c : Dev nD) (t : Fin cfg0.N) (e : Fin 1024) (k : Fin 1024) :
    iblk m c 4 t (ix2 e k) = m ((c : Thread nD τ).loc main_arg4) (ix2 e (colOf (kk t k))) := by
  have h : iblk m c 4 t (ix2 e k) = V m c main_v3 (ix2 e (kk t k)) := by
    blk_ext [iblk, idx_all t, bb, jj, kk]
  rw [h, V_v3]
  exact hostW_at _ e _

theorem blk5 (c : Dev nD) (t : Fin cfg0.N) (e : Fin 1024) (k : Fin 128) :
    @Eq EReal (iblk m c 5 t (ix2 e k)) (if h : k.val < 16 then m ((c : Thread nD τ).loc main_arg4) (ix2 e ⟨2048 + k.val, by omega⟩) else (0 : EReal)) := by
  have h : iblk m c 5 t (ix2 e k) = V m c main_v6 (ix2 e k) := by
    blk_ext [iblk, idx_all t, bb, jj]
  rw [h, V_v6]
  exact hostWs_at _ e k

/-- Where a block's entry lies in the large result. -/
theorem emb6 (t : Fin cfg0.N) (r : Fin 2304) (k : Fin 1024) :
    ((View.whole main_v9_0).slice (win0_6.rect t)).emb (ix3 0 r k) = ix3 (bb t) r (kk t k) := by
  blk_ext [idx_all t, bb, jj, kk]

/-- Where a block's entry lies in the small result. -/
theorem emb7 (t : Fin cfg0.N) (r : Fin 2304) (k : Fin 128) :
    ((View.whole main_v9_1).slice (win0_7.rect t)).emb (ix3 0 r k) = ix3 (bb t) r k := by
  blk_ext [idx_all t, bb, jj]

theorem latLd_at (c : Dev nD) (t : Fin cfg0.N) (r : Fin 2048) (e : Fin 1024) :
    latLd m c t (ix3 0 r e) = m ((c : Thread nD τ).loc main_arg0) (ix3 (bb t) ⟨256 + r.val, by omega⟩ e) := by
  refine Eq.trans ?_ (blk0 m c t ⟨256 + r.val, by omega⟩ e)
  unfold latLd
  pointwise

theorem ctxLd_at (c : Dev nD) (t : Fin cfg0.N) (r : Fin 256) (e : Fin 1024) :
    ctxLd m c t (ix3 0 r e) = m ((c : Thread nD τ).loc main_arg0) (ix3 (bb t) ⟨r.val, by omega⟩ e) := by
  refine Eq.trans ?_ (blk0 m c t ⟨r.val, by omega⟩ e)
  unfold ctxLd
  pointwise

/-- The kernel's arguments' rows, normalised and modulated. -/
def hK (c : Dev nD) : Fin 16 → Fin 2304 → Fin 1024 → EReal :=
  hRow (m ((c : Thread nD τ).loc main_arg0)) (m ((c : Thread nD τ).loc main_arg1)) (m ((c : Thread nD τ).loc main_arg2))
    (m ((c : Thread nD τ).loc main_arg3))

theorem specH_congr {x x' g g' sc sc' sh sh' : Fin 1024 → EReal} (h1 : ∀ e, x e = x' e) (h2 : ∀ e, g e = g' e) (h3 : ∀ e, sc e = sc' e)
    (h4 : ∀ e, sh e = sh' e) (k : Fin 1024) : specH x g sc sh k = specH x' g' sc' sh' k := by
  rw [funext h1, funext h2, funext h3, funext h4]

/-- The scratch holds the rows, normalised and modulated. -/
theorem scrL_at (c : Dev nD) (t : Fin cfg0.N) (r : Fin 2304) (e : Fin 1024) :
    View.canon (scrL m c t) (ix2 r e) = hK m c (bb t) r e := by
  refine View.canon_apply_of_pieces (fun y : S2304x1024.Idx => hK m c (bb t) (y 0) (y 1)) (scrL m c t) ?_ (ix2 r e) ?_
  · intro p hp y
    rcases List.mem_cons.mp hp with rfl | hp
    · obtain ⟨r, e, rfl⟩ : ∃ (r : Fin 2048) (e : Fin 1024), y = ix2 r e := ⟨y 0, y 1, by blk_ext []⟩
      refine (pay1_at _ _ _ r e).trans ?_
      have e0 : (Rect.unit ![256, 0] ![2048, 1024] inb_S2304x1024_S2048x1024_256_0 : Rect S2304x1024).emb (ix2 r e)
          = (ix2 ⟨256 + r.val, by omega⟩ e : S2304x1024.Idx) := by blk_ext []
      dsimp only
      rw [e0]
      show _ = hK m c (bb t) ⟨256 + r.val, by omega⟩ e
      unfold hK hRow
      rw [if_neg (show ¬ (256 + r.val < 256) by omega)]
      exact specH_congr (fun x => latLd_at m c t r x) (fun x => blk3 m c t x) (fun x => blk1 m c t _) (fun x => blk1 m c t _) e
    · obtain rfl := List.mem_singleton.mp hp
      obtain ⟨r, e, rfl⟩ : ∃ (r : Fin 256) (e : Fin 1024), y = ix2 r e := ⟨y 0, y 1, by blk_ext []⟩
      refine (pay5_at _ _ _ r e).trans ?_
      have e0 : (Rect.unit ![0, 0] ![256, 1024] inb_S2304x1024_S256x1024_0_0 : Rect S2304x1024).emb (ix2 r e)
          = (ix2 ⟨r.val, by omega⟩ e : S2304x1024.Idx) := by blk_ext []
      dsimp only
      rw [e0]
      show _ = hK m c (bb t) ⟨r.val, by omega⟩ e
      unfold hK hRow
      rw [if_pos (show r.val < 256 from r.isLt)]
      exact specH_congr (fun x => ctxLd_at m c t r x) (fun x => blk3 m c t x) (fun x => blk2 m c t _) (fun x => blk2 m c t _) e
  · by_cases h : r.val < 256
    · refine ⟨_, List.mem_cons_of_mem _ (List.mem_singleton.mpr rfl), ?_⟩
      refine (Rect.mem_set_unit (inb := inb_S2304x1024_S256x1024_0_0)).mpr fun a => ?_
      match a with
      | 0 => exact ⟨Nat.zero_le _, by show r.val < 0 + 256; omega⟩
      | 1 => exact ⟨Nat.zero_le _, by show e.val < 0 + 1024; omega⟩
    · refine ⟨_, List.mem_cons_self, ?_⟩
      refine (Rect.mem_set_unit (inb := inb_S2304x1024_S2048x1024_256_0)).mpr fun a => ?_
      match a with
      | 0 => exact ⟨by show 256 ≤ r.val; omega, by show r.val < 256 + 2048; omega⟩
      | 1 => exact ⟨Nat.zero_le _, by show e.val < 0 + 1024; omega⟩

theorem scr_at (c : Dev nD) (t : Fin cfg0.N) (r : Fin 2304) (e : Fin 1024) : scr m c t (ix2 r e) = hK m c (bb t) r e := by
  unfold scr
  rw [scrAt_eq, scrL_at, bb_t0]

/-- The reference's large result over the kernel's arguments. -/
def G0 (c : Dev nD) : S16x2304x8192.Idx → EReal :=
  refMain (F := Ideal) (m ((c : Thread nD τ).loc main_arg0)) (m ((c : Thread nD τ).loc main_arg1)) (m ((c : Thread nD τ).loc main_arg2))
    (m ((c : Thread nD τ).loc main_arg3)) (m ((c : Thread nD τ).loc main_arg4))
/-- The reference's small result over the kernel's arguments. -/
def G1 (c : Dev nD) : S16x2304x128.Idx → EReal :=
  refSmall (F := Ideal) (m ((c : Thread nD τ).loc main_arg0)) (m ((c : Thread nD τ).loc main_arg1)) (m ((c : Thread nD τ).loc main_arg2))
    (m ((c : Thread nD τ).loc main_arg3)) (m ((c : Thread nD τ).loc main_arg4))

/-- The kernel's large result, block by block. -/
theorem arr6_eq (c : Dev nD) : (dats m 0 c).arrAt 6 cfg0.N = G0 m c := by
  refine (dats m 0 c).arrAt_eq_of_covers 6 _ (by decide +kernel) fun t hf y => ?_
  blk_simp
  rw [after6, big_eq]
  obtain ⟨r, k, rfl⟩ : ∃ (r : Fin 2304) (k : Fin 1024), y = ix3 0 r k := by
    refine ⟨y 1, y 2, ?_⟩
    blk_ext []
  refine (pay3_at _ _ r k).trans ?_
  rw [emb6]
  refine Eq.trans ?_ (refMain_at _ _ _ _ _ _ _ _).symm
  exact Finset.sum_congr rfl fun e _ => congrArg₂ (fun a b : EReal => a * b) (scr_at m c t r e) (blk4 m c t e k)

/-- The kernel's small result, row by row. -/
theorem arr7_eq (c : Dev nD) : (dats m 0 c).arrAt 7 cfg0.N = G1 m c := by
  refine (dats m 0 c).arrAt_eq_of_covers 7 _ (by decide +kernel) fun t hf y => ?_
  blk_simp
  rw [after7, small_eq]
  obtain ⟨r, k, rfl⟩ : ∃ (r : Fin 2304) (k : Fin 128), y = ix3 0 r k := by
    refine ⟨y 1, y 2, ?_⟩
    blk_ext []
  refine (pay2_at _ _ r k).trans ?_
  rw [emb7]
  refine Eq.trans ?_ (refSmall_at _ _ _ _ _ _ _ _).symm
  by_cases h : k.val < 16
  · rw [dif_pos h]
    refine Finset.sum_congr rfl fun e _ => congrArg₂ (fun a b : EReal => a * b) (scr_at m c t r e) ?_
    exact (blk5 m c (t0 t) e k).trans (dif_pos h)
  · rw [dif_neg h]
    refine Finset.sum_eq_zero fun e _ => ?_
    have h0 : @Eq EReal (iblk m c 5 (t0 t) (ix2 e k)) 0 := (blk5 m c (t0 t) e k).trans (dif_neg h)
    rw [h0]
    exact mul_zero (scr m c t (ix2 r e) : EReal)

end Cert.Proj

end
-- ==== Proof.Proj.Claim.lean ====
/- The input projection's claim: the kernel and the reference end with equal results. -/
module

public import proofs.«01_k».proof.Proof.Proj.Tie

@[expose] public section

set_option maxRecDepth 16384

noncomputable section

namespace Cert.Proj

open Cert.KernelProjIdeal Cert.KernelProjIdeal.Gen Cert.KernelProjIdeal.Body Idealize.ShloMosaic Idealize.ShloMosaic.TcCoe
open Idealize.SL.Sem

/-- The kernel's run: both results at the reference's terms, the arguments as they were. -/
theorem run_blocks (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v9_0) = G0 m c
      ∧ r.2.mem ((c.tc : Thread nD τ).loc main_v9_1) = G1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h c).1 6).trans (arr6_eq m c), ((h c).1 7).trans (arr7_eq m c),
    ((h c).1 0).trans (((dats m 0 c).arrAt_in 0 rfl _).trans ((A_eq m c 0).trans (V_main_arg0 m c))),
    ((h c).2 main_arg1 (Pipeline.mem_restRefs_of main_arg1 (by decide) (by decide))).trans (V_main_arg1 m c),
    ((h c).1 2).trans (((dats m 0 c).arrAt_in 2 rfl _).trans ((A_eq m c 2).trans (V_main_arg2 m c))),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩) (run_main m ρ)

theorem algebraic : Cert.algebraic_KernelProjIdeal_ReferenceProjIdeal (hKernelProjIdeal := Cert.KernelProjIdeal.Gen.facts)
    (hReferenceProjIdeal := Cert.ReferenceProjIdeal.Gen.facts) := by
  intro m ρ m' ρ' _ hag
  refine ⟨fun c => G0 m c, fun c => G1 m c, run_blocks m ρ, ?_⟩
  refine (θ_run _ _ _).mono (fun _ h c => ⟨(h c).1.trans ?_, (h c).2.1.trans ?_, (h c).2.2⟩)
    (Cert.ReferenceProjIdeal.Value.run (F := Ideal) m' ρ')
  · obtain ⟨e0, e1, e2, e3, e4⟩ := hag c
    refine (res_eq m' c).trans ?_
    unfold G0
    rw [e0, e1, e2, e3, e4]
  · obtain ⟨e0, e1, e2, e3, e4⟩ := hag c
    refine (res_small_eq m' c).trans ?_
    unfold G1
    rw [e0, e1, e2, e3, e4]

end Cert.Proj

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelMerge.Frame
public import proofs.«01_k».proof.Proof.Gen.KernelMergeIdeal.Frame
public import proofs.«01_k».proof.Proof.Gen.KernelMergeIdeal.Value
public import proofs.«01_k».proof.Proof.Gen.ReferenceIdeal.Run
public import proofs.«01_k».proof.Proof.Gen.ReferenceMergeIdeal.Run
public import proofs.«01_k».proof.Proof.Gen.Pre_finite
public import proofs.«01_k».proof.Proof.Gen.Pre_finite_gates
public import proofs.«01_k».proof.Proof.Attn.Claim
public import proofs.«01_k».proof.Proof.Gen.KernelMod.Frame
public import proofs.«01_k».proof.Proof.Gen.KernelModIdeal.Frame
public import proofs.«01_k».proof.Proof.Gen.ReferenceModIdeal.Run
public import proofs.«01_k».proof.Proof.Gen.Pre_finite_c
public import proofs.«01_k».proof.Proof.Modul.Claim
public import proofs.«01_k».proof.Proof.Gen.KernelGates.Frame
public import proofs.«01_k».proof.Proof.Gen.KernelGatesIdeal.Frame
public import proofs.«01_k».proof.Proof.Gen.KernelGatesIdeal.Value
public import proofs.«01_k».proof.Proof.Gen.ReferenceGatesIdeal.Run
public import proofs.«01_k».proof.Proof.Gates.Claim
public import proofs.«01_k».proof.Proof.Gen.KernelPrep.Frame
public import proofs.«01_k».proof.Proof.Gen.KernelPrepIdeal.Frame
public import proofs.«01_k».proof.Proof.Gen.KernelPrepIdeal.Value
public import proofs.«01_k».proof.Proof.Gen.ReferencePrepIdeal.Run
public import proofs.«01_k».proof.Proof.Gen.Pre_finite_conv
public import proofs.«01_k».proof.Proof.Prep.Claim
public import proofs.«01_k».proof.Proof.Merge.Claim
public import proofs.«01_k».proof.Proof.Gen.ReferenceProjIdeal.Run
public import proofs.«01_k».proof.Proof.ProjPrinted.Frame
public import proofs.«01_k».proof.Proof.Proj.Claim
public import Idealize.ShloMosaic.Adequacy
public import Idealize.ShloMosaic.Init

@[expose] public section

noncomputable section

namespace Cert.Proof

open Idealize.ShloMosaic Idealize.SL.Sem

/-- The attention's reference terminates, leaves its arguments as they were and every counter at zero: it is host
    operations only, on a machine without semaphores. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same of the merge's reference. -/
theorem frame_ref_merge : Cert.quiescent_ReferenceMergeIdeal := fun m ρ _ =>
  (θ_run Cert.ReferenceMergeIdeal.defs _ _).mono (fun r h => ⟨fun c => (h c).2, sem_eq_zero_of_no_sems (by decide) r.2⟩)
    (Cert.ReferenceMergeIdeal.Value.run (F := Ideal) m ρ)

/-- The same of the modulation's reference. -/
theorem frame_ref_mod : Cert.quiescent_ReferenceModIdeal := fun m ρ _ =>
  (θ_run Cert.ReferenceModIdeal.defs _ _).mono (fun r h => ⟨fun c => (h c).2, sem_eq_zero_of_no_sems (by decide) r.2⟩)
    (Cert.ReferenceModIdeal.Value.run (F := Ideal) m ρ)

/-- The same of the gates' reference. -/
theorem frame_ref_gates : Cert.quiescent_ReferenceGatesIdeal := fun m ρ _ =>
  (θ_run Cert.ReferenceGatesIdeal.defs _ _).mono (fun r h => ⟨fun c => (h c).2, sem_eq_zero_of_no_sems (by decide) r.2⟩)
    (Cert.ReferenceGatesIdeal.Value.run (F := Ideal) m ρ)

/-- The same of the input projection's reference, which has two results. -/
theorem frame_ref_proj : Cert.quiescent_ReferenceProjIdeal := fun m ρ _ =>
  (θ_run Cert.ReferenceProjIdeal.defs _ _).mono (fun r h => ⟨fun c => (h c).2.2, sem_eq_zero_of_no_sems (by decide) r.2⟩)
    (Cert.ReferenceProjIdeal.Value.run (F := Ideal) m ρ)

/-- The same of the preparation's reference, which has three results. -/
theorem frame_ref_prep : Cert.quiescent_ReferencePrepIdeal := fun m ρ _ =>
  (θ_run Cert.ReferencePrepIdeal.defs _ _).mono (fun r h => ⟨fun c => (h c).2.2.2, sem_eq_zero_of_no_sems (by decide) r.2⟩)
    (Cert.ReferencePrepIdeal.Value.run (F := Ideal) m ρ)

theorem claim : Cert.Claim :=
  ⟨Cert.Kernel.Gen.facts, Cert.KernelIdeal.Gen.facts, Cert.ReferenceIdeal.Gen.facts,
    Cert.KernelProj.Gen.facts, Cert.KernelProjIdeal.Gen.facts, Cert.ReferenceProjIdeal.Gen.facts,
    Cert.KernelMerge.Gen.facts, Cert.KernelMergeIdeal.Gen.facts, Cert.ReferenceMergeIdeal.Gen.facts,
    Cert.KernelMod.Gen.facts, Cert.KernelModIdeal.Gen.facts, Cert.ReferenceModIdeal.Gen.facts,
    Cert.KernelGates.Gen.facts, Cert.KernelGatesIdeal.Gen.facts, Cert.ReferenceGatesIdeal.Gen.facts,
    Cert.KernelPrep.Gen.facts, Cert.KernelPrepIdeal.Gen.facts, Cert.ReferencePrepIdeal.Gen.facts,
    Cert.Pre_finite.Gen.facts, Cert.Pre_finite_gates.Gen.facts, Cert.Pre_finite_c.Gen.facts, Cert.Pre_finite_conv.Gen.facts,
    fun m ρ _ => Cert.Kernel.Gen.frame m ρ, fun m ρ _ => Cert.KernelIdeal.Gen.frame m ρ,
    fun m ρ _ => Cert.KernelIdeal.Gen.frame m ρ, frame_ref, fun m ρ _ => frame_ref m ρ trivial,
    fun m ρ _ => Cert.KernelProj.Body.frame m ρ, fun m ρ _ => Cert.KernelProjIdeal.Body.frame m ρ, frame_ref_proj,
    fun m ρ _ => Cert.KernelMerge.Gen.frame m ρ, fun m ρ _ => Cert.KernelMergeIdeal.Gen.frame m ρ,
    fun m ρ _ => Cert.KernelMergeIdeal.Gen.frame m ρ, frame_ref_merge, fun m ρ _ => frame_ref_merge m ρ trivial,
    fun m ρ _ => Cert.KernelMod.Gen.frame m ρ, fun m ρ _ => Cert.KernelModIdeal.Gen.frame m ρ,
    fun m ρ _ => Cert.KernelModIdeal.Gen.frame m ρ, frame_ref_mod, fun m ρ _ => frame_ref_mod m ρ trivial,
    fun m ρ _ => Cert.KernelGates.Gen.frame m ρ, fun m ρ _ => Cert.KernelGatesIdeal.Gen.frame m ρ, frame_ref_gates,
    fun m ρ _ => Cert.KernelPrep.Gen.frame m ρ, fun m ρ _ => Cert.KernelPrepIdeal.Gen.frame m ρ,
    fun m ρ _ => Cert.KernelPrepIdeal.Gen.frame m ρ, frame_ref_prep, fun m ρ _ => frame_ref_prep m ρ trivial,
    trivial, Cert.Attn.algebraic, trivial, Cert.Proj.algebraic, trivial, Cert.Merge.algebraic,
    trivial, Cert.Modul.algebraic, trivial, Cert.Gates.algebraic, trivial, Cert.Prep.algebraic⟩

end Cert.Proof

end
